-- ==== Defs.lean ====
def Pre_Kernel (m : (ℓ : Loc Cert.Kernel.nD Cert.Kernel.τ Cert.Kernel.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_inputs [hPre_finite_inputs : Cert.Pre_finite_inputs.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_finite_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.1 = (fun _ => 1#1)
    ∧ (Cert.Pre_finite_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.2.1 = (fun _ => 1#1)
    ∧ (Cert.Pre_finite_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_inputs [hPre_finite_inputs : Cert.Pre_finite_inputs.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_finite_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.1 = (fun _ => 1#1)
    ∧ (Cert.Pre_finite_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.2.1 = (fun _ => 1#1)
    ∧ (Cert.Pre_finite_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.2.2 = (fun _ => 1#1)

def Pre_Reference2 (m : (ℓ : Loc Cert.Reference2.nD Cert.Reference2.τ Cert.Reference2.sig) → Buf (Elt Bits) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Reference3 (m : (ℓ : Loc Cert.Reference3.nD Cert.Reference3.τ Cert.Reference3.sig) → Buf (Elt Bits) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Reference4 (m : (ℓ : Loc Cert.Reference4.nD Cert.Reference4.τ Cert.Reference4.sig) → Buf (Elt Bits) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Reference5 (m : (ℓ : Loc Cert.Reference5.nD Cert.Reference5.τ Cert.Reference5.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite_inputs [hKernel2Ideal : Cert.Kernel2Ideal.Facts] [hPre_finite_inputs : Cert.Pre_finite_inputs.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_inputs m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite_inputs [hReference2Ideal : Cert.Reference2Ideal.Facts] [hPre_finite_inputs : Cert.Pre_finite_inputs.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_inputs m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2 [hReference2 : Cert.Reference2.Facts] : Prop :=
  ∀ (m : (ℓ : Loc Cert.Reference2.nD Cert.Reference2.τ Cert.Reference2.sig) → Buf (Elt Bits) ℓ) (g : Dev Cert.Reference2.nD → PrngReg), Pre_Reference2 m →
    θ_run (Cert.Reference2.defs (F := Bits)) (onTc (τ := Cert.Reference2.τ) (Cert.Reference2.main (F := Bits))) ⟨m, fun _ => 0, g⟩ (fun r => (∀ c : Dev Cert.Reference2.nD,
      r.2.mem ((c.tc : Thread Cert.Reference2.nD Cert.Reference2.τ).loc Cert.Reference2.main_arg0) = m ((c.tc : Thread Cert.Reference2.nD Cert.Reference2.τ).loc Cert.Reference2.main_arg0)
      ∧ r.2.mem ((c.tc : Thread Cert.Reference2.nD Cert.Reference2.τ).loc Cert.Reference2.main_arg1) = m ((c.tc : Thread Cert.Reference2.nD Cert.Reference2.τ).loc Cert.Reference2.main_arg1)
      ∧ r.2.mem ((c.tc : Thread Cert.Reference2.nD Cert.Reference2.τ).loc Cert.Reference2.main_arg2) = m ((c.tc : Thread Cert.Reference2.nD Cert.Reference2.τ).loc Cert.Reference2.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Reference3 [hReference3 : Cert.Reference3.Facts] : Prop :=
  ∀ (m : (ℓ : Loc Cert.Reference3.nD Cert.Reference3.τ Cert.Reference3.sig) → Buf (Elt Bits) ℓ) (g : Dev Cert.Reference3.nD → PrngReg), Pre_Reference3 m →
    θ_run (Cert.Reference3.defs (F := Bits)) (onTc (τ := Cert.Reference3.τ) (Cert.Reference3.main (F := Bits))) ⟨m, fun _ => 0, g⟩ (fun r => (∀ c : Dev Cert.Reference3.nD,
      r.2.mem ((c.tc : Thread Cert.Reference3.nD Cert.Reference3.τ).loc Cert.Reference3.main_arg0) = m ((c.tc : Thread Cert.Reference3.nD Cert.Reference3.τ).loc Cert.Reference3.main_arg0)
      ∧ r.2.mem ((c.tc : Thread Cert.Reference3.nD Cert.Reference3.τ).loc Cert.Reference3.main_arg1) = m ((c.tc : Thread Cert.Reference3.nD Cert.Reference3.τ).loc Cert.Reference3.main_arg1)
      ∧ r.2.mem ((c.tc : Thread Cert.Reference3.nD Cert.Reference3.τ).loc Cert.Reference3.main_arg2) = m ((c.tc : Thread Cert.Reference3.nD Cert.Reference3.τ).loc Cert.Reference3.main_arg2)
      ∧ r.2.mem ((c.tc : Thread Cert.Reference3.nD Cert.Reference3.τ).loc Cert.Reference3.main_arg3) = m ((c.tc : Thread Cert.Reference3.nD Cert.Reference3.τ).loc Cert.Reference3.main_arg3)
      ∧ r.2.mem ((c.tc : Thread Cert.Reference3.nD Cert.Reference3.τ).loc Cert.Reference3.main_arg4) = m ((c.tc : Thread Cert.Reference3.nD Cert.Reference3.τ).loc Cert.Reference3.main_arg4)
      ∧ r.2.mem ((c.tc : Thread Cert.Reference3.nD Cert.Reference3.τ).loc Cert.Reference3.main_arg5) = m ((c.tc : Thread Cert.Reference3.nD Cert.Reference3.τ).loc Cert.Reference3.main_arg5)
      ∧ r.2.mem ((c.tc : Thread Cert.Reference3.nD Cert.Reference3.τ).loc Cert.Reference3.main_arg6) = m ((c.tc : Thread Cert.Reference3.nD Cert.Reference3.τ).loc Cert.Reference3.main_arg6)
      ∧ r.2.mem ((c.tc : Thread Cert.Reference3.nD Cert.Reference3.τ).loc Cert.Reference3.main_arg7) = m ((c.tc : Thread Cert.Reference3.nD Cert.Reference3.τ).loc Cert.Reference3.main_arg7)
      ∧ r.2.mem ((c.tc : Thread Cert.Reference3.nD Cert.Reference3.τ).loc Cert.Reference3.main_arg8) = m ((c.tc : Thread Cert.Reference3.nD Cert.Reference3.τ).loc Cert.Reference3.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4 [hReference4 : Cert.Reference4.Facts] : Prop :=
  ∀ (m : (ℓ : Loc Cert.Reference4.nD Cert.Reference4.τ Cert.Reference4.sig) → Buf (Elt Bits) ℓ) (g : Dev Cert.Reference4.nD → PrngReg), Pre_Reference4 m →
    θ_run (Cert.Reference4.defs (F := Bits)) (onTc (τ := Cert.Reference4.τ) (Cert.Reference4.main (F := Bits))) ⟨m, fun _ => 0, g⟩ (fun r => (∀ c : Dev Cert.Reference4.nD,
      r.2.mem ((c.tc : Thread Cert.Reference4.nD Cert.Reference4.τ).loc Cert.Reference4.main_arg0) = m ((c.tc : Thread Cert.Reference4.nD Cert.Reference4.τ).loc Cert.Reference4.main_arg0)
      ∧ r.2.mem ((c.tc : Thread Cert.Reference4.nD Cert.Reference4.τ).loc Cert.Reference4.main_arg1) = m ((c.tc : Thread Cert.Reference4.nD Cert.Reference4.τ).loc Cert.Reference4.main_arg1)
      ∧ r.2.mem ((c.tc : Thread Cert.Reference4.nD Cert.Reference4.τ).loc Cert.Reference4.main_arg2) = m ((c.tc : Thread Cert.Reference4.nD Cert.Reference4.τ).loc Cert.Reference4.main_arg2)
      ∧ r.2.mem ((c.tc : Thread Cert.Reference4.nD Cert.Reference4.τ).loc Cert.Reference4.main_arg3) = m ((c.tc : Thread Cert.Reference4.nD Cert.Reference4.τ).loc Cert.Reference4.main_arg3)
      ∧ r.2.mem ((c.tc : Thread Cert.Reference4.nD Cert.Reference4.τ).loc Cert.Reference4.main_arg4) = m ((c.tc : Thread Cert.Reference4.nD Cert.Reference4.τ).loc Cert.Reference4.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Reference5 [hReference5 : Cert.Reference5.Facts] : Prop :=
  ∀ (m : (ℓ : Loc Cert.Reference5.nD Cert.Reference5.τ Cert.Reference5.sig) → Buf (Elt Bits) ℓ) (g : Dev Cert.Reference5.nD → PrngReg), Pre_Reference5 m →
    θ_run (Cert.Reference5.defs (F := Bits)) (onTc (τ := Cert.Reference5.τ) (Cert.Reference5.main (F := Bits))) ⟨m, fun _ => 0, g⟩ (fun r => (∀ c : Dev Cert.Reference5.nD,
      r.2.mem ((c.tc : Thread Cert.Reference5.nD Cert.Reference5.τ).loc Cert.Reference5.main_arg0) = m ((c.tc : Thread Cert.Reference5.nD Cert.Reference5.τ).loc Cert.Reference5.main_arg0)
      ∧ r.2.mem ((c.tc : Thread Cert.Reference5.nD Cert.Reference5.τ).loc Cert.Reference5.main_arg1) = m ((c.tc : Thread Cert.Reference5.nD Cert.Reference5.τ).loc Cert.Reference5.main_arg1)
      ∧ r.2.mem ((c.tc : Thread Cert.Reference5.nD Cert.Reference5.τ).loc Cert.Reference5.main_arg2) = m ((c.tc : Thread Cert.Reference5.nD Cert.Reference5.τ).loc Cert.Reference5.main_arg2)
      ∧ r.2.mem ((c.tc : Thread Cert.Reference5.nD Cert.Reference5.τ).loc Cert.Reference5.main_arg3) = m ((c.tc : Thread Cert.Reference5.nD Cert.Reference5.τ).loc Cert.Reference5.main_arg3)
      ∧ r.2.mem ((c.tc : Thread Cert.Reference5.nD Cert.Reference5.τ).loc Cert.Reference5.main_arg4) = m ((c.tc : Thread Cert.Reference5.nD Cert.Reference5.τ).loc Cert.Reference5.main_arg4)
      ∧ r.2.mem ((c.tc : Thread Cert.Reference5.nD Cert.Reference5.τ).loc Cert.Reference5.main_arg5) = m ((c.tc : Thread Cert.Reference5.nD Cert.Reference5.τ).loc Cert.Reference5.main_arg5)
      ∧ r.2.mem ((c.tc : Thread Cert.Reference5.nD Cert.Reference5.τ).loc Cert.Reference5.main_arg6) = m ((c.tc : Thread Cert.Reference5.nD Cert.Reference5.τ).loc Cert.Reference5.main_arg6)
      ∧ r.2.mem ((c.tc : Thread Cert.Reference5.nD Cert.Reference5.τ).loc Cert.Reference5.main_arg7) = m ((c.tc : Thread Cert.Reference5.nD Cert.Reference5.τ).loc Cert.Reference5.main_arg7)
      ∧ r.2.mem ((c.tc : Thread Cert.Reference5.nD Cert.Reference5.τ).loc Cert.Reference5.main_arg8) = m ((c.tc : Thread Cert.Reference5.nD Cert.Reference5.τ).loc Cert.Reference5.main_arg8))
      ∧ r.2.sem = fun _ => 0)

def preserves_Kernel2_Kernel2Ideal : Prop :=
  IdealRules.named_const.Statement Cert.Kernel2Ideal.κ "mask" .f32 0xF149F2CA#32 ⊥
  ∧ IdealRules.named_const.Statement Cert.Kernel2Ideal.κ "scale2" .f32 0x3DD53B95#32 (((Real.sqrt 192)⁻¹ * (Real.log 2)⁻¹ : ℝ) : EReal)

def preserves_Reference2_Reference2Ideal : Prop :=
  True

def algebraic_Kernel2Ideal_Reference2Ideal_pre_finite_inputs [hKernel2Ideal : Cert.Kernel2Ideal.Facts] [hReference2Ideal : Cert.Reference2Ideal.Facts] [hPre_finite_inputs : Cert.Pre_finite_inputs.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_inputs m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def preserves_Reference3_Reference3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v43) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def preserves_Reference4_Reference4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v14_0)) (v1 : (c : Dev Cert.Kernel4Ideal.nD) → Buf (Elt Ideal) ((c.tc : Thread Cert.Kernel4Ideal.nD Cert.Kernel4Ideal.τ).loc Cert.Kernel4Ideal.main_v14_1)) (v2 : (c : Dev Cert.Kernel4Ideal.nD) → Buf (Elt Ideal) ((c.tc : Thread Cert.Kernel4Ideal.nD Cert.Kernel4Ideal.τ).loc Cert.Kernel4Ideal.main_v14_2)) (v3 : (c : Dev Cert.Kernel4Ideal.nD) → Buf (Elt Ideal) ((c.tc : Thread Cert.Kernel4Ideal.nD Cert.Kernel4Ideal.τ).loc Cert.Kernel4Ideal.main_v14_3)) (v4 : (c : Dev Cert.Kernel4Ideal.nD) → Buf (Elt Ideal) ((c.tc : Thread Cert.Kernel4Ideal.nD Cert.Kernel4Ideal.τ).loc Cert.Kernel4Ideal.main_v14_4)) (v5 : (c : Dev Cert.Kernel4Ideal.nD) → Buf (Elt Ideal) ((c.tc : Thread Cert.Kernel4Ideal.nD Cert.Kernel4Ideal.τ).loc Cert.Kernel4Ideal.main_v14_5)) (v6 : (c : Dev Cert.Kernel4Ideal.nD) → Buf (Elt Ideal) ((c.tc : Thread Cert.Kernel4Ideal.nD Cert.Kernel4Ideal.τ).loc Cert.Kernel4Ideal.main_v14_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14_0) = v0 c
          ∧ r.2.mem ((c.tc : Thread Cert.Kernel4Ideal.nD Cert.Kernel4Ideal.τ).loc Cert.Kernel4Ideal.main_v14_1) = v1 c
          ∧ r.2.mem ((c.tc : Thread Cert.Kernel4Ideal.nD Cert.Kernel4Ideal.τ).loc Cert.Kernel4Ideal.main_v14_2) = v2 c
          ∧ r.2.mem ((c.tc : Thread Cert.Kernel4Ideal.nD Cert.Kernel4Ideal.τ).loc Cert.Kernel4Ideal.main_v14_3) = v3 c
          ∧ r.2.mem ((c.tc : Thread Cert.Kernel4Ideal.nD Cert.Kernel4Ideal.τ).loc Cert.Kernel4Ideal.main_v14_4) = v4 c
          ∧ r.2.mem ((c.tc : Thread Cert.Kernel4Ideal.nD Cert.Kernel4Ideal.τ).loc Cert.Kernel4Ideal.main_v14_5) = v5 c
          ∧ r.2.mem ((c.tc : Thread Cert.Kernel4Ideal.nD Cert.Kernel4Ideal.τ).loc Cert.Kernel4Ideal.main_v14_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v94) = v0 c
          ∧ r.2.mem ((c.tc : Thread Cert.Reference4Ideal.nD Cert.Reference4Ideal.τ).loc Cert.Reference4Ideal.main_v95) = v1 c
          ∧ r.2.mem ((c.tc : Thread Cert.Reference4Ideal.nD Cert.Reference4Ideal.τ).loc Cert.Reference4Ideal.main_v97) = v2 c
          ∧ r.2.mem ((c.tc : Thread Cert.Reference4Ideal.nD Cert.Reference4Ideal.τ).loc Cert.Reference4Ideal.main_v98) = v3 c
          ∧ r.2.mem ((c.tc : Thread Cert.Reference4Ideal.nD Cert.Reference4Ideal.τ).loc Cert.Reference4Ideal.main_v100) = v4 c
          ∧ r.2.mem ((c.tc : Thread Cert.Reference4Ideal.nD Cert.Reference4Ideal.τ).loc Cert.Reference4Ideal.main_v103) = v5 c
          ∧ r.2.mem ((c.tc : Thread Cert.Reference4Ideal.nD Cert.Reference4Ideal.τ).loc Cert.Reference4Ideal.main_v104) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def preserves_Reference5_Reference5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v30) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def Claim : Prop :=
  ∃ (hKernel : Cert.Kernel.Facts) (hKernel2 : Cert.Kernel2.Facts) (hKernel2Ideal : Cert.Kernel2Ideal.Facts) (hReference2Ideal : Cert.Reference2Ideal.Facts) (hReference2 : Cert.Reference2.Facts) (hKernel3 : Cert.Kernel3.Facts) (hKernel3Ideal : Cert.Kernel3Ideal.Facts) (hReference3Ideal : Cert.Reference3Ideal.Facts) (hReference3 : Cert.Reference3.Facts) (hKernel4 : Cert.Kernel4.Facts) (hKernel4Ideal : Cert.Kernel4Ideal.Facts) (hReference4Ideal : Cert.Reference4Ideal.Facts) (hReference4 : Cert.Reference4.Facts) (hKernel5 : Cert.Kernel5.Facts) (hKernel5Ideal : Cert.Kernel5Ideal.Facts) (hReference5Ideal : Cert.Reference5Ideal.Facts) (hReference5 : Cert.Reference5.Facts) (hPre_finite_inputs : Cert.Pre_finite_inputs.Facts),
    quiescent_Kernel (hKernel := hKernel)
    ∧ quiescent_Kernel2 (hKernel2 := hKernel2)
    ∧ quiescent_Kernel2Ideal (hKernel2Ideal := hKernel2Ideal)
    ∧ quiescent_Kernel2Ideal_pre_finite_inputs (hKernel2Ideal := hKernel2Ideal) (hPre_finite_inputs := hPre_finite_inputs)
    ∧ quiescent_Reference2Ideal (hReference2Ideal := hReference2Ideal)
    ∧ quiescent_Reference2Ideal_pre_finite_inputs (hReference2Ideal := hReference2Ideal) (hPre_finite_inputs := hPre_finite_inputs)
    ∧ quiescent_Reference2 (hReference2 := hReference2)
    ∧ quiescent_Kernel3 (hKernel3 := hKernel3)
    ∧ quiescent_Kernel3Ideal (hKernel3Ideal := hKernel3Ideal)
    ∧ quiescent_Reference3Ideal (hReference3Ideal := hReference3Ideal)
    ∧ quiescent_Reference3 (hReference3 := hReference3)
    ∧ quiescent_Kernel4 (hKernel4 := hKernel4)
    ∧ quiescent_Kernel4Ideal (hKernel4Ideal := hKernel4Ideal)
    ∧ quiescent_Reference4Ideal (hReference4Ideal := hReference4Ideal)
    ∧ quiescent_Reference4 (hReference4 := hReference4)
    ∧ quiescent_Kernel5 (hKernel5 := hKernel5)
    ∧ quiescent_Kernel5Ideal (hKernel5Ideal := hKernel5Ideal)
    ∧ quiescent_Reference5Ideal (hReference5Ideal := hReference5Ideal)
    ∧ quiescent_Reference5 (hReference5 := hReference5)
    ∧ preserves_Kernel2_Kernel2Ideal
    ∧ preserves_Reference2_Reference2Ideal
    ∧ algebraic_Kernel2Ideal_Reference2Ideal_pre_finite_inputs (hKernel2Ideal := hKernel2Ideal) (hReference2Ideal := hReference2Ideal) (hPre_finite_inputs := hPre_finite_inputs)
    ∧ preserves_Kernel3_Kernel3Ideal
    ∧ preserves_Reference3_Reference3Ideal
    ∧ algebraic_Kernel3Ideal_Reference3Ideal (hKernel3Ideal := hKernel3Ideal) (hReference3Ideal := hReference3Ideal)
    ∧ preserves_Kernel4_Kernel4Ideal
    ∧ preserves_Reference4_Reference4Ideal
    ∧ algebraic_Kernel4Ideal_Reference4Ideal (hKernel4Ideal := hKernel4Ideal) (hReference4Ideal := hReference4Ideal)
    ∧ preserves_Kernel5_Kernel5Ideal
    ∧ preserves_Reference5_Reference5Ideal
    ∧ algebraic_Kernel5Ideal_Reference5Ideal (hKernel5Ideal := hKernel5Ideal) (hReference5Ideal := hReference5Ideal)
-- ==== Pre_finite_inputs.lean ====
abbrev S16x8x4096x384 : Shape := ⟨4, ![16, 8, 4096, 384]⟩
abbrev S16x4096x384 : Shape := ⟨3, ![16, 4096, 384]⟩
abbrev S256x8x128 : Shape := ⟨3, ![256, 8, 128]⟩
abbrev S_ : Shape := ⟨0, ![]⟩

class Facts : Prop where
  bcast_S_S16x8x4096x384 : S_.BroadcastsInDim S16x8x4096x384 (![] : Fin 0 → Fin S16x8x4096x384.rank)
  bcast_S_S16x4096x384 : S_.BroadcastsInDim S16x4096x384 (![] : Fin 0 → Fin S16x4096x384.rank)

variable [Facts]

def fn {F : FTy → Type} [FloatOps F] (main_arg0 : FVec F S16x8x4096x384 .bf16) (main_arg1 : FVec F S16x4096x384 .bf16) (main_arg2 : FVec F S256x8x128 .f32) : IVec S16x8x4096x384 1 × IVec S16x8x4096x384 1 × IVec S16x4096x384 1 × IVec S16x4096x384 1 :=
  let main_cst : FVec F S_ .bf16 := constant S_ .bf16 0xFF80#16
  let main_v0 : FVec F S16x8x4096x384 .bf16 := broadcastInDim S16x8x4096x384 ![] bcast_S_S16x8x4096x384 main_cst
  let main_v1 : IVec S16x8x4096x384 1 := cmpf .ogt main_arg0 main_v0
  let main_cst_0 : FVec F S_ .bf16 := constant S_ .bf16 0x7F80#16
  let main_v2 : FVec F S16x8x4096x384 .bf16 := broadcastInDim S16x8x4096x384 ![] bcast_S_S16x8x4096x384 main_cst_0
  let main_v3 : IVec S16x8x4096x384 1 := cmpf .olt main_arg0 main_v2
  let main_cst_1 : FVec F S_ .bf16 := constant S_ .bf16 0xFF80#16
  let main_v4 : FVec F S16x4096x384 .bf16 := broadcastInDim S16x4096x384 ![] bcast_S_S16x4096x384 main_cst_1
  let main_v5 : IVec S16x4096x384 1 := cmpf .ogt main_arg1 main_v4
  let main_cst_2 : FVec F S_ .bf16 := constant S_ .bf16 0x7F80#16
  let main_v6 : FVec F S16x4096x384 .bf16 := broadcastInDim S16x4096x384 ![] bcast_S_S16x4096x384 main_cst_2
  let main_v7 : IVec S16x4096x384 1 := cmpf .olt main_arg1 main_v6
  (main_v1, main_v3, main_v5, main_v7)
-- ==== Kernel.lean ====
abbrev S16x1024x4096 : Shape := ⟨3, ![16, 1024, 4096]⟩
abbrev S16x512x4096 : Shape := ⟨3, ![16, 512, 4096]⟩
abbrev S16x8x4096 : Shape := ⟨3, ![16, 8, 4096]⟩
abbrev S16x2x4096x128 : Shape := ⟨4, ![16, 2, 4096, 128]⟩
abbrev S16x256x4096 : Shape := ⟨3, ![16, 256, 4096]⟩
abbrev S16x4096x64 : Shape := ⟨3, ![16, 4096, 64]⟩
abbrev S16x4096x1024 : Shape := ⟨3, ![16, 4096, 1024]⟩
abbrev S1x1024x256 : Shape := ⟨3, ![1, 1024, 256]⟩
abbrev S1x512x256 : Shape := ⟨3, ![1, 512, 256]⟩
abbrev S1x8x256 : Shape := ⟨3, ![1, 8, 256]⟩
abbrev S1x2x4096x128 : Shape := ⟨4, ![1, 2, 4096, 128]⟩
abbrev S1x256x4096 : Shape := ⟨3, ![1, 256, 4096]⟩
abbrev S1x4096x64 : Shape := ⟨3, ![1, 4096, 64]⟩
abbrev S1x256x1024 : Shape := ⟨3, ![1, 256, 1024]⟩
abbrev S4096x256 : Shape := ⟨2, ![4096, 256]⟩
abbrev S32x128x256 : Shape := ⟨3, ![32, 128, 256]⟩
abbrev S2x4096x1024 : Shape := ⟨3, ![2, 4096, 1024]⟩
abbrev S2x128x1024 : Shape := ⟨3, ![2, 128, 1024]⟩
abbrev S512x256 : Shape := ⟨2, ![512, 256]⟩
abbrev S1x64x256 : Shape := ⟨3, ![1, 64, 256]⟩
abbrev S64x256 : Shape := ⟨2, ![64, 256]⟩
abbrev S64x2048 : Shape := ⟨2, ![64, 2048]⟩
abbrev S1x1x256 : Shape := ⟨3, ![1, 1, 256]⟩
abbrev S1x256 : Shape := ⟨2, ![1, 256]⟩
abbrev S1x512x64 : Shape := ⟨3, ![1, 512, 64]⟩
abbrev S512x64 : Shape := ⟨2, ![512, 64]⟩
abbrev S512x2048 : Shape := ⟨2, ![512, 2048]⟩
abbrev S8x256 : Shape := ⟨2, ![8, 256]⟩
abbrev S32x16x256 : Shape := ⟨3, ![32, 16, 256]⟩
abbrev S128x256 : Shape := ⟨2, ![128, 256]⟩
abbrev S1x128x256 : Shape := ⟨3, ![1, 128, 256]⟩
abbrev S4x32x256 : Shape := ⟨3, ![4, 32, 256]⟩
abbrev S32x256 : Shape := ⟨2, ![32, 256]⟩
abbrev S4x8x256 : Shape := ⟨3, ![4, 8, 256]⟩
abbrev S256 : Shape := ⟨1, ![256]⟩
abbrev S1 : Shape := ⟨1, ![1]⟩
abbrev S1x1x1 : Shape := ⟨3, ![1, 1, 1]⟩
abbrev S512x512 : Shape := ⟨2, ![512, 512]⟩
abbrev S128x1024 : Shape := ⟨2, ![128, 1024]⟩
abbrev S8x1024 : Shape := ⟨2, ![8, 1024]⟩
abbrev S1x1x512x128 : Shape := ⟨4, ![1, 1, 512, 128]⟩
abbrev S512x128 : Shape := ⟨2, ![512, 128]⟩
abbrev S512x1024 : Shape := ⟨2, ![512, 1024]⟩
abbrev S8x64x256 : Shape := ⟨3, ![8, 64, 256]⟩
abbrev S8x8x256 : Shape := ⟨3, ![8, 8, 256]⟩
abbrev S1024 : Shape := ⟨1, ![1024]⟩
abbrev S1x1024 : Shape := ⟨2, ![1, 1024]⟩
abbrev S1x512x1024 : Shape := ⟨3, ![1, 512, 1024]⟩
abbrev S1x128x512 : Shape := ⟨3, ![1, 128, 512]⟩
abbrev S128x512 : Shape := ⟨2, ![128, 512]⟩
abbrev S1x128x1024 : Shape := ⟨3, ![1, 128, 1024]⟩
abbrev S8x64x1024 : Shape := ⟨3, ![8, 64, 1024]⟩
abbrev S64x1024 : Shape := ⟨2, ![64, 1024]⟩
abbrev S8x8x1024 : Shape := ⟨3, ![8, 8, 1024]⟩
abbrev S256x128 : Shape := ⟨2, ![256, 128]⟩
abbrev S1x256x128 : Shape := ⟨3, ![1, 256, 128]⟩

abbrev nBuf : Space → Nat
  | .hbm => 7
  | .vmem => 18
  | .smem => 0
  | _ => 0

abbrev bufTy : (tb : Table) → Fin (tcTables nBuf tb) → BufTy
  | .hbm, ⟨0, _⟩ => ⟨S16x1024x4096, .bf16⟩
  | .hbm, ⟨1, _⟩ => ⟨S16x512x4096, .bf16⟩
  | .hbm, ⟨2, _⟩ => ⟨S16x8x4096, .f32⟩
  | .hbm, ⟨3, _⟩ => ⟨S16x2x4096x128, .bf16⟩
  | .hbm, ⟨4, _⟩ => ⟨S16x256x4096, .bf16⟩
  | .hbm, ⟨5, _⟩ => ⟨S16x4096x64, .bf16⟩
  | .hbm, ⟨6, _⟩ => ⟨S16x4096x1024, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x512x256, .bf16⟩
  | .local _ .vmem, ⟨3, _⟩ => ⟨S1x512x256, .bf16⟩
  | .local _ .vmem, ⟨4, _⟩ => ⟨S1x8x256, .f32⟩
  | .local _ .vmem, ⟨5, _⟩ => ⟨S1x8x256, .f32⟩
  | .local _ .vmem, ⟨6, _⟩ => ⟨S1x2x4096x128, .bf16⟩
  | .local _ .vmem, ⟨7, _⟩ => ⟨S1x2x4096x128, .bf16⟩
  | .local _ .vmem, ⟨8, _⟩ => ⟨S1x256x4096, .bf16⟩
  | .local _ .vmem, ⟨9, _⟩ => ⟨S1x256x4096, .bf16⟩
  | .local _ .vmem, ⟨10, _⟩ => ⟨S1x4096x64, .bf16⟩
  | .local _ .vmem, ⟨11, _⟩ => ⟨S1x4096x64, .bf16⟩
  | .local _ .vmem, ⟨12, _⟩ => ⟨S1x256x1024, .bf16⟩
  | .local _ .vmem, ⟨13, _⟩ => ⟨S1x256x1024, .bf16⟩
  | .local _ .vmem, ⟨14, _⟩ => ⟨S4096x256, .f32⟩
  | .local _ .vmem, ⟨15, _⟩ => ⟨S32x128x256, .i32⟩
  | .local _ .vmem, ⟨16, _⟩ => ⟨S2x4096x1024, .f32⟩
  | .local _ .vmem, ⟨17, _⟩ => ⟨S2x128x1024, .f32⟩
  | _, _ => ⟨S16x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [BitOps F]

abbrev grid0 : Pipeline.Grid := ⟨2, ![16, 16], ![false, false]⟩

@[reducible] def k0_t1_loop (i : grid0.Coords) : Scf.Loop 32 :=
  let c0_i32_39 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v55 : BitVec 32 := Scalar.subi v17 c0_i32_39
  let c1_i32_40 : BitVec 32 := 1#32
  let v57 : BitVec 32 := Scalar.divsi v55 c1_i32_40
  let v58 : BitVec 32 := Scalar.muli v57 c1_i32_40
  let v59 : BitVec 32 := Scalar.addi c0_i32_39 v58
  let c1_i32_41 : BitVec 32 := 1#32
  ⟨c0_i32_39, v59, c1_i32_41⟩
def k0_mult1 (i : grid0.Coords) (k0_t1 : Fin (k0_t1_loop i).trips) : BitVec 32 :=
  let c0_i32_39 : BitVec 32 := 0#32
  let c1_i32_41 : BitVec 32 := 1#32
  let arg13 : BitVec 32 := Scf.iv c0_i32_39 c1_i32_41 k0_t1
  let c512_i32 : BitVec 32 := 512#32
  let v180 : BitVec 32 := Scalar.muli arg13 c512_i32
  v180
def k0_off1 (i : grid0.Coords) (k0_t1 : Fin (k0_t1_loop i).trips) : Fin 3 → Nat :=
  let c0_120 : Index := 0#32
  let c0_i32_39 : BitVec 32 := 0#32
  let c1_i32_41 : BitVec 32 := 1#32
  let arg13 : BitVec 32 := Scf.iv c0_i32_39 c1_i32_41 k0_t1
  let c512_i32 : BitVec 32 := 512#32
  let v180 : BitVec 32 := Scalar.muli arg13 c512_i32
  let v181 : BitVec 32 := v180
  let v182 : Index := Scalar.indexCast v181
  let c0_121 : Index := 0#32
  ![0, v182.toNat, 0]
def k0_off2 (i : grid0.Coords) (k0_t1 : Fin (k0_t1_loop i).trips) : Fin 2 → Nat :=
  let c0_i32_39 : BitVec 32 := 0#32
  let c1_i32_41 : BitVec 32 := 1#32
  let arg13 : BitVec 32 := Scf.iv c0_i32_39 c1_i32_41 k0_t1
  let c512_i32 : BitVec 32 := 512#32
  let v180 : BitVec 32 := Scalar.muli arg13 c512_i32
  let v181 : BitVec 32 := v180
  let v241 : Index := Scalar.indexCast v181
  let c0_133 : Index := 0#32
  ![v241.toNat, 0]
def k0_mult2 (i : grid0.Coords) (k0_t1 : Fin (k0_t1_loop i).trips) : BitVec 32 :=
  let c0_i32_39 : BitVec 32 := 0#32
  let c1_i32_41 : BitVec 32 := 1#32
  let arg13 : BitVec 32 := Scf.iv c0_i32_39 c1_i32_41 k0_t1
  let c16_i32_366 : BitVec 32 := 16#32
  let v1003 : BitVec 32 := Scalar.muli arg13 c16_i32_366
  let c0_i32_367 : BitVec 32 := 0#32
  let v1004 : BitVec 32 := Scalar.addi v1003 c0_i32_367
  v1004
def k0_off3 (i : grid0.Coords) (k0_t1 : Fin (k0_t1_loop i).trips) (c0_i32_367 : BitVec 32) : Fin 3 → Nat :=
  let c0_368 : Index := 0#32
  let c0_i32_39 : BitVec 32 := 0#32
  let c1_i32_41 : BitVec 32 := 1#32
  let arg13 : BitVec 32 := Scf.iv c0_i32_39 c1_i32_41 k0_t1
  let c16_i32_366 : BitVec 32 := 16#32
  let v1003 : BitVec 32 := Scalar.muli arg13 c16_i32_366
  let v1004 : BitVec 32 := Scalar.addi v1003 c0_i32_367
  let v1005 : BitVec 32 := v1004
  let v1006 : Index := Scalar.indexCast v1005
  let c0_369 : Index := 0#32
  ![0, v1006.toNat, 0]
def k0_off4 (i : grid0.Coords) (k0_t1 : Fin (k0_t1_loop i).trips) (c0_i32_367 : BitVec 32) : Fin 3 → Nat :=
  let c1_370 : Index := 1#32
  let c0_i32_39 : BitVec 32 := 0#32
  let c1_i32_41 : BitVec 32 := 1#32
  let arg13 : BitVec 32 := Scf.iv c0_i32_39 c1_i32_41 k0_t1
  let c16_i32_366 : BitVec 32 := 16#32
  let v1003 : BitVec 32 := Scalar.muli arg13 c16_i32_366
  let v1004 : BitVec 32 := Scalar.addi v1003 c0_i32_367
  let v1005 : BitVec 32 := v1004
  let v1010 : Index := Scalar.indexCast v1005
  let c0_371 : Index := 0#32
  ![1, v1010.toNat, 0]
def k0_off5 (i : grid0.Coords) (k0_t1 : Fin (k0_t1_loop i).trips) (c0_i32_367 : BitVec 32) : Fin 3 → Nat :=
  let c2_372 : Index := 2#32
  let c0_i32_39 : BitVec 32 := 0#32
  let c1_i32_41 : BitVec 32 := 1#32
  let arg13 : BitVec 32 := Scf.iv c0_i32_39 c1_i32_41 k0_t1
  let c16_i32_366 : BitVec 32 := 16#32
  let v1003 : BitVec 32 := Scalar.muli arg13 c16_i32_366
  let v1004 : BitVec 32 := Scalar.addi v1003 c0_i32_367
  let v1005 : BitVec 32 := v1004
  let v1014 : Index := Scalar.indexCast v1005
  let c0_373 : Index := 0#32
  ![2, v1014.toNat, 0]
def k0_off6 (i : grid0.Coords) (k0_t1 : Fin (k0_t1_loop i).trips) (c0_i32_367 : BitVec 32) : Fin 3 → Nat :=
  let c3_374 : Index := 3#32
  let c0_i32_39 : BitVec 32 := 0#32
  let c1_i32_41 : BitVec 32 := 1#32
  let arg13 : BitVec 32 := Scf.iv c0_i32_39 c1_i32_41 k0_t1
  let c16_i32_366 : BitVec 32 := 16#32
  let v1003 : BitVec 32 := Scalar.muli arg13 c16_i32_366
  let v1004 : BitVec 32 := Scalar.addi v1003 c0_i32_367
  let v1005 : BitVec 32 := v1004
  let v1018 : Index := Scalar.indexCast v1005
  let c0_375 : Index := 0#32
  ![3, v1018.toNat, 0]
def k0_off7 (i : grid0.Coords) (k0_t1 : Fin (k0_t1_loop i).trips) (c0_i32_367 : BitVec 32) : Fin 3 → Nat :=
  let c4_376 : Index := 4#32
  let c0_i32_39 : BitVec 32 := 0#32
  let c1_i32_41 : BitVec 32 := 1#32
  let arg13 : BitVec 32 := Scf.iv c0_i32_39 c1_i32_41 k0_t1
  let c16_i32_366 : BitVec 32 := 16#32
  let v1003 : BitVec 32 := Scalar.muli arg13 c16_i32_366
  let v1004 : BitVec 32 := Scalar.addi v1003 c0_i32_367
  let v1005 : BitVec 32 := v1004
  let v1022 : Index := Scalar.indexCast v1005
  let c0_377 : Index := 0#32
  ![4, v1022.toNat, 0]
def k0_off8 (i : grid0.Coords) (k0_t1 : Fin (k0_t1_loop i).trips) (c0_i32_367 : BitVec 32) : Fin 3 → Nat :=
  let c5_378 : Index := 5#32
  let c0_i32_39 : BitVec 32 := 0#32
  let c1_i32_41 : BitVec 32 := 1#32
  let arg13 : BitVec 32 := Scf.iv c0_i32_39 c1_i32_41 k0_t1
  let c16_i32_366 : BitVec 32 := 16#32
  let v1003 : BitVec 32 := Scalar.muli arg13 c16_i32_366
  let v1004 : BitVec 32 := Scalar.addi v1003 c0_i32_367
  let v1005 : BitVec 32 := v1004
  let v1026 : Index := Scalar.indexCast v1005
  let c0_379 : Index := 0#32
  ![5, v1026.toNat, 0]
def k0_off9 (i : grid0.Coords) (k0_t1 : Fin (k0_t1_loop i).trips) (c0_i32_367 : BitVec 32) : Fin 3 → Nat :=
  let c6_380 : Index := 6#32
  let c0_i32_39 : BitVec 32 := 0#32
  let c1_i32_41 : BitVec 32 := 1#32
  let arg13 : BitVec 32 := Scf.iv c0_i32_39 c1_i32_41 k0_t1
  let c16_i32_366 : BitVec 32 := 16#32
  let v1003 : BitVec 32 := Scalar.muli arg13 c16_i32_366
  let v1004 : BitVec 32 := Scalar.addi v1003 c0_i32_367
  let v1005 : BitVec 32 := v1004
  let v1030 : Index := Scalar.indexCast v1005
  let c0_381 : Index := 0#32
  ![6, v1030.toNat, 0]
def k0_off10 (i : grid0.Coords) (k0_t1 : Fin (k0_t1_loop i).trips) (c0_i32_367 : BitVec 32) : Fin 3 → Nat :=
  let c7_382 : Index := 7#32
  let c0_i32_39 : BitVec 32 := 0#32
  let c1_i32_41 : BitVec 32 := 1#32
  let arg13 : BitVec 32 := Scf.iv c0_i32_39 c1_i32_41 k0_t1
  let c16_i32_366 : BitVec 32 := 16#32
  let v1003 : BitVec 32 := Scalar.muli arg13 c16_i32_366
  let v1004 : BitVec 32 := Scalar.addi v1003 c0_i32_367
  let v1005 : BitVec 32 := v1004
  let v1034 : Index := Scalar.indexCast v1005
  let c0_383 : Index := 0#32
  ![7, v1034.toNat, 0]
def k0_off11 (i : grid0.Coords) (k0_t1 : Fin (k0_t1_loop i).trips) (c0_i32_367 : BitVec 32) : Fin 3 → Nat :=
  let c8 : Index := 8#32
  let c0_i32_39 : BitVec 32 := 0#32
  let c1_i32_41 : BitVec 32 := 1#32
  let arg13 : BitVec 32 := Scf.iv c0_i32_39 c1_i32_41 k0_t1
  let c16_i32_366 : BitVec 32 := 16#32
  let v1003 : BitVec 32 := Scalar.muli arg13 c16_i32_366
  let v1004 : BitVec 32 := Scalar.addi v1003 c0_i32_367
  let v1005 : BitVec 32 := v1004
  let v1038 : Index := Scalar.indexCast v1005
  let c0_384 : Index := 0#32
  ![8, v1038.toNat, 0]
def k0_off12 (i : grid0.Coords) (k0_t1 : Fin (k0_t1_loop i).trips) (c0_i32_367 : BitVec 32) : Fin 3 → Nat :=
  let c9 : Index := 9#32
  let c0_i32_39 : BitVec 32 := 0#32
  let c1_i32_41 : BitVec 32 := 1#32
  let arg13 : BitVec 32 := Scf.iv c0_i32_39 c1_i32_41 k0_t1
  let c16_i32_366 : BitVec 32 := 16#32
  let v1003 : BitVec 32 := Scalar.muli arg13 c16_i32_366
  let v1004 : BitVec 32 := Scalar.addi v1003 c0_i32_367
  let v1005 : BitVec 32 := v1004
  let v1042 : Index := Scalar.indexCast v1005
  let c0_385 : Index := 0#32
  ![9, v1042.toNat, 0]
def k0_off13 (i : grid0.Coords) (k0_t1 : Fin (k0_t1_loop i).trips) (c0_i32_367 : BitVec 32) : Fin 3 → Nat :=
  let c10 : Index := 10#32
  let c0_i32_39 : BitVec 32 := 0#32
  let c1_i32_41 : BitVec 32 := 1#32
  let arg13 : BitVec 32 := Scf.iv c0_i32_39 c1_i32_41 k0_t1
  let c16_i32_366 : BitVec 32 := 16#32
  let v1003 : BitVec 32 := Scalar.muli arg13 c16_i32_366
  let v1004 : BitVec 32 := Scalar.addi v1003 c0_i32_367
  let v1005 : BitVec 32 := v1004
  let v1046 : Index := Scalar.indexCast v1005
  let c0_386 : Index := 0#32
  ![10, v1046.toNat, 0]
def k0_off14 (i : grid0.Coords) (k0_t1 : Fin (k0_t1_loop i).trips) (c0_i32_367 : BitVec 32) : Fin 3 → Nat :=
  let c11 : Index := 11#32
  let c0_i32_39 : BitVec 32 := 0#32
  let c1_i32_41 : BitVec 32 := 1#32
  let arg13 : BitVec 32 := Scf.iv c0_i32_39 c1_i32_41 k0_t1
  let c16_i32_366 : BitVec 32 := 16#32
  let v1003 : BitVec 32 := Scalar.muli arg13 c16_i32_366
  let v1004 : BitVec 32 := Scalar.addi v1003 c0_i32_367
  let v1005 : BitVec 32 := v1004
  let v1050 : Index := Scalar.indexCast v1005
  let c0_387 : Index := 0#32
  ![11, v1050.toNat, 0]
def k0_off15 (i : grid0.Coords) (k0_t1 : Fin (k0_t1_loop i).trips) (c0_i32_367 : BitVec 32) : Fin 3 → Nat :=
  let c12 : Index := 12#32
  let c0_i32_39 : BitVec 32 := 0#32
  let c1_i32_41 : BitVec 32 := 1#32
  let arg13 : BitVec 32 := Scf.iv c0_i32_39 c1_i32_41 k0_t1
  let c16_i32_366 : BitVec 32 := 16#32
  let v1003 : BitVec 32 := Scalar.muli arg13 c16_i32_366
  let v1004 : BitVec 32 := Scalar.addi v1003 c0_i32_367
  let v1005 : BitVec 32 := v1004
  let v1054 : Index := Scalar.indexCast v1005
  let c0_388 : Index := 0#32
  ![12, v1054.toNat, 0]
def k0_off16 (i : grid0.Coords) (k0_t1 : Fin (k0_t1_loop i).trips) (c0_i32_367 : BitVec 32) : Fin 3 → Nat :=
  let c13 : Index := 13#32
  let c0_i32_39 : BitVec 32 := 0#32
  let c1_i32_41 : BitVec 32 := 1#32
  let arg13 : BitVec 32 := Scf.iv c0_i32_39 c1_i32_41 k0_t1
  let c16_i32_366 : BitVec 32 := 16#32
  let v1003 : BitVec 32 := Scalar.muli arg13 c16_i32_366
  let v1004 : BitVec 32 := Scalar.addi v1003 c0_i32_367
  let v1005 : BitVec 32 := v1004
  let v1058 : Index := Scalar.indexCast v1005
  let c0_389 : Index := 0#32
  ![13, v1058.toNat, 0]
def k0_off17 (i : grid0.Coords) (k0_t1 : Fin (k0_t1_loop i).trips) (c0_i32_367 : BitVec 32) : Fin 3 → Nat :=
  let c14 : Index := 14#32
  let c0_i32_39 : BitVec 32 := 0#32
  let c1_i32_41 : BitVec 32 := 1#32
  let arg13 : BitVec 32 := Scf.iv c0_i32_39 c1_i32_41 k0_t1
  let c16_i32_366 : BitVec 32 := 16#32
  let v1003 : BitVec 32 := Scalar.muli arg13 c16_i32_366
  let v1004 : BitVec 32 := Scalar.addi v1003 c0_i32_367
  let v1005 : BitVec 32 := v1004
  let v1062 : Index := Scalar.indexCast v1005
  let c0_390 : Index := 0#32
  ![14, v1062.toNat, 0]
def k0_off18 (i : grid0.Coords) (k0_t1 : Fin (k0_t1_loop i).trips) (c0_i32_367 : BitVec 32) : Fin 3 → Nat :=
  let c15 : Index := 15#32
  let c0_i32_39 : BitVec 32 := 0#32
  let c1_i32_41 : BitVec 32 := 1#32
  let arg13 : BitVec 32 := Scf.iv c0_i32_39 c1_i32_41 k0_t1
  let c16_i32_366 : BitVec 32 := 16#32
  let v1003 : BitVec 32 := Scalar.muli arg13 c16_i32_366
  let v1004 : BitVec 32 := Scalar.addi v1003 c0_i32_367
  let v1005 : BitVec 32 := v1004
  let v1066 : Index := Scalar.indexCast v1005
  let c0_391 : Index := 0#32
  ![15, v1066.toNat, 0]
def k0_off19 (i : grid0.Coords) (k0_t1 : Fin (k0_t1_loop i).trips) (c0_i32_367 : BitVec 32) : Fin 3 → Nat :=
  let c16 : Index := 16#32
  let c0_i32_39 : BitVec 32 := 0#32
  let c1_i32_41 : BitVec 32 := 1#32
  let arg13 : BitVec 32 := Scf.iv c0_i32_39 c1_i32_41 k0_t1
  let c16_i32_366 : BitVec 32 := 16#32
  let v1003 : BitVec 32 := Scalar.muli arg13 c16_i32_366
  let v1004 : BitVec 32 := Scalar.addi v1003 c0_i32_367
  let v1005 : BitVec 32 := v1004
  let v1070 : Index := Scalar.indexCast v1005
  let c0_392 : Index := 0#32
  ![16, v1070.toNat, 0]
def k0_off20 (i : grid0.Coords) (k0_t1 : Fin (k0_t1_loop i).trips) (c0_i32_367 : BitVec 32) : Fin 3 → Nat :=
  let c17 : Index := 17#32
  let c0_i32_39 : BitVec 32 := 0#32
  let c1_i32_41 : BitVec 32 := 1#32
  let arg13 : BitVec 32 := Scf.iv c0_i32_39 c1_i32_41 k0_t1
  let c16_i32_366 : BitVec 32 := 16#32
  let v1003 : BitVec 32 := Scalar.muli arg13 c16_i32_366
  let v1004 : BitVec 32 := Scalar.addi v1003 c0_i32_367
  let v1005 : BitVec 32 := v1004
  let v1074 : Index := Scalar.indexCast v1005
  let c0_393 : Index := 0#32
  ![17, v1074.toNat, 0]
def k0_off21 (i : grid0.Coords) (k0_t1 : Fin (k0_t1_loop i).trips) (c0_i32_367 : BitVec 32) : Fin 3 → Nat :=
  let c18 : Index := 18#32
  let c0_i32_39 : BitVec 32 := 0#32
  let c1_i32_41 : BitVec 32 := 1#32
  let arg13 : BitVec 32 := Scf.iv c0_i32_39 c1_i32_41 k0_t1
  let c16_i32_366 : BitVec 32 := 16#32
  let v1003 : BitVec 32 := Scalar.muli arg13 c16_i32_366
  let v1004 : BitVec 32 := Scalar.addi v1003 c0_i32_367
  let v1005 : BitVec 32 := v1004
  let v1078 : Index := Scalar.indexCast v1005
  let c0_394 : Index := 0#32
  ![18, v1078.toNat, 0]
def k0_off22 (i : grid0.Coords) (k0_t1 : Fin (k0_t1_loop i).trips) (c0_i32_367 : BitVec 32) : Fin 3 → Nat :=
  let c19 : Index := 19#32
  let c0_i32_39 : BitVec 32 := 0#32
  let c1_i32_41 : BitVec 32 := 1#32
  let arg13 : BitVec 32 := Scf.iv c0_i32_39 c1_i32_41 k0_t1
  let c16_i32_366 : BitVec 32 := 16#32
  let v1003 : BitVec 32 := Scalar.muli arg13 c16_i32_366
  let v1004 : BitVec 32 := Scalar.addi v1003 c0_i32_367
  let v1005 : BitVec 32 := v1004
  let v1082 : Index := Scalar.indexCast v1005
  let c0_395 : Index := 0#32
  ![19, v1082.toNat, 0]
def k0_off23 (i : grid0.Coords) (k0_t1 : Fin (k0_t1_loop i).trips) (c0_i32_367 : BitVec 32) : Fin 3 → Nat :=
  let c20 : Index := 20#32
  let c0_i32_39 : BitVec 32 := 0#32
  let c1_i32_41 : BitVec 32 := 1#32
  let arg13 : BitVec 32 := Scf.iv c0_i32_39 c1_i32_41 k0_t1
  let c16_i32_366 : BitVec 32 := 16#32
  let v1003 : BitVec 32 := Scalar.muli arg13 c16_i32_366
  let v1004 : BitVec 32 := Scalar.addi v1003 c0_i32_367
  let v1005 : BitVec 32 := v1004
  let v1086 : Index := Scalar.indexCast v1005
  let c0_396 : Index := 0#32
  ![20, v1086.toNat, 0]
def k0_off24 (i : grid0.Coords) (k0_t1 : Fin (k0_t1_loop i).trips) (c0_i32_367 : BitVec 32) : Fin 3 → Nat :=
  let c21 : Index := 21#32
  let c0_i32_39 : BitVec 32 := 0#32
  let c1_i32_41 : BitVec 32 := 1#32
  let arg13 : BitVec 32 := Scf.iv c0_i32_39 c1_i32_41 k0_t1
  let c16_i32_366 : BitVec 32 := 16#32
  let v1003 : BitVec 32 := Scalar.muli arg13 c16_i32_366
  let v1004 : BitVec 32 := Scalar.addi v1003 c0_i32_367
  let v1005 : BitVec 32 := v1004
  let v1090 : Index := Scalar.indexCast v1005
  let c0_397 : Index := 0#32
  ![21, v1090.toNat, 0]
def k0_off25 (i : grid0.Coords) (k0_t1 : Fin (k0_t1_loop i).trips) (c0_i32_367 : BitVec 32) : Fin 3 → Nat :=
  let c22 : Index := 22#32
  let c0_i32_39 : BitVec 32 := 0#32
  let c1_i32_41 : BitVec 32 := 1#32
  let arg13 : BitVec 32 := Scf.iv c0_i32_39 c1_i32_41 k0_t1
  let c16_i32_366 : BitVec 32 := 16#32
  let v1003 : BitVec 32 := Scalar.muli arg13 c16_i32_366
  let v1004 : BitVec 32 := Scalar.addi v1003 c0_i32_367
  let v1005 : BitVec 32 := v1004
  let v1094 : Index := Scalar.indexCast v1005
  let c0_398 : Index := 0#32
  ![22, v1094.toNat, 0]
def k0_off26 (i : grid0.Coords) (k0_t1 : Fin (k0_t1_loop i).trips) (c0_i32_367 : BitVec 32) : Fin 3 → Nat :=
  let c23 : Index := 23#32
  let c0_i32_39 : BitVec 32 := 0#32
  let c1_i32_41 : BitVec 32 := 1#32
  let arg13 : BitVec 32 := Scf.iv c0_i32_39 c1_i32_41 k0_t1
  let c16_i32_366 : BitVec 32 := 16#32
  let v1003 : BitVec 32 := Scalar.muli arg13 c16_i32_366
  let v1004 : BitVec 32 := Scalar.addi v1003 c0_i32_367
  let v1005 : BitVec 32 := v1004
  let v1098 : Index := Scalar.indexCast v1005
  let c0_399 : Index := 0#32
  ![23, v1098.toNat, 0]
def k0_off27 (i : grid0.Coords) (k0_t1 : Fin (k0_t1_loop i).trips) (c0_i32_367 : BitVec 32) : Fin 3 → Nat :=
  let c24 : Index := 24#32
  let c0_i32_39 : BitVec 32 := 0#32
  let c1_i32_41 : BitVec 32 := 1#32
  let arg13 : BitVec 32 := Scf.iv c0_i32_39 c1_i32_41 k0_t1
  let c16_i32_366 : BitVec 32 := 16#32
  let v1003 : BitVec 32 := Scalar.muli arg13 c16_i32_366
  let v1004 : BitVec 32 := Scalar.addi v1003 c0_i32_367
  let v1005 : BitVec 32 := v1004
  let v1102 : Index := Scalar.indexCast v1005
  let c0_400 : Index := 0#32
  ![24, v1102.toNat, 0]
def k0_off28 (i : grid0.Coords) (k0_t1 : Fin (k0_t1_loop i).trips) (c0_i32_367 : BitVec 32) : Fin 3 → Nat :=
  let c25 : Index := 25#32
  let c0_i32_39 : BitVec 32 := 0#32
  let c1_i32_41 : BitVec 32 := 1#32
  let arg13 : BitVec 32 := Scf.iv c0_i32_39 c1_i32_41 k0_t1
  let c16_i32_366 : BitVec 32 := 16#32
  let v1003 : BitVec 32 := Scalar.muli arg13 c16_i32_366
  let v1004 : BitVec 32 := Scalar.addi v1003 c0_i32_367
  let v1005 : BitVec 32 := v1004
  let v1106 : Index := Scalar.indexCast v1005
  let c0_401 : Index := 0#32
  ![25, v1106.toNat, 0]
def k0_off29 (i : grid0.Coords) (k0_t1 : Fin (k0_t1_loop i).trips) (c0_i32_367 : BitVec 32) : Fin 3 → Nat :=
  let c26 : Index := 26#32
  let c0_i32_39 : BitVec 32 := 0#32
  let c1_i32_41 : BitVec 32 := 1#32
  let arg13 : BitVec 32 := Scf.iv c0_i32_39 c1_i32_41 k0_t1
  let c16_i32_366 : BitVec 32 := 16#32
  let v1003 : BitVec 32 := Scalar.muli arg13 c16_i32_366
  let v1004 : BitVec 32 := Scalar.addi v1003 c0_i32_367
  let v1005 : BitVec 32 := v1004
  let v1110 : Index := Scalar.indexCast v1005
  let c0_402 : Index := 0#32
  ![26, v1110.toNat, 0]
def k0_off30 (i : grid0.Coords) (k0_t1 : Fin (k0_t1_loop i).trips) (c0_i32_367 : BitVec 32) : Fin 3 → Nat :=
  let c27 : Index := 27#32
  let c0_i32_39 : BitVec 32 := 0#32
  let c1_i32_41 : BitVec 32 := 1#32
  let arg13 : BitVec 32 := Scf.iv c0_i32_39 c1_i32_41 k0_t1
  let c16_i32_366 : BitVec 32 := 16#32
  let v1003 : BitVec 32 := Scalar.muli arg13 c16_i32_366
  let v1004 : BitVec 32 := Scalar.addi v1003 c0_i32_367
  let v1005 : BitVec 32 := v1004
  let v1114 : Index := Scalar.indexCast v1005
  let c0_403 : Index := 0#32
  ![27, v1114.toNat, 0]
def k0_off31 (i : grid0.Coords) (k0_t1 : Fin (k0_t1_loop i).trips) (c0_i32_367 : BitVec 32) : Fin 3 → Nat :=
  let c28 : Index := 28#32
  let c0_i32_39 : BitVec 32 := 0#32
  let c1_i32_41 : BitVec 32 := 1#32
  let arg13 : BitVec 32 := Scf.iv c0_i32_39 c1_i32_41 k0_t1
  let c16_i32_366 : BitVec 32 := 16#32
  let v1003 : BitVec 32 := Scalar.muli arg13 c16_i32_366
  let v1004 : BitVec 32 := Scalar.addi v1003 c0_i32_367
  let v1005 : BitVec 32 := v1004
  let v1118 : Index := Scalar.indexCast v1005
  let c0_404 : Index := 0#32
  ![28, v1118.toNat, 0]
def k0_off32 (i : grid0.Coords) (k0_t1 : Fin (k0_t1_loop i).trips) (c0_i32_367 : BitVec 32) : Fin 3 → Nat :=
  let c29 : Index := 29#32
  let c0_i32_39 : BitVec 32 := 0#32
  let c1_i32_41 : BitVec 32 := 1#32
  let arg13 : BitVec 32 := Scf.iv c0_i32_39 c1_i32_41 k0_t1
  let c16_i32_366 : BitVec 32 := 16#32
  let v1003 : BitVec 32 := Scalar.muli arg13 c16_i32_366
  let v1004 : BitVec 32 := Scalar.addi v1003 c0_i32_367
  let v1005 : BitVec 32 := v1004
  let v1122 : Index := Scalar.indexCast v1005
  let c0_405 : Index := 0#32
  ![29, v1122.toNat, 0]
def k0_off33 (i : grid0.Coords) (k0_t1 : Fin (k0_t1_loop i).trips) (c0_i32_367 : BitVec 32) : Fin 3 → Nat :=
  let c30 : Index := 30#32
  let c0_i32_39 : BitVec 32 := 0#32
  let c1_i32_41 : BitVec 32 := 1#32
  let arg13 : BitVec 32 := Scf.iv c0_i32_39 c1_i32_41 k0_t1
  let c16_i32_366 : BitVec 32 := 16#32
  let v1003 : BitVec 32 := Scalar.muli arg13 c16_i32_366
  let v1004 : BitVec 32 := Scalar.addi v1003 c0_i32_367
  let v1005 : BitVec 32 := v1004
  let v1126 : Index := Scalar.indexCast v1005
  let c0_406 : Index := 0#32
  ![30, v1126.toNat, 0]
def k0_off34 (i : grid0.Coords) (k0_t1 : Fin (k0_t1_loop i).trips) (c0_i32_367 : BitVec 32) : Fin 3 → Nat :=
  let c31 : Index := 31#32
  let c0_i32_39 : BitVec 32 := 0#32
  let c1_i32_41 : BitVec 32 := 1#32
  let arg13 : BitVec 32 := Scf.iv c0_i32_39 c1_i32_41 k0_t1
  let c16_i32_366 : BitVec 32 := 16#32
  let v1003 : BitVec 32 := Scalar.muli arg13 c16_i32_366
  let v1004 : BitVec 32 := Scalar.addi v1003 c0_i32_367
  let v1005 : BitVec 32 := v1004
  let v1130 : Index := Scalar.indexCast v1005
  let c0_407 : Index := 0#32
  ![31, v1130.toNat, 0]
def k0_mult3 (i : grid0.Coords) (k0_t1 : Fin (k0_t1_loop i).trips) : BitVec 32 :=
  let c0_i32_39 : BitVec 32 := 0#32
  let c1_i32_41 : BitVec 32 := 1#32
  let arg13 : BitVec 32 := Scf.iv c0_i32_39 c1_i32_41 k0_t1
  let c16_i32_648 : BitVec 32 := 16#32
  let v1886 : BitVec 32 := Scalar.muli arg13 c16_i32_648
  let c8_i32_649 : BitVec 32 := 8#32
  let v1887 : BitVec 32 := Scalar.addi v1886 c8_i32_649
  v1887
@[reducible] def k0_t2_loop (i : grid0.Coords) : Scf.Loop 32 :=
  let c0_i32_39 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v55 : BitVec 32 := Scalar.subi v17 c0_i32_39
  let c1_i32_40 : BitVec 32 := 1#32
  let v57 : BitVec 32 := Scalar.divsi v55 c1_i32_40
  let v58 : BitVec 32 := Scalar.muli v57 c1_i32_40
  let v59 : BitVec 32 := Scalar.addi c0_i32_39 v58
  let v56 : BitVec 32 := Scalar.addi c0_i32_39 v55
  let c1_i32_42 : BitVec 32 := 1#32
  ⟨v59, v56, c1_i32_42⟩
def k0_mult4 (i : grid0.Coords) (k0_t2 : Fin (k0_t2_loop i).trips) : BitVec 32 :=
  let c0_i32_39 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v55 : BitVec 32 := Scalar.subi v17 c0_i32_39
  let c1_i32_40 : BitVec 32 := 1#32
  let v57 : BitVec 32 := Scalar.divsi v55 c1_i32_40
  let v58 : BitVec 32 := Scalar.muli v57 c1_i32_40
  let v59 : BitVec 32 := Scalar.addi c0_i32_39 v58
  let c1_i32_42 : BitVec 32 := 1#32
  let arg13 : BitVec 32 := Scf.iv v59 c1_i32_42 k0_t2
  let c512_i32 : BitVec 32 := 512#32
  let v180 : BitVec 32 := Scalar.muli arg13 c512_i32
  v180
def k0_off35 (i : grid0.Coords) (k0_t2 : Fin (k0_t2_loop i).trips) : Fin 3 → Nat :=
  let c0_120 : Index := 0#32
  let c0_i32_39 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v55 : BitVec 32 := Scalar.subi v17 c0_i32_39
  let c1_i32_40 : BitVec 32 := 1#32
  let v57 : BitVec 32 := Scalar.divsi v55 c1_i32_40
  let v58 : BitVec 32 := Scalar.muli v57 c1_i32_40
  let v59 : BitVec 32 := Scalar.addi c0_i32_39 v58
  let c1_i32_42 : BitVec 32 := 1#32
  let arg13 : BitVec 32 := Scf.iv v59 c1_i32_42 k0_t2
  let c512_i32 : BitVec 32 := 512#32
  let v180 : BitVec 32 := Scalar.muli arg13 c512_i32
  let v181 : BitVec 32 := v180
  let v182 : Index := Scalar.indexCast v181
  let c0_121 : Index := 0#32
  ![0, v182.toNat, 0]
def k0_off36 (i : grid0.Coords) (k0_t2 : Fin (k0_t2_loop i).trips) : Fin 2 → Nat :=
  let c0_i32_39 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v55 : BitVec 32 := Scalar.subi v17 c0_i32_39
  let c1_i32_40 : BitVec 32 := 1#32
  let v57 : BitVec 32 := Scalar.divsi v55 c1_i32_40
  let v58 : BitVec 32 := Scalar.muli v57 c1_i32_40
  let v59 : BitVec 32 := Scalar.addi c0_i32_39 v58
  let c1_i32_42 : BitVec 32 := 1#32
  let arg13 : BitVec 32 := Scf.iv v59 c1_i32_42 k0_t2
  let c512_i32 : BitVec 32 := 512#32
  let v180 : BitVec 32 := Scalar.muli arg13 c512_i32
  let v181 : BitVec 32 := v180
  let v241 : Index := Scalar.indexCast v181
  let c0_133 : Index := 0#32
  ![v241.toNat, 0]
def k0_mult5 (i : grid0.Coords) (k0_t2 : Fin (k0_t2_loop i).trips) : BitVec 32 :=
  let c0_i32_39 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v55 : BitVec 32 := Scalar.subi v17 c0_i32_39
  let c1_i32_40 : BitVec 32 := 1#32
  let v57 : BitVec 32 := Scalar.divsi v55 c1_i32_40
  let v58 : BitVec 32 := Scalar.muli v57 c1_i32_40
  let v59 : BitVec 32 := Scalar.addi c0_i32_39 v58
  let c1_i32_42 : BitVec 32 := 1#32
  let arg13 : BitVec 32 := Scf.iv v59 c1_i32_42 k0_t2
  let c16_i32_366 : BitVec 32 := 16#32
  let v1003 : BitVec 32 := Scalar.muli arg13 c16_i32_366
  let c0_i32_367 : BitVec 32 := 0#32
  let v1004 : BitVec 32 := Scalar.addi v1003 c0_i32_367
  v1004
def k0_off37 (i : grid0.Coords) (k0_t2 : Fin (k0_t2_loop i).trips) (c0_i32_367 : BitVec 32) : Fin 3 → Nat :=
  let c0_368 : Index := 0#32
  let c0_i32_39 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v55 : BitVec 32 := Scalar.subi v17 c0_i32_39
  let c1_i32_40 : BitVec 32 := 1#32
  let v57 : BitVec 32 := Scalar.divsi v55 c1_i32_40
  let v58 : BitVec 32 := Scalar.muli v57 c1_i32_40
  let v59 : BitVec 32 := Scalar.addi c0_i32_39 v58
  let c1_i32_42 : BitVec 32 := 1#32
  let arg13 : BitVec 32 := Scf.iv v59 c1_i32_42 k0_t2
  let c16_i32_366 : BitVec 32 := 16#32
  let v1003 : BitVec 32 := Scalar.muli arg13 c16_i32_366
  let v1004 : BitVec 32 := Scalar.addi v1003 c0_i32_367
  let v1005 : BitVec 32 := v1004
  let v1006 : Index := Scalar.indexCast v1005
  let c0_369 : Index := 0#32
  ![0, v1006.toNat, 0]
def k0_off38 (i : grid0.Coords) (k0_t2 : Fin (k0_t2_loop i).trips) (c0_i32_367 : BitVec 32) : Fin 3 → Nat :=
  let c1_370 : Index := 1#32
  let c0_i32_39 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v55 : BitVec 32 := Scalar.subi v17 c0_i32_39
  let c1_i32_40 : BitVec 32 := 1#32
  let v57 : BitVec 32 := Scalar.divsi v55 c1_i32_40
  let v58 : BitVec 32 := Scalar.muli v57 c1_i32_40
  let v59 : BitVec 32 := Scalar.addi c0_i32_39 v58
  let c1_i32_42 : BitVec 32 := 1#32
  let arg13 : BitVec 32 := Scf.iv v59 c1_i32_42 k0_t2
  let c16_i32_366 : BitVec 32 := 16#32
  let v1003 : BitVec 32 := Scalar.muli arg13 c16_i32_366
  let v1004 : BitVec 32 := Scalar.addi v1003 c0_i32_367
  let v1005 : BitVec 32 := v1004
  let v1010 : Index := Scalar.indexCast v1005
  let c0_371 : Index := 0#32
  ![1, v1010.toNat, 0]
def k0_off39 (i : grid0.Coords) (k0_t2 : Fin (k0_t2_loop i).trips) (c0_i32_367 : BitVec 32) : Fin 3 → Nat :=
  let c2_372 : Index := 2#32
  let c0_i32_39 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v55 : BitVec 32 := Scalar.subi v17 c0_i32_39
  let c1_i32_40 : BitVec 32 := 1#32
  let v57 : BitVec 32 := Scalar.divsi v55 c1_i32_40
  let v58 : BitVec 32 := Scalar.muli v57 c1_i32_40
  let v59 : BitVec 32 := Scalar.addi c0_i32_39 v58
  let c1_i32_42 : BitVec 32 := 1#32
  let arg13 : BitVec 32 := Scf.iv v59 c1_i32_42 k0_t2
  let c16_i32_366 : BitVec 32 := 16#32
  let v1003 : BitVec 32 := Scalar.muli arg13 c16_i32_366
  let v1004 : BitVec 32 := Scalar.addi v1003 c0_i32_367
  let v1005 : BitVec 32 := v1004
  let v1014 : Index := Scalar.indexCast v1005
  let c0_373 : Index := 0#32
  ![2, v1014.toNat, 0]
def k0_off40 (i : grid0.Coords) (k0_t2 : Fin (k0_t2_loop i).trips) (c0_i32_367 : BitVec 32) : Fin 3 → Nat :=
  let c3_374 : Index := 3#32
  let c0_i32_39 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v55 : BitVec 32 := Scalar.subi v17 c0_i32_39
  let c1_i32_40 : BitVec 32 := 1#32
  let v57 : BitVec 32 := Scalar.divsi v55 c1_i32_40
  let v58 : BitVec 32 := Scalar.muli v57 c1_i32_40
  let v59 : BitVec 32 := Scalar.addi c0_i32_39 v58
  let c1_i32_42 : BitVec 32 := 1#32
  let arg13 : BitVec 32 := Scf.iv v59 c1_i32_42 k0_t2
  let c16_i32_366 : BitVec 32 := 16#32
  let v1003 : BitVec 32 := Scalar.muli arg13 c16_i32_366
  let v1004 : BitVec 32 := Scalar.addi v1003 c0_i32_367
  let v1005 : BitVec 32 := v1004
  let v1018 : Index := Scalar.indexCast v1005
  let c0_375 : Index := 0#32
  ![3, v1018.toNat, 0]
def k0_off41 (i : grid0.Coords) (k0_t2 : Fin (k0_t2_loop i).trips) (c0_i32_367 : BitVec 32) : Fin 3 → Nat :=
  let c4_376 : Index := 4#32
  let c0_i32_39 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v55 : BitVec 32 := Scalar.subi v17 c0_i32_39
  let c1_i32_40 : BitVec 32 := 1#32
  let v57 : BitVec 32 := Scalar.divsi v55 c1_i32_40
  let v58 : BitVec 32 := Scalar.muli v57 c1_i32_40
  let v59 : BitVec 32 := Scalar.addi c0_i32_39 v58
  let c1_i32_42 : BitVec 32 := 1#32
  let arg13 : BitVec 32 := Scf.iv v59 c1_i32_42 k0_t2
  let c16_i32_366 : BitVec 32 := 16#32
  let v1003 : BitVec 32 := Scalar.muli arg13 c16_i32_366
  let v1004 : BitVec 32 := Scalar.addi v1003 c0_i32_367
  let v1005 : BitVec 32 := v1004
  let v1022 : Index := Scalar.indexCast v1005
  let c0_377 : Index := 0#32
  ![4, v1022.toNat, 0]
def k0_off42 (i : grid0.Coords) (k0_t2 : Fin (k0_t2_loop i).trips) (c0_i32_367 : BitVec 32) : Fin 3 → Nat :=
  let c5_378 : Index := 5#32
  let c0_i32_39 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v55 : BitVec 32 := Scalar.subi v17 c0_i32_39
  let c1_i32_40 : BitVec 32 := 1#32
  let v57 : BitVec 32 := Scalar.divsi v55 c1_i32_40
  let v58 : BitVec 32 := Scalar.muli v57 c1_i32_40
  let v59 : BitVec 32 := Scalar.addi c0_i32_39 v58
  let c1_i32_42 : BitVec 32 := 1#32
  let arg13 : BitVec 32 := Scf.iv v59 c1_i32_42 k0_t2
  let c16_i32_366 : BitVec 32 := 16#32
  let v1003 : BitVec 32 := Scalar.muli arg13 c16_i32_366
  let v1004 : BitVec 32 := Scalar.addi v1003 c0_i32_367
  let v1005 : BitVec 32 := v1004
  let v1026 : Index := Scalar.indexCast v1005
  let c0_379 : Index := 0#32
  ![5, v1026.toNat, 0]
def k0_off43 (i : grid0.Coords) (k0_t2 : Fin (k0_t2_loop i).trips) (c0_i32_367 : BitVec 32) : Fin 3 → Nat :=
  let c6_380 : Index := 6#32
  let c0_i32_39 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v55 : BitVec 32 := Scalar.subi v17 c0_i32_39
  let c1_i32_40 : BitVec 32 := 1#32
  let v57 : BitVec 32 := Scalar.divsi v55 c1_i32_40
  let v58 : BitVec 32 := Scalar.muli v57 c1_i32_40
  let v59 : BitVec 32 := Scalar.addi c0_i32_39 v58
  let c1_i32_42 : BitVec 32 := 1#32
  let arg13 : BitVec 32 := Scf.iv v59 c1_i32_42 k0_t2
  let c16_i32_366 : BitVec 32 := 16#32
  let v1003 : BitVec 32 := Scalar.muli arg13 c16_i32_366
  let v1004 : BitVec 32 := Scalar.addi v1003 c0_i32_367
  let v1005 : BitVec 32 := v1004
  let v1030 : Index := Scalar.indexCast v1005
  let c0_381 : Index := 0#32
  ![6, v1030.toNat, 0]
def k0_off44 (i : grid0.Coords) (k0_t2 : Fin (k0_t2_loop i).trips) (c0_i32_367 : BitVec 32) : Fin 3 → Nat :=
  let c7_382 : Index := 7#32
  let c0_i32_39 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v55 : BitVec 32 := Scalar.subi v17 c0_i32_39
  let c1_i32_40 : BitVec 32 := 1#32
  let v57 : BitVec 32 := Scalar.divsi v55 c1_i32_40
  let v58 : BitVec 32 := Scalar.muli v57 c1_i32_40
  let v59 : BitVec 32 := Scalar.addi c0_i32_39 v58
  let c1_i32_42 : BitVec 32 := 1#32
  let arg13 : BitVec 32 := Scf.iv v59 c1_i32_42 k0_t2
  let c16_i32_366 : BitVec 32 := 16#32
  let v1003 : BitVec 32 := Scalar.muli arg13 c16_i32_366
  let v1004 : BitVec 32 := Scalar.addi v1003 c0_i32_367
  let v1005 : BitVec 32 := v1004
  let v1034 : Index := Scalar.indexCast v1005
  let c0_383 : Index := 0#32
  ![7, v1034.toNat, 0]
def k0_off45 (i : grid0.Coords) (k0_t2 : Fin (k0_t2_loop i).trips) (c0_i32_367 : BitVec 32) : Fin 3 → Nat :=
  let c8 : Index := 8#32
  let c0_i32_39 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v55 : BitVec 32 := Scalar.subi v17 c0_i32_39
  let c1_i32_40 : BitVec 32 := 1#32
  let v57 : BitVec 32 := Scalar.divsi v55 c1_i32_40
  let v58 : BitVec 32 := Scalar.muli v57 c1_i32_40
  let v59 : BitVec 32 := Scalar.addi c0_i32_39 v58
  let c1_i32_42 : BitVec 32 := 1#32
  let arg13 : BitVec 32 := Scf.iv v59 c1_i32_42 k0_t2
  let c16_i32_366 : BitVec 32 := 16#32
  let v1003 : BitVec 32 := Scalar.muli arg13 c16_i32_366
  let v1004 : BitVec 32 := Scalar.addi v1003 c0_i32_367
  let v1005 : BitVec 32 := v1004
  let v1038 : Index := Scalar.indexCast v1005
  let c0_384 : Index := 0#32
  ![8, v1038.toNat, 0]
def k0_off46 (i : grid0.Coords) (k0_t2 : Fin (k0_t2_loop i).trips) (c0_i32_367 : BitVec 32) : Fin 3 → Nat :=
  let c9 : Index := 9#32
  let c0_i32_39 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v55 : BitVec 32 := Scalar.subi v17 c0_i32_39
  let c1_i32_40 : BitVec 32 := 1#32
  let v57 : BitVec 32 := Scalar.divsi v55 c1_i32_40
  let v58 : BitVec 32 := Scalar.muli v57 c1_i32_40
  let v59 : BitVec 32 := Scalar.addi c0_i32_39 v58
  let c1_i32_42 : BitVec 32 := 1#32
  let arg13 : BitVec 32 := Scf.iv v59 c1_i32_42 k0_t2
  let c16_i32_366 : BitVec 32 := 16#32
  let v1003 : BitVec 32 := Scalar.muli arg13 c16_i32_366
  let v1004 : BitVec 32 := Scalar.addi v1003 c0_i32_367
  let v1005 : BitVec 32 := v1004
  let v1042 : Index := Scalar.indexCast v1005
  let c0_385 : Index := 0#32
  ![9, v1042.toNat, 0]
def k0_off47 (i : grid0.Coords) (k0_t2 : Fin (k0_t2_loop i).trips) (c0_i32_367 : BitVec 32) : Fin 3 → Nat :=
  let c10 : Index := 10#32
  let c0_i32_39 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v55 : BitVec 32 := Scalar.subi v17 c0_i32_39
  let c1_i32_40 : BitVec 32 := 1#32
  let v57 : BitVec 32 := Scalar.divsi v55 c1_i32_40
  let v58 : BitVec 32 := Scalar.muli v57 c1_i32_40
  let v59 : BitVec 32 := Scalar.addi c0_i32_39 v58
  let c1_i32_42 : BitVec 32 := 1#32
  let arg13 : BitVec 32 := Scf.iv v59 c1_i32_42 k0_t2
  let c16_i32_366 : BitVec 32 := 16#32
  let v1003 : BitVec 32 := Scalar.muli arg13 c16_i32_366
  let v1004 : BitVec 32 := Scalar.addi v1003 c0_i32_367
  let v1005 : BitVec 32 := v1004
  let v1046 : Index := Scalar.indexCast v1005
  let c0_386 : Index := 0#32
  ![10, v1046.toNat, 0]
def k0_off48 (i : grid0.Coords) (k0_t2 : Fin (k0_t2_loop i).trips) (c0_i32_367 : BitVec 32) : Fin 3 → Nat :=
  let c11 : Index := 11#32
  let c0_i32_39 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v55 : BitVec 32 := Scalar.subi v17 c0_i32_39
  let c1_i32_40 : BitVec 32 := 1#32
  let v57 : BitVec 32 := Scalar.divsi v55 c1_i32_40
  let v58 : BitVec 32 := Scalar.muli v57 c1_i32_40
  let v59 : BitVec 32 := Scalar.addi c0_i32_39 v58
  let c1_i32_42 : BitVec 32 := 1#32
  let arg13 : BitVec 32 := Scf.iv v59 c1_i32_42 k0_t2
  let c16_i32_366 : BitVec 32 := 16#32
  let v1003 : BitVec 32 := Scalar.muli arg13 c16_i32_366
  let v1004 : BitVec 32 := Scalar.addi v1003 c0_i32_367
  let v1005 : BitVec 32 := v1004
  let v1050 : Index := Scalar.indexCast v1005
  let c0_387 : Index := 0#32
  ![11, v1050.toNat, 0]
def k0_off49 (i : grid0.Coords) (k0_t2 : Fin (k0_t2_loop i).trips) (c0_i32_367 : BitVec 32) : Fin 3 → Nat :=
  let c12 : Index := 12#32
  let c0_i32_39 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v55 : BitVec 32 := Scalar.subi v17 c0_i32_39
  let c1_i32_40 : BitVec 32 := 1#32
  let v57 : BitVec 32 := Scalar.divsi v55 c1_i32_40
  let v58 : BitVec 32 := Scalar.muli v57 c1_i32_40
  let v59 : BitVec 32 := Scalar.addi c0_i32_39 v58
  let c1_i32_42 : BitVec 32 := 1#32
  let arg13 : BitVec 32 := Scf.iv v59 c1_i32_42 k0_t2
  let c16_i32_366 : BitVec 32 := 16#32
  let v1003 : BitVec 32 := Scalar.muli arg13 c16_i32_366
  let v1004 : BitVec 32 := Scalar.addi v1003 c0_i32_367
  let v1005 : BitVec 32 := v1004
  let v1054 : Index := Scalar.indexCast v1005
  let c0_388 : Index := 0#32
  ![12, v1054.toNat, 0]
def k0_off50 (i : grid0.Coords) (k0_t2 : Fin (k0_t2_loop i).trips) (c0_i32_367 : BitVec 32) : Fin 3 → Nat :=
  let c13 : Index := 13#32
  let c0_i32_39 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v55 : BitVec 32 := Scalar.subi v17 c0_i32_39
  let c1_i32_40 : BitVec 32 := 1#32
  let v57 : BitVec 32 := Scalar.divsi v55 c1_i32_40
  let v58 : BitVec 32 := Scalar.muli v57 c1_i32_40
  let v59 : BitVec 32 := Scalar.addi c0_i32_39 v58
  let c1_i32_42 : BitVec 32 := 1#32
  let arg13 : BitVec 32 := Scf.iv v59 c1_i32_42 k0_t2
  let c16_i32_366 : BitVec 32 := 16#32
  let v1003 : BitVec 32 := Scalar.muli arg13 c16_i32_366
  let v1004 : BitVec 32 := Scalar.addi v1003 c0_i32_367
  let v1005 : BitVec 32 := v1004
  let v1058 : Index := Scalar.indexCast v1005
  let c0_389 : Index := 0#32
  ![13, v1058.toNat, 0]
def k0_off51 (i : grid0.Coords) (k0_t2 : Fin (k0_t2_loop i).trips) (c0_i32_367 : BitVec 32) : Fin 3 → Nat :=
  let c14 : Index := 14#32
  let c0_i32_39 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v55 : BitVec 32 := Scalar.subi v17 c0_i32_39
  let c1_i32_40 : BitVec 32 := 1#32
  let v57 : BitVec 32 := Scalar.divsi v55 c1_i32_40
  let v58 : BitVec 32 := Scalar.muli v57 c1_i32_40
  let v59 : BitVec 32 := Scalar.addi c0_i32_39 v58
  let c1_i32_42 : BitVec 32 := 1#32
  let arg13 : BitVec 32 := Scf.iv v59 c1_i32_42 k0_t2
  let c16_i32_366 : BitVec 32 := 16#32
  let v1003 : BitVec 32 := Scalar.muli arg13 c16_i32_366
  let v1004 : BitVec 32 := Scalar.addi v1003 c0_i32_367
  let v1005 : BitVec 32 := v1004
  let v1062 : Index := Scalar.indexCast v1005
  let c0_390 : Index := 0#32
  ![14, v1062.toNat, 0]
def k0_off52 (i : grid0.Coords) (k0_t2 : Fin (k0_t2_loop i).trips) (c0_i32_367 : BitVec 32) : Fin 3 → Nat :=
  let c15 : Index := 15#32
  let c0_i32_39 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v55 : BitVec 32 := Scalar.subi v17 c0_i32_39
  let c1_i32_40 : BitVec 32 := 1#32
  let v57 : BitVec 32 := Scalar.divsi v55 c1_i32_40
  let v58 : BitVec 32 := Scalar.muli v57 c1_i32_40
  let v59 : BitVec 32 := Scalar.addi c0_i32_39 v58
  let c1_i32_42 : BitVec 32 := 1#32
  let arg13 : BitVec 32 := Scf.iv v59 c1_i32_42 k0_t2
  let c16_i32_366 : BitVec 32 := 16#32
  let v1003 : BitVec 32 := Scalar.muli arg13 c16_i32_366
  let v1004 : BitVec 32 := Scalar.addi v1003 c0_i32_367
  let v1005 : BitVec 32 := v1004
  let v1066 : Index := Scalar.indexCast v1005
  let c0_391 : Index := 0#32
  ![15, v1066.toNat, 0]
def k0_off53 (i : grid0.Coords) (k0_t2 : Fin (k0_t2_loop i).trips) (c0_i32_367 : BitVec 32) : Fin 3 → Nat :=
  let c16 : Index := 16#32
  let c0_i32_39 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v55 : BitVec 32 := Scalar.subi v17 c0_i32_39
  let c1_i32_40 : BitVec 32 := 1#32
  let v57 : BitVec 32 := Scalar.divsi v55 c1_i32_40
  let v58 : BitVec 32 := Scalar.muli v57 c1_i32_40
  let v59 : BitVec 32 := Scalar.addi c0_i32_39 v58
  let c1_i32_42 : BitVec 32 := 1#32
  let arg13 : BitVec 32 := Scf.iv v59 c1_i32_42 k0_t2
  let c16_i32_366 : BitVec 32 := 16#32
  let v1003 : BitVec 32 := Scalar.muli arg13 c16_i32_366
  let v1004 : BitVec 32 := Scalar.addi v1003 c0_i32_367
  let v1005 : BitVec 32 := v1004
  let v1070 : Index := Scalar.indexCast v1005
  let c0_392 : Index := 0#32
  ![16, v1070.toNat, 0]
def k0_off54 (i : grid0.Coords) (k0_t2 : Fin (k0_t2_loop i).trips) (c0_i32_367 : BitVec 32) : Fin 3 → Nat :=
  let c17 : Index := 17#32
  let c0_i32_39 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v55 : BitVec 32 := Scalar.subi v17 c0_i32_39
  let c1_i32_40 : BitVec 32 := 1#32
  let v57 : BitVec 32 := Scalar.divsi v55 c1_i32_40
  let v58 : BitVec 32 := Scalar.muli v57 c1_i32_40
  let v59 : BitVec 32 := Scalar.addi c0_i32_39 v58
  let c1_i32_42 : BitVec 32 := 1#32
  let arg13 : BitVec 32 := Scf.iv v59 c1_i32_42 k0_t2
  let c16_i32_366 : BitVec 32 := 16#32
  let v1003 : BitVec 32 := Scalar.muli arg13 c16_i32_366
  let v1004 : BitVec 32 := Scalar.addi v1003 c0_i32_367
  let v1005 : BitVec 32 := v1004
  let v1074 : Index := Scalar.indexCast v1005
  let c0_393 : Index := 0#32
  ![17, v1074.toNat, 0]
def k0_off55 (i : grid0.Coords) (k0_t2 : Fin (k0_t2_loop i).trips) (c0_i32_367 : BitVec 32) : Fin 3 → Nat :=
  let c18 : Index := 18#32
  let c0_i32_39 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v55 : BitVec 32 := Scalar.subi v17 c0_i32_39
  let c1_i32_40 : BitVec 32 := 1#32
  let v57 : BitVec 32 := Scalar.divsi v55 c1_i32_40
  let v58 : BitVec 32 := Scalar.muli v57 c1_i32_40
  let v59 : BitVec 32 := Scalar.addi c0_i32_39 v58
  let c1_i32_42 : BitVec 32 := 1#32
  let arg13 : BitVec 32 := Scf.iv v59 c1_i32_42 k0_t2
  let c16_i32_366 : BitVec 32 := 16#32
  let v1003 : BitVec 32 := Scalar.muli arg13 c16_i32_366
  let v1004 : BitVec 32 := Scalar.addi v1003 c0_i32_367
  let v1005 : BitVec 32 := v1004
  let v1078 : Index := Scalar.indexCast v1005
  let c0_394 : Index := 0#32
  ![18, v1078.toNat, 0]
def k0_off56 (i : grid0.Coords) (k0_t2 : Fin (k0_t2_loop i).trips) (c0_i32_367 : BitVec 32) : Fin 3 → Nat :=
  let c19 : Index := 19#32
  let c0_i32_39 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v55 : BitVec 32 := Scalar.subi v17 c0_i32_39
  let c1_i32_40 : BitVec 32 := 1#32
  let v57 : BitVec 32 := Scalar.divsi v55 c1_i32_40
  let v58 : BitVec 32 := Scalar.muli v57 c1_i32_40
  let v59 : BitVec 32 := Scalar.addi c0_i32_39 v58
  let c1_i32_42 : BitVec 32 := 1#32
  let arg13 : BitVec 32 := Scf.iv v59 c1_i32_42 k0_t2
  let c16_i32_366 : BitVec 32 := 16#32
  let v1003 : BitVec 32 := Scalar.muli arg13 c16_i32_366
  let v1004 : BitVec 32 := Scalar.addi v1003 c0_i32_367
  let v1005 : BitVec 32 := v1004
  let v1082 : Index := Scalar.indexCast v1005
  let c0_395 : Index := 0#32
  ![19, v1082.toNat, 0]
def k0_off57 (i : grid0.Coords) (k0_t2 : Fin (k0_t2_loop i).trips) (c0_i32_367 : BitVec 32) : Fin 3 → Nat :=
  let c20 : Index := 20#32
  let c0_i32_39 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v55 : BitVec 32 := Scalar.subi v17 c0_i32_39
  let c1_i32_40 : BitVec 32 := 1#32
  let v57 : BitVec 32 := Scalar.divsi v55 c1_i32_40
  let v58 : BitVec 32 := Scalar.muli v57 c1_i32_40
  let v59 : BitVec 32 := Scalar.addi c0_i32_39 v58
  let c1_i32_42 : BitVec 32 := 1#32
  let arg13 : BitVec 32 := Scf.iv v59 c1_i32_42 k0_t2
  let c16_i32_366 : BitVec 32 := 16#32
  let v1003 : BitVec 32 := Scalar.muli arg13 c16_i32_366
  let v1004 : BitVec 32 := Scalar.addi v1003 c0_i32_367
  let v1005 : BitVec 32 := v1004
  let v1086 : Index := Scalar.indexCast v1005
  let c0_396 : Index := 0#32
  ![20, v1086.toNat, 0]
def k0_off58 (i : grid0.Coords) (k0_t2 : Fin (k0_t2_loop i).trips) (c0_i32_367 : BitVec 32) : Fin 3 → Nat :=
  let c21 : Index := 21#32
  let c0_i32_39 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v55 : BitVec 32 := Scalar.subi v17 c0_i32_39
  let c1_i32_40 : BitVec 32 := 1#32
  let v57 : BitVec 32 := Scalar.divsi v55 c1_i32_40
  let v58 : BitVec 32 := Scalar.muli v57 c1_i32_40
  let v59 : BitVec 32 := Scalar.addi c0_i32_39 v58
  let c1_i32_42 : BitVec 32 := 1#32
  let arg13 : BitVec 32 := Scf.iv v59 c1_i32_42 k0_t2
  let c16_i32_366 : BitVec 32 := 16#32
  let v1003 : BitVec 32 := Scalar.muli arg13 c16_i32_366
  let v1004 : BitVec 32 := Scalar.addi v1003 c0_i32_367
  let v1005 : BitVec 32 := v1004
  let v1090 : Index := Scalar.indexCast v1005
  let c0_397 : Index := 0#32
  ![21, v1090.toNat, 0]
def k0_off59 (i : grid0.Coords) (k0_t2 : Fin (k0_t2_loop i).trips) (c0_i32_367 : BitVec 32) : Fin 3 → Nat :=
  let c22 : Index := 22#32
  let c0_i32_39 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v55 : BitVec 32 := Scalar.subi v17 c0_i32_39
  let c1_i32_40 : BitVec 32 := 1#32
  let v57 : BitVec 32 := Scalar.divsi v55 c1_i32_40
  let v58 : BitVec 32 := Scalar.muli v57 c1_i32_40
  let v59 : BitVec 32 := Scalar.addi c0_i32_39 v58
  let c1_i32_42 : BitVec 32 := 1#32
  let arg13 : BitVec 32 := Scf.iv v59 c1_i32_42 k0_t2
  let c16_i32_366 : BitVec 32 := 16#32
  let v1003 : BitVec 32 := Scalar.muli arg13 c16_i32_366
  let v1004 : BitVec 32 := Scalar.addi v1003 c0_i32_367
  let v1005 : BitVec 32 := v1004
  let v1094 : Index := Scalar.indexCast v1005
  let c0_398 : Index := 0#32
  ![22, v1094.toNat, 0]
def k0_off60 (i : grid0.Coords) (k0_t2 : Fin (k0_t2_loop i).trips) (c0_i32_367 : BitVec 32) : Fin 3 → Nat :=
  let c23 : Index := 23#32
  let c0_i32_39 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v55 : BitVec 32 := Scalar.subi v17 c0_i32_39
  let c1_i32_40 : BitVec 32 := 1#32
  let v57 : BitVec 32 := Scalar.divsi v55 c1_i32_40
  let v58 : BitVec 32 := Scalar.muli v57 c1_i32_40
  let v59 : BitVec 32 := Scalar.addi c0_i32_39 v58
  let c1_i32_42 : BitVec 32 := 1#32
  let arg13 : BitVec 32 := Scf.iv v59 c1_i32_42 k0_t2
  let c16_i32_366 : BitVec 32 := 16#32
  let v1003 : BitVec 32 := Scalar.muli arg13 c16_i32_366
  let v1004 : BitVec 32 := Scalar.addi v1003 c0_i32_367
  let v1005 : BitVec 32 := v1004
  let v1098 : Index := Scalar.indexCast v1005
  let c0_399 : Index := 0#32
  ![23, v1098.toNat, 0]
def k0_off61 (i : grid0.Coords) (k0_t2 : Fin (k0_t2_loop i).trips) (c0_i32_367 : BitVec 32) : Fin 3 → Nat :=
  let c24 : Index := 24#32
  let c0_i32_39 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v55 : BitVec 32 := Scalar.subi v17 c0_i32_39
  let c1_i32_40 : BitVec 32 := 1#32
  let v57 : BitVec 32 := Scalar.divsi v55 c1_i32_40
  let v58 : BitVec 32 := Scalar.muli v57 c1_i32_40
  let v59 : BitVec 32 := Scalar.addi c0_i32_39 v58
  let c1_i32_42 : BitVec 32 := 1#32
  let arg13 : BitVec 32 := Scf.iv v59 c1_i32_42 k0_t2
  let c16_i32_366 : BitVec 32 := 16#32
  let v1003 : BitVec 32 := Scalar.muli arg13 c16_i32_366
  let v1004 : BitVec 32 := Scalar.addi v1003 c0_i32_367
  let v1005 : BitVec 32 := v1004
  let v1102 : Index := Scalar.indexCast v1005
  let c0_400 : Index := 0#32
  ![24, v1102.toNat, 0]
def k0_off62 (i : grid0.Coords) (k0_t2 : Fin (k0_t2_loop i).trips) (c0_i32_367 : BitVec 32) : Fin 3 → Nat :=
  let c25 : Index := 25#32
  let c0_i32_39 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v55 : BitVec 32 := Scalar.subi v17 c0_i32_39
  let c1_i32_40 : BitVec 32 := 1#32
  let v57 : BitVec 32 := Scalar.divsi v55 c1_i32_40
  let v58 : BitVec 32 := Scalar.muli v57 c1_i32_40
  let v59 : BitVec 32 := Scalar.addi c0_i32_39 v58
  let c1_i32_42 : BitVec 32 := 1#32
  let arg13 : BitVec 32 := Scf.iv v59 c1_i32_42 k0_t2
  let c16_i32_366 : BitVec 32 := 16#32
  let v1003 : BitVec 32 := Scalar.muli arg13 c16_i32_366
  let v1004 : BitVec 32 := Scalar.addi v1003 c0_i32_367
  let v1005 : BitVec 32 := v1004
  let v1106 : Index := Scalar.indexCast v1005
  let c0_401 : Index := 0#32
  ![25, v1106.toNat, 0]
def k0_off63 (i : grid0.Coords) (k0_t2 : Fin (k0_t2_loop i).trips) (c0_i32_367 : BitVec 32) : Fin 3 → Nat :=
  let c26 : Index := 26#32
  let c0_i32_39 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v55 : BitVec 32 := Scalar.subi v17 c0_i32_39
  let c1_i32_40 : BitVec 32 := 1#32
  let v57 : BitVec 32 := Scalar.divsi v55 c1_i32_40
  let v58 : BitVec 32 := Scalar.muli v57 c1_i32_40
  let v59 : BitVec 32 := Scalar.addi c0_i32_39 v58
  let c1_i32_42 : BitVec 32 := 1#32
  let arg13 : BitVec 32 := Scf.iv v59 c1_i32_42 k0_t2
  let c16_i32_366 : BitVec 32 := 16#32
  let v1003 : BitVec 32 := Scalar.muli arg13 c16_i32_366
  let v1004 : BitVec 32 := Scalar.addi v1003 c0_i32_367
  let v1005 : BitVec 32 := v1004
  let v1110 : Index := Scalar.indexCast v1005
  let c0_402 : Index := 0#32
  ![26, v1110.toNat, 0]
def k0_off64 (i : grid0.Coords) (k0_t2 : Fin (k0_t2_loop i).trips) (c0_i32_367 : BitVec 32) : Fin 3 → Nat :=
  let c27 : Index := 27#32
  let c0_i32_39 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v55 : BitVec 32 := Scalar.subi v17 c0_i32_39
  let c1_i32_40 : BitVec 32 := 1#32
  let v57 : BitVec 32 := Scalar.divsi v55 c1_i32_40
  let v58 : BitVec 32 := Scalar.muli v57 c1_i32_40
  let v59 : BitVec 32 := Scalar.addi c0_i32_39 v58
  let c1_i32_42 : BitVec 32 := 1#32
  let arg13 : BitVec 32 := Scf.iv v59 c1_i32_42 k0_t2
  let c16_i32_366 : BitVec 32 := 16#32
  let v1003 : BitVec 32 := Scalar.muli arg13 c16_i32_366
  let v1004 : BitVec 32 := Scalar.addi v1003 c0_i32_367
  let v1005 : BitVec 32 := v1004
  let v1114 : Index := Scalar.indexCast v1005
  let c0_403 : Index := 0#32
  ![27, v1114.toNat, 0]
def k0_off65 (i : grid0.Coords) (k0_t2 : Fin (k0_t2_loop i).trips) (c0_i32_367 : BitVec 32) : Fin 3 → Nat :=
  let c28 : Index := 28#32
  let c0_i32_39 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v55 : BitVec 32 := Scalar.subi v17 c0_i32_39
  let c1_i32_40 : BitVec 32 := 1#32
  let v57 : BitVec 32 := Scalar.divsi v55 c1_i32_40
  let v58 : BitVec 32 := Scalar.muli v57 c1_i32_40
  let v59 : BitVec 32 := Scalar.addi c0_i32_39 v58
  let c1_i32_42 : BitVec 32 := 1#32
  let arg13 : BitVec 32 := Scf.iv v59 c1_i32_42 k0_t2
  let c16_i32_366 : BitVec 32 := 16#32
  let v1003 : BitVec 32 := Scalar.muli arg13 c16_i32_366
  let v1004 : BitVec 32 := Scalar.addi v1003 c0_i32_367
  let v1005 : BitVec 32 := v1004
  let v1118 : Index := Scalar.indexCast v1005
  let c0_404 : Index := 0#32
  ![28, v1118.toNat, 0]
def k0_off66 (i : grid0.Coords) (k0_t2 : Fin (k0_t2_loop i).trips) (c0_i32_367 : BitVec 32) : Fin 3 → Nat :=
  let c29 : Index := 29#32
  let c0_i32_39 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v55 : BitVec 32 := Scalar.subi v17 c0_i32_39
  let c1_i32_40 : BitVec 32 := 1#32
  let v57 : BitVec 32 := Scalar.divsi v55 c1_i32_40
  let v58 : BitVec 32 := Scalar.muli v57 c1_i32_40
  let v59 : BitVec 32 := Scalar.addi c0_i32_39 v58
  let c1_i32_42 : BitVec 32 := 1#32
  let arg13 : BitVec 32 := Scf.iv v59 c1_i32_42 k0_t2
  let c16_i32_366 : BitVec 32 := 16#32
  let v1003 : BitVec 32 := Scalar.muli arg13 c16_i32_366
  let v1004 : BitVec 32 := Scalar.addi v1003 c0_i32_367
  let v1005 : BitVec 32 := v1004
  let v1122 : Index := Scalar.indexCast v1005
  let c0_405 : Index := 0#32
  ![29, v1122.toNat, 0]
def k0_off67 (i : grid0.Coords) (k0_t2 : Fin (k0_t2_loop i).trips) (c0_i32_367 : BitVec 32) : Fin 3 → Nat :=
  let c30 : Index := 30#32
  let c0_i32_39 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v55 : BitVec 32 := Scalar.subi v17 c0_i32_39
  let c1_i32_40 : BitVec 32 := 1#32
  let v57 : BitVec 32 := Scalar.divsi v55 c1_i32_40
  let v58 : BitVec 32 := Scalar.muli v57 c1_i32_40
  let v59 : BitVec 32 := Scalar.addi c0_i32_39 v58
  let c1_i32_42 : BitVec 32 := 1#32
  let arg13 : BitVec 32 := Scf.iv v59 c1_i32_42 k0_t2
  let c16_i32_366 : BitVec 32 := 16#32
  let v1003 : BitVec 32 := Scalar.muli arg13 c16_i32_366
  let v1004 : BitVec 32 := Scalar.addi v1003 c0_i32_367
  let v1005 : BitVec 32 := v1004
  let v1126 : Index := Scalar.indexCast v1005
  let c0_406 : Index := 0#32
  ![30, v1126.toNat, 0]
def k0_off68 (i : grid0.Coords) (k0_t2 : Fin (k0_t2_loop i).trips) (c0_i32_367 : BitVec 32) : Fin 3 → Nat :=
  let c31 : Index := 31#32
  let c0_i32_39 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v55 : BitVec 32 := Scalar.subi v17 c0_i32_39
  let c1_i32_40 : BitVec 32 := 1#32
  let v57 : BitVec 32 := Scalar.divsi v55 c1_i32_40
  let v58 : BitVec 32 := Scalar.muli v57 c1_i32_40
  let v59 : BitVec 32 := Scalar.addi c0_i32_39 v58
  let c1_i32_42 : BitVec 32 := 1#32
  let arg13 : BitVec 32 := Scf.iv v59 c1_i32_42 k0_t2
  let c16_i32_366 : BitVec 32 := 16#32
  let v1003 : BitVec 32 := Scalar.muli arg13 c16_i32_366
  let v1004 : BitVec 32 := Scalar.addi v1003 c0_i32_367
  let v1005 : BitVec 32 := v1004
  let v1130 : Index := Scalar.indexCast v1005
  let c0_407 : Index := 0#32
  ![31, v1130.toNat, 0]
def k0_mult6 (i : grid0.Coords) (k0_t2 : Fin (k0_t2_loop i).trips) : BitVec 32 :=
  let c0_i32_39 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v55 : BitVec 32 := Scalar.subi v17 c0_i32_39
  let c1_i32_40 : BitVec 32 := 1#32
  let v57 : BitVec 32 := Scalar.divsi v55 c1_i32_40
  let v58 : BitVec 32 := Scalar.muli v57 c1_i32_40
  let v59 : BitVec 32 := Scalar.addi c0_i32_39 v58
  let c1_i32_42 : BitVec 32 := 1#32
  let arg13 : BitVec 32 := Scf.iv v59 c1_i32_42 k0_t2
  let c16_i32_648 : BitVec 32 := 16#32
  let v1886 : BitVec 32 := Scalar.muli arg13 c16_i32_648
  let c8_i32_649 : BitVec 32 := 8#32
  let v1887 : BitVec 32 := Scalar.addi v1886 c8_i32_649
  v1887
def k0_cond1 (i : grid0.Coords) : BitVec 1 :=
  let arg1 : BitVec 32 := BitVec.ofNat 32 (i 1).val
  let c1_i32_43 : BitVec 32 := 1#32
  let v60 : BitVec 32 := Scalar.addi arg1 c1_i32_43
  let c256_i32_44 : BitVec 32 := 256#32
  let v61 : BitVec 32 := Scalar.muli v60 c256_i32_44
  let c256_i32_45 : BitVec 32 := 256#32
  let v62 : BitVec 1 := Scalar.cmpi .sgt v61 c256_i32_45
  let v63 : BitVec 32 := Scalar.extui v62
  let c0_i32_46 : BitVec 32 := 0#32
  let v64 : BitVec 1 := Scalar.cmpi .ne v63 c0_i32_46
  v64

@[reducible] def k0_t3_loop (i : grid0.Coords) : Scf.Loop 32 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c8_i32 : BitVec 32 := 8#32
  let v180 : BitVec 32 := Scalar.subi c8_i32 v17
  let c1_i32_121 : BitVec 32 := 1#32
  let v182 : BitVec 32 := Scalar.divsi v180 c1_i32_121
  let v183 : BitVec 32 := Scalar.muli v182 c1_i32_121
  let v184 : BitVec 32 := Scalar.addi v17 v183
  let c1_i32_122 : BitVec 32 := 1#32
  ⟨v17, v184, c1_i32_122⟩
def k0_mult7 (i : grid0.Coords) (k0_t3 : Fin (k0_t3_loop i).trips) : BitVec 32 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_122 : BitVec 32 := 1#32
  let arg13 : BitVec 32 := Scf.iv v17 c1_i32_122 k0_t3
  let c16_i32_135 : BitVec 32 := 16#32
  let v212 : BitVec 32 := Scalar.muli arg13 c16_i32_135
  v212
def k0_off69 (i : grid0.Coords) (k0_t3 : Fin (k0_t3_loop i).trips) : Fin 3 → Nat :=
  let c0_137 : Index := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_122 : BitVec 32 := 1#32
  let arg13 : BitVec 32 := Scf.iv v17 c1_i32_122 k0_t3
  let c16_i32_135 : BitVec 32 := 16#32
  let v212 : BitVec 32 := Scalar.muli arg13 c16_i32_135
  let v213 : BitVec 32 := v212
  let v215 : Index := Scalar.indexCast v213
  let c0_138 : Index := 0#32
  ![0, v215.toNat, 0]
@[reducible] def k0_t4_loop (i : grid0.Coords) : Scf.Loop 32 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c8_i32 : BitVec 32 := 8#32
  let v180 : BitVec 32 := Scalar.subi c8_i32 v17
  let c1_i32_121 : BitVec 32 := 1#32
  let v182 : BitVec 32 := Scalar.divsi v180 c1_i32_121
  let v183 : BitVec 32 := Scalar.muli v182 c1_i32_121
  let v184 : BitVec 32 := Scalar.addi v17 v183
  let v181 : BitVec 32 := Scalar.addi v17 v180
  let c1_i32_123 : BitVec 32 := 1#32
  ⟨v184, v181, c1_i32_123⟩
def k0_mult8 (i : grid0.Coords) (k0_t4 : Fin (k0_t4_loop i).trips) : BitVec 32 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c8_i32 : BitVec 32 := 8#32
  let v180 : BitVec 32 := Scalar.subi c8_i32 v17
  let c1_i32_121 : BitVec 32 := 1#32
  let v182 : BitVec 32 := Scalar.divsi v180 c1_i32_121
  let v183 : BitVec 32 := Scalar.muli v182 c1_i32_121
  let v184 : BitVec 32 := Scalar.addi v17 v183
  let c1_i32_123 : BitVec 32 := 1#32
  let arg13 : BitVec 32 := Scf.iv v184 c1_i32_123 k0_t4
  let c16_i32_135 : BitVec 32 := 16#32
  let v212 : BitVec 32 := Scalar.muli arg13 c16_i32_135
  v212
def k0_off70 (i : grid0.Coords) (k0_t4 : Fin (k0_t4_loop i).trips) : Fin 3 → Nat :=
  let c0_137 : Index := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c8_i32 : BitVec 32 := 8#32
  let v180 : BitVec 32 := Scalar.subi c8_i32 v17
  let c1_i32_121 : BitVec 32 := 1#32
  let v182 : BitVec 32 := Scalar.divsi v180 c1_i32_121
  let v183 : BitVec 32 := Scalar.muli v182 c1_i32_121
  let v184 : BitVec 32 := Scalar.addi v17 v183
  let c1_i32_123 : BitVec 32 := 1#32
  let arg13 : BitVec 32 := Scf.iv v184 c1_i32_123 k0_t4
  let c16_i32_135 : BitVec 32 := 16#32
  let v212 : BitVec 32 := Scalar.muli arg13 c16_i32_135
  let v213 : BitVec 32 := v212
  let v215 : Index := Scalar.indexCast v213
  let c0_138 : Index := 0#32
  ![0, v215.toNat, 0]
@[reducible] def k0_t5_loop : Scf.Loop 32 :=
  let c0_i32_127 : BitVec 32 := 0#32
  let c32_i32 : BitVec 32 := 32#32
  let v194 : BitVec 32 := Scalar.addi c0_i32_127 c32_i32
  let c1_i32_128 : BitVec 32 := 1#32
  ⟨c0_i32_127, v194, c1_i32_128⟩
def k0_off71 (k0_t5 : Fin k0_t5_loop.trips) : Fin 3 → Nat :=
  let c0_i32_127 : BitVec 32 := 0#32
  let c1_i32_128 : BitVec 32 := 1#32
  let arg13 : BitVec 32 := Scf.iv c0_i32_127 c1_i32_128 k0_t5
  let v212 : Index := Scalar.indexCast arg13
  let c0_135 : Index := 0#32
  let c0_136 : Index := 0#32
  ![v212.toNat, 0, 0]
@[reducible] def k0_t6_loop (i : grid0.Coords) : Scf.Loop 32 :=
  let c0_i32_121 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v180 : BitVec 32 := Scalar.subi v17 c0_i32_121
  let c1_i32_122 : BitVec 32 := 1#32
  let v182 : BitVec 32 := Scalar.divsi v180 c1_i32_122
  let v183 : BitVec 32 := Scalar.muli v182 c1_i32_122
  let v184 : BitVec 32 := Scalar.addi c0_i32_121 v183
  let c1_i32_123 : BitVec 32 := 1#32
  ⟨c0_i32_121, v184, c1_i32_123⟩
def k0_mult9 (i : grid0.Coords) (k0_t6 : Fin (k0_t6_loop i).trips) : BitVec 32 :=
  let c0_i32_121 : BitVec 32 := 0#32
  let c1_i32_123 : BitVec 32 := 1#32
  let arg13 : BitVec 32 := Scf.iv c0_i32_121 c1_i32_123 k0_t6
  let c512_i32 : BitVec 32 := 512#32
  let v185 : BitVec 32 := Scalar.muli arg13 c512_i32
  v185
def k0_off72 (i : grid0.Coords) (k0_t6 : Fin (k0_t6_loop i).trips) : Fin 2 → Nat :=
  let c0_i32_121 : BitVec 32 := 0#32
  let c1_i32_123 : BitVec 32 := 1#32
  let arg13 : BitVec 32 := Scf.iv c0_i32_121 c1_i32_123 k0_t6
  let c512_i32 : BitVec 32 := 512#32
  let v185 : BitVec 32 := Scalar.muli arg13 c512_i32
  let v186 : BitVec 32 := v185
  let v187 : Index := Scalar.indexCast v186
  let c0_125 : Index := 0#32
  ![v187.toNat, 0]
@[reducible] def k0_t7_loop (i : grid0.Coords) : Scf.Loop 32 :=
  let c0_i32_121 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v180 : BitVec 32 := Scalar.subi v17 c0_i32_121
  let c1_i32_122 : BitVec 32 := 1#32
  let v182 : BitVec 32 := Scalar.divsi v180 c1_i32_122
  let v183 : BitVec 32 := Scalar.muli v182 c1_i32_122
  let v184 : BitVec 32 := Scalar.addi c0_i32_121 v183
  let v181 : BitVec 32 := Scalar.addi c0_i32_121 v180
  let c1_i32_124 : BitVec 32 := 1#32
  ⟨v184, v181, c1_i32_124⟩
def k0_mult10 (i : grid0.Coords) (k0_t7 : Fin (k0_t7_loop i).trips) : BitVec 32 :=
  let c0_i32_121 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v180 : BitVec 32 := Scalar.subi v17 c0_i32_121
  let c1_i32_122 : BitVec 32 := 1#32
  let v182 : BitVec 32 := Scalar.divsi v180 c1_i32_122
  let v183 : BitVec 32 := Scalar.muli v182 c1_i32_122
  let v184 : BitVec 32 := Scalar.addi c0_i32_121 v183
  let c1_i32_124 : BitVec 32 := 1#32
  let arg13 : BitVec 32 := Scf.iv v184 c1_i32_124 k0_t7
  let c512_i32 : BitVec 32 := 512#32
  let v185 : BitVec 32 := Scalar.muli arg13 c512_i32
  v185
def k0_off73 (i : grid0.Coords) (k0_t7 : Fin (k0_t7_loop i).trips) : Fin 2 → Nat :=
  let c0_i32_121 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v180 : BitVec 32 := Scalar.subi v17 c0_i32_121
  let c1_i32_122 : BitVec 32 := 1#32
  let v182 : BitVec 32 := Scalar.divsi v180 c1_i32_122
  let v183 : BitVec 32 := Scalar.muli v182 c1_i32_122
  let v184 : BitVec 32 := Scalar.addi c0_i32_121 v183
  let c1_i32_124 : BitVec 32 := 1#32
  let arg13 : BitVec 32 := Scf.iv v184 c1_i32_124 k0_t7
  let c512_i32 : BitVec 32 := 512#32
  let v185 : BitVec 32 := Scalar.muli arg13 c512_i32
  let v186 : BitVec 32 := v185
  let v187 : Index := Scalar.indexCast v186
  let c0_125 : Index := 0#32
  ![v187.toNat, 0]
@[reducible] def k0_t8_loop (i : grid0.Coords) : Scf.Loop 32 :=
  let c0_i32_123 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v188 : BitVec 32 := Scalar.subi v17 c0_i32_123
  let c1_i32_124 : BitVec 32 := 1#32
  let v190 : BitVec 32 := Scalar.divsi v188 c1_i32_124
  let v191 : BitVec 32 := Scalar.muli v190 c1_i32_124
  let v192 : BitVec 32 := Scalar.addi c0_i32_123 v191
  let c1_i32_125 : BitVec 32 := 1#32
  ⟨c0_i32_123, v192, c1_i32_125⟩
def k0_mult11 (i : grid0.Coords) (k0_t8 : Fin (k0_t8_loop i).trips) : BitVec 32 :=
  let c0_i32_123 : BitVec 32 := 0#32
  let c1_i32_125 : BitVec 32 := 1#32
  let arg13 : BitVec 32 := Scf.iv c0_i32_123 c1_i32_125 k0_t8
  let c512_i32 : BitVec 32 := 512#32
  let v195 : BitVec 32 := Scalar.muli arg13 c512_i32
  v195
def k0_off74 (i : grid0.Coords) (k0_t8 : Fin (k0_t8_loop i).trips) : Fin 2 → Nat :=
  let c0_i32_123 : BitVec 32 := 0#32
  let c1_i32_125 : BitVec 32 := 1#32
  let arg13 : BitVec 32 := Scf.iv c0_i32_123 c1_i32_125 k0_t8
  let c512_i32 : BitVec 32 := 512#32
  let v195 : BitVec 32 := Scalar.muli arg13 c512_i32
  let v196 : BitVec 32 := v195
  let v197 : Index := Scalar.indexCast v196
  let c0_127 : Index := 0#32
  ![v197.toNat, 0]
@[reducible] def k0_t9_loop (i : grid0.Coords) : Scf.Loop 32 :=
  let c0_i32_123 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v188 : BitVec 32 := Scalar.subi v17 c0_i32_123
  let c1_i32_124 : BitVec 32 := 1#32
  let v190 : BitVec 32 := Scalar.divsi v188 c1_i32_124
  let v191 : BitVec 32 := Scalar.muli v190 c1_i32_124
  let v192 : BitVec 32 := Scalar.addi c0_i32_123 v191
  let v189 : BitVec 32 := Scalar.addi c0_i32_123 v188
  let c1_i32_126 : BitVec 32 := 1#32
  ⟨v192, v189, c1_i32_126⟩
def k0_mult12 (i : grid0.Coords) (k0_t9 : Fin (k0_t9_loop i).trips) : BitVec 32 :=
  let c0_i32_123 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v188 : BitVec 32 := Scalar.subi v17 c0_i32_123
  let c1_i32_124 : BitVec 32 := 1#32
  let v190 : BitVec 32 := Scalar.divsi v188 c1_i32_124
  let v191 : BitVec 32 := Scalar.muli v190 c1_i32_124
  let v192 : BitVec 32 := Scalar.addi c0_i32_123 v191
  let c1_i32_126 : BitVec 32 := 1#32
  let arg13 : BitVec 32 := Scf.iv v192 c1_i32_126 k0_t9
  let c512_i32 : BitVec 32 := 512#32
  let v195 : BitVec 32 := Scalar.muli arg13 c512_i32
  v195
def k0_off75 (i : grid0.Coords) (k0_t9 : Fin (k0_t9_loop i).trips) : Fin 2 → Nat :=
  let c0_i32_123 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v188 : BitVec 32 := Scalar.subi v17 c0_i32_123
  let c1_i32_124 : BitVec 32 := 1#32
  let v190 : BitVec 32 := Scalar.divsi v188 c1_i32_124
  let v191 : BitVec 32 := Scalar.muli v190 c1_i32_124
  let v192 : BitVec 32 := Scalar.addi c0_i32_123 v191
  let c1_i32_126 : BitVec 32 := 1#32
  let arg13 : BitVec 32 := Scf.iv v192 c1_i32_126 k0_t9
  let c512_i32 : BitVec 32 := 512#32
  let v195 : BitVec 32 := Scalar.muli arg13 c512_i32
  let v196 : BitVec 32 := v195
  let v197 : Index := Scalar.indexCast v196
  let c0_127 : Index := 0#32
  ![v197.toNat, 0]
@[reducible] def k0_t10_loop (i : grid0.Coords) : Scf.Loop 32 :=
  let c0_i32_72 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v96 : BitVec 32 := Scalar.subi v17 c0_i32_72
  let c1_i32_73 : BitVec 32 := 1#32
  let v98 : BitVec 32 := Scalar.divsi v96 c1_i32_73
  let v99 : BitVec 32 := Scalar.muli v98 c1_i32_73
  let v100 : BitVec 32 := Scalar.addi c0_i32_72 v99
  let c1_i32_74 : BitVec 32 := 1#32
  ⟨c0_i32_72, v100, c1_i32_74⟩
def k0_mult13 (i : grid0.Coords) (k0_t10 : Fin (k0_t10_loop i).trips) : BitVec 32 :=
  let c0_i32_72 : BitVec 32 := 0#32
  let c1_i32_74 : BitVec 32 := 1#32
  let arg13 : BitVec 32 := Scf.iv c0_i32_72 c1_i32_74 k0_t10
  let c512_i32 : BitVec 32 := 512#32
  let v180 : BitVec 32 := Scalar.muli arg13 c512_i32
  v180
def k0_off76 (i : grid0.Coords) (k0_t10 : Fin (k0_t10_loop i).trips) : Fin 2 → Nat :=
  let c0_i32_72 : BitVec 32 := 0#32
  let c1_i32_74 : BitVec 32 := 1#32
  let arg13 : BitVec 32 := Scf.iv c0_i32_72 c1_i32_74 k0_t10
  let c512_i32 : BitVec 32 := 512#32
  let v180 : BitVec 32 := Scalar.muli arg13 c512_i32
  let v181 : BitVec 32 := v180
  let v182 : Index := Scalar.indexCast v181
  let c0_120 : Index := 0#32
  ![v182.toNat, 0]
def k0_off77 (i : grid0.Coords) (k0_t10 : Fin (k0_t10_loop i).trips) : Fin 4 → Nat :=
  let c0_121 : Index := 0#32
  let c0_122 : Index := 0#32
  let c0_i32_72 : BitVec 32 := 0#32
  let c1_i32_74 : BitVec 32 := 1#32
  let arg13 : BitVec 32 := Scf.iv c0_i32_72 c1_i32_74 k0_t10
  let c512_i32 : BitVec 32 := 512#32
  let v180 : BitVec 32 := Scalar.muli arg13 c512_i32
  let v181 : BitVec 32 := v180
  let v184 : Index := Scalar.indexCast v181
  let c0_123 : Index := 0#32
  ![0, 0, v184.toNat, 0]
def k0_off78 (i : grid0.Coords) (k0_t10 : Fin (k0_t10_loop i).trips) : Fin 3 → Nat :=
  let c0_126 : Index := 0#32
  let c0_i32_72 : BitVec 32 := 0#32
  let c1_i32_74 : BitVec 32 := 1#32
  let arg13 : BitVec 32 := Scf.iv c0_i32_72 c1_i32_74 k0_t10
  let c512_i32 : BitVec 32 := 512#32
  let v180 : BitVec 32 := Scalar.muli arg13 c512_i32
  let v181 : BitVec 32 := v180
  let v192 : Index := Scalar.indexCast v181
  let c0_127 : Index := 0#32
  ![0, v192.toNat, 0]
def k0_off79 (i : grid0.Coords) (k0_t10 : Fin (k0_t10_loop i).trips) : Fin 3 → Nat :=
  let c0_131 : Index := 0#32
  let c0_i32_72 : BitVec 32 := 0#32
  let c1_i32_74 : BitVec 32 := 1#32
  let arg13 : BitVec 32 := Scf.iv c0_i32_72 c1_i32_74 k0_t10
  let c512_i32 : BitVec 32 := 512#32
  let v180 : BitVec 32 := Scalar.muli arg13 c512_i32
  let v181 : BitVec 32 := v180
  let v204 : Index := Scalar.indexCast v181
  let c256_132 : Index := 256#32
  ![0, v204.toNat, 256]
def k0_off80 (i : grid0.Coords) (k0_t10 : Fin (k0_t10_loop i).trips) : Fin 3 → Nat :=
  let c0_136 : Index := 0#32
  let c0_i32_72 : BitVec 32 := 0#32
  let c1_i32_74 : BitVec 32 := 1#32
  let arg13 : BitVec 32 := Scf.iv c0_i32_72 c1_i32_74 k0_t10
  let c512_i32 : BitVec 32 := 512#32
  let v180 : BitVec 32 := Scalar.muli arg13 c512_i32
  let v181 : BitVec 32 := v180
  let v216 : Index := Scalar.indexCast v181
  let c512_137 : Index := 512#32
  ![0, v216.toNat, 512]
def k0_off81 (i : grid0.Coords) (k0_t10 : Fin (k0_t10_loop i).trips) : Fin 3 → Nat :=
  let c0_141 : Index := 0#32
  let c0_i32_72 : BitVec 32 := 0#32
  let c1_i32_74 : BitVec 32 := 1#32
  let arg13 : BitVec 32 := Scf.iv c0_i32_72 c1_i32_74 k0_t10
  let c512_i32 : BitVec 32 := 512#32
  let v180 : BitVec 32 := Scalar.muli arg13 c512_i32
  let v181 : BitVec 32 := v180
  let v228 : Index := Scalar.indexCast v181
  let c768_142 : Index := 768#32
  ![0, v228.toNat, 768]
def k0_off82 (i : grid0.Coords) (k0_t10 : Fin (k0_t10_loop i).trips) : Fin 4 → Nat :=
  let c0_145 : Index := 0#32
  let c1_146 : Index := 1#32
  let c0_i32_72 : BitVec 32 := 0#32
  let c1_i32_74 : BitVec 32 := 1#32
  let arg13 : BitVec 32 := Scf.iv c0_i32_72 c1_i32_74 k0_t10
  let c512_i32 : BitVec 32 := 512#32
  let v180 : BitVec 32 := Scalar.muli arg13 c512_i32
  let v181 : BitVec 32 := v180
  let v238 : Index := Scalar.indexCast v181
  let c0_147 : Index := 0#32
  ![0, 1, v238.toNat, 0]
def k0_off83 (i : grid0.Coords) (k0_t10 : Fin (k0_t10_loop i).trips) : Fin 3 → Nat :=
  let c1_150 : Index := 1#32
  let c0_i32_72 : BitVec 32 := 0#32
  let c1_i32_74 : BitVec 32 := 1#32
  let arg13 : BitVec 32 := Scf.iv c0_i32_72 c1_i32_74 k0_t10
  let c512_i32 : BitVec 32 := 512#32
  let v180 : BitVec 32 := Scalar.muli arg13 c512_i32
  let v181 : BitVec 32 := v180
  let v246 : Index := Scalar.indexCast v181
  let c0_151 : Index := 0#32
  ![1, v246.toNat, 0]
def k0_off84 (i : grid0.Coords) (k0_t10 : Fin (k0_t10_loop i).trips) : Fin 3 → Nat :=
  let c1_155 : Index := 1#32
  let c0_i32_72 : BitVec 32 := 0#32
  let c1_i32_74 : BitVec 32 := 1#32
  let arg13 : BitVec 32 := Scf.iv c0_i32_72 c1_i32_74 k0_t10
  let c512_i32 : BitVec 32 := 512#32
  let v180 : BitVec 32 := Scalar.muli arg13 c512_i32
  let v181 : BitVec 32 := v180
  let v258 : Index := Scalar.indexCast v181
  let c256_156 : Index := 256#32
  ![1, v258.toNat, 256]
def k0_off85 (i : grid0.Coords) (k0_t10 : Fin (k0_t10_loop i).trips) : Fin 3 → Nat :=
  let c1_160 : Index := 1#32
  let c0_i32_72 : BitVec 32 := 0#32
  let c1_i32_74 : BitVec 32 := 1#32
  let arg13 : BitVec 32 := Scf.iv c0_i32_72 c1_i32_74 k0_t10
  let c512_i32 : BitVec 32 := 512#32
  let v180 : BitVec 32 := Scalar.muli arg13 c512_i32
  let v181 : BitVec 32 := v180
  let v270 : Index := Scalar.indexCast v181
  let c512_161 : Index := 512#32
  ![1, v270.toNat, 512]
def k0_off86 (i : grid0.Coords) (k0_t10 : Fin (k0_t10_loop i).trips) : Fin 3 → Nat :=
  let c1_165 : Index := 1#32
  let c0_i32_72 : BitVec 32 := 0#32
  let c1_i32_74 : BitVec 32 := 1#32
  let arg13 : BitVec 32 := Scf.iv c0_i32_72 c1_i32_74 k0_t10
  let c512_i32 : BitVec 32 := 512#32
  let v180 : BitVec 32 := Scalar.muli arg13 c512_i32
  let v181 : BitVec 32 := v180
  let v282 : Index := Scalar.indexCast v181
  let c768_166 : Index := 768#32
  ![1, v282.toNat, 768]
@[reducible] def k0_t11_loop (i : grid0.Coords) : Scf.Loop 32 :=
  let c0_i32_72 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v96 : BitVec 32 := Scalar.subi v17 c0_i32_72
  let c1_i32_73 : BitVec 32 := 1#32
  let v98 : BitVec 32 := Scalar.divsi v96 c1_i32_73
  let v99 : BitVec 32 := Scalar.muli v98 c1_i32_73
  let v100 : BitVec 32 := Scalar.addi c0_i32_72 v99
  let v97 : BitVec 32 := Scalar.addi c0_i32_72 v96
  let c1_i32_75 : BitVec 32 := 1#32
  ⟨v100, v97, c1_i32_75⟩
def k0_mult14 (i : grid0.Coords) (k0_t11 : Fin (k0_t11_loop i).trips) : BitVec 32 :=
  let c0_i32_72 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v96 : BitVec 32 := Scalar.subi v17 c0_i32_72
  let c1_i32_73 : BitVec 32 := 1#32
  let v98 : BitVec 32 := Scalar.divsi v96 c1_i32_73
  let v99 : BitVec 32 := Scalar.muli v98 c1_i32_73
  let v100 : BitVec 32 := Scalar.addi c0_i32_72 v99
  let c1_i32_75 : BitVec 32 := 1#32
  let arg13 : BitVec 32 := Scf.iv v100 c1_i32_75 k0_t11
  let c512_i32 : BitVec 32 := 512#32
  let v180 : BitVec 32 := Scalar.muli arg13 c512_i32
  v180
def k0_off87 (i : grid0.Coords) (k0_t11 : Fin (k0_t11_loop i).trips) : Fin 2 → Nat :=
  let c0_i32_72 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v96 : BitVec 32 := Scalar.subi v17 c0_i32_72
  let c1_i32_73 : BitVec 32 := 1#32
  let v98 : BitVec 32 := Scalar.divsi v96 c1_i32_73
  let v99 : BitVec 32 := Scalar.muli v98 c1_i32_73
  let v100 : BitVec 32 := Scalar.addi c0_i32_72 v99
  let c1_i32_75 : BitVec 32 := 1#32
  let arg13 : BitVec 32 := Scf.iv v100 c1_i32_75 k0_t11
  let c512_i32 : BitVec 32 := 512#32
  let v180 : BitVec 32 := Scalar.muli arg13 c512_i32
  let v181 : BitVec 32 := v180
  let v182 : Index := Scalar.indexCast v181
  let c0_120 : Index := 0#32
  ![v182.toNat, 0]
def k0_off88 (i : grid0.Coords) (k0_t11 : Fin (k0_t11_loop i).trips) : Fin 4 → Nat :=
  let c0_121 : Index := 0#32
  let c0_122 : Index := 0#32
  let c0_i32_72 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v96 : BitVec 32 := Scalar.subi v17 c0_i32_72
  let c1_i32_73 : BitVec 32 := 1#32
  let v98 : BitVec 32 := Scalar.divsi v96 c1_i32_73
  let v99 : BitVec 32 := Scalar.muli v98 c1_i32_73
  let v100 : BitVec 32 := Scalar.addi c0_i32_72 v99
  let c1_i32_75 : BitVec 32 := 1#32
  let arg13 : BitVec 32 := Scf.iv v100 c1_i32_75 k0_t11
  let c512_i32 : BitVec 32 := 512#32
  let v180 : BitVec 32 := Scalar.muli arg13 c512_i32
  let v181 : BitVec 32 := v180
  let v184 : Index := Scalar.indexCast v181
  let c0_123 : Index := 0#32
  ![0, 0, v184.toNat, 0]
def k0_off89 (i : grid0.Coords) (k0_t11 : Fin (k0_t11_loop i).trips) : Fin 3 → Nat :=
  let c0_126 : Index := 0#32
  let c0_i32_72 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v96 : BitVec 32 := Scalar.subi v17 c0_i32_72
  let c1_i32_73 : BitVec 32 := 1#32
  let v98 : BitVec 32 := Scalar.divsi v96 c1_i32_73
  let v99 : BitVec 32 := Scalar.muli v98 c1_i32_73
  let v100 : BitVec 32 := Scalar.addi c0_i32_72 v99
  let c1_i32_75 : BitVec 32 := 1#32
  let arg13 : BitVec 32 := Scf.iv v100 c1_i32_75 k0_t11
  let c512_i32 : BitVec 32 := 512#32
  let v180 : BitVec 32 := Scalar.muli arg13 c512_i32
  let v181 : BitVec 32 := v180
  let v192 : Index := Scalar.indexCast v181
  let c0_127 : Index := 0#32
  ![0, v192.toNat, 0]
def k0_off90 (i : grid0.Coords) (k0_t11 : Fin (k0_t11_loop i).trips) : Fin 3 → Nat :=
  let c0_131 : Index := 0#32
  let c0_i32_72 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v96 : BitVec 32 := Scalar.subi v17 c0_i32_72
  let c1_i32_73 : BitVec 32 := 1#32
  let v98 : BitVec 32 := Scalar.divsi v96 c1_i32_73
  let v99 : BitVec 32 := Scalar.muli v98 c1_i32_73
  let v100 : BitVec 32 := Scalar.addi c0_i32_72 v99
  let c1_i32_75 : BitVec 32 := 1#32
  let arg13 : BitVec 32 := Scf.iv v100 c1_i32_75 k0_t11
  let c512_i32 : BitVec 32 := 512#32
  let v180 : BitVec 32 := Scalar.muli arg13 c512_i32
  let v181 : BitVec 32 := v180
  let v204 : Index := Scalar.indexCast v181
  let c256_132 : Index := 256#32
  ![0, v204.toNat, 256]
def k0_off91 (i : grid0.Coords) (k0_t11 : Fin (k0_t11_loop i).trips) : Fin 3 → Nat :=
  let c0_136 : Index := 0#32
  let c0_i32_72 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v96 : BitVec 32 := Scalar.subi v17 c0_i32_72
  let c1_i32_73 : BitVec 32 := 1#32
  let v98 : BitVec 32 := Scalar.divsi v96 c1_i32_73
  let v99 : BitVec 32 := Scalar.muli v98 c1_i32_73
  let v100 : BitVec 32 := Scalar.addi c0_i32_72 v99
  let c1_i32_75 : BitVec 32 := 1#32
  let arg13 : BitVec 32 := Scf.iv v100 c1_i32_75 k0_t11
  let c512_i32 : BitVec 32 := 512#32
  let v180 : BitVec 32 := Scalar.muli arg13 c512_i32
  let v181 : BitVec 32 := v180
  let v216 : Index := Scalar.indexCast v181
  let c512_137 : Index := 512#32
  ![0, v216.toNat, 512]
def k0_off92 (i : grid0.Coords) (k0_t11 : Fin (k0_t11_loop i).trips) : Fin 3 → Nat :=
  let c0_141 : Index := 0#32
  let c0_i32_72 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v96 : BitVec 32 := Scalar.subi v17 c0_i32_72
  let c1_i32_73 : BitVec 32 := 1#32
  let v98 : BitVec 32 := Scalar.divsi v96 c1_i32_73
  let v99 : BitVec 32 := Scalar.muli v98 c1_i32_73
  let v100 : BitVec 32 := Scalar.addi c0_i32_72 v99
  let c1_i32_75 : BitVec 32 := 1#32
  let arg13 : BitVec 32 := Scf.iv v100 c1_i32_75 k0_t11
  let c512_i32 : BitVec 32 := 512#32
  let v180 : BitVec 32 := Scalar.muli arg13 c512_i32
  let v181 : BitVec 32 := v180
  let v228 : Index := Scalar.indexCast v181
  let c768_142 : Index := 768#32
  ![0, v228.toNat, 768]
def k0_off93 (i : grid0.Coords) (k0_t11 : Fin (k0_t11_loop i).trips) : Fin 4 → Nat :=
  let c0_145 : Index := 0#32
  let c1_146 : Index := 1#32
  let c0_i32_72 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v96 : BitVec 32 := Scalar.subi v17 c0_i32_72
  let c1_i32_73 : BitVec 32 := 1#32
  let v98 : BitVec 32 := Scalar.divsi v96 c1_i32_73
  let v99 : BitVec 32 := Scalar.muli v98 c1_i32_73
  let v100 : BitVec 32 := Scalar.addi c0_i32_72 v99
  let c1_i32_75 : BitVec 32 := 1#32
  let arg13 : BitVec 32 := Scf.iv v100 c1_i32_75 k0_t11
  let c512_i32 : BitVec 32 := 512#32
  let v180 : BitVec 32 := Scalar.muli arg13 c512_i32
  let v181 : BitVec 32 := v180
  let v238 : Index := Scalar.indexCast v181
  let c0_147 : Index := 0#32
  ![0, 1, v238.toNat, 0]
def k0_off94 (i : grid0.Coords) (k0_t11 : Fin (k0_t11_loop i).trips) : Fin 3 → Nat :=
  let c1_150 : Index := 1#32
  let c0_i32_72 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v96 : BitVec 32 := Scalar.subi v17 c0_i32_72
  let c1_i32_73 : BitVec 32 := 1#32
  let v98 : BitVec 32 := Scalar.divsi v96 c1_i32_73
  let v99 : BitVec 32 := Scalar.muli v98 c1_i32_73
  let v100 : BitVec 32 := Scalar.addi c0_i32_72 v99
  let c1_i32_75 : BitVec 32 := 1#32
  let arg13 : BitVec 32 := Scf.iv v100 c1_i32_75 k0_t11
  let c512_i32 : BitVec 32 := 512#32
  let v180 : BitVec 32 := Scalar.muli arg13 c512_i32
  let v181 : BitVec 32 := v180
  let v246 : Index := Scalar.indexCast v181
  let c0_151 : Index := 0#32
  ![1, v246.toNat, 0]
def k0_off95 (i : grid0.Coords) (k0_t11 : Fin (k0_t11_loop i).trips) : Fin 3 → Nat :=
  let c1_155 : Index := 1#32
  let c0_i32_72 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v96 : BitVec 32 := Scalar.subi v17 c0_i32_72
  let c1_i32_73 : BitVec 32 := 1#32
  let v98 : BitVec 32 := Scalar.divsi v96 c1_i32_73
  let v99 : BitVec 32 := Scalar.muli v98 c1_i32_73
  let v100 : BitVec 32 := Scalar.addi c0_i32_72 v99
  let c1_i32_75 : BitVec 32 := 1#32
  let arg13 : BitVec 32 := Scf.iv v100 c1_i32_75 k0_t11
  let c512_i32 : BitVec 32 := 512#32
  let v180 : BitVec 32 := Scalar.muli arg13 c512_i32
  let v181 : BitVec 32 := v180
  let v258 : Index := Scalar.indexCast v181
  let c256_156 : Index := 256#32
  ![1, v258.toNat, 256]
def k0_off96 (i : grid0.Coords) (k0_t11 : Fin (k0_t11_loop i).trips) : Fin 3 → Nat :=
  let c1_160 : Index := 1#32
  let c0_i32_72 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v96 : BitVec 32 := Scalar.subi v17 c0_i32_72
  let c1_i32_73 : BitVec 32 := 1#32
  let v98 : BitVec 32 := Scalar.divsi v96 c1_i32_73
  let v99 : BitVec 32 := Scalar.muli v98 c1_i32_73
  let v100 : BitVec 32 := Scalar.addi c0_i32_72 v99
  let c1_i32_75 : BitVec 32 := 1#32
  let arg13 : BitVec 32 := Scf.iv v100 c1_i32_75 k0_t11
  let c512_i32 : BitVec 32 := 512#32
  let v180 : BitVec 32 := Scalar.muli arg13 c512_i32
  let v181 : BitVec 32 := v180
  let v270 : Index := Scalar.indexCast v181
  let c512_161 : Index := 512#32
  ![1, v270.toNat, 512]
def k0_off97 (i : grid0.Coords) (k0_t11 : Fin (k0_t11_loop i).trips) : Fin 3 → Nat :=
  let c1_165 : Index := 1#32
  let c0_i32_72 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v96 : BitVec 32 := Scalar.subi v17 c0_i32_72
  let c1_i32_73 : BitVec 32 := 1#32
  let v98 : BitVec 32 := Scalar.divsi v96 c1_i32_73
  let v99 : BitVec 32 := Scalar.muli v98 c1_i32_73
  let v100 : BitVec 32 := Scalar.addi c0_i32_72 v99
  let c1_i32_75 : BitVec 32 := 1#32
  let arg13 : BitVec 32 := Scf.iv v100 c1_i32_75 k0_t11
  let c512_i32 : BitVec 32 := 512#32
  let v180 : BitVec 32 := Scalar.muli arg13 c512_i32
  let v181 : BitVec 32 := v180
  let v282 : Index := Scalar.indexCast v181
  let c768_166 : Index := 768#32
  ![1, v282.toNat, 768]
@[reducible] def k0_t12_loop (i : grid0.Coords) : Scf.Loop 32 :=
  let c0_i32_84 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v113 : BitVec 32 := Scalar.subi v17 c0_i32_84
  let c1_i32_85 : BitVec 32 := 1#32
  let v115 : BitVec 32 := Scalar.divsi v113 c1_i32_85
  let v116 : BitVec 32 := Scalar.muli v115 c1_i32_85
  let v117 : BitVec 32 := Scalar.addi c0_i32_84 v116
  let c1_i32_86 : BitVec 32 := 1#32
  ⟨c0_i32_84, v117, c1_i32_86⟩
def k0_mult15 (i : grid0.Coords) (k0_t12 : Fin (k0_t12_loop i).trips) : BitVec 32 :=
  let c0_i32_84 : BitVec 32 := 0#32
  let c1_i32_86 : BitVec 32 := 1#32
  let arg13 : BitVec 32 := Scf.iv c0_i32_84 c1_i32_86 k0_t12
  let c512_i32 : BitVec 32 := 512#32
  let v180 : BitVec 32 := Scalar.muli arg13 c512_i32
  v180
def k0_off98 (i : grid0.Coords) (k0_t12 : Fin (k0_t12_loop i).trips) : Fin 3 → Nat :=
  let c0_120 : Index := 0#32
  let c0_i32_84 : BitVec 32 := 0#32
  let c1_i32_86 : BitVec 32 := 1#32
  let arg13 : BitVec 32 := Scf.iv c0_i32_84 c1_i32_86 k0_t12
  let c512_i32 : BitVec 32 := 512#32
  let v180 : BitVec 32 := Scalar.muli arg13 c512_i32
  let v181 : BitVec 32 := v180
  let v182 : Index := Scalar.indexCast v181
  let c0_121 : Index := 0#32
  ![0, v182.toNat, 0]
def k0_off99 (i : grid0.Coords) (k0_t12 : Fin (k0_t12_loop i).trips) : Fin 3 → Nat :=
  let c0_122 : Index := 0#32
  let c0_123 : Index := 0#32
  let c0_i32_84 : BitVec 32 := 0#32
  let c1_i32_86 : BitVec 32 := 1#32
  let arg13 : BitVec 32 := Scf.iv c0_i32_84 c1_i32_86 k0_t12
  let c512_i32 : BitVec 32 := 512#32
  let v180 : BitVec 32 := Scalar.muli arg13 c512_i32
  let v181 : BitVec 32 := v180
  let v188 : Index := Scalar.indexCast v181
  ![0, 0, v188.toNat]
def k0_off100 (i : grid0.Coords) (k0_t12 : Fin (k0_t12_loop i).trips) : Fin 3 → Nat :=
  let c1_133 : Index := 1#32
  let c0_i32_84 : BitVec 32 := 0#32
  let c1_i32_86 : BitVec 32 := 1#32
  let arg13 : BitVec 32 := Scf.iv c0_i32_84 c1_i32_86 k0_t12
  let c512_i32 : BitVec 32 := 512#32
  let v180 : BitVec 32 := Scalar.muli arg13 c512_i32
  let v181 : BitVec 32 := v180
  let v204 : Index := Scalar.indexCast v181
  let c0_134 : Index := 0#32
  ![1, v204.toNat, 0]
def k0_off101 (i : grid0.Coords) (k0_t12 : Fin (k0_t12_loop i).trips) : Fin 3 → Nat :=
  let c0_135 : Index := 0#32
  let c128_136 : Index := 128#32
  let c0_i32_84 : BitVec 32 := 0#32
  let c1_i32_86 : BitVec 32 := 1#32
  let arg13 : BitVec 32 := Scf.iv c0_i32_84 c1_i32_86 k0_t12
  let c512_i32 : BitVec 32 := 512#32
  let v180 : BitVec 32 := Scalar.muli arg13 c512_i32
  let v181 : BitVec 32 := v180
  let v210 : Index := Scalar.indexCast v181
  ![0, 128, v210.toNat]
@[reducible] def k0_t13_loop (i : grid0.Coords) : Scf.Loop 32 :=
  let c0_i32_84 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v113 : BitVec 32 := Scalar.subi v17 c0_i32_84
  let c1_i32_85 : BitVec 32 := 1#32
  let v115 : BitVec 32 := Scalar.divsi v113 c1_i32_85
  let v116 : BitVec 32 := Scalar.muli v115 c1_i32_85
  let v117 : BitVec 32 := Scalar.addi c0_i32_84 v116
  let v114 : BitVec 32 := Scalar.addi c0_i32_84 v113
  let c1_i32_87 : BitVec 32 := 1#32
  ⟨v117, v114, c1_i32_87⟩
def k0_mult16 (i : grid0.Coords) (k0_t13 : Fin (k0_t13_loop i).trips) : BitVec 32 :=
  let c0_i32_84 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v113 : BitVec 32 := Scalar.subi v17 c0_i32_84
  let c1_i32_85 : BitVec 32 := 1#32
  let v115 : BitVec 32 := Scalar.divsi v113 c1_i32_85
  let v116 : BitVec 32 := Scalar.muli v115 c1_i32_85
  let v117 : BitVec 32 := Scalar.addi c0_i32_84 v116
  let c1_i32_87 : BitVec 32 := 1#32
  let arg13 : BitVec 32 := Scf.iv v117 c1_i32_87 k0_t13
  let c512_i32 : BitVec 32 := 512#32
  let v180 : BitVec 32 := Scalar.muli arg13 c512_i32
  v180
def k0_off102 (i : grid0.Coords) (k0_t13 : Fin (k0_t13_loop i).trips) : Fin 3 → Nat :=
  let c0_120 : Index := 0#32
  let c0_i32_84 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v113 : BitVec 32 := Scalar.subi v17 c0_i32_84
  let c1_i32_85 : BitVec 32 := 1#32
  let v115 : BitVec 32 := Scalar.divsi v113 c1_i32_85
  let v116 : BitVec 32 := Scalar.muli v115 c1_i32_85
  let v117 : BitVec 32 := Scalar.addi c0_i32_84 v116
  let c1_i32_87 : BitVec 32 := 1#32
  let arg13 : BitVec 32 := Scf.iv v117 c1_i32_87 k0_t13
  let c512_i32 : BitVec 32 := 512#32
  let v180 : BitVec 32 := Scalar.muli arg13 c512_i32
  let v181 : BitVec 32 := v180
  let v182 : Index := Scalar.indexCast v181
  let c0_121 : Index := 0#32
  ![0, v182.toNat, 0]
def k0_off103 (i : grid0.Coords) (k0_t13 : Fin (k0_t13_loop i).trips) : Fin 3 → Nat :=
  let c0_122 : Index := 0#32
  let c0_123 : Index := 0#32
  let c0_i32_84 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v113 : BitVec 32 := Scalar.subi v17 c0_i32_84
  let c1_i32_85 : BitVec 32 := 1#32
  let v115 : BitVec 32 := Scalar.divsi v113 c1_i32_85
  let v116 : BitVec 32 := Scalar.muli v115 c1_i32_85
  let v117 : BitVec 32 := Scalar.addi c0_i32_84 v116
  let c1_i32_87 : BitVec 32 := 1#32
  let arg13 : BitVec 32 := Scf.iv v117 c1_i32_87 k0_t13
  let c512_i32 : BitVec 32 := 512#32
  let v180 : BitVec 32 := Scalar.muli arg13 c512_i32
  let v181 : BitVec 32 := v180
  let v188 : Index := Scalar.indexCast v181
  ![0, 0, v188.toNat]
def k0_off104 (i : grid0.Coords) (k0_t13 : Fin (k0_t13_loop i).trips) : Fin 3 → Nat :=
  let c1_133 : Index := 1#32
  let c0_i32_84 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v113 : BitVec 32 := Scalar.subi v17 c0_i32_84
  let c1_i32_85 : BitVec 32 := 1#32
  let v115 : BitVec 32 := Scalar.divsi v113 c1_i32_85
  let v116 : BitVec 32 := Scalar.muli v115 c1_i32_85
  let v117 : BitVec 32 := Scalar.addi c0_i32_84 v116
  let c1_i32_87 : BitVec 32 := 1#32
  let arg13 : BitVec 32 := Scf.iv v117 c1_i32_87 k0_t13
  let c512_i32 : BitVec 32 := 512#32
  let v180 : BitVec 32 := Scalar.muli arg13 c512_i32
  let v181 : BitVec 32 := v180
  let v204 : Index := Scalar.indexCast v181
  let c0_134 : Index := 0#32
  ![1, v204.toNat, 0]
def k0_off105 (i : grid0.Coords) (k0_t13 : Fin (k0_t13_loop i).trips) : Fin 3 → Nat :=
  let c0_135 : Index := 0#32
  let c128_136 : Index := 128#32
  let c0_i32_84 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let v113 : BitVec 32 := Scalar.subi v17 c0_i32_84
  let c1_i32_85 : BitVec 32 := 1#32
  let v115 : BitVec 32 := Scalar.divsi v113 c1_i32_85
  let v116 : BitVec 32 := Scalar.muli v115 c1_i32_85
  let v117 : BitVec 32 := Scalar.addi c0_i32_84 v116
  let c1_i32_87 : BitVec 32 := 1#32
  let arg13 : BitVec 32 := Scf.iv v117 c1_i32_87 k0_t13
  let c512_i32 : BitVec 32 := 512#32
  let v180 : BitVec 32 := Scalar.muli arg13 c512_i32
  let v181 : BitVec 32 := v180
  let v210 : Index := Scalar.indexCast v181
  ![0, 128, v210.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4096x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel2.lean ====
abbrev S16x8x4096x384 : Shape := ⟨4, ![16, 8, 4096, 384]⟩
abbrev S16x4096x384 : Shape := ⟨3, ![16, 4096, 384]⟩
abbrev S256x8x128 : Shape := ⟨3, ![256, 8, 128]⟩
abbrev S8x256x128 : Shape := ⟨3, ![8, 256, 128]⟩
abbrev S16x4096x1024 : Shape := ⟨3, ![16, 4096, 1024]⟩
abbrev S1x8x256x384 : Shape := ⟨4, ![1, 8, 256, 384]⟩
abbrev S1x4096x384 : Shape := ⟨3, ![1, 4096, 384]⟩
abbrev S1x256x1024 : Shape := ⟨3, ![1, 256, 1024]⟩
abbrev S2048x4096 : Shape := ⟨2, ![2048, 4096]⟩
abbrev S2048x128 : Shape := ⟨2, ![2048, 128]⟩
abbrev S2048x256 : Shape := ⟨2, ![2048, 256]⟩
abbrev S8x256x384 : Shape := ⟨3, ![8, 256, 384]⟩
abbrev S2048x384 : Shape := ⟨2, ![2048, 384]⟩
abbrev S1x512x384 : Shape := ⟨3, ![1, 512, 384]⟩
abbrev S512x384 : Shape := ⟨2, ![512, 384]⟩
abbrev S2048x512 : Shape := ⟨2, ![2048, 512]⟩
abbrev S256x512 : Shape := ⟨2, ![256, 512]⟩
abbrev S1x256x512 : Shape := ⟨3, ![1, 256, 512]⟩
abbrev S8x256x512 : Shape := ⟨3, ![8, 256, 512]⟩
abbrev S2048 : Shape := ⟨1, ![2048]⟩
abbrev S2048x1 : Shape := ⟨2, ![2048, 1]⟩
abbrev S1x512x256 : Shape := ⟨3, ![1, 512, 256]⟩
abbrev S512x256 : Shape := ⟨2, ![512, 256]⟩
abbrev S256x256 : Shape := ⟨2, ![256, 256]⟩
abbrev S1x256x128 : Shape := ⟨3, ![1, 256, 128]⟩
abbrev S256x128 : Shape := ⟨2, ![256, 128]⟩

abbrev nBuf : Space → Nat
  | .hbm => 6
  | .vmem => 11
  | .smem => 0
  | _ => 0

abbrev bufTy : (tb : Table) → Fin (tcTables nBuf tb) → BufTy
  | .hbm, ⟨0, _⟩ => ⟨S16x8x4096x384, .bf16⟩
  | .hbm, ⟨1, _⟩ => ⟨S16x4096x384, .bf16⟩
  | .hbm, ⟨2, _⟩ => ⟨S256x8x128, .f32⟩
  | .hbm, ⟨3, _⟩ => ⟨S8x256x128, .f32⟩
  | .hbm, ⟨4, _⟩ => ⟨S8x256x128, .bf16⟩
  | .hbm, ⟨5, _⟩ => ⟨S16x4096x1024, .bf16⟩
  | .local _ .vmem, ⟨0, _⟩ => ⟨S1x8x256x384, .bf16⟩
  | .local _ .vmem, ⟨1, _⟩ => ⟨S1x8x256x384, .bf16⟩
  | .local _ .vmem, ⟨2, _⟩ => ⟨S1x4096x384, .bf16⟩
  | .local _ .vmem, ⟨3, _⟩ => ⟨S1x4096x384, .bf16⟩
  | .local _ .vmem, ⟨4, _⟩ => ⟨S8x256x128, .bf16⟩
  | .local _ .vmem, ⟨5, _⟩ => ⟨S1x256x1024, .bf16⟩
  | .local _ .vmem, ⟨6, _⟩ => ⟨S1x256x1024, .bf16⟩
  | .local _ .vmem, ⟨7, _⟩ => ⟨S2048x4096, .f32⟩
  | .local _ .vmem, ⟨8, _⟩ => ⟨S2048x128, .f32⟩
  | .local _ .vmem, ⟨9, _⟩ => ⟨S2048x128, .f32⟩
  | .local _ .vmem, ⟨10, _⟩ => ⟨S2048x256, .f32⟩
  | _, _ => ⟨S16x8x4096x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 16], ![false, false]⟩

@[reducible] def k0_t1_loop (i : grid0.Coords) : Scf.Loop 32 :=
  let c0_i32_10 : BitVec 32 := 0#32
  let arg1 : BitVec 32 := BitVec.ofNat 32 (i 1).val
  let c256_i32 : BitVec 32 := 256#32
  let v3 : BitVec 32 := Scalar.muli arg1 c256_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32 : BitVec 32 := 512#32
  let c0_i32_4 : BitVec 32 := 0#32
  let v10 : BitVec 1 := Scalar.cmpi .sgt c512_i32 c0_i32_4
  let v11 : BitVec 32 := Scalar.extui v10
  let c0_i32_5 : BitVec 32 := 0#32
  let v12 : BitVec 1 := Scalar.cmpi .slt c512_i32 c0_i32_5
  let v13 : BitVec 32 := Scalar.extui v12
  let v14 : BitVec 32 := Scalar.subi v11 v13
  let v15 : BitVec 1 := Scalar.cmpi .ne v9 v14
  let v16 : BitVec 32 := Scalar.remsi v3 c512_i32
  let c0_i32_6 : BitVec 32 := 0#32
  let v17 : BitVec 1 := Scalar.cmpi .ne v16 c0_i32_6
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let v25 : BitVec 32 := Scalar.subi v20 c0_i32_10
  let c1_i32_11 : BitVec 32 := 1#32
  let v27 : BitVec 32 := Scalar.divsi v25 c1_i32_11
  let v28 : BitVec 32 := Scalar.muli v27 c1_i32_11
  let v29 : BitVec 32 := Scalar.addi c0_i32_10 v28
  let c1_i32_12 : BitVec 32 := 1#32
  ⟨c0_i32_10, v29, c1_i32_12⟩
def k0_mult1 (i : grid0.Coords) (k0_t1 : Fin (k0_t1_loop i).trips) : BitVec 32 :=
  let c0_i32_10 : BitVec 32 := 0#32
  let c1_i32_12 : BitVec 32 := 1#32
  let arg10 : BitVec 32 := Scf.iv c0_i32_10 c1_i32_12 k0_t1
  let c512_i32_90 : BitVec 32 := 512#32
  let v169 : BitVec 32 := Scalar.muli arg10 c512_i32_90
  v169
def k0_off1 (i : grid0.Coords) (k0_t1 : Fin (k0_t1_loop i).trips) : Fin 3 → Nat :=
  let c0_91 : Index := 0#32
  let c0_i32_10 : BitVec 32 := 0#32
  let c1_i32_12 : BitVec 32 := 1#32
  let arg10 : BitVec 32 := Scf.iv c0_i32_10 c1_i32_12 k0_t1
  let c512_i32_90 : BitVec 32 := 512#32
  let v169 : BitVec 32 := Scalar.muli arg10 c512_i32_90
  let v170 : BitVec 32 := v169
  let v171 : Index := Scalar.indexCast v170
  let c0_92 : Index := 0#32
  ![0, v171.toNat, 0]
def k0_off2 (i : grid0.Coords) (k0_t1 : Fin (k0_t1_loop i).trips) : Fin 2 → Nat :=
  let c0_95 : Index := 0#32
  let c0_i32_10 : BitVec 32 := 0#32
  let c1_i32_12 : BitVec 32 := 1#32
  let arg10 : BitVec 32 := Scf.iv c0_i32_10 c1_i32_12 k0_t1
  let c512_i32_90 : BitVec 32 := 512#32
  let v169 : BitVec 32 := Scalar.muli arg10 c512_i32_90
  let v170 : BitVec 32 := v169
  let v177 : Index := Scalar.indexCast v170
  ![0, v177.toNat]
@[reducible] def k0_t2_loop (i : grid0.Coords) : Scf.Loop 32 :=
  let c0_i32_10 : BitVec 32 := 0#32
  let arg1 : BitVec 32 := BitVec.ofNat 32 (i 1).val
  let c256_i32 : BitVec 32 := 256#32
  let v3 : BitVec 32 := Scalar.muli arg1 c256_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32 : BitVec 32 := 512#32
  let c0_i32_4 : BitVec 32 := 0#32
  let v10 : BitVec 1 := Scalar.cmpi .sgt c512_i32 c0_i32_4
  let v11 : BitVec 32 := Scalar.extui v10
  let c0_i32_5 : BitVec 32 := 0#32
  let v12 : BitVec 1 := Scalar.cmpi .slt c512_i32 c0_i32_5
  let v13 : BitVec 32 := Scalar.extui v12
  let v14 : BitVec 32 := Scalar.subi v11 v13
  let v15 : BitVec 1 := Scalar.cmpi .ne v9 v14
  let v16 : BitVec 32 := Scalar.remsi v3 c512_i32
  let c0_i32_6 : BitVec 32 := 0#32
  let v17 : BitVec 1 := Scalar.cmpi .ne v16 c0_i32_6
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let v25 : BitVec 32 := Scalar.subi v20 c0_i32_10
  let c1_i32_11 : BitVec 32 := 1#32
  let v27 : BitVec 32 := Scalar.divsi v25 c1_i32_11
  let v28 : BitVec 32 := Scalar.muli v27 c1_i32_11
  let v29 : BitVec 32 := Scalar.addi c0_i32_10 v28
  let v26 : BitVec 32 := Scalar.addi c0_i32_10 v25
  let c1_i32_13 : BitVec 32 := 1#32
  ⟨v29, v26, c1_i32_13⟩
def k0_mult2 (i : grid0.Coords) (k0_t2 : Fin (k0_t2_loop i).trips) : BitVec 32 :=
  let c0_i32_10 : BitVec 32 := 0#32
  let arg1 : BitVec 32 := BitVec.ofNat 32 (i 1).val
  let c256_i32 : BitVec 32 := 256#32
  let v3 : BitVec 32 := Scalar.muli arg1 c256_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32 : BitVec 32 := 512#32
  let c0_i32_4 : BitVec 32 := 0#32
  let v10 : BitVec 1 := Scalar.cmpi .sgt c512_i32 c0_i32_4
  let v11 : BitVec 32 := Scalar.extui v10
  let c0_i32_5 : BitVec 32 := 0#32
  let v12 : BitVec 1 := Scalar.cmpi .slt c512_i32 c0_i32_5
  let v13 : BitVec 32 := Scalar.extui v12
  let v14 : BitVec 32 := Scalar.subi v11 v13
  let v15 : BitVec 1 := Scalar.cmpi .ne v9 v14
  let v16 : BitVec 32 := Scalar.remsi v3 c512_i32
  let c0_i32_6 : BitVec 32 := 0#32
  let v17 : BitVec 1 := Scalar.cmpi .ne v16 c0_i32_6
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let v25 : BitVec 32 := Scalar.subi v20 c0_i32_10
  let c1_i32_11 : BitVec 32 := 1#32
  let v27 : BitVec 32 := Scalar.divsi v25 c1_i32_11
  let v28 : BitVec 32 := Scalar.muli v27 c1_i32_11
  let v29 : BitVec 32 := Scalar.addi c0_i32_10 v28
  let c1_i32_13 : BitVec 32 := 1#32
  let arg10 : BitVec 32 := Scf.iv v29 c1_i32_13 k0_t2
  let c512_i32_90 : BitVec 32 := 512#32
  let v169 : BitVec 32 := Scalar.muli arg10 c512_i32_90
  v169
def k0_off3 (i : grid0.Coords) (k0_t2 : Fin (k0_t2_loop i).trips) : Fin 3 → Nat :=
  let c0_91 : Index := 0#32
  let c0_i32_10 : BitVec 32 := 0#32
  let arg1 : BitVec 32 := BitVec.ofNat 32 (i 1).val
  let c256_i32 : BitVec 32 := 256#32
  let v3 : BitVec 32 := Scalar.muli arg1 c256_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32 : BitVec 32 := 512#32
  let c0_i32_4 : BitVec 32 := 0#32
  let v10 : BitVec 1 := Scalar.cmpi .sgt c512_i32 c0_i32_4
  let v11 : BitVec 32 := Scalar.extui v10
  let c0_i32_5 : BitVec 32 := 0#32
  let v12 : BitVec 1 := Scalar.cmpi .slt c512_i32 c0_i32_5
  let v13 : BitVec 32 := Scalar.extui v12
  let v14 : BitVec 32 := Scalar.subi v11 v13
  let v15 : BitVec 1 := Scalar.cmpi .ne v9 v14
  let v16 : BitVec 32 := Scalar.remsi v3 c512_i32
  let c0_i32_6 : BitVec 32 := 0#32
  let v17 : BitVec 1 := Scalar.cmpi .ne v16 c0_i32_6
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let v25 : BitVec 32 := Scalar.subi v20 c0_i32_10
  let c1_i32_11 : BitVec 32 := 1#32
  let v27 : BitVec 32 := Scalar.divsi v25 c1_i32_11
  let v28 : BitVec 32 := Scalar.muli v27 c1_i32_11
  let v29 : BitVec 32 := Scalar.addi c0_i32_10 v28
  let c1_i32_13 : BitVec 32 := 1#32
  let arg10 : BitVec 32 := Scf.iv v29 c1_i32_13 k0_t2
  let c512_i32_90 : BitVec 32 := 512#32
  let v169 : BitVec 32 := Scalar.muli arg10 c512_i32_90
  let v170 : BitVec 32 := v169
  let v171 : Index := Scalar.indexCast v170
  let c0_92 : Index := 0#32
  ![0, v171.toNat, 0]
def k0_off4 (i : grid0.Coords) (k0_t2 : Fin (k0_t2_loop i).trips) : Fin 2 → Nat :=
  let c0_95 : Index := 0#32
  let c0_i32_10 : BitVec 32 := 0#32
  let arg1 : BitVec 32 := BitVec.ofNat 32 (i 1).val
  let c256_i32 : BitVec 32 := 256#32
  let v3 : BitVec 32 := Scalar.muli arg1 c256_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32 : BitVec 32 := 512#32
  let c0_i32_4 : BitVec 32 := 0#32
  let v10 : BitVec 1 := Scalar.cmpi .sgt c512_i32 c0_i32_4
  let v11 : BitVec 32 := Scalar.extui v10
  let c0_i32_5 : BitVec 32 := 0#32
  let v12 : BitVec 1 := Scalar.cmpi .slt c512_i32 c0_i32_5
  let v13 : BitVec 32 := Scalar.extui v12
  let v14 : BitVec 32 := Scalar.subi v11 v13
  let v15 : BitVec 1 := Scalar.cmpi .ne v9 v14
  let v16 : BitVec 32 := Scalar.remsi v3 c512_i32
  let c0_i32_6 : BitVec 32 := 0#32
  let v17 : BitVec 1 := Scalar.cmpi .ne v16 c0_i32_6
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let v25 : BitVec 32 := Scalar.subi v20 c0_i32_10
  let c1_i32_11 : BitVec 32 := 1#32
  let v27 : BitVec 32 := Scalar.divsi v25 c1_i32_11
  let v28 : BitVec 32 := Scalar.muli v27 c1_i32_11
  let v29 : BitVec 32 := Scalar.addi c0_i32_10 v28
  let c1_i32_13 : BitVec 32 := 1#32
  let arg10 : BitVec 32 := Scf.iv v29 c1_i32_13 k0_t2
  let c512_i32_90 : BitVec 32 := 512#32
  let v169 : BitVec 32 := Scalar.muli arg10 c512_i32_90
  let v170 : BitVec 32 := v169
  let v177 : Index := Scalar.indexCast v170
  ![0, v177.toNat]
def k0_mult3 (i : grid0.Coords) : BitVec 32 :=
  let arg1 : BitVec 32 := BitVec.ofNat 32 (i 1).val
  let c256_i32 : BitVec 32 := 256#32
  let v3 : BitVec 32 := Scalar.muli arg1 c256_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32 : BitVec 32 := 512#32
  let c0_i32_4 : BitVec 32 := 0#32
  let v10 : BitVec 1 := Scalar.cmpi .sgt c512_i32 c0_i32_4
  let v11 : BitVec 32 := Scalar.extui v10
  let c0_i32_5 : BitVec 32 := 0#32
  let v12 : BitVec 1 := Scalar.cmpi .slt c512_i32 c0_i32_5
  let v13 : BitVec 32 := Scalar.extui v12
  let v14 : BitVec 32 := Scalar.subi v11 v13
  let v15 : BitVec 1 := Scalar.cmpi .ne v9 v14
  let v16 : BitVec 32 := Scalar.remsi v3 c512_i32
  let c0_i32_6 : BitVec 32 := 0#32
  let v17 : BitVec 1 := Scalar.cmpi .ne v16 c0_i32_6
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let c512_i32_14 : BitVec 32 := 512#32
  let v30 : BitVec 32 := Scalar.muli v20 c512_i32_14
  v30
def k0_off5 (i : grid0.Coords) : Fin 3 → Nat :=
  let c0_15 : Index := 0#32
  let arg1 : BitVec 32 := BitVec.ofNat 32 (i 1).val
  let c256_i32 : BitVec 32 := 256#32
  let v3 : BitVec 32 := Scalar.muli arg1 c256_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32 : BitVec 32 := 512#32
  let c0_i32_4 : BitVec 32 := 0#32
  let v10 : BitVec 1 := Scalar.cmpi .sgt c512_i32 c0_i32_4
  let v11 : BitVec 32 := Scalar.extui v10
  let c0_i32_5 : BitVec 32 := 0#32
  let v12 : BitVec 1 := Scalar.cmpi .slt c512_i32 c0_i32_5
  let v13 : BitVec 32 := Scalar.extui v12
  let v14 : BitVec 32 := Scalar.subi v11 v13
  let v15 : BitVec 1 := Scalar.cmpi .ne v9 v14
  let v16 : BitVec 32 := Scalar.remsi v3 c512_i32
  let c0_i32_6 : BitVec 32 := 0#32
  let v17 : BitVec 1 := Scalar.cmpi .ne v16 c0_i32_6
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let c512_i32_14 : BitVec 32 := 512#32
  let v30 : BitVec 32 := Scalar.muli v20 c512_i32_14
  let v31 : BitVec 32 := v30
  let v32 : Index := Scalar.indexCast v31
  let c0_16 : Index := 0#32
  ![0, v32.toNat, 0]
def k0_off6 (i : grid0.Coords) : Fin 2 → Nat :=
  let c0_21 : Index := 0#32
  let arg1 : BitVec 32 := BitVec.ofNat 32 (i 1).val
  let c256_i32 : BitVec 32 := 256#32
  let v3 : BitVec 32 := Scalar.muli arg1 c256_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32 : BitVec 32 := 512#32
  let c0_i32_4 : BitVec 32 := 0#32
  let v10 : BitVec 1 := Scalar.cmpi .sgt c512_i32 c0_i32_4
  let v11 : BitVec 32 := Scalar.extui v10
  let c0_i32_5 : BitVec 32 := 0#32
  let v12 : BitVec 1 := Scalar.cmpi .slt c512_i32 c0_i32_5
  let v13 : BitVec 32 := Scalar.extui v12
  let v14 : BitVec 32 := Scalar.subi v11 v13
  let v15 : BitVec 1 := Scalar.cmpi .ne v9 v14
  let v16 : BitVec 32 := Scalar.remsi v3 c512_i32
  let c0_i32_6 : BitVec 32 := 0#32
  let v17 : BitVec 1 := Scalar.cmpi .ne v16 c0_i32_6
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let c512_i32_14 : BitVec 32 := 512#32
  let v30 : BitVec 32 := Scalar.muli v20 c512_i32_14
  let v31 : BitVec 32 := v30
  let v53 : Index := Scalar.indexCast v31
  ![0, v53.toNat]
@[reducible] def k0_t3_loop (i : grid0.Coords) : Scf.Loop 32 :=
  let c0_i32_39 : BitVec 32 := 0#32
  let arg1 : BitVec 32 := BitVec.ofNat 32 (i 1).val
  let c256_i32 : BitVec 32 := 256#32
  let v3 : BitVec 32 := Scalar.muli arg1 c256_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32 : BitVec 32 := 512#32
  let c0_i32_4 : BitVec 32 := 0#32
  let v10 : BitVec 1 := Scalar.cmpi .sgt c512_i32 c0_i32_4
  let v11 : BitVec 32 := Scalar.extui v10
  let c0_i32_5 : BitVec 32 := 0#32
  let v12 : BitVec 1 := Scalar.cmpi .slt c512_i32 c0_i32_5
  let v13 : BitVec 32 := Scalar.extui v12
  let v14 : BitVec 32 := Scalar.subi v11 v13
  let v15 : BitVec 1 := Scalar.cmpi .ne v9 v14
  let v16 : BitVec 32 := Scalar.remsi v3 c512_i32
  let c0_i32_6 : BitVec 32 := 0#32
  let v17 : BitVec 1 := Scalar.cmpi .ne v16 c0_i32_6
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let c1_i32_37 : BitVec 32 := 1#32
  let v85 : BitVec 32 := Scalar.addi v20 c1_i32_37
  let v86 : BitVec 32 := Scalar.subi v85 c0_i32_39
  let c1_i32_40 : BitVec 32 := 1#32
  let v88 : BitVec 32 := Scalar.divsi v86 c1_i32_40
  let v89 : BitVec 32 := Scalar.muli v88 c1_i32_40
  let v90 : BitVec 32 := Scalar.addi c0_i32_39 v89
  let c1_i32_41 : BitVec 32 := 1#32
  ⟨c0_i32_39, v90, c1_i32_41⟩
def k0_mult4 (i : grid0.Coords) (k0_t3 : Fin (k0_t3_loop i).trips) : BitVec 32 :=
  let c0_i32_39 : BitVec 32 := 0#32
  let c1_i32_41 : BitVec 32 := 1#32
  let arg10 : BitVec 32 := Scf.iv c0_i32_39 c1_i32_41 k0_t3
  let c512_i32_90 : BitVec 32 := 512#32
  let v169 : BitVec 32 := Scalar.muli arg10 c512_i32_90
  v169
def k0_off7 (i : grid0.Coords) (k0_t3 : Fin (k0_t3_loop i).trips) : Fin 2 → Nat :=
  let c0_91 : Index := 0#32
  let c0_i32_39 : BitVec 32 := 0#32
  let c1_i32_41 : BitVec 32 := 1#32
  let arg10 : BitVec 32 := Scf.iv c0_i32_39 c1_i32_41 k0_t3
  let c512_i32_90 : BitVec 32 := 512#32
  let v169 : BitVec 32 := Scalar.muli arg10 c512_i32_90
  let v170 : BitVec 32 := v169
  let v171 : Index := Scalar.indexCast v170
  ![0, v171.toNat]
def k0_off8 (i : grid0.Coords) (k0_t3 : Fin (k0_t3_loop i).trips) : Fin 3 → Nat :=
  let c0_98 : Index := 0#32
  let c0_i32_39 : BitVec 32 := 0#32
  let c1_i32_41 : BitVec 32 := 1#32
  let arg10 : BitVec 32 := Scf.iv c0_i32_39 c1_i32_41 k0_t3
  let c512_i32_90 : BitVec 32 := 512#32
  let v169 : BitVec 32 := Scalar.muli arg10 c512_i32_90
  let v170 : BitVec 32 := v169
  let v199 : Index := Scalar.indexCast v170
  let c0_99 : Index := 0#32
  ![0, v199.toNat, 0]
@[reducible] def k0_t4_loop (i : grid0.Coords) : Scf.Loop 32 :=
  let c0_i32_39 : BitVec 32 := 0#32
  let arg1 : BitVec 32 := BitVec.ofNat 32 (i 1).val
  let c256_i32 : BitVec 32 := 256#32
  let v3 : BitVec 32 := Scalar.muli arg1 c256_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32 : BitVec 32 := 512#32
  let c0_i32_4 : BitVec 32 := 0#32
  let v10 : BitVec 1 := Scalar.cmpi .sgt c512_i32 c0_i32_4
  let v11 : BitVec 32 := Scalar.extui v10
  let c0_i32_5 : BitVec 32 := 0#32
  let v12 : BitVec 1 := Scalar.cmpi .slt c512_i32 c0_i32_5
  let v13 : BitVec 32 := Scalar.extui v12
  let v14 : BitVec 32 := Scalar.subi v11 v13
  let v15 : BitVec 1 := Scalar.cmpi .ne v9 v14
  let v16 : BitVec 32 := Scalar.remsi v3 c512_i32
  let c0_i32_6 : BitVec 32 := 0#32
  let v17 : BitVec 1 := Scalar.cmpi .ne v16 c0_i32_6
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let c1_i32_37 : BitVec 32 := 1#32
  let v85 : BitVec 32 := Scalar.addi v20 c1_i32_37
  let v86 : BitVec 32 := Scalar.subi v85 c0_i32_39
  let c1_i32_40 : BitVec 32 := 1#32
  let v88 : BitVec 32 := Scalar.divsi v86 c1_i32_40
  let v89 : BitVec 32 := Scalar.muli v88 c1_i32_40
  let v90 : BitVec 32 := Scalar.addi c0_i32_39 v89
  let v87 : BitVec 32 := Scalar.addi c0_i32_39 v86
  let c1_i32_42 : BitVec 32 := 1#32
  ⟨v90, v87, c1_i32_42⟩
def k0_mult5 (i : grid0.Coords) (k0_t4 : Fin (k0_t4_loop i).trips) : BitVec 32 :=
  let c0_i32_39 : BitVec 32 := 0#32
  let arg1 : BitVec 32 := BitVec.ofNat 32 (i 1).val
  let c256_i32 : BitVec 32 := 256#32
  let v3 : BitVec 32 := Scalar.muli arg1 c256_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32 : BitVec 32 := 512#32
  let c0_i32_4 : BitVec 32 := 0#32
  let v10 : BitVec 1 := Scalar.cmpi .sgt c512_i32 c0_i32_4
  let v11 : BitVec 32 := Scalar.extui v10
  let c0_i32_5 : BitVec 32 := 0#32
  let v12 : BitVec 1 := Scalar.cmpi .slt c512_i32 c0_i32_5
  let v13 : BitVec 32 := Scalar.extui v12
  let v14 : BitVec 32 := Scalar.subi v11 v13
  let v15 : BitVec 1 := Scalar.cmpi .ne v9 v14
  let v16 : BitVec 32 := Scalar.remsi v3 c512_i32
  let c0_i32_6 : BitVec 32 := 0#32
  let v17 : BitVec 1 := Scalar.cmpi .ne v16 c0_i32_6
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let c1_i32_37 : BitVec 32 := 1#32
  let v85 : BitVec 32 := Scalar.addi v20 c1_i32_37
  let v86 : BitVec 32 := Scalar.subi v85 c0_i32_39
  let c1_i32_40 : BitVec 32 := 1#32
  let v88 : BitVec 32 := Scalar.divsi v86 c1_i32_40
  let v89 : BitVec 32 := Scalar.muli v88 c1_i32_40
  let v90 : BitVec 32 := Scalar.addi c0_i32_39 v89
  let c1_i32_42 : BitVec 32 := 1#32
  let arg10 : BitVec 32 := Scf.iv v90 c1_i32_42 k0_t4
  let c512_i32_90 : BitVec 32 := 512#32
  let v169 : BitVec 32 := Scalar.muli arg10 c512_i32_90
  v169
def k0_off9 (i : grid0.Coords) (k0_t4 : Fin (k0_t4_loop i).trips) : Fin 2 → Nat :=
  let c0_91 : Index := 0#32
  let c0_i32_39 : BitVec 32 := 0#32
  let arg1 : BitVec 32 := BitVec.ofNat 32 (i 1).val
  let c256_i32 : BitVec 32 := 256#32
  let v3 : BitVec 32 := Scalar.muli arg1 c256_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32 : BitVec 32 := 512#32
  let c0_i32_4 : BitVec 32 := 0#32
  let v10 : BitVec 1 := Scalar.cmpi .sgt c512_i32 c0_i32_4
  let v11 : BitVec 32 := Scalar.extui v10
  let c0_i32_5 : BitVec 32 := 0#32
  let v12 : BitVec 1 := Scalar.cmpi .slt c512_i32 c0_i32_5
  let v13 : BitVec 32 := Scalar.extui v12
  let v14 : BitVec 32 := Scalar.subi v11 v13
  let v15 : BitVec 1 := Scalar.cmpi .ne v9 v14
  let v16 : BitVec 32 := Scalar.remsi v3 c512_i32
  let c0_i32_6 : BitVec 32 := 0#32
  let v17 : BitVec 1 := Scalar.cmpi .ne v16 c0_i32_6
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let c1_i32_37 : BitVec 32 := 1#32
  let v85 : BitVec 32 := Scalar.addi v20 c1_i32_37
  let v86 : BitVec 32 := Scalar.subi v85 c0_i32_39
  let c1_i32_40 : BitVec 32 := 1#32
  let v88 : BitVec 32 := Scalar.divsi v86 c1_i32_40
  let v89 : BitVec 32 := Scalar.muli v88 c1_i32_40
  let v90 : BitVec 32 := Scalar.addi c0_i32_39 v89
  let c1_i32_42 : BitVec 32 := 1#32
  let arg10 : BitVec 32 := Scf.iv v90 c1_i32_42 k0_t4
  let c512_i32_90 : BitVec 32 := 512#32
  let v169 : BitVec 32 := Scalar.muli arg10 c512_i32_90
  let v170 : BitVec 32 := v169
  let v171 : Index := Scalar.indexCast v170
  ![0, v171.toNat]
def k0_off10 (i : grid0.Coords) (k0_t4 : Fin (k0_t4_loop i).trips) : Fin 3 → Nat :=
  let c0_98 : Index := 0#32
  let c0_i32_39 : BitVec 32 := 0#32
  let arg1 : BitVec 32 := BitVec.ofNat 32 (i 1).val
  let c256_i32 : BitVec 32 := 256#32
  let v3 : BitVec 32 := Scalar.muli arg1 c256_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c512_i32 : BitVec 32 := 512#32
  let c0_i32_4 : BitVec 32 := 0#32
  let v10 : BitVec 1 := Scalar.cmpi .sgt c512_i32 c0_i32_4
  let v11 : BitVec 32 := Scalar.extui v10
  let c0_i32_5 : BitVec 32 := 0#32
  let v12 : BitVec 1 := Scalar.cmpi .slt c512_i32 c0_i32_5
  let v13 : BitVec 32 := Scalar.extui v12
  let v14 : BitVec 32 := Scalar.subi v11 v13
  let v15 : BitVec 1 := Scalar.cmpi .ne v9 v14
  let v16 : BitVec 32 := Scalar.remsi v3 c512_i32
  let c0_i32_6 : BitVec 32 := 0#32
  let v17 : BitVec 1 := Scalar.cmpi .ne v16 c0_i32_6
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let c1_i32_37 : BitVec 32 := 1#32
  let v85 : BitVec 32 := Scalar.addi v20 c1_i32_37
  let v86 : BitVec 32 := Scalar.subi v85 c0_i32_39
  let c1_i32_40 : BitVec 32 := 1#32
  let v88 : BitVec 32 := Scalar.divsi v86 c1_i32_40
  let v89 : BitVec 32 := Scalar.muli v88 c1_i32_40
  let v90 : BitVec 32 := Scalar.addi c0_i32_39 v89
  let c1_i32_42 : BitVec 32 := 1#32
  let arg10 : BitVec 32 := Scf.iv v90 c1_i32_42 k0_t4
  let c512_i32_90 : BitVec 32 := 512#32
  let v169 : BitVec 32 := Scalar.muli arg10 c512_i32_90
  let v170 : BitVec 32 := v169
  let v199 : Index := Scalar.indexCast v170
  let c0_99 : Index := 0#32
  ![0, v199.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel2Ideal.lean ====
variable {F : FTy → Type} [FloatOps F] [Named F]
def κ : String → Option EReal := fun
  | "mask" => some ⊥
  | "scale2" => some (((Real.sqrt 192)⁻¹ * (Real.log 2)⁻¹ : ℝ) : EReal)
  | _ => none
-- ==== Reference2.lean ====
abbrev S16x8x4096x384 : Shape := ⟨4, ![16, 8, 4096, 384]⟩
abbrev S16x4096x384 : Shape := ⟨3, ![16, 4096, 384]⟩
abbrev S256x8x128 : Shape := ⟨3, ![256, 8, 128]⟩
abbrev S16x8x4096x256 : Shape := ⟨4, ![16, 8, 4096, 256]⟩
abbrev S16x8x4096x128 : Shape := ⟨4, ![16, 8, 4096, 128]⟩
abbrev S16x4096x256 : Shape := ⟨3, ![16, 4096, 256]⟩
abbrev S16x4096x128 : Shape := ⟨3, ![16, 4096, 128]⟩
abbrev S_ : Shape := ⟨0, ![]⟩
abbrev S16x8x4096x4096 : Shape := ⟨4, ![16, 8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S16x8x4096 : Shape := ⟨3, ![16, 8, 4096]⟩
abbrev S16x8x4096x1 : Shape := ⟨4, ![16, 8, 4096, 1]⟩
abbrev S16x256x8x4096 : Shape := ⟨4, ![16, 256, 8, 4096]⟩
abbrev S16x4096x8x256 : Shape := ⟨4, ![16, 4096, 8, 256]⟩
abbrev S8x128x16x4096 : Shape := ⟨4, ![8, 128, 16, 4096]⟩
abbrev S16x4096x8x128 : Shape := ⟨4, ![16, 4096, 8, 128]⟩
abbrev S16x4096x1024 : Shape := ⟨3, ![16, 4096, 1024]⟩

abbrev nBuf : Space → Nat
  | .hbm => 48
  | .vmem => 0
  | .smem => 0
  | _ => 0

abbrev bufTy : (tb : Table) → Fin (tcTables nBuf tb) → BufTy
  | .hbm, ⟨0, _⟩ => ⟨S16x8x4096x384, .bf16⟩
  | .hbm, ⟨1, _⟩ => ⟨S16x4096x384, .bf16⟩
  | .hbm, ⟨2, _⟩ => ⟨S256x8x128, .f32⟩
  | .hbm, ⟨3, _⟩ => ⟨S16x8x4096x384, .f32⟩
  | .hbm, ⟨4, _⟩ => ⟨S16x4096x384, .f32⟩
  | .hbm, ⟨5, _⟩ => ⟨S16x8x4096x256, .f32⟩
  | .hbm, ⟨6, _⟩ => ⟨S16x8x4096x128, .f32⟩
  | .hbm, ⟨7, _⟩ => ⟨S16x4096x256, .f32⟩
  | .hbm, ⟨8, _⟩ => ⟨S16x4096x128, .f32⟩
  | .hbm, ⟨9, _⟩ => ⟨S_, .f32⟩
  | .hbm, ⟨10, _⟩ => ⟨S_, .f32⟩
  | .hbm, ⟨11, _⟩ => ⟨S16x8x4096x4096, .f32⟩
  | .hbm, ⟨12, _⟩ => ⟨S16x8x4096x4096, .f32⟩
  | .hbm, ⟨13, _⟩ => ⟨S16x8x4096x4096, .f32⟩
  | .hbm, ⟨14, _⟩ => ⟨S16x8x4096x4096, .f32⟩
  | .hbm, ⟨15, _⟩ => ⟨S16x8x4096x4096, .f32⟩
  | .hbm, ⟨16, _⟩ => ⟨S4096, .i32⟩
  | .hbm, ⟨17, _⟩ => ⟨S1x4096, .i32⟩
  | .hbm, ⟨18, _⟩ => ⟨S4096x1, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S1x1x4096x4096, .i1⟩
  | .hbm, ⟨23, _⟩ => ⟨S_, .f32⟩
  | .hbm, ⟨24, _⟩ => ⟨S_, .f32⟩
  | .hbm, ⟨25, _⟩ => ⟨S16x8x4096x4096, .i1⟩
  | .hbm, ⟨26, _⟩ => ⟨S16x8x4096x4096, .f32⟩
  | .hbm, ⟨27, _⟩ => ⟨S16x8x4096x4096, .f32⟩
  | .hbm, ⟨28, _⟩ => ⟨S_, .f32⟩
  | .hbm, ⟨29, _⟩ => ⟨S16x8x4096, .f32⟩
  | .hbm, ⟨30, _⟩ => ⟨S_, .f32⟩
  | .hbm, ⟨31, _⟩ => ⟨S16x8x4096, .f32⟩
  | .hbm, ⟨32, _⟩ => ⟨S16x8x4096, .f32⟩
  | .hbm, ⟨33, _⟩ => ⟨S16x8x4096x1, .f32⟩
  | .hbm, ⟨34, _⟩ => ⟨S16x8x4096x4096, .f32⟩
  | .hbm, ⟨35, _⟩ => ⟨S16x8x4096x4096, .f32⟩
  | .hbm, ⟨36, _⟩ => ⟨S16x8x4096x4096, .f32⟩
  | .hbm, ⟨37, _⟩ => ⟨S_, .f32⟩
  | .hbm, ⟨38, _⟩ => ⟨S16x8x4096, .f32⟩
  | .hbm, ⟨39, _⟩ => ⟨S16x8x4096x1, .f32⟩
  | .hbm, ⟨40, _⟩ => ⟨S16x8x4096x4096, .f32⟩
  | .hbm, ⟨41, _⟩ => ⟨S16x8x4096x4096, .f32⟩
  | .hbm, ⟨42, _⟩ => ⟨S16x256x8x4096, .f32⟩
  | .hbm, ⟨43, _⟩ => ⟨S16x4096x8x256, .f32⟩
  | .hbm, ⟨44, _⟩ => ⟨S8x128x16x4096, .f32⟩
  | .hbm, ⟨45, _⟩ => ⟨S16x4096x8x128, .f32⟩
  | .hbm, ⟨46, _⟩ => ⟨S16x4096x1024, .f32⟩
  | .hbm, ⟨47, _⟩ => ⟨S16x4096x1024, .bf16⟩
  | _, _ => ⟨S16x8x4096x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Kernel3.lean ====
abbrev S16x4096x1024 : Shape := ⟨3, ![16, 4096, 1024]⟩
abbrev S4x16x4096x256 : Shape := ⟨4, ![4, 16, 4096, 256]⟩
abbrev S1024x1024 : Shape := ⟨2, ![1024, 1024]⟩
abbrev S1024 : Shape := ⟨1, ![1024]⟩
abbrev S256x1024 : Shape := ⟨2, ![256, 1024]⟩
abbrev S1x1024 : Shape := ⟨2, ![1, 1024]⟩
abbrev S1x512x1024 : Shape := ⟨3, ![1, 512, 1024]⟩
abbrev S1x1x512x256 : Shape := ⟨4, ![1, 1, 512, 256]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩

abbrev nBuf : Space → Nat
  | .hbm => 15
  | .vmem => 15
  | .smem => 0
  | _ => 0

abbrev bufTy : (tb : Table) → Fin (tcTables nBuf tb) → BufTy
  | .hbm, ⟨0, _⟩ => ⟨S16x4096x1024, .bf16⟩
  | .hbm, ⟨1, _⟩ => ⟨S16x4096x1024, .bf16⟩
  | .hbm, ⟨2, _⟩ => ⟨S16x4096x1024, .f32⟩
  | .hbm, ⟨3, _⟩ => ⟨S4x16x4096x256, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S256x1024, .f32⟩
  | .hbm, ⟨8, _⟩ => ⟨S1024, .f32⟩
  | .hbm, ⟨9, _⟩ => ⟨S1024x1024, .bf16⟩
  | .hbm, ⟨10, _⟩ => ⟨S1x1024, .f32⟩
  | .hbm, ⟨11, _⟩ => ⟨S1024x1024, .bf16⟩
  | .hbm, ⟨12, _⟩ => ⟨S256x1024, .bf16⟩
  | .hbm, ⟨13, _⟩ => ⟨S1x1024, .f32⟩
  | .hbm, ⟨14, _⟩ => ⟨S16x4096x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .f32⟩
  | .local _ .vmem, ⟨5, _⟩ => ⟨S1x512x1024, .f32⟩
  | .local _ .vmem, ⟨6, _⟩ => ⟨S1x1x512x256, .f32⟩
  | .local _ .vmem, ⟨7, _⟩ => ⟨S1x1x512x256, .f32⟩
  | .local _ .vmem, ⟨8, _⟩ => ⟨S1024x1024, .bf16⟩
  | .local _ .vmem, ⟨9, _⟩ => ⟨S1x1024, .f32⟩
  | .local _ .vmem, ⟨10, _⟩ => ⟨S1024x1024, .bf16⟩
  | .local _ .vmem, ⟨11, _⟩ => ⟨S256x1024, .bf16⟩
  | .local _ .vmem, ⟨12, _⟩ => ⟨S1x1024, .f32⟩
  | .local _ .vmem, ⟨13, _⟩ => ⟨S1x512x1024, .f32⟩
  | .local _ .vmem, ⟨14, _⟩ => ⟨S1x512x1024, .f32⟩
  | _, _ => ⟨S16x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3.lean ====
abbrev S16x4096x1024 : Shape := ⟨3, ![16, 4096, 1024]⟩
abbrev S4x16x4096x256 : Shape := ⟨4, ![4, 16, 4096, 256]⟩
abbrev S1024x1024 : Shape := ⟨2, ![1024, 1024]⟩
abbrev S1024 : Shape := ⟨1, ![1024]⟩
abbrev S256x1024 : Shape := ⟨2, ![256, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S1x16x4096x256 : Shape := ⟨4, ![1, 16, 4096, 256]⟩
abbrev S16x4096x256 : Shape := ⟨3, ![16, 4096, 256]⟩

abbrev nBuf : Space → Nat
  | .hbm => 69
  | .vmem => 0
  | .smem => 0
  | _ => 0

abbrev bufTy : (tb : Table) → Fin (tcTables nBuf tb) → BufTy
  | .hbm, ⟨0, _⟩ => ⟨S16x4096x1024, .bf16⟩
  | .hbm, ⟨1, _⟩ => ⟨S16x4096x1024, .bf16⟩
  | .hbm, ⟨2, _⟩ => ⟨S16x4096x1024, .f32⟩
  | .hbm, ⟨3, _⟩ => ⟨S4x16x4096x256, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S256x1024, .f32⟩
  | .hbm, ⟨8, _⟩ => ⟨S1024, .f32⟩
  | .hbm, ⟨9, _⟩ => ⟨S16x4096x1024, .f32⟩
  | .hbm, ⟨10, _⟩ => ⟨S16x4096x1024, .f32⟩
  | .hbm, ⟨11, _⟩ => ⟨S16x4096x1024, .f32⟩
  | .hbm, ⟨12, _⟩ => ⟨S16x4096x1024, .f32⟩
  | .hbm, ⟨13, _⟩ => ⟨S_, .f32⟩
  | .hbm, ⟨14, _⟩ => ⟨S16x4096x1024, .f32⟩
  | .hbm, ⟨15, _⟩ => ⟨S16x4096x1024, .f32⟩
  | .hbm, ⟨16, _⟩ => ⟨S_, .f32⟩
  | .hbm, ⟨17, _⟩ => ⟨S16x4096x1024, .f32⟩
  | .hbm, ⟨18, _⟩ => ⟨S16x4096x1024, .f32⟩
  | .hbm, ⟨19, _⟩ => ⟨S16x4096x1024, .f32⟩
  | .hbm, ⟨20, _⟩ => ⟨S16x4096x1024, .f32⟩
  | .hbm, ⟨21, _⟩ => ⟨S16x4096x1024, .f32⟩
  | .hbm, ⟨22, _⟩ => ⟨S16x4096x1024, .f32⟩
  | .hbm, ⟨23, _⟩ => ⟨S16x4096x1024, .f32⟩
  | .hbm, ⟨24, _⟩ => ⟨S_, .f32⟩
  | .hbm, ⟨25, _⟩ => ⟨S16x4096, .f32⟩
  | .hbm, ⟨26, _⟩ => ⟨S16x4096x1, .f32⟩
  | .hbm, ⟨27, _⟩ => ⟨S_, .f32⟩
  | .hbm, ⟨28, _⟩ => ⟨S16x4096x1, .f32⟩
  | .hbm, ⟨29, _⟩ => ⟨S16x4096x1, .f32⟩
  | .hbm, ⟨30, _⟩ => ⟨S_, .f32⟩
  | .hbm, ⟨31, _⟩ => ⟨S16x4096x1, .f32⟩
  | .hbm, ⟨32, _⟩ => ⟨S16x4096x1, .f32⟩
  | .hbm, ⟨33, _⟩ => ⟨S16x4096x1, .f32⟩
  | .hbm, ⟨34, _⟩ => ⟨S16x4096x1024, .f32⟩
  | .hbm, ⟨35, _⟩ => ⟨S16x4096x1024, .f32⟩
  | .hbm, ⟨36, _⟩ => ⟨S1x1x1024, .f32⟩
  | .hbm, ⟨37, _⟩ => ⟨S16x4096x1024, .f32⟩
  | .hbm, ⟨38, _⟩ => ⟨S16x4096x1024, .f32⟩
  | .hbm, ⟨39, _⟩ => ⟨S16x4096x1024, .f32⟩
  | .hbm, ⟨40, _⟩ => ⟨S16x4096x1024, .f32⟩
  | .hbm, ⟨41, _⟩ => ⟨S16x4096x1024, .f32⟩
  | .hbm, ⟨42, _⟩ => ⟨S_, .f32⟩
  | .hbm, ⟨43, _⟩ => ⟨S16x4096x1024, .f32⟩
  | .hbm, ⟨44, _⟩ => ⟨S16x4096x1024, .f32⟩
  | .hbm, ⟨45, _⟩ => ⟨S_, .f32⟩
  | .hbm, ⟨46, _⟩ => ⟨S16x4096x1024, .f32⟩
  | .hbm, ⟨47, _⟩ => ⟨S16x4096x1024, .f32⟩
  | .hbm, ⟨48, _⟩ => ⟨S1x16x4096x256, .f32⟩
  | .hbm, ⟨49, _⟩ => ⟨S16x4096x256, .f32⟩
  | .hbm, ⟨50, _⟩ => ⟨S16x4096x1024, .f32⟩
  | .hbm, ⟨51, _⟩ => ⟨S16x4096x1024, .f32⟩
  | .hbm, ⟨52, _⟩ => ⟨S16x4096x1024, .f32⟩
  | .hbm, ⟨53, _⟩ => ⟨S16x4096x1024, .f32⟩
  | .hbm, ⟨54, _⟩ => ⟨S_, .f32⟩
  | .hbm, ⟨55, _⟩ => ⟨S16x4096, .f32⟩
  | .hbm, ⟨56, _⟩ => ⟨S16x4096x1, .f32⟩
  | .hbm, ⟨57, _⟩ => ⟨S_, .f32⟩
  | .hbm, ⟨58, _⟩ => ⟨S16x4096x1, .f32⟩
  | .hbm, ⟨59, _⟩ => ⟨S16x4096x1, .f32⟩
  | .hbm, ⟨60, _⟩ => ⟨S_, .f32⟩
  | .hbm, ⟨61, _⟩ => ⟨S16x4096x1, .f32⟩
  | .hbm, ⟨62, _⟩ => ⟨S16x4096x1, .f32⟩
  | .hbm, ⟨63, _⟩ => ⟨S16x4096x1, .f32⟩
  | .hbm, ⟨64, _⟩ => ⟨S16x4096x1024, .f32⟩
  | .hbm, ⟨65, _⟩ => ⟨S16x4096x1024, .f32⟩
  | .hbm, ⟨66, _⟩ => ⟨S1x1x1024, .f32⟩
  | .hbm, ⟨67, _⟩ => ⟨S16x4096x1024, .f32⟩
  | .hbm, ⟨68, _⟩ => ⟨S16x4096x1024, .f32⟩
  | _, _ => ⟨S16x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_2 : Ref sig .tc := ⟨.hbm, 42, rfl⟩
abbrev main_v22 : Ref sig .tc := ⟨.hbm, 43, rfl⟩
abbrev main_v23 : Ref sig .tc := ⟨.hbm, 44, rfl⟩
abbrev main_cst_3 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_4 : Ref sig .tc := ⟨.hbm, 54, rfl⟩
abbrev main_v32 : Ref sig .tc := ⟨.hbm, 55, rfl⟩
abbrev main_v33 : Ref sig .tc := ⟨.hbm, 56, rfl⟩
abbrev main_cst_5 : Ref sig .tc := ⟨.hbm, 57, rfl⟩
abbrev main_v34 : Ref sig .tc := ⟨.hbm, 58, rfl⟩
abbrev main_v35 : Ref sig .tc := ⟨.hbm, 59, rfl⟩
abbrev main_cst_6 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩

abbrev nD : Nat := 1
abbrev τ : Topo := Topo.v7x

variable {F : FTy → Type} [FloatOps F]
-- ==== Kernel4.lean ====
abbrev S16x4096x1024 : Shape := ⟨3, ![16, 4096, 1024]⟩
abbrev S16x96x4096 : Shape := ⟨3, ![16, 96, 4096]⟩
abbrev S1024 : Shape := ⟨1, ![1024]⟩
abbrev S1024x3144 : Shape := ⟨2, ![1024, 3144]⟩
abbrev S1024x1024 : Shape := ⟨2, ![1024, 1024]⟩
abbrev S1024x256 : Shape := ⟨2, ![1024, 256]⟩
abbrev S1024x512 : Shape := ⟨2, ![1024, 512]⟩
abbrev S1024x64 : Shape := ⟨2, ![1024, 64]⟩
abbrev S1024x8 : Shape := ⟨2, ![1024, 8]⟩
abbrev S_ : Shape := ⟨0, ![]⟩
abbrev S1024x2192 : Shape := ⟨2, ![1024, 2192]⟩
abbrev S2192x1024 : Shape := ⟨2, ![2192, 1024]⟩
abbrev S1x1024 : Shape := ⟨2, ![1, 1024]⟩
abbrev S16x1024x4096 : Shape := ⟨3, ![16, 1024, 4096]⟩
abbrev S16x512x4096 : Shape := ⟨3, ![16, 512, 4096]⟩
abbrev S16x2x4096x128 : Shape := ⟨4, ![16, 2, 4096, 128]⟩
abbrev S16x4096x64 : Shape := ⟨3, ![16, 4096, 64]⟩
abbrev S16x256x4096 : Shape := ⟨3, ![16, 256, 4096]⟩
abbrev S16x8x4096 : Shape := ⟨3, ![16, 8, 4096]⟩
abbrev S1x512x1024 : Shape := ⟨3, ![1, 512, 1024]⟩
abbrev S1x96x512 : Shape := ⟨3, ![1, 96, 512]⟩
abbrev S1x1024x512 : Shape := ⟨3, ![1, 1024, 512]⟩
abbrev S1x512x512 : Shape := ⟨3, ![1, 512, 512]⟩
abbrev S1x2x512x128 : Shape := ⟨4, ![1, 2, 512, 128]⟩
abbrev S1x512x64 : Shape := ⟨3, ![1, 512, 64]⟩
abbrev S1x256x512 : Shape := ⟨3, ![1, 256, 512]⟩
abbrev S1x8x512 : Shape := ⟨3, ![1, 8, 512]⟩
abbrev S512x1024 : Shape := ⟨2, ![512, 1024]⟩
abbrev S512 : Shape := ⟨1, ![512]⟩
abbrev S512x1 : Shape := ⟨2, ![512, 1]⟩
abbrev S2192x512 : Shape := ⟨2, ![2192, 512]⟩
abbrev S1x64x512 : Shape := ⟨3, ![1, 64, 512]⟩
abbrev S64x512 : Shape := ⟨2, ![64, 512]⟩
abbrev S1x32x512 : Shape := ⟨3, ![1, 32, 512]⟩
abbrev S32x512 : Shape := ⟨2, ![32, 512]⟩
abbrev S128x512 : Shape := ⟨2, ![128, 512]⟩
abbrev S512x128 : Shape := ⟨2, ![512, 128]⟩
abbrev S1x1x512x128 : Shape := ⟨4, ![1, 1, 512, 128]⟩
abbrev S512x64 : Shape := ⟨2, ![512, 64]⟩
abbrev S256x512 : Shape := ⟨2, ![256, 512]⟩
abbrev S8x512 : Shape := ⟨2, ![8, 512]⟩

abbrev nBuf : Space → Nat
  | .hbm => 28
  | .vmem => 23
  | .smem => 0
  | _ => 0

abbrev bufTy : (tb : Table) → Fin (tcTables nBuf tb) → BufTy
  | .hbm, ⟨0, _⟩ => ⟨S16x4096x1024, .f32⟩
  | .hbm, ⟨1, _⟩ => ⟨S16x96x4096, .f32⟩
  | .hbm, ⟨2, _⟩ => ⟨S16x96x4096, .f32⟩
  | .hbm, ⟨3, _⟩ => ⟨S1024, .f32⟩
  | .hbm, ⟨4, _⟩ => ⟨S1024x3144, .f32⟩
  | .hbm, ⟨5, _⟩ => ⟨S1024x1024, .f32⟩
  | .hbm, ⟨6, _⟩ => ⟨S1024x256, .f32⟩
  | .hbm, ⟨7, _⟩ => ⟨S1024x256, .f32⟩
  | .hbm, ⟨8, _⟩ => ⟨S1024x512, .f32⟩
  | .hbm, ⟨9, _⟩ => ⟨S1024x64, .f32⟩
  | .hbm, ⟨10, _⟩ => ⟨S1024x8, .f32⟩
  | .hbm, ⟨11, _⟩ => ⟨S1024x1024, .f32⟩
  | .hbm, ⟨12, _⟩ => ⟨S_, .f32⟩
  | .hbm, ⟨13, _⟩ => ⟨S1024x64, .f32⟩
  | .hbm, ⟨14, _⟩ => ⟨S_, .f32⟩
  | .hbm, ⟨15, _⟩ => ⟨S1024x8, .f32⟩
  | .hbm, ⟨16, _⟩ => ⟨S1024x2192, .f32⟩
  | .hbm, ⟨17, _⟩ => ⟨S2192x1024, .f32⟩
  | .hbm, ⟨18, _⟩ => ⟨S2192x1024, .bf16⟩
  | .hbm, ⟨19, _⟩ => ⟨S1x1024, .f32⟩
  | .hbm, ⟨20, _⟩ => ⟨S1024x1024, .bf16⟩
  | .hbm, ⟨21, _⟩ => ⟨S16x1024x4096, .bf16⟩
  | .hbm, ⟨22, _⟩ => ⟨S16x512x4096, .bf16⟩
  | .hbm, ⟨23, _⟩ => ⟨S16x2x4096x128, .bf16⟩
  | .hbm, ⟨24, _⟩ => ⟨S16x4096x64, .bf16⟩
  | .hbm, ⟨25, _⟩ => ⟨S16x256x4096, .bf16⟩
  | .hbm, ⟨26, _⟩ => ⟨S16x8x4096, .f32⟩
  | .hbm, ⟨27, _⟩ => ⟨S16x4096x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x96x512, .f32⟩
  | .local _ .vmem, ⟨3, _⟩ => ⟨S1x96x512, .f32⟩
  | .local _ .vmem, ⟨4, _⟩ => ⟨S1x96x512, .f32⟩
  | .local _ .vmem, ⟨5, _⟩ => ⟨S1x96x512, .f32⟩
  | .local _ .vmem, ⟨6, _⟩ => ⟨S1x1024, .f32⟩
  | .local _ .vmem, ⟨7, _⟩ => ⟨S2192x1024, .bf16⟩
  | .local _ .vmem, ⟨8, _⟩ => ⟨S1024x1024, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x2x512x128, .bf16⟩
  | .local _ .vmem, ⟨14, _⟩ => ⟨S1x2x512x128, .bf16⟩
  | .local _ .vmem, ⟨15, _⟩ => ⟨S1x512x64, .bf16⟩
  | .local _ .vmem, ⟨16, _⟩ => ⟨S1x512x64, .bf16⟩
  | .local _ .vmem, ⟨17, _⟩ => ⟨S1x256x512, .bf16⟩
  | .local _ .vmem, ⟨18, _⟩ => ⟨S1x256x512, .bf16⟩
  | .local _ .vmem, ⟨19, _⟩ => ⟨S1x8x512, .f32⟩
  | .local _ .vmem, ⟨20, _⟩ => ⟨S1x8x512, .f32⟩
  | .local _ .vmem, ⟨21, _⟩ => ⟨S1x512x1024, .bf16⟩
  | .local _ .vmem, ⟨22, _⟩ => ⟨S1x512x1024, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev main_v14_2 : Ref sig .tc := ⟨.hbm, 23, rfl⟩
abbrev main_v14_3 : Ref sig .tc := ⟨.hbm, 24, rfl⟩
abbrev main_v14_4 : Ref sig .tc := ⟨.hbm, 25, rfl⟩
abbrev main_v14_5 : Ref sig .tc := ⟨.hbm, 26, rfl⟩
abbrev main_v14_6 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x96x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x96x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2192x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference4.lean ====
abbrev S16x4096x1024 : Shape := ⟨3, ![16, 4096, 1024]⟩
abbrev S16x96x4096 : Shape := ⟨3, ![16, 96, 4096]⟩
abbrev S1024 : Shape := ⟨1, ![1024]⟩
abbrev S1024x3144 : Shape := ⟨2, ![1024, 3144]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x3144 : Shape := ⟨3, ![16, 4096, 3144]⟩
abbrev S16x4096x256 : Shape := ⟨3, ![16, 4096, 256]⟩
abbrev S16x4096x512 : Shape := ⟨3, ![16, 4096, 512]⟩
abbrev S16x4096x64 : Shape := ⟨3, ![16, 4096, 64]⟩
abbrev S16x4096x8 : Shape := ⟨3, ![16, 4096, 8]⟩
abbrev S16x4096x96 : Shape := ⟨3, ![16, 4096, 96]⟩
abbrev S16x4096x8x128 : Shape := ⟨4, ![16, 4096, 8, 128]⟩
abbrev S16x4096x1x64 : Shape := ⟨4, ![16, 4096, 1, 64]⟩
abbrev S16x4096x8x64 : Shape := ⟨4, ![16, 4096, 8, 64]⟩
abbrev S16x4096x2x128 : Shape := ⟨4, ![16, 4096, 2, 128]⟩
abbrev S16x4096x2x64 : Shape := ⟨4, ![16, 4096, 2, 64]⟩
abbrev S16x4096x32 : Shape := ⟨3, ![16, 4096, 32]⟩
abbrev S16x4096x1x32 : Shape := ⟨4, ![16, 4096, 1, 32]⟩
abbrev S16x4096x8x32 : Shape := ⟨4, ![16, 4096, 8, 32]⟩
abbrev S16x8x128x4096 : Shape := ⟨4, ![16, 8, 128, 4096]⟩
abbrev S16x1024x4096 : Shape := ⟨3, ![16, 1024, 4096]⟩
abbrev S16x8x64x4096 : Shape := ⟨4, ![16, 8, 64, 4096]⟩
abbrev S16x512x4096 : Shape := ⟨3, ![16, 512, 4096]⟩
abbrev S16x2x4096x128 : Shape := ⟨4, ![16, 2, 4096, 128]⟩
abbrev S16x256x4096 : Shape := ⟨3, ![16, 256, 4096]⟩
abbrev S16x8x4096 : Shape := ⟨3, ![16, 8, 4096]⟩

abbrev nBuf : Space → Nat
  | .hbm => 115
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x96x4096, .f32⟩
  | .hbm, ⟨2, _⟩ => ⟨S16x96x4096, .f32⟩
  | .hbm, ⟨3, _⟩ => ⟨S1024, .f32⟩
  | .hbm, ⟨4, _⟩ => ⟨S1024x3144, .f32⟩
  | .hbm, ⟨5, _⟩ => ⟨S16x4096x1024, .f32⟩
  | .hbm, ⟨6, _⟩ => ⟨S_, .f32⟩
  | .hbm, ⟨7, _⟩ => ⟨S16x4096, .f32⟩
  | .hbm, ⟨8, _⟩ => ⟨S16x4096x1, .f32⟩
  | .hbm, ⟨9, _⟩ => ⟨S_, .f32⟩
  | .hbm, ⟨10, _⟩ => ⟨S16x4096x1, .f32⟩
  | .hbm, ⟨11, _⟩ => ⟨S16x4096x1, .f32⟩
  | .hbm, ⟨12, _⟩ => ⟨S_, .f32⟩
  | .hbm, ⟨13, _⟩ => ⟨S16x4096x1, .f32⟩
  | .hbm, ⟨14, _⟩ => ⟨S16x4096x1, .f32⟩
  | .hbm, ⟨15, _⟩ => ⟨S16x4096x1, .f32⟩
  | .hbm, ⟨16, _⟩ => ⟨S16x4096x1024, .f32⟩
  | .hbm, ⟨17, _⟩ => ⟨S16x4096x1024, .f32⟩
  | .hbm, ⟨18, _⟩ => ⟨S1x1x1024, .f32⟩
  | .hbm, ⟨19, _⟩ => ⟨S16x4096x1024, .f32⟩
  | .hbm, ⟨20, _⟩ => ⟨S16x4096x1024, .f32⟩
  | .hbm, ⟨21, _⟩ => ⟨S16x4096x3144, .f32⟩
  | .hbm, ⟨22, _⟩ => ⟨S16x4096x1024, .f32⟩
  | .hbm, ⟨23, _⟩ => ⟨S16x4096x256, .f32⟩
  | .hbm, ⟨24, _⟩ => ⟨S16x4096x256, .f32⟩
  | .hbm, ⟨25, _⟩ => ⟨S16x4096x512, .f32⟩
  | .hbm, ⟨26, _⟩ => ⟨S16x4096x64, .f32⟩
  | .hbm, ⟨27, _⟩ => ⟨S16x4096x8, .f32⟩
  | .hbm, ⟨28, _⟩ => ⟨S16x4096x1024, .f32⟩
  | .hbm, ⟨29, _⟩ => ⟨S16x4096x96, .f32⟩
  | .hbm, ⟨30, _⟩ => ⟨S16x4096x96, .f32⟩
  | .hbm, ⟨31, _⟩ => ⟨S16x4096x8x128, .f32⟩
  | .hbm, ⟨32, _⟩ => ⟨S16x4096x64, .f32⟩
  | .hbm, ⟨33, _⟩ => ⟨S16x4096x1x64, .f32⟩
  | .hbm, ⟨34, _⟩ => ⟨S16x4096x64, .f32⟩
  | .hbm, ⟨35, _⟩ => ⟨S16x4096x1x64, .f32⟩
  | .hbm, ⟨36, _⟩ => ⟨S16x4096x8x64, .f32⟩
  | .hbm, ⟨37, _⟩ => ⟨S16x4096x8x64, .f32⟩
  | .hbm, ⟨38, _⟩ => ⟨S16x4096x8x64, .f32⟩
  | .hbm, ⟨39, _⟩ => ⟨S16x4096x8x64, .f32⟩
  | .hbm, ⟨40, _⟩ => ⟨S16x4096x8x64, .f32⟩
  | .hbm, ⟨41, _⟩ => ⟨S16x4096x8x64, .f32⟩
  | .hbm, ⟨42, _⟩ => ⟨S16x4096x8x64, .f32⟩
  | .hbm, ⟨43, _⟩ => ⟨S16x4096x8x64, .f32⟩
  | .hbm, ⟨44, _⟩ => ⟨S16x4096x8x64, .f32⟩
  | .hbm, ⟨45, _⟩ => ⟨S16x4096x8x64, .f32⟩
  | .hbm, ⟨46, _⟩ => ⟨S16x4096x8x64, .f32⟩
  | .hbm, ⟨47, _⟩ => ⟨S16x4096x8x64, .f32⟩
  | .hbm, ⟨48, _⟩ => ⟨S16x4096x8x128, .f32⟩
  | .hbm, ⟨49, _⟩ => ⟨S16x4096x2x128, .f32⟩
  | .hbm, ⟨50, _⟩ => ⟨S16x4096x64, .f32⟩
  | .hbm, ⟨51, _⟩ => ⟨S16x4096x1x64, .f32⟩
  | .hbm, ⟨52, _⟩ => ⟨S16x4096x64, .f32⟩
  | .hbm, ⟨53, _⟩ => ⟨S16x4096x1x64, .f32⟩
  | .hbm, ⟨54, _⟩ => ⟨S16x4096x2x64, .f32⟩
  | .hbm, ⟨55, _⟩ => ⟨S16x4096x2x64, .f32⟩
  | .hbm, ⟨56, _⟩ => ⟨S16x4096x2x64, .f32⟩
  | .hbm, ⟨57, _⟩ => ⟨S16x4096x2x64, .f32⟩
  | .hbm, ⟨58, _⟩ => ⟨S16x4096x2x64, .f32⟩
  | .hbm, ⟨59, _⟩ => ⟨S16x4096x2x64, .f32⟩
  | .hbm, ⟨60, _⟩ => ⟨S16x4096x2x64, .f32⟩
  | .hbm, ⟨61, _⟩ => ⟨S16x4096x2x64, .f32⟩
  | .hbm, ⟨62, _⟩ => ⟨S16x4096x2x64, .f32⟩
  | .hbm, ⟨63, _⟩ => ⟨S16x4096x2x64, .f32⟩
  | .hbm, ⟨64, _⟩ => ⟨S16x4096x2x64, .f32⟩
  | .hbm, ⟨65, _⟩ => ⟨S16x4096x2x64, .f32⟩
  | .hbm, ⟨66, _⟩ => ⟨S16x4096x2x128, .f32⟩
  | .hbm, ⟨67, _⟩ => ⟨S16x4096x8x64, .f32⟩
  | .hbm, ⟨68, _⟩ => ⟨S16x4096x32, .f32⟩
  | .hbm, ⟨69, _⟩ => ⟨S16x4096x1x32, .f32⟩
  | .hbm, ⟨70, _⟩ => ⟨S16x4096x32, .f32⟩
  | .hbm, ⟨71, _⟩ => ⟨S16x4096x1x32, .f32⟩
  | .hbm, ⟨72, _⟩ => ⟨S16x4096x8x32, .f32⟩
  | .hbm, ⟨73, _⟩ => ⟨S16x4096x8x32, .f32⟩
  | .hbm, ⟨74, _⟩ => ⟨S16x4096x8x32, .f32⟩
  | .hbm, ⟨75, _⟩ => ⟨S16x4096x8x32, .f32⟩
  | .hbm, ⟨76, _⟩ => ⟨S16x4096x8x32, .f32⟩
  | .hbm, ⟨77, _⟩ => ⟨S16x4096x8x32, .f32⟩
  | .hbm, ⟨78, _⟩ => ⟨S16x4096x8x32, .f32⟩
  | .hbm, ⟨79, _⟩ => ⟨S16x4096x8x32, .f32⟩
  | .hbm, ⟨80, _⟩ => ⟨S16x4096x8x32, .f32⟩
  | .hbm, ⟨81, _⟩ => ⟨S16x4096x8x32, .f32⟩
  | .hbm, ⟨82, _⟩ => ⟨S16x4096x8x32, .f32⟩
  | .hbm, ⟨83, _⟩ => ⟨S16x4096x8x32, .f32⟩
  | .hbm, ⟨84, _⟩ => ⟨S16x4096x8x64, .f32⟩
  | .hbm, ⟨85, _⟩ => ⟨S16x4096x32, .f32⟩
  | .hbm, ⟨86, _⟩ => ⟨S16x4096x32, .f32⟩
  | .hbm, ⟨87, _⟩ => ⟨S16x4096x32, .f32⟩
  | .hbm, ⟨88, _⟩ => ⟨S16x4096x32, .f32⟩
  | .hbm, ⟨89, _⟩ => ⟨S16x4096x32, .f32⟩
  | .hbm, ⟨90, _⟩ => ⟨S16x4096x32, .f32⟩
  | .hbm, ⟨91, _⟩ => ⟨S16x4096x32, .f32⟩
  | .hbm, ⟨92, _⟩ => ⟨S16x4096x32, .f32⟩
  | .hbm, ⟨93, _⟩ => ⟨S16x4096x32, .f32⟩
  | .hbm, ⟨94, _⟩ => ⟨S16x4096x32, .f32⟩
  | .hbm, ⟨95, _⟩ => ⟨S16x4096x64, .f32⟩
  | .hbm, ⟨96, _⟩ => ⟨S16x8x128x4096, .f32⟩
  | .hbm, ⟨97, _⟩ => ⟨S16x1024x4096, .f32⟩
  | .hbm, ⟨98, _⟩ => ⟨S_, .f32⟩
  | .hbm, ⟨99, _⟩ => ⟨S16x4096x8x64, .f32⟩
  | .hbm, ⟨100, _⟩ => ⟨S16x4096x8x64, .f32⟩
  | .hbm, ⟨101, _⟩ => ⟨S16x8x64x4096, .f32⟩
  | .hbm, ⟨102, _⟩ => ⟨S16x512x4096, .f32⟩
  | .hbm, ⟨103, _⟩ => ⟨S16x1024x4096, .bf16⟩
  | .hbm, ⟨104, _⟩ => ⟨S16x512x4096, .bf16⟩
  | .hbm, ⟨105, _⟩ => ⟨S16x2x4096x128, .f32⟩
  | .hbm, ⟨106, _⟩ => ⟨S16x2x4096x128, .bf16⟩
  | .hbm, ⟨107, _⟩ => ⟨S16x4096x64, .bf16⟩
  | .hbm, ⟨108, _⟩ => ⟨S16x256x4096, .f32⟩
  | .hbm, ⟨109, _⟩ => ⟨S16x256x4096, .bf16⟩
  | .hbm, ⟨110, _⟩ => ⟨S_, .f32⟩
  | .hbm, ⟨111, _⟩ => ⟨S16x4096x8, .f32⟩
  | .hbm, ⟨112, _⟩ => ⟨S16x4096x8, .f32⟩
  | .hbm, ⟨113, _⟩ => ⟨S16x8x4096, .f32⟩
  | .hbm, ⟨114, _⟩ => ⟨S16x4096x1024, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_cst_2 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_cst_3 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩

abbrev nD : Nat := 1
abbrev τ : Topo := Topo.v7x

variable {F : FTy → Type} [FloatOps F]
-- ==== Kernel5.lean ====
abbrev S16x4096x1024 : Shape := ⟨3, ![16, 4096, 1024]⟩
abbrev S4x16x4096x256 : Shape := ⟨4, ![4, 16, 4096, 256]⟩
abbrev S1024x1024 : Shape := ⟨2, ![1024, 1024]⟩
abbrev S1024 : Shape := ⟨1, ![1024]⟩
abbrev S256x1024 : Shape := ⟨2, ![256, 1024]⟩
abbrev S1x1024 : Shape := ⟨2, ![1, 1024]⟩
abbrev S1x512x1024 : Shape := ⟨3, ![1, 512, 1024]⟩
abbrev S1x1x512x256 : Shape := ⟨4, ![1, 1, 512, 256]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩

abbrev nBuf : Space → Nat
  | .hbm => 15
  | .vmem => 15
  | .smem => 0
  | _ => 0

abbrev bufTy : (tb : Table) → Fin (tcTables nBuf tb) → BufTy
  | .hbm, ⟨0, _⟩ => ⟨S16x4096x1024, .bf16⟩
  | .hbm, ⟨1, _⟩ => ⟨S16x4096x1024, .bf16⟩
  | .hbm, ⟨2, _⟩ => ⟨S16x4096x1024, .f32⟩
  | .hbm, ⟨3, _⟩ => ⟨S4x16x4096x256, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S256x1024, .f32⟩
  | .hbm, ⟨8, _⟩ => ⟨S1024, .f32⟩
  | .hbm, ⟨9, _⟩ => ⟨S1024x1024, .bf16⟩
  | .hbm, ⟨10, _⟩ => ⟨S1x1024, .f32⟩
  | .hbm, ⟨11, _⟩ => ⟨S1024x1024, .bf16⟩
  | .hbm, ⟨12, _⟩ => ⟨S256x1024, .bf16⟩
  | .hbm, ⟨13, _⟩ => ⟨S1x1024, .f32⟩
  | .hbm, ⟨14, _⟩ => ⟨S16x4096x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .f32⟩
  | .local _ .vmem, ⟨5, _⟩ => ⟨S1x512x1024, .f32⟩
  | .local _ .vmem, ⟨6, _⟩ => ⟨S1x1x512x256, .f32⟩
  | .local _ .vmem, ⟨7, _⟩ => ⟨S1x1x512x256, .f32⟩
  | .local _ .vmem, ⟨8, _⟩ => ⟨S1024x1024, .bf16⟩
  | .local _ .vmem, ⟨9, _⟩ => ⟨S1x1024, .f32⟩
  | .local _ .vmem, ⟨10, _⟩ => ⟨S1024x1024, .bf16⟩
  | .local _ .vmem, ⟨11, _⟩ => ⟨S256x1024, .bf16⟩
  | .local _ .vmem, ⟨12, _⟩ => ⟨S1x1024, .f32⟩
  | .local _ .vmem, ⟨13, _⟩ => ⟨S1x512x1024, .f32⟩
  | .local _ .vmem, ⟨14, _⟩ => ⟨S1x512x1024, .f32⟩
  | _, _ => ⟨S16x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference5.lean ====
abbrev S16x4096x1024 : Shape := ⟨3, ![16, 4096, 1024]⟩
abbrev S4x16x4096x256 : Shape := ⟨4, ![4, 16, 4096, 256]⟩
abbrev S1024x1024 : Shape := ⟨2, ![1024, 1024]⟩
abbrev S1024 : Shape := ⟨1, ![1024]⟩
abbrev S256x1024 : Shape := ⟨2, ![256, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S1x16x4096x256 : Shape := ⟨4, ![1, 16, 4096, 256]⟩
abbrev S16x4096x256 : Shape := ⟨3, ![16, 4096, 256]⟩

abbrev nBuf : Space → Nat
  | .hbm => 53
  | .vmem => 0
  | .smem => 0
  | _ => 0

abbrev bufTy : (tb : Table) → Fin (tcTables nBuf tb) → BufTy
  | .hbm, ⟨0, _⟩ => ⟨S16x4096x1024, .bf16⟩
  | .hbm, ⟨1, _⟩ => ⟨S16x4096x1024, .bf16⟩
  | .hbm, ⟨2, _⟩ => ⟨S16x4096x1024, .f32⟩
  | .hbm, ⟨3, _⟩ => ⟨S4x16x4096x256, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S256x1024, .f32⟩
  | .hbm, ⟨8, _⟩ => ⟨S1024, .f32⟩
  | .hbm, ⟨9, _⟩ => ⟨S16x4096x1024, .f32⟩
  | .hbm, ⟨10, _⟩ => ⟨S16x4096x1024, .f32⟩
  | .hbm, ⟨11, _⟩ => ⟨S16x4096x1024, .f32⟩
  | .hbm, ⟨12, _⟩ => ⟨S16x4096x1024, .f32⟩
  | .hbm, ⟨13, _⟩ => ⟨S_, .f32⟩
  | .hbm, ⟨14, _⟩ => ⟨S16x4096x1024, .f32⟩
  | .hbm, ⟨15, _⟩ => ⟨S16x4096x1024, .f32⟩
  | .hbm, ⟨16, _⟩ => ⟨S_, .f32⟩
  | .hbm, ⟨17, _⟩ => ⟨S16x4096x1024, .f32⟩
  | .hbm, ⟨18, _⟩ => ⟨S16x4096x1024, .f32⟩
  | .hbm, ⟨19, _⟩ => ⟨S16x4096x1024, .f32⟩
  | .hbm, ⟨20, _⟩ => ⟨S16x4096x1024, .f32⟩
  | .hbm, ⟨21, _⟩ => ⟨S16x4096x1024, .f32⟩
  | .hbm, ⟨22, _⟩ => ⟨S16x4096x1024, .f32⟩
  | .hbm, ⟨23, _⟩ => ⟨S16x4096x1024, .f32⟩
  | .hbm, ⟨24, _⟩ => ⟨S_, .f32⟩
  | .hbm, ⟨25, _⟩ => ⟨S16x4096, .f32⟩
  | .hbm, ⟨26, _⟩ => ⟨S16x4096x1, .f32⟩
  | .hbm, ⟨27, _⟩ => ⟨S_, .f32⟩
  | .hbm, ⟨28, _⟩ => ⟨S16x4096x1, .f32⟩
  | .hbm, ⟨29, _⟩ => ⟨S16x4096x1, .f32⟩
  | .hbm, ⟨30, _⟩ => ⟨S_, .f32⟩
  | .hbm, ⟨31, _⟩ => ⟨S16x4096x1, .f32⟩
  | .hbm, ⟨32, _⟩ => ⟨S16x4096x1, .f32⟩
  | .hbm, ⟨33, _⟩ => ⟨S16x4096x1, .f32⟩
  | .hbm, ⟨34, _⟩ => ⟨S16x4096x1024, .f32⟩
  | .hbm, ⟨35, _⟩ => ⟨S16x4096x1024, .f32⟩
  | .hbm, ⟨36, _⟩ => ⟨S1x1x1024, .f32⟩
  | .hbm, ⟨37, _⟩ => ⟨S16x4096x1024, .f32⟩
  | .hbm, ⟨38, _⟩ => ⟨S16x4096x1024, .f32⟩
  | .hbm, ⟨39, _⟩ => ⟨S16x4096x1024, .f32⟩
  | .hbm, ⟨40, _⟩ => ⟨S16x4096x1024, .f32⟩
  | .hbm, ⟨41, _⟩ => ⟨S16x4096x1024, .f32⟩
  | .hbm, ⟨42, _⟩ => ⟨S_, .f32⟩
  | .hbm, ⟨43, _⟩ => ⟨S16x4096x1024, .f32⟩
  | .hbm, ⟨44, _⟩ => ⟨S16x4096x1024, .f32⟩
  | .hbm, ⟨45, _⟩ => ⟨S_, .f32⟩
  | .hbm, ⟨46, _⟩ => ⟨S16x4096x1024, .f32⟩
  | .hbm, ⟨47, _⟩ => ⟨S16x4096x1024, .f32⟩
  | .hbm, ⟨48, _⟩ => ⟨S1x16x4096x256, .f32⟩
  | .hbm, ⟨49, _⟩ => ⟨S16x4096x256, .f32⟩
  | .hbm, ⟨50, _⟩ => ⟨S16x4096x1024, .f32⟩
  | .hbm, ⟨51, _⟩ => ⟨S16x4096x1024, .f32⟩
  | .hbm, ⟨52, _⟩ => ⟨S16x4096x1024, .f32⟩
  | _, _ => ⟨S16x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_2 : Ref sig .tc := ⟨.hbm, 42, rfl⟩
abbrev main_v22 : Ref sig .tc := ⟨.hbm, 43, rfl⟩
abbrev main_v23 : Ref sig .tc := ⟨.hbm, 44, rfl⟩
abbrev main_cst_3 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩

abbrev nD : Nat := 1
abbrev τ : Topo := Topo.v7x

variable {F : FTy → Type} [FloatOps F]
-- ==== Proof.Dsa.Index.lean ====
module

public import proofs.«01_k».proof.Proof.Gen.Kernel.Frame
public import proofs.«01_k».proof.Proof.Gen.Kernel.Loops
public import proofs.«01_k».proof.Proof.Gen.Kernel.Skeleton

/-! The index-score loop of the sparse attention kernel: where it reads and stores, and what it keeps. -/

@[expose] public section

set_option warn.classDefReducibility false
set_option maxRecDepth 8192
set_option maxHeartbeats 4000000

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- Where the rectangle lies in its buffer at trip `k`. -/
theorem k0_off1_closed : ∀ (i : grid0.Coords) (k : Fin (k0_t1_loop i).trips), k0_off1 i k = ![0, 512 * k.val, 0] := by decide +kernel
instance (i : grid0.Coords) (k : Fin (k0_t1_loop i).trips) : ClosedOff (k0_off1 i k) := ⟨_, k0_off1_closed i k⟩

/-- Where the rectangle lies in its buffer at trip `k`. -/
theorem k0_off2_closed : ∀ (i : grid0.Coords) (k : Fin (k0_t1_loop i).trips), k0_off2 i k = ![512 * k.val, 0] := by decide +kernel
instance (i : grid0.Coords) (k : Fin (k0_t1_loop i).trips) : ClosedOff (k0_off2 i k) := ⟨_, k0_off2_closed i k⟩

/-- Where the rectangle lies in its buffer at trip `k`. -/
theorem k0_off3_closed_0 : ∀ (i : grid0.Coords) (k : Fin (k0_t1_loop i).trips), k0_off3 i k 0#32 = ![0, 16 * k.val, 0] := by decide +kernel
instance (i : grid0.Coords) (k : Fin (k0_t1_loop i).trips) : ClosedOff (k0_off3 i k 0#32) := ⟨_, k0_off3_closed_0 i k⟩

/-- Where the rectangle lies in its buffer at trip `k`. -/
theorem k0_off3_closed_8 : ∀ (i : grid0.Coords) (k : Fin (k0_t1_loop i).trips), k0_off3 i k 8#32 = ![0, 16 * k.val + 8, 0] := by decide +kernel
instance (i : grid0.Coords) (k : Fin (k0_t1_loop i).trips) : ClosedOff (k0_off3 i k 8#32) := ⟨_, k0_off3_closed_8 i k⟩

/-- Where the rectangle lies in its buffer at trip `k`. -/
theorem k0_off4_closed_0 : ∀ (i : grid0.Coords) (k : Fin (k0_t1_loop i).trips), k0_off4 i k 0#32 = ![1, 16 * k.val, 0] := by decide +kernel
instance (i : grid0.Coords) (k : Fin (k0_t1_loop i).trips) : ClosedOff (k0_off4 i k 0#32) := ⟨_, k0_off4_closed_0 i k⟩

/-- Where the rectangle lies in its buffer at trip `k`. -/
theorem k0_off4_closed_8 : ∀ (i : grid0.Coords) (k : Fin (k0_t1_loop i).trips), k0_off4 i k 8#32 = ![1, 16 * k.val + 8, 0] := by decide +kernel
instance (i : grid0.Coords) (k : Fin (k0_t1_loop i).trips) : ClosedOff (k0_off4 i k 8#32) := ⟨_, k0_off4_closed_8 i k⟩

/-- Where the rectangle lies in its buffer at trip `k`. -/
theorem k0_off5_closed_0 : ∀ (i : grid0.Coords) (k : Fin (k0_t1_loop i).trips), k0_off5 i k 0#32 = ![2, 16 * k.val, 0] := by decide +kernel
instance (i : grid0.Coords) (k : Fin (k0_t1_loop i).trips) : ClosedOff (k0_off5 i k 0#32) := ⟨_, k0_off5_closed_0 i k⟩

/-- Where the rectangle lies in its buffer at trip `k`. -/
theorem k0_off5_closed_8 : ∀ (i : grid0.Coords) (k : Fin (k0_t1_loop i).trips), k0_off5 i k 8#32 = ![2, 16 * k.val + 8, 0] := by decide +kernel
instance (i : grid0.Coords) (k : Fin (k0_t1_loop i).trips) : ClosedOff (k0_off5 i k 8#32) := ⟨_, k0_off5_closed_8 i k⟩

/-- Where the rectangle lies in its buffer at trip `k`. -/
theorem k0_off6_closed_0 : ∀ (i : grid0.Coords) (k : Fin (k0_t1_loop i).trips), k0_off6 i k 0#32 = ![3, 16 * k.val, 0] := by decide +kernel
instance (i : grid0.Coords) (k : Fin (k0_t1_loop i).trips) : ClosedOff (k0_off6 i k 0#32) := ⟨_, k0_off6_closed_0 i k⟩

/-- Where the rectangle lies in its buffer at trip `k`. -/
theorem k0_off6_closed_8 : ∀ (i : grid0.Coords) (k : Fin (k0_t1_loop i).trips), k0_off6 i k 8#32 = ![3, 16 * k.val + 8, 0] := by decide +kernel
instance (i : grid0.Coords) (k : Fin (k0_t1_loop i).trips) : ClosedOff (k0_off6 i k 8#32) := ⟨_, k0_off6_closed_8 i k⟩

/-- Where the rectangle lies in its buffer at trip `k`. -/
theorem k0_off7_closed_0 : ∀ (i : grid0.Coords) (k : Fin (k0_t1_loop i).trips), k0_off7 i k 0#32 = ![4, 16 * k.val, 0] := by decide +kernel
instance (i : grid0.Coords) (k : Fin (k0_t1_loop i).trips) : ClosedOff (k0_off7 i k 0#32) := ⟨_, k0_off7_closed_0 i k⟩

/-- Where the rectangle lies in its buffer at trip `k`. -/
theorem k0_off7_closed_8 : ∀ (i : grid0.Coords) (k : Fin (k0_t1_loop i).trips), k0_off7 i k 8#32 = ![4, 16 * k.val + 8, 0] := by decide +kernel
instance (i : grid0.Coords) (k : Fin (k0_t1_loop i).trips) : ClosedOff (k0_off7 i k 8#32) := ⟨_, k0_off7_closed_8 i k⟩

/-- Where the rectangle lies in its buffer at trip `k`. -/
theorem k0_off8_closed_0 : ∀ (i : grid0.Coords) (k : Fin (k0_t1_loop i).trips), k0_off8 i k 0#32 = ![5, 16 * k.val, 0] := by decide +kernel
instance (i : grid0.Coords) (k : Fin (k0_t1_loop i).trips) : ClosedOff (k0_off8 i k 0#32) := ⟨_, k0_off8_closed_0 i k⟩

/-- Where the rectangle lies in its buffer at trip `k`. -/
theorem k0_off8_closed_8 : ∀ (i : grid0.Coords) (k : Fin (k0_t1_loop i).trips), k0_off8 i k 8#32 = ![5, 16 * k.val + 8, 0] := by decide +kernel
instance (i : grid0.Coords) (k : Fin (k0_t1_loop i).trips) : ClosedOff (k0_off8 i k 8#32) := ⟨_, k0_off8_closed_8 i k⟩

/-- Where the rectangle lies in its buffer at trip `k`. -/
theorem k0_off9_closed_0 : ∀ (i : grid0.Coords) (k : Fin (k0_t1_loop i).trips), k0_off9 i k 0#32 = ![6, 16 * k.val, 0] := by decide +kernel
instance (i : grid0.Coords) (k : Fin (k0_t1_loop i).trips) : ClosedOff (k0_off9 i k 0#32) := ⟨_, k0_off9_closed_0 i k⟩

/-- Where the rectangle lies in its buffer at trip `k`. -/
theorem k0_off9_closed_8 : ∀ (i : grid0.Coords) (k : Fin (k0_t1_loop i).trips), k0_off9 i k 8#32 = ![6, 16 * k.val + 8, 0] := by decide +kernel
instance (i : grid0.Coords) (k : Fin (k0_t1_loop i).trips) : ClosedOff (k0_off9 i k 8#32) := ⟨_, k0_off9_closed_8 i k⟩

/-- Where the rectangle lies in its buffer at trip `k`. -/
theorem k0_off10_closed_0 : ∀ (i : grid0.Coords) (k : Fin (k0_t1_loop i).trips), k0_off10 i k 0#32 = ![7, 16 * k.val, 0] := by decide +kernel
instance (i : grid0.Coords) (k : Fin (k0_t1_loop i).trips) : ClosedOff (k0_off10 i k 0#32) := ⟨_, k0_off10_closed_0 i k⟩

/-- Where the rectangle lies in its buffer at trip `k`. -/
theorem k0_off10_closed_8 : ∀ (i : grid0.Coords) (k : Fin (k0_t1_loop i).trips), k0_off10 i k 8#32 = ![7, 16 * k.val + 8, 0] := by decide +kernel
instance (i : grid0.Coords) (k : Fin (k0_t1_loop i).trips) : ClosedOff (k0_off10 i k 8#32) := ⟨_, k0_off10_closed_8 i k⟩

/-- Where the rectangle lies in its buffer at trip `k`. -/
theorem k0_off11_closed_0 : ∀ (i : grid0.Coords) (k : Fin (k0_t1_loop i).trips), k0_off11 i k 0#32 = ![8, 16 * k.val, 0] := by decide +kernel
instance (i : grid0.Coords) (k : Fin (k0_t1_loop i).trips) : ClosedOff (k0_off11 i k 0#32) := ⟨_, k0_off11_closed_0 i k⟩

/-- Where the rectangle lies in its buffer at trip `k`. -/
theorem k0_off11_closed_8 : ∀ (i : grid0.Coords) (k : Fin (k0_t1_loop i).trips), k0_off11 i k 8#32 = ![8, 16 * k.val + 8, 0] := by decide +kernel
instance (i : grid0.Coords) (k : Fin (k0_t1_loop i).trips) : ClosedOff (k0_off11 i k 8#32) := ⟨_, k0_off11_closed_8 i k⟩

/-- Where the rectangle lies in its buffer at trip `k`. -/
theorem k0_off12_closed_0 : ∀ (i : grid0.Coords) (k : Fin (k0_t1_loop i).trips), k0_off12 i k 0#32 = ![9, 16 * k.val, 0] := by decide +kernel
instance (i : grid0.Coords) (k : Fin (k0_t1_loop i).trips) : ClosedOff (k0_off12 i k 0#32) := ⟨_, k0_off12_closed_0 i k⟩

/-- Where the rectangle lies in its buffer at trip `k`. -/
theorem k0_off12_closed_8 : ∀ (i : grid0.Coords) (k : Fin (k0_t1_loop i).trips), k0_off12 i k 8#32 = ![9, 16 * k.val + 8, 0] := by decide +kernel
instance (i : grid0.Coords) (k : Fin (k0_t1_loop i).trips) : ClosedOff (k0_off12 i k 8#32) := ⟨_, k0_off12_closed_8 i k⟩

/-- Where the rectangle lies in its buffer at trip `k`. -/
theorem k0_off13_closed_0 : ∀ (i : grid0.Coords) (k : Fin (k0_t1_loop i).trips), k0_off13 i k 0#32 = ![10, 16 * k.val, 0] := by decide +kernel
instance (i : grid0.Coords) (k : Fin (k0_t1_loop i).trips) : ClosedOff (k0_off13 i k 0#32) := ⟨_, k0_off13_closed_0 i k⟩

/-- Where the rectangle lies in its buffer at trip `k`. -/
theorem k0_off13_closed_8 : ∀ (i : grid0.Coords) (k : Fin (k0_t1_loop i).trips), k0_off13 i k 8#32 = ![10, 16 * k.val + 8, 0] := by decide +kernel
instance (i : grid0.Coords) (k : Fin (k0_t1_loop i).trips) : ClosedOff (k0_off13 i k 8#32) := ⟨_, k0_off13_closed_8 i k⟩

/-- Where the rectangle lies in its buffer at trip `k`. -/
theorem k0_off14_closed_0 : ∀ (i : grid0.Coords) (k : Fin (k0_t1_loop i).trips), k0_off14 i k 0#32 = ![11, 16 * k.val, 0] := by decide +kernel
instance (i : grid0.Coords) (k : Fin (k0_t1_loop i).trips) : ClosedOff (k0_off14 i k 0#32) := ⟨_, k0_off14_closed_0 i k⟩

/-- Where the rectangle lies in its buffer at trip `k`. -/
theorem k0_off14_closed_8 : ∀ (i : grid0.Coords) (k : Fin (k0_t1_loop i).trips), k0_off14 i k 8#32 = ![11, 16 * k.val + 8, 0] := by decide +kernel
instance (i : grid0.Coords) (k : Fin (k0_t1_loop i).trips) : ClosedOff (k0_off14 i k 8#32) := ⟨_, k0_off14_closed_8 i k⟩

/-- Where the rectangle lies in its buffer at trip `k`. -/
theorem k0_off15_closed_0 : ∀ (i : grid0.Coords) (k : Fin (k0_t1_loop i).trips), k0_off15 i k 0#32 = ![12, 16 * k.val, 0] := by decide +kernel
instance (i : grid0.Coords) (k : Fin (k0_t1_loop i).trips) : ClosedOff (k0_off15 i k 0#32) := ⟨_, k0_off15_closed_0 i k⟩

/-- Where the rectangle lies in its buffer at trip `k`. -/
theorem k0_off15_closed_8 : ∀ (i : grid0.Coords) (k : Fin (k0_t1_loop i).trips), k0_off15 i k 8#32 = ![12, 16 * k.val + 8, 0] := by decide +kernel
instance (i : grid0.Coords) (k : Fin (k0_t1_loop i).trips) : ClosedOff (k0_off15 i k 8#32) := ⟨_, k0_off15_closed_8 i k⟩

/-- Where the rectangle lies in its buffer at trip `k`. -/
theorem k0_off16_closed_0 : ∀ (i : grid0.Coords) (k : Fin (k0_t1_loop i).trips), k0_off16 i k 0#32 = ![13, 16 * k.val, 0] := by decide +kernel
instance (i : grid0.Coords) (k : Fin (k0_t1_loop i).trips) : ClosedOff (k0_off16 i k 0#32) := ⟨_, k0_off16_closed_0 i k⟩

/-- Where the rectangle lies in its buffer at trip `k`. -/
theorem k0_off16_closed_8 : ∀ (i : grid0.Coords) (k : Fin (k0_t1_loop i).trips), k0_off16 i k 8#32 = ![13, 16 * k.val + 8, 0] := by decide +kernel
instance (i : grid0.Coords) (k : Fin (k0_t1_loop i).trips) : ClosedOff (k0_off16 i k 8#32) := ⟨_, k0_off16_closed_8 i k⟩

/-- Where the rectangle lies in its buffer at trip `k`. -/
theorem k0_off17_closed_0 : ∀ (i : grid0.Coords) (k : Fin (k0_t1_loop i).trips), k0_off17 i k 0#32 = ![14, 16 * k.val, 0] := by decide +kernel
instance (i : grid0.Coords) (k : Fin (k0_t1_loop i).trips) : ClosedOff (k0_off17 i k 0#32) := ⟨_, k0_off17_closed_0 i k⟩

/-- Where the rectangle lies in its buffer at trip `k`. -/
theorem k0_off17_closed_8 : ∀ (i : grid0.Coords) (k : Fin (k0_t1_loop i).trips), k0_off17 i k 8#32 = ![14, 16 * k.val + 8, 0] := by decide +kernel
instance (i : grid0.Coords) (k : Fin (k0_t1_loop i).trips) : ClosedOff (k0_off17 i k 8#32) := ⟨_, k0_off17_closed_8 i k⟩

/-- Where the rectangle lies in its buffer at trip `k`. -/
theorem k0_off18_closed_0 : ∀ (i : grid0.Coords) (k : Fin (k0_t1_loop i).trips), k0_off18 i k 0#32 = ![15, 16 * k.val, 0] := by decide +kernel
instance (i : grid0.Coords) (k : Fin (k0_t1_loop i).trips) : ClosedOff (k0_off18 i k 0#32) := ⟨_, k0_off18_closed_0 i k⟩

/-- Where the rectangle lies in its buffer at trip `k`. -/
theorem k0_off18_closed_8 : ∀ (i : grid0.Coords) (k : Fin (k0_t1_loop i).trips), k0_off18 i k 8#32 = ![15, 16 * k.val + 8, 0] := by decide +kernel
instance (i : grid0.Coords) (k : Fin (k0_t1_loop i).trips) : ClosedOff (k0_off18 i k 8#32) := ⟨_, k0_off18_closed_8 i k⟩

/-- Where the rectangle lies in its buffer at trip `k`. -/
theorem k0_off19_closed_0 : ∀ (i : grid0.Coords) (k : Fin (k0_t1_loop i).trips), k0_off19 i k 0#32 = ![16, 16 * k.val, 0] := by decide +kernel
instance (i : grid0.Coords) (k : Fin (k0_t1_loop i).trips) : ClosedOff (k0_off19 i k 0#32) := ⟨_, k0_off19_closed_0 i k⟩

/-- Where the rectangle lies in its buffer at trip `k`. -/
theorem k0_off19_closed_8 : ∀ (i : grid0.Coords) (k : Fin (k0_t1_loop i).trips), k0_off19 i k 8#32 = ![16, 16 * k.val + 8, 0] := by decide +kernel
instance (i : grid0.Coords) (k : Fin (k0_t1_loop i).trips) : ClosedOff (k0_off19 i k 8#32) := ⟨_, k0_off19_closed_8 i k⟩

/-- Where the rectangle lies in its buffer at trip `k`. -/
theorem k0_off20_closed_0 : ∀ (i : grid0.Coords) (k : Fin (k0_t1_loop i).trips), k0_off20 i k 0#32 = ![17, 16 * k.val, 0] := by decide +kernel
instance (i : grid0.Coords) (k : Fin (k0_t1_loop i).trips) : ClosedOff (k0_off20 i k 0#32) := ⟨_, k0_off20_closed_0 i k⟩

/-- Where the rectangle lies in its buffer at trip `k`. -/
theorem k0_off20_closed_8 : ∀ (i : grid0.Coords) (k : Fin (k0_t1_loop i).trips), k0_off20 i k 8#32 = ![17, 16 * k.val + 8, 0] := by decide +kernel
instance (i : grid0.Coords) (k : Fin (k0_t1_loop i).trips) : ClosedOff (k0_off20 i k 8#32) := ⟨_, k0_off20_closed_8 i k⟩

/-- Where the rectangle lies in its buffer at trip `k`. -/
theorem k0_off21_closed_0 : ∀ (i : grid0.Coords) (k : Fin (k0_t1_loop i).trips), k0_off21 i k 0#32 = ![18, 16 * k.val, 0] := by decide +kernel
instance (i : grid0.Coords) (k : Fin (k0_t1_loop i).trips) : ClosedOff (k0_off21 i k 0#32) := ⟨_, k0_off21_closed_0 i k⟩

/-- Where the rectangle lies in its buffer at trip `k`. -/
theorem k0_off21_closed_8 : ∀ (i : grid0.Coords) (k : Fin (k0_t1_loop i).trips), k0_off21 i k 8#32 = ![18, 16 * k.val + 8, 0] := by decide +kernel
instance (i : grid0.Coords) (k : Fin (k0_t1_loop i).trips) : ClosedOff (k0_off21 i k 8#32) := ⟨_, k0_off21_closed_8 i k⟩

/-- Where the rectangle lies in its buffer at trip `k`. -/
theorem k0_off22_closed_0 : ∀ (i : grid0.Coords) (k : Fin (k0_t1_loop i).trips), k0_off22 i k 0#32 = ![19, 16 * k.val, 0] := by decide +kernel
instance (i : grid0.Coords) (k : Fin (k0_t1_loop i).trips) : ClosedOff (k0_off22 i k 0#32) := ⟨_, k0_off22_closed_0 i k⟩

/-- Where the rectangle lies in its buffer at trip `k`. -/
theorem k0_off22_closed_8 : ∀ (i : grid0.Coords) (k : Fin (k0_t1_loop i).trips), k0_off22 i k 8#32 = ![19, 16 * k.val + 8, 0] := by decide +kernel
instance (i : grid0.Coords) (k : Fin (k0_t1_loop i).trips) : ClosedOff (k0_off22 i k 8#32) := ⟨_, k0_off22_closed_8 i k⟩

/-- Where the rectangle lies in its buffer at trip `k`. -/
theorem k0_off23_closed_0 : ∀ (i : grid0.Coords) (k : Fin (k0_t1_loop i).trips), k0_off23 i k 0#32 = ![20, 16 * k.val, 0] := by decide +kernel
instance (i : grid0.Coords) (k : Fin (k0_t1_loop i).trips) : ClosedOff (k0_off23 i k 0#32) := ⟨_, k0_off23_closed_0 i k⟩

/-- Where the rectangle lies in its buffer at trip `k`. -/
theorem k0_off23_closed_8 : ∀ (i : grid0.Coords) (k : Fin (k0_t1_loop i).trips), k0_off23 i k 8#32 = ![20, 16 * k.val + 8, 0] := by decide +kernel
instance (i : grid0.Coords) (k : Fin (k0_t1_loop i).trips) : ClosedOff (k0_off23 i k 8#32) := ⟨_, k0_off23_closed_8 i k⟩

/-- Where the rectangle lies in its buffer at trip `k`. -/
theorem k0_off24_closed_0 : ∀ (i : grid0.Coords) (k : Fin (k0_t1_loop i).trips), k0_off24 i k 0#32 = ![21, 16 * k.val, 0] := by decide +kernel
instance (i : grid0.Coords) (k : Fin (k0_t1_loop i).trips) : ClosedOff (k0_off24 i k 0#32) := ⟨_, k0_off24_closed_0 i k⟩

/-- Where the rectangle lies in its buffer at trip `k`. -/
theorem k0_off24_closed_8 : ∀ (i : grid0.Coords) (k : Fin (k0_t1_loop i).trips), k0_off24 i k 8#32 = ![21, 16 * k.val + 8, 0] := by decide +kernel
instance (i : grid0.Coords) (k : Fin (k0_t1_loop i).trips) : ClosedOff (k0_off24 i k 8#32) := ⟨_, k0_off24_closed_8 i k⟩

/-- Where the rectangle lies in its buffer at trip `k`. -/
theorem k0_off25_closed_0 : ∀ (i : grid0.Coords) (k : Fin (k0_t1_loop i).trips), k0_off25 i k 0#32 = ![22, 16 * k.val, 0] := by decide +kernel
instance (i : grid0.Coords) (k : Fin (k0_t1_loop i).trips) : ClosedOff (k0_off25 i k 0#32) := ⟨_, k0_off25_closed_0 i k⟩

/-- Where the rectangle lies in its buffer at trip `k`. -/
theorem k0_off25_closed_8 : ∀ (i : grid0.Coords) (k : Fin (k0_t1_loop i).trips), k0_off25 i k 8#32 = ![22, 16 * k.val + 8, 0] := by decide +kernel
instance (i : grid0.Coords) (k : Fin (k0_t1_loop i).trips) : ClosedOff (k0_off25 i k 8#32) := ⟨_, k0_off25_closed_8 i k⟩

/-- Where the rectangle lies in its buffer at trip `k`. -/
theorem k0_off26_closed_0 : ∀ (i : grid0.Coords) (k : Fin (k0_t1_loop i).trips), k0_off26 i k 0#32 = ![23, 16 * k.val, 0] := by decide +kernel
instance (i : grid0.Coords) (k : Fin (k0_t1_loop i).trips) : ClosedOff (k0_off26 i k 0#32) := ⟨_, k0_off26_closed_0 i k⟩

/-- Where the rectangle lies in its buffer at trip `k`. -/
theorem k0_off26_closed_8 : ∀ (i : grid0.Coords) (k : Fin (k0_t1_loop i).trips), k0_off26 i k 8#32 = ![23, 16 * k.val + 8, 0] := by decide +kernel
instance (i : grid0.Coords) (k : Fin (k0_t1_loop i).trips) : ClosedOff (k0_off26 i k 8#32) := ⟨_, k0_off26_closed_8 i k⟩

/-- Where the rectangle lies in its buffer at trip `k`. -/
theorem k0_off27_closed_0 : ∀ (i : grid0.Coords) (k : Fin (k0_t1_loop i).trips), k0_off27 i k 0#32 = ![24, 16 * k.val, 0] := by decide +kernel
instance (i : grid0.Coords) (k : Fin (k0_t1_loop i).trips) : ClosedOff (k0_off27 i k 0#32) := ⟨_, k0_off27_closed_0 i k⟩

/-- Where the rectangle lies in its buffer at trip `k`. -/
theorem k0_off27_closed_8 : ∀ (i : grid0.Coords) (k : Fin (k0_t1_loop i).trips), k0_off27 i k 8#32 = ![24, 16 * k.val + 8, 0] := by decide +kernel
instance (i : grid0.Coords) (k : Fin (k0_t1_loop i).trips) : ClosedOff (k0_off27 i k 8#32) := ⟨_, k0_off27_closed_8 i k⟩

/-- Where the rectangle lies in its buffer at trip `k`. -/
theorem k0_off28_closed_0 : ∀ (i : grid0.Coords) (k : Fin (k0_t1_loop i).trips), k0_off28 i k 0#32 = ![25, 16 * k.val, 0] := by decide +kernel
instance (i : grid0.Coords) (k : Fin (k0_t1_loop i).trips) : ClosedOff (k0_off28 i k 0#32) := ⟨_, k0_off28_closed_0 i k⟩

/-- Where the rectangle lies in its buffer at trip `k`. -/
theorem k0_off28_closed_8 : ∀ (i : grid0.Coords) (k : Fin (k0_t1_loop i).trips), k0_off28 i k 8#32 = ![25, 16 * k.val + 8, 0] := by decide +kernel
instance (i : grid0.Coords) (k : Fin (k0_t1_loop i).trips) : ClosedOff (k0_off28 i k 8#32) := ⟨_, k0_off28_closed_8 i k⟩

/-- Where the rectangle lies in its buffer at trip `k`. -/
theorem k0_off29_closed_0 : ∀ (i : grid0.Coords) (k : Fin (k0_t1_loop i).trips), k0_off29 i k 0#32 = ![26, 16 * k.val, 0] := by decide +kernel
instance (i : grid0.Coords) (k : Fin (k0_t1_loop i).trips) : ClosedOff (k0_off29 i k 0#32) := ⟨_, k0_off29_closed_0 i k⟩

/-- Where the rectangle lies in its buffer at trip `k`. -/
theorem k0_off29_closed_8 : ∀ (i : grid0.Coords) (k : Fin (k0_t1_loop i).trips), k0_off29 i k 8#32 = ![26, 16 * k.val + 8, 0] := by decide +kernel
instance (i : grid0.Coords) (k : Fin (k0_t1_loop i).trips) : ClosedOff (k0_off29 i k 8#32) := ⟨_, k0_off29_closed_8 i k⟩

/-- Where the rectangle lies in its buffer at trip `k`. -/
theorem k0_off30_closed_0 : ∀ (i : grid0.Coords) (k : Fin (k0_t1_loop i).trips), k0_off30 i k 0#32 = ![27, 16 * k.val, 0] := by decide +kernel
instance (i : grid0.Coords) (k : Fin (k0_t1_loop i).trips) : ClosedOff (k0_off30 i k 0#32) := ⟨_, k0_off30_closed_0 i k⟩

/-- Where the rectangle lies in its buffer at trip `k`. -/
theorem k0_off30_closed_8 : ∀ (i : grid0.Coords) (k : Fin (k0_t1_loop i).trips), k0_off30 i k 8#32 = ![27, 16 * k.val + 8, 0] := by decide +kernel
instance (i : grid0.Coords) (k : Fin (k0_t1_loop i).trips) : ClosedOff (k0_off30 i k 8#32) := ⟨_, k0_off30_closed_8 i k⟩

/-- Where the rectangle lies in its buffer at trip `k`. -/
theorem k0_off31_closed_0 : ∀ (i : grid0.Coords) (k : Fin (k0_t1_loop i).trips), k0_off31 i k 0#32 = ![28, 16 * k.val, 0] := by decide +kernel
instance (i : grid0.Coords) (k : Fin (k0_t1_loop i).trips) : ClosedOff (k0_off31 i k 0#32) := ⟨_, k0_off31_closed_0 i k⟩

/-- Where the rectangle lies in its buffer at trip `k`. -/
theorem k0_off31_closed_8 : ∀ (i : grid0.Coords) (k : Fin (k0_t1_loop i).trips), k0_off31 i k 8#32 = ![28, 16 * k.val + 8, 0] := by decide +kernel
instance (i : grid0.Coords) (k : Fin (k0_t1_loop i).trips) : ClosedOff (k0_off31 i k 8#32) := ⟨_, k0_off31_closed_8 i k⟩

/-- Where the rectangle lies in its buffer at trip `k`. -/
theorem k0_off32_closed_0 : ∀ (i : grid0.Coords) (k : Fin (k0_t1_loop i).trips), k0_off32 i k 0#32 = ![29, 16 * k.val, 0] := by decide +kernel
instance (i : grid0.Coords) (k : Fin (k0_t1_loop i).trips) : ClosedOff (k0_off32 i k 0#32) := ⟨_, k0_off32_closed_0 i k⟩

/-- Where the rectangle lies in its buffer at trip `k`. -/
theorem k0_off32_closed_8 : ∀ (i : grid0.Coords) (k : Fin (k0_t1_loop i).trips), k0_off32 i k 8#32 = ![29, 16 * k.val + 8, 0] := by decide +kernel
instance (i : grid0.Coords) (k : Fin (k0_t1_loop i).trips) : ClosedOff (k0_off32 i k 8#32) := ⟨_, k0_off32_closed_8 i k⟩

/-- Where the rectangle lies in its buffer at trip `k`. -/
theorem k0_off33_closed_0 : ∀ (i : grid0.Coords) (k : Fin (k0_t1_loop i).trips), k0_off33 i k 0#32 = ![30, 16 * k.val, 0] := by decide +kernel
instance (i : grid0.Coords) (k : Fin (k0_t1_loop i).trips) : ClosedOff (k0_off33 i k 0#32) := ⟨_, k0_off33_closed_0 i k⟩

/-- Where the rectangle lies in its buffer at trip `k`. -/
theorem k0_off33_closed_8 : ∀ (i : grid0.Coords) (k : Fin (k0_t1_loop i).trips), k0_off33 i k 8#32 = ![30, 16 * k.val + 8, 0] := by decide +kernel
instance (i : grid0.Coords) (k : Fin (k0_t1_loop i).trips) : ClosedOff (k0_off33 i k 8#32) := ⟨_, k0_off33_closed_8 i k⟩

/-- Where the rectangle lies in its buffer at trip `k`. -/
theorem k0_off34_closed_0 : ∀ (i : grid0.Coords) (k : Fin (k0_t1_loop i).trips), k0_off34 i k 0#32 = ![31, 16 * k.val, 0] := by decide +kernel
instance (i : grid0.Coords) (k : Fin (k0_t1_loop i).trips) : ClosedOff (k0_off34 i k 0#32) := ⟨_, k0_off34_closed_0 i k⟩

/-- Where the rectangle lies in its buffer at trip `k`. -/
theorem k0_off34_closed_8 : ∀ (i : grid0.Coords) (k : Fin (k0_t1_loop i).trips), k0_off34 i k 8#32 = ![31, 16 * k.val + 8, 0] := by decide +kernel
instance (i : grid0.Coords) (k : Fin (k0_t1_loop i).trips) : ClosedOff (k0_off34 i k 8#32) := ⟨_, k0_off34_closed_8 i k⟩

/-- The printed loop's remainder has no trips: its bounds meet. -/
theorem trips_t2 : ∀ i : grid0.Coords, (k0_t2_loop i).trips = 0 := by decide +kernel

/-- The index-score loop leaves the index keys (`arg7`) as they are; of the two scratch buffers it fills
(`arg9`, the scores, and `arg10`, the bit planes the threshold search counts over) nothing is said but that they are held. -/
@[sl_loop] def loopInv_k0_t1 (c : Dev nD) (i : grid0.Coords) (arg2 : Memref sig .tc .vmem S1x1024x256 .bf16) (harg2 : arg2.IsWhole) (arg3 : Memref sig .tc .vmem S1x512x256 .bf16) (harg3 : arg3.IsWhole) (arg4 : Memref sig .tc .vmem S1x8x256 .f32) (harg4 : arg4.IsWhole) (arg5 : Memref sig .tc .vmem S1x2x4096x128 .bf16) (harg5 : arg5.IsWhole) (arg6 : Memref sig .tc .vmem S1x256x4096 .bf16) (harg6 : arg6.IsWhole) (arg7 : Memref sig .tc .vmem S1x4096x64 .bf16) (harg7 : arg7.IsWhole) (arg8 : Memref sig .tc .vmem S1x256x1024 .bf16) (harg8 : arg8.IsWhole) (arg9 : Memref sig .tc .vmem S4096x256 .f32) (harg9 : arg9.IsWhole) (arg10 : Memref sig .tc .vmem S32x128x256 .i32) (harg10 : arg10.IsWhole) (arg11 : Memref sig .tc .vmem S2x4096x1024 .f32) (harg11 : arg11.IsWhole) (arg12 : Memref sig .tc .vmem S2x128x1024 .f32) (harg12 : arg12.IsWhole) (arg1 : BitVec 32) (v17 : BitVec 32) (v21 : IVec S512x256 32) (v38 : FVec F S64x2048 .bf16) (v40 : FVec F S1x256 .f32) (v42 : FVec F S1x256 .f32) (v44 : FVec F S1x256 .f32) (v46 : FVec F S1x256 .f32) (v48 : FVec F S1x256 .f32) (v50 : FVec F S1x256 .f32) (v52 : FVec F S1x256 .f32) (v54 : FVec F S1x256 .f32) (c0_i32_39 : BitVec 32) (c1_i32_40 : BitVec 32) (v57 : BitVec 32) (X7 : BufTy.Contents (Elt F) arg7.view.ty) :
    Cert.Kernel.Gen.LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg1 v17 v21 v38 v40 v42 v44 v46 v48 v50 v52 v54 c0_i32_39 c1_i32_40 v57 where
  inv _ _ := iprop((arg7.view.loc (c : Thread nD τ) ↦[arg7.view.set]{fullShare} X7) ∗ (∃ f, arg9.view.loc (c : Thread nD τ) ↦[arg9.view.set]{fullShare} f) ∗ (∃ f, arg10.view.loc (c : Thread nD τ) ↦[arg10.view.set]{fullShare} f))
  step k acc := by
    unfold Cert.Kernel.Gen.k0_t1_body
    iintro ⟨H7, ⟨%f9, H9⟩, ⟨%f10, H10⟩⟩
    sl_exec_parts
    sl_step
    isplitl [H7]; · iexact H7
    isplitl [H9]; · iexists _; iexact H9
    iexists _; iexact H10

/-- The remainder of the index-score loop, which never runs. -/
@[sl_loop] def loopInv_k0_t2 (c : Dev nD) (i : grid0.Coords) (arg2 : Memref sig .tc .vmem S1x1024x256 .bf16) (harg2 : arg2.IsWhole) (arg3 : Memref sig .tc .vmem S1x512x256 .bf16) (harg3 : arg3.IsWhole) (arg4 : Memref sig .tc .vmem S1x8x256 .f32) (harg4 : arg4.IsWhole) (arg5 : Memref sig .tc .vmem S1x2x4096x128 .bf16) (harg5 : arg5.IsWhole) (arg6 : Memref sig .tc .vmem S1x256x4096 .bf16) (harg6 : arg6.IsWhole) (arg7 : Memref sig .tc .vmem S1x4096x64 .bf16) (harg7 : arg7.IsWhole) (arg8 : Memref sig .tc .vmem S1x256x1024 .bf16) (harg8 : arg8.IsWhole) (arg9 : Memref sig .tc .vmem S4096x256 .f32) (harg9 : arg9.IsWhole) (arg10 : Memref sig .tc .vmem S32x128x256 .i32) (harg10 : arg10.IsWhole) (arg11 : Memref sig .tc .vmem S2x4096x1024 .f32) (harg11 : arg11.IsWhole) (arg12 : Memref sig .tc .vmem S2x128x1024 .f32) (harg12 : arg12.IsWhole) (arg1 : BitVec 32) (v17 : BitVec 32) (v21 : IVec S512x256 32) (v38 : FVec F S64x2048 .bf16) (v40 : FVec F S1x256 .f32) (v42 : FVec F S1x256 .f32) (v44 : FVec F S1x256 .f32) (v46 : FVec F S1x256 .f32) (v48 : FVec F S1x256 .f32) (v50 : FVec F S1x256 .f32) (v52 : FVec F S1x256 .f32) (v54 : FVec F S1x256 .f32) (c0_i32_39 : BitVec 32) (c1_i32_40 : BitVec 32) (v57 : BitVec 32) (v59 : BitVec 32) (X7 : BufTy.Contents (Elt F) arg7.view.ty) :
    Cert.Kernel.Gen.LoopInvTy_k0_t2 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg1 v17 v21 v38 v40 v42 v44 v46 v48 v50 v52 v54 c0_i32_39 c1_i32_40 v57 v59 where
  inv _ _ := iprop((arg7.view.loc (c : Thread nD τ) ↦[arg7.view.set]{fullShare} X7) ∗ (∃ f, arg9.view.loc (c : Thread nD τ) ↦[arg9.view.set]{fullShare} f) ∗ (∃ f, arg10.view.loc (c : Thread nD τ) ↦[arg10.view.set]{fullShare} f))
  step k acc := (k.cast (trips_t2 i)).elim0

end Cert.Proof.Kernel

end
-- ==== Proof.Dsa.Scores.lean ====
module

public import proofs.«01_k».proof.Proof.Gen.Kernel.Frame
public import proofs.«01_k».proof.Proof.Gen.Kernel.Loops
public import proofs.«01_k».proof.Proof.Gen.Kernel.Skeleton

/-! The first pass of the sparse attention over the selected keys: where it reads and stores, and what it keeps. -/

@[expose] public section

set_option warn.classDefReducibility false
set_option maxRecDepth 8192
set_option maxHeartbeats 4000000

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- Where the rectangle lies in its buffer at trip `k`. -/
theorem k0_off76_closed : ∀ (i : grid0.Coords) (k : Fin (k0_t10_loop i).trips), k0_off76 i k = ![512 * k.val, 0] := by decide +kernel
instance (i : grid0.Coords) (k : Fin (k0_t10_loop i).trips) : ClosedOff (k0_off76 i k) := ⟨_, k0_off76_closed i k⟩

/-- Where the rectangle lies in its buffer at trip `k`. -/
theorem k0_off77_closed : ∀ (i : grid0.Coords) (k : Fin (k0_t10_loop i).trips), k0_off77 i k = ![0, 0, 512 * k.val, 0] := by decide +kernel
instance (i : grid0.Coords) (k : Fin (k0_t10_loop i).trips) : ClosedOff (k0_off77 i k) := ⟨_, k0_off77_closed i k⟩

/-- Where the rectangle lies in its buffer at trip `k`. -/
theorem k0_off78_closed : ∀ (i : grid0.Coords) (k : Fin (k0_t10_loop i).trips), k0_off78 i k = ![0, 512 * k.val, 0] := by decide +kernel
instance (i : grid0.Coords) (k : Fin (k0_t10_loop i).trips) : ClosedOff (k0_off78 i k) := ⟨_, k0_off78_closed i k⟩

/-- Where the rectangle lies in its buffer at trip `k`. -/
theorem k0_off79_closed : ∀ (i : grid0.Coords) (k : Fin (k0_t10_loop i).trips), k0_off79 i k = ![0, 512 * k.val, 256] := by decide +kernel
instance (i : grid0.Coords) (k : Fin (k0_t10_loop i).trips) : ClosedOff (k0_off79 i k) := ⟨_, k0_off79_closed i k⟩

/-- Where the rectangle lies in its buffer at trip `k`. -/
theorem k0_off80_closed : ∀ (i : grid0.Coords) (k : Fin (k0_t10_loop i).trips), k0_off80 i k = ![0, 512 * k.val, 512] := by decide +kernel
instance (i : grid0.Coords) (k : Fin (k0_t10_loop i).trips) : ClosedOff (k0_off80 i k) := ⟨_, k0_off80_closed i k⟩

/-- Where the rectangle lies in its buffer at trip `k`. -/
theorem k0_off81_closed : ∀ (i : grid0.Coords) (k : Fin (k0_t10_loop i).trips), k0_off81 i k = ![0, 512 * k.val, 768] := by decide +kernel
instance (i : grid0.Coords) (k : Fin (k0_t10_loop i).trips) : ClosedOff (k0_off81 i k) := ⟨_, k0_off81_closed i k⟩

/-- Where the rectangle lies in its buffer at trip `k`. -/
theorem k0_off82_closed : ∀ (i : grid0.Coords) (k : Fin (k0_t10_loop i).trips), k0_off82 i k = ![0, 1, 512 * k.val, 0] := by decide +kernel
instance (i : grid0.Coords) (k : Fin (k0_t10_loop i).trips) : ClosedOff (k0_off82 i k) := ⟨_, k0_off82_closed i k⟩

/-- Where the rectangle lies in its buffer at trip `k`. -/
theorem k0_off83_closed : ∀ (i : grid0.Coords) (k : Fin (k0_t10_loop i).trips), k0_off83 i k = ![1, 512 * k.val, 0] := by decide +kernel
instance (i : grid0.Coords) (k : Fin (k0_t10_loop i).trips) : ClosedOff (k0_off83 i k) := ⟨_, k0_off83_closed i k⟩

/-- Where the rectangle lies in its buffer at trip `k`. -/
theorem k0_off84_closed : ∀ (i : grid0.Coords) (k : Fin (k0_t10_loop i).trips), k0_off84 i k = ![1, 512 * k.val, 256] := by decide +kernel
instance (i : grid0.Coords) (k : Fin (k0_t10_loop i).trips) : ClosedOff (k0_off84 i k) := ⟨_, k0_off84_closed i k⟩

/-- Where the rectangle lies in its buffer at trip `k`. -/
theorem k0_off85_closed : ∀ (i : grid0.Coords) (k : Fin (k0_t10_loop i).trips), k0_off85 i k = ![1, 512 * k.val, 512] := by decide +kernel
instance (i : grid0.Coords) (k : Fin (k0_t10_loop i).trips) : ClosedOff (k0_off85 i k) := ⟨_, k0_off85_closed i k⟩

/-- Where the rectangle lies in its buffer at trip `k`. -/
theorem k0_off86_closed : ∀ (i : grid0.Coords) (k : Fin (k0_t10_loop i).trips), k0_off86 i k = ![1, 512 * k.val, 768] := by decide +kernel
instance (i : grid0.Coords) (k : Fin (k0_t10_loop i).trips) : ClosedOff (k0_off86 i k) := ⟨_, k0_off86_closed i k⟩

/-- The printed loop's remainder has no trips: its bounds meet. -/
theorem trips_t11 : ∀ i : grid0.Coords, (k0_t11_loop i).trips = 0 := by decide +kernel

/-- The first pass of the sparse attention reads the scores' selection (`arg9`) and the keys and values (`arg5`)
and leaves them as they are; of the score buffer it fills (`arg11`) nothing is said but that it is held. -/
@[sl_loop] def loopInv_k0_t10 (c : Dev nD) (i : grid0.Coords) (arg2 : Memref sig .tc .vmem S1x1024x256 .bf16) (harg2 : arg2.IsWhole) (arg3 : Memref sig .tc .vmem S1x512x256 .bf16) (harg3 : arg3.IsWhole) (arg4 : Memref sig .tc .vmem S1x8x256 .f32) (harg4 : arg4.IsWhole) (arg5 : Memref sig .tc .vmem S1x2x4096x128 .bf16) (harg5 : arg5.IsWhole) (arg6 : Memref sig .tc .vmem S1x256x4096 .bf16) (harg6 : arg6.IsWhole) (arg7 : Memref sig .tc .vmem S1x4096x64 .bf16) (harg7 : arg7.IsWhole) (arg8 : Memref sig .tc .vmem S1x256x1024 .bf16) (harg8 : arg8.IsWhole) (arg9 : Memref sig .tc .vmem S4096x256 .f32) (harg9 : arg9.IsWhole) (arg10 : Memref sig .tc .vmem S32x128x256 .i32) (harg10 : arg10.IsWhole) (arg11 : Memref sig .tc .vmem S2x4096x1024 .f32) (harg11 : arg11.IsWhole) (arg12 : Memref sig .tc .vmem S2x128x1024 .f32) (harg12 : arg12.IsWhole) (v17 : BitVec 32) (v84 : FVec F S128x1024 .bf16) (v86 : FVec F S128x256 .bf16) (v87 : Vec F S1x128x256 .bf16) (v89 : Vec F S1x128x256 .bf16) (v91 : Vec F S1x128x256 .bf16) (init : FVec F S8x1024 .f32 × FVec F S8x1024 .f32) (X9 : BufTy.Contents (Elt F) arg9.view.ty) (X5 : BufTy.Contents (Elt F) arg5.view.ty) :
    Cert.Kernel.Gen.LoopInvTy_k0_t10 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 v17 v84 v86 v87 v89 v91 init where
  inv _ _ := iprop((arg9.view.loc (c : Thread nD τ) ↦[arg9.view.set]{fullShare} X9) ∗ (arg5.view.loc (c : Thread nD τ) ↦[arg5.view.set]{fullShare} X5) ∗ (∃ f, arg11.view.loc (c : Thread nD τ) ↦[arg11.view.set]{fullShare} f))
  step k acc := by
    obtain ⟨a0, a1⟩ := acc
    unfold Cert.Kernel.Gen.k0_t10_body
    iintro ⟨H9, H5, ⟨%f11, H11⟩⟩
    sl_exec_parts
    sl_step
    isplitl [H9]; · iexact H9
    isplitl [H5]; · iexact H5
    iexists _; iexact H11

/-- The remainder of the first attention pass, which never runs. -/
@[sl_loop] def loopInv_k0_t11 (c : Dev nD) (i : grid0.Coords) (arg2 : Memref sig .tc .vmem S1x1024x256 .bf16) (harg2 : arg2.IsWhole) (arg3 : Memref sig .tc .vmem S1x512x256 .bf16) (harg3 : arg3.IsWhole) (arg4 : Memref sig .tc .vmem S1x8x256 .f32) (harg4 : arg4.IsWhole) (arg5 : Memref sig .tc .vmem S1x2x4096x128 .bf16) (harg5 : arg5.IsWhole) (arg6 : Memref sig .tc .vmem S1x256x4096 .bf16) (harg6 : arg6.IsWhole) (arg7 : Memref sig .tc .vmem S1x4096x64 .bf16) (harg7 : arg7.IsWhole) (arg8 : Memref sig .tc .vmem S1x256x1024 .bf16) (harg8 : arg8.IsWhole) (arg9 : Memref sig .tc .vmem S4096x256 .f32) (harg9 : arg9.IsWhole) (arg10 : Memref sig .tc .vmem S32x128x256 .i32) (harg10 : arg10.IsWhole) (arg11 : Memref sig .tc .vmem S2x4096x1024 .f32) (harg11 : arg11.IsWhole) (arg12 : Memref sig .tc .vmem S2x128x1024 .f32) (harg12 : arg12.IsWhole) (v17 : BitVec 32) (v84 : FVec F S128x1024 .bf16) (v86 : FVec F S128x256 .bf16) (v87 : Vec F S1x128x256 .bf16) (v89 : Vec F S1x128x256 .bf16) (v91 : Vec F S1x128x256 .bf16) (v100 : BitVec 32) (init : FVec F S8x1024 .f32 × FVec F S8x1024 .f32) (X9 : BufTy.Contents (Elt F) arg9.view.ty) (X5 : BufTy.Contents (Elt F) arg5.view.ty) :
    Cert.Kernel.Gen.LoopInvTy_k0_t11 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 v17 v84 v86 v87 v89 v91 v100 init where
  inv _ _ := iprop((arg9.view.loc (c : Thread nD τ) ↦[arg9.view.set]{fullShare} X9) ∗ (arg5.view.loc (c : Thread nD τ) ↦[arg5.view.set]{fullShare} X5) ∗ (∃ f, arg11.view.loc (c : Thread nD τ) ↦[arg11.view.set]{fullShare} f))
  step k acc := (k.cast (trips_t11 i)).elim0

end Cert.Proof.Kernel

end
-- ==== Proof.Dsa.Body.lean ====
module

public import proofs.«01_k».proof.Proof.Dsa.Index
public import proofs.«01_k».proof.Proof.Dsa.Scores

/-! One grid point of the sparse attention kernel: the indexer's scores, the search for the threshold of the `TOP_K`
best keys with the branch that breaks ties, the two attention passes and the four stores of the result. -/

@[expose] public section

set_option warn.classDefReducibility false
set_option maxRecDepth 8192
set_option maxHeartbeats 4000000

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- A buffer held at some contents is held at something that its view reads. -/
theorem holds_some {s : Shape} {e : EltTy} (c : Dev nD) (m : Memref sig .tc .vmem s e) (f : m.view.ty.Contents (Elt F)) :
    (m.view.loc (c : Thread nD τ) ↦[m.view.set]{fullShare} f : sProp (MT nD τ sig Unit (Elt F) ℕ (UR sig nD τ) ℕ))
    ⊢ iprop(∃ d, ∃ f, ⌜m.view.read (Elt F) f = d⌝ ∗ (m.view.loc (c : Thread nD τ) ↦[m.view.set]{fullShare} f)) := by
  iintro H
  iexists m.view.read (Elt F) f
  iexists f
  isplitr
  · ipureintro; rfl
  · iexact H

/-- The kernel's body, on any whole buffers: run on its six inputs, its result block and its four scratch buffers, it
ends with the inputs as it found them and the others held at something. -/
theorem body_keeps (c : Dev nD) (i : grid0.Coords) (arg2 : Memref sig .tc .vmem S1x1024x256 .bf16) (harg2 : arg2.IsWhole) (arg3 : Memref sig .tc .vmem S1x512x256 .bf16) (harg3 : arg3.IsWhole) (arg4 : Memref sig .tc .vmem S1x8x256 .f32) (harg4 : arg4.IsWhole) (arg5 : Memref sig .tc .vmem S1x2x4096x128 .bf16) (harg5 : arg5.IsWhole) (arg6 : Memref sig .tc .vmem S1x256x4096 .bf16) (harg6 : arg6.IsWhole) (arg7 : Memref sig .tc .vmem S1x4096x64 .bf16) (harg7 : arg7.IsWhole) (arg8 : Memref sig .tc .vmem S1x256x1024 .bf16) (harg8 : arg8.IsWhole) (arg9 : Memref sig .tc .vmem S4096x256 .f32) (harg9 : arg9.IsWhole) (arg10 : Memref sig .tc .vmem S32x128x256 .i32) (harg10 : arg10.IsWhole) (arg11 : Memref sig .tc .vmem S2x4096x1024 .f32) (harg11 : arg11.IsWhole) (arg12 : Memref sig .tc .vmem S2x128x1024 .f32) (harg12 : arg12.IsWhole)
    (x2 : S1x1024x256.Idx → Elt F .bf16) (x3 : S1x512x256.Idx → Elt F .bf16) (x4 : S1x8x256.Idx → Elt F .f32) (x5 : S1x2x4096x128.Idx → Elt F .bf16) (x6 : S1x256x4096.Idx → Elt F .bf16) (x7 : S1x4096x64.Idx → Elt F .bf16) (K : PUnit → sProp (MT nD τ sig Unit (Elt F) ℕ (UR sig nD τ) ℕ)) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
      ∗ ((owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
    ⊢ wp frame (wpE (defs₀ (F := F)) Variants.none (c : Thread nD τ) none) Set.univ (cc0_dsa_attn (F := F) i arg2 harg2 arg3 harg3 arg4 harg4 arg5 harg5 arg6 harg6 arg7 harg7 arg8 harg8 arg9 harg9 arg10 harg10 arg11 harg11 arg12 harg12) K := by
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  by_cases hc : k0_cond1 i = 1#1
  all_goals
    sl_unfold [cc0_dsa_attn]
    sl_exec_parts!
    split
    all_goals
      sl_exec_parts!
      split
      all_goals
        sl_exec_parts!
        sl_step
        iapply Hk
        isplitl [H2]
        · iexists _; isplitr
          · ipureintro; exact harg2.read_unread _
          · iexact H2
        isplitl [H3]
        · iexists _; isplitr
          · ipureintro; exact harg3.read_unread _
          · iexact H3
        isplitl [H4]
        · iexists _; isplitr
          · ipureintro; exact harg4.read_unread _
          · iexact H4
        isplitl [H5]
        · iexists _; isplitr
          · ipureintro; exact harg5.read_unread _
          · iexact H5
        isplitl [H6]
        · iexists _; isplitr
          · ipureintro; exact harg6.read_unread _
          · iexact H6
        isplitl [H7]
        · iexists _; isplitr
          · ipureintro; exact harg7.read_unread _
          · iexact H7
        isplitl [H8]
        · iapply (holds_some (F := F) c arg8 _) $$ H8
        isplitl [H9]
        · iapply (holds_some (F := F) c arg9 _) $$ H9
        isplitl [H10]
        · iapply (holds_some (F := F) c arg10 _) $$ H10
        isplitl [H11]
        · iapply (holds_some (F := F) c arg11 _) $$ H11
        · iapply (holds_some (F := F) c arg12 _) $$ H12

end Cert.Proof.Kernel

end
-- ==== Proof.Dsa.Run.lean ====
module

public import proofs.«01_k».proof.Proof.Dsa.Body
public import proofs.«01_k».proof.Proof.Gen.Kernel.Frame

/-! The launch of the sparse attention kernel: at every grid point the body keeps its inputs, so the whole run keeps the argument arrays. -/

@[expose] public section

set_option maxRecDepth 16384
set_option maxHeartbeats 4000000

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.Kernel.Gen

variable {F : FTy → Type} [BitOps F]

variable (m : (ℓ : Loc nD τ sig) → Buf (Elt F) ℓ) (ρ : Dev nD → PrngReg)

/-- What the run is described by: every window's array at what the region finds in it, every staging buffer at its
block; nothing is said of the result's window. -/
def dats (_ : Fin 1) (c : Dev nD) : Dat τ (Elt F) Unit ℕ (UR sig nD τ) ℕ cfg0 c where
  A w := Gen.V m c (Pipeline.arrRef spec0 w)
  after w t := match w with
    | 0 => Gen.iblk m c 0 t
    | 1 => Gen.iblk m c 1 t
    | 2 => Gen.iblk m c 2 t
    | 3 => Gen.iblk m c 3 t
    | 4 => Gen.iblk m c 4 t
    | 5 => Gen.iblk m c 5 t
    | 6 => Gen.iblk m c 6 t
  Φ _ := Pipeline.ΦA spec0 c
  q _ := fullShare
  owed _ := 0

theorem before0_0 (c : Dev nD) (t : Fin cfg0.N) (d) : (dats m 0 c).before 0 t d = Gen.iblk m c 0 t :=
  Gen.before0_0_of m (dats m 0 c) rfl (fun _ => rfl) t d
theorem before0_1 (c : Dev nD) (t : Fin cfg0.N) (d) : (dats m 0 c).before 1 t d = Gen.iblk m c 1 t :=
  Gen.before0_1_of m (dats m 0 c) rfl (fun _ => rfl) t d
theorem before0_2 (c : Dev nD) (t : Fin cfg0.N) (d) : (dats m 0 c).before 2 t d = Gen.iblk m c 2 t :=
  Gen.before0_2_of m (dats m 0 c) rfl (fun _ => rfl) t d
theorem before0_3 (c : Dev nD) (t : Fin cfg0.N) (d) : (dats m 0 c).before 3 t d = Gen.iblk m c 3 t :=
  Gen.before0_3_of m (dats m 0 c) rfl (fun _ => rfl) t d
theorem before0_4 (c : Dev nD) (t : Fin cfg0.N) (d) : (dats m 0 c).before 4 t d = Gen.iblk m c 4 t :=
  Gen.before0_4_of m (dats m 0 c) rfl (fun _ => rfl) t d
theorem before0_5 (c : Dev nD) (t : Fin cfg0.N) (d) : (dats m 0 c).before 5 t d = Gen.iblk m c 5 t :=
  Gen.before0_5_of m (dats m 0 c) rfl (fun _ => rfl) t d

/-- The window whose contents are not described: the result's. -/
def fgt : Fin cfg0.W → Bool := fun w => decide (w.val = 6)

/-- At every grid point the body leaves every input's staging buffer at its block. -/
theorem body_obligation (c : Dev nD) : BodyObligationLoose (dats m 0 c) (defs₀ (F := F)) Variants.none () Set.univ fgt := fun t => by
  rw [bigSep_W0, bigSep_W0]
  sl_whnfR [defs₀, Defs.onTc]
  simp only [before0_0, before0_1, before0_2, before0_3, before0_4, before0_5, show fgt (0 : Fin 7) = false from rfl, show fgt (1 : Fin 7) = false from rfl, show fgt (2 : Fin 7) = false from rfl, show fgt (3 : Fin 7) = false from rfl, show fgt (4 : Fin 7) = false from rfl, show fgt (5 : Fin 7) = false from rfl, show fgt (6 : Fin 7) = true from rfl]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  unfold Pipeline.ΦA
  rw [scopedRest0_eq c]
  iintro ⟨⟨⟨⟨%s0, S0⟩, ⟨%s1, S1⟩, ⟨%s2, S2⟩, ⟨%s3, S3⟩⟩, Hg⟩, Ho, ⟨%d0, H0⟩, ⟨%d1, H1⟩, ⟨%d2, H2⟩, ⟨%d3, H3⟩, ⟨%d4, H4⟩, ⟨%d5, H5⟩, ⟨%X6, H6⟩⟩
  iapply (body_keeps (F := F) c (grid0.coords t) _ (Gen.hstage0_0 ((cfg0.slots t 0).cast nbuf0_0)) _ (Gen.hstage0_1 ((cfg0.slots t 1).cast nbuf0_1)) _ (Gen.hstage0_2 ((cfg0.slots t 2).cast nbuf0_2)) _ (Gen.hstage0_3 ((cfg0.slots t 3).cast nbuf0_3)) _ (Gen.hstage0_4 ((cfg0.slots t 4).cast nbuf0_4)) _ (Gen.hstage0_5 ((cfg0.slots t 5).cast nbuf0_5)) _ (Gen.hstage0_6 ((cfg0.slots t 6).cast nbuf0_6)) _ (Memref.isWhole_whole _) _ (Memref.isWhole_whole _) _ (Memref.isWhole_whole _) _ (Memref.isWhole_whole _) (Gen.iblk m c 0 t) (Gen.iblk m c 1 t) (Gen.iblk m c 2 t) (Gen.iblk m c 3 t) (Gen.iblk m c 4 t) (Gen.iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S0]; · iexists s0; rw [owns_whole]; iexact S0
  isplitl [S1]; · iexists s1; rw [owns_whole]; iexact S1
  isplitl [S2]; · iexists s2; rw [owns_whole]; iexact S2
  isplitl [S3]; · iexists s3; rw [owns_whole]; iexact S3
  iintro ⟨H0, H1, H2, H3, H4, H5, ⟨%Y6, H6⟩, ⟨%u0, S0⟩, ⟨%u1, S1⟩, ⟨%u2, S2⟩, ⟨%u3, S3⟩⟩
  isplitl [Hg S0 S1 S2 S3]
  · isplitl [S0 S1 S2 S3]
    isplitl [S0]
    · iexists u0; iapply (Entails.of_eq (owns_whole (c : Thread nD τ) cc0_scratch0 fullShare u0)) $$ S0
    isplitl [S1]
    · iexists u1; iapply (Entails.of_eq (owns_whole (c : Thread nD τ) cc0_scratch1 fullShare u1)) $$ S1
    isplitl [S2]
    · iexists u2; iapply (Entails.of_eq (owns_whole (c : Thread nD τ) cc0_scratch2 fullShare u2)) $$ S2
    · iexists u3; iapply (Entails.of_eq (owns_whole (c : Thread nD τ) cc0_scratch3 fullShare u3)) $$ S3
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

set_option backward.isDefEq.respectTransparency.types false in
/-- Every run ends, with the argument arrays as they were and every semaphore back at zero. -/
theorem quiescent : θ_run defs (onTc (τ := τ) (main (F := F))) ⟨m, fun _ => 0, ρ⟩ (fun r => (∀ c : Dev nD,
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5)) ∧ r.2.sem = fun _ => 0) :=
  Pipeline.θ_run_frame_forget cfgs (dats m) 0 launch0 defs₀ Variants.none fgt m ρ main
    (hbody := body_obligation m)
    (hshare := fun c => (dats m 0 c).share_full fun _ => rfl) (howed := fun _ _ => rfl) (V := Gen.V m)
    (hmain := Gen.hmain m Variants.none) (hA := fun _ _ => rfl) (hΦ := fun _ _ => rfl) (Q' := _)
    (hQ' := fun r h => ⟨fun c => ⟨((h.1.arr_in c 0 rfl).trans (Gen.V_main_arg0 m c)), ((h.1.arr_in c 1 rfl).trans (Gen.V_main_arg1 m c)), ((h.1.arr_in c 2 rfl).trans (Gen.V_main_arg2 m c)), ((h.1.arr_in c 3 rfl).trans (Gen.V_main_arg3 m c)), ((h.1.arr_in c 4 rfl).trans (Gen.V_main_arg4 m c)), ((h.1.arr_in c 5 rfl).trans (Gen.V_main_arg5 m c))⟩, h.2⟩)

end Cert.Proof.Kernel

end
-- ==== Proof.Mla.Body.lean ====
module

public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2.Frame

/-! One grid point of the latent attention kernel: the scores with their running row maxima, the exponentials with
their running row sums and the weighted values, and the eight stores of the result. -/

@[expose] public section

set_option warn.classDefReducibility false
set_option maxRecDepth 8192
set_option maxHeartbeats 4000000

noncomputable section

namespace Cert.Proof.Kernel2

open Cert.Kernel2
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- A buffer held at some contents is held at something that its view reads. -/
theorem holds_some {s : Shape} {e : EltTy} (c : Dev nD) (m : Memref sig .tc .vmem s e) (f : m.view.ty.Contents (Elt F)) :
    (m.view.loc (c : Thread nD τ) ↦[m.view.set]{fullShare} f : sProp (MT nD τ sig Unit (Elt F) ℕ (UR sig nD τ) ℕ))
    ⊢ iprop(∃ d, ∃ f, ⌜m.view.read (Elt F) f = d⌝ ∗ (m.view.loc (c : Thread nD τ) ↦[m.view.set]{fullShare} f)) := by
  iintro H
  iexists m.view.read (Elt F) f
  iexists f
  isplitr
  · ipureintro; rfl
  · iexact H

/-- The kernel's body, on any whole buffers: run on its three inputs, its result block and its four scratch buffers, it
ends with the inputs as it found them and the others held at something. -/
theorem body_keeps (c : Dev nD) (i : grid0.Coords) (arg2 : Memref sig .tc .vmem S1x8x256x384 .bf16) (harg2 : arg2.IsWhole) (arg3 : Memref sig .tc .vmem S1x4096x384 .bf16) (harg3 : arg3.IsWhole) (arg4 : Memref sig .tc .vmem S8x256x128 .bf16) (harg4 : arg4.IsWhole) (arg5 : Memref sig .tc .vmem S1x256x1024 .bf16) (harg5 : arg5.IsWhole) (arg6 : Memref sig .tc .vmem S2048x4096 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x256 .f32) (harg9 : arg9.IsWhole)
    (x2 : S1x8x256x384.Idx → Elt F .bf16) (x3 : S1x4096x384.Idx → Elt F .bf16) (x4 : S8x256x128.Idx → Elt F .bf16) (K : PUnit → sProp (MT nD τ sig Unit (Elt F) ℕ (UR sig nD τ) ℕ)) :
    iprop(owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
      ∗ ((owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
    ⊢ wp frame (wpE (defs₀ (F := F)) Variants.none (c : Thread nD τ) none) Set.univ (cc0_mla_attn (F := F) i arg2 harg2 arg3 harg3 arg4 harg4 arg5 harg5 arg6 harg6 arg7 harg7 arg8 harg8 arg9 harg9) K := by
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  obtain rfl := harg2.eq_unread hf2
  obtain rfl := harg3.eq_unread hf3
  obtain rfl := harg4.eq_unread hf4
  sl_unfold [cc0_mla_attn]
  sl_exec_parts!
  sl_step
  iapply Hk
  isplitl [H2]
  · iexists _; isplitr
    · ipureintro; exact harg2.read_unread _
    · iexact H2
  isplitl [H3]
  · iexists _; isplitr
    · ipureintro; exact harg3.read_unread _
    · iexact H3
  isplitl [H4]
  · iexists _; isplitr
    · ipureintro; exact harg4.read_unread _
    · iexact H4
  isplitl [H5]
  · iapply (holds_some (F := F) c arg5 _) $$ H5
  isplitl [H6]
  · iapply (holds_some (F := F) c arg6 _) $$ H6
  isplitl [H7]
  · iapply (holds_some (F := F) c arg7 _) $$ H7
  isplitl [H8]
  · iapply (holds_some (F := F) c arg8 _) $$ H8
  · iapply (holds_some (F := F) c arg9 _) $$ H9

end Cert.Proof.Kernel2

end
-- ==== Proof.Mla.Run.lean ====
module

public import proofs.«01_k».proof.Proof.Mla.Body
public import proofs.«01_k».proof.Proof.Gen.Kernel2.Frame

/-! The launch of the attention over the latent cache: at every grid point the body keeps its inputs, so the whole run keeps the argument arrays. -/

@[expose] public section

set_option maxRecDepth 16384
set_option maxHeartbeats 4000000

noncomputable section

namespace Cert.Proof.Kernel2

open Cert.Kernel2
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.Kernel2.Gen

variable {F : FTy → Type} [BitOps F]

variable (m : (ℓ : Loc nD τ sig) → Buf (Elt F) ℓ) (ρ : Dev nD → PrngReg)

/-- What the run is described by: every window's array at what the region finds in it, every staging buffer at its
block; nothing is said of the result's window. -/
def dats (_ : Fin 1) (c : Dev nD) : Dat τ (Elt F) Unit ℕ (UR sig nD τ) ℕ cfg0 c where
  A w := Gen.V m c (Pipeline.arrRef spec0 w)
  after w t := match w with
    | 0 => Gen.iblk m c 0 t
    | 1 => Gen.iblk m c 1 t
    | 2 => Gen.iblk m c 2 t
    | 3 => Gen.iblk m c 3 t
  Φ _ := Pipeline.ΦA spec0 c
  q _ := fullShare
  owed _ := 0

theorem before0_0 (c : Dev nD) (t : Fin cfg0.N) (d) : (dats m 0 c).before 0 t d = Gen.iblk m c 0 t :=
  Gen.before0_0_of m (dats m 0 c) rfl (fun _ => rfl) t d
theorem before0_1 (c : Dev nD) (t : Fin cfg0.N) (d) : (dats m 0 c).before 1 t d = Gen.iblk m c 1 t :=
  Gen.before0_1_of m (dats m 0 c) rfl (fun _ => rfl) t d
theorem before0_2 (c : Dev nD) (t : Fin cfg0.N) (d) : (dats m 0 c).before 2 t d = Gen.iblk m c 2 t :=
  Gen.before0_2_of m (dats m 0 c) rfl (fun _ => rfl) t d

/-- The window whose contents are not described: the result's. -/
def fgt : Fin cfg0.W → Bool := fun w => decide (w.val = 3)

/-- At every grid point the body leaves every input's staging buffer at its block. -/
theorem body_obligation (c : Dev nD) : BodyObligationLoose (dats m 0 c) (defs₀ (F := F)) Variants.none () Set.univ fgt := fun t => by
  rw [bigSep_W0, bigSep_W0]
  sl_whnfR [defs₀, Defs.onTc]
  simp only [before0_0, before0_1, before0_2, show fgt (0 : Fin 4) = false from rfl, show fgt (1 : Fin 4) = false from rfl, show fgt (2 : Fin 4) = false from rfl, show fgt (3 : Fin 4) = true from rfl]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  unfold Pipeline.ΦA
  rw [scopedRest0_eq c]
  iintro ⟨⟨⟨⟨%s0, S0⟩, ⟨%s1, S1⟩, ⟨%s2, S2⟩, ⟨%s3, S3⟩⟩, Hg⟩, Ho, ⟨%d0, H0⟩, ⟨%d1, H1⟩, ⟨%d2, H2⟩, ⟨%X3, H3⟩⟩
  iapply (body_keeps (F := F) c (grid0.coords t) _ (Gen.hstage0_0 ((cfg0.slots t 0).cast nbuf0_0)) _ (Gen.hstage0_1 ((cfg0.slots t 1).cast nbuf0_1)) _ (Gen.hstage0_2 ((cfg0.slots t 2).cast nbuf0_2)) _ (Gen.hstage0_3 ((cfg0.slots t 3).cast nbuf0_3)) _ (Memref.isWhole_whole _) _ (Memref.isWhole_whole _) _ (Memref.isWhole_whole _) _ (Memref.isWhole_whole _) (Gen.iblk m c 0 t) (Gen.iblk m c 1 t) (Gen.iblk m c 2 t) _)
  isplitl [H0]; · iexact H0
  isplitl [H1]; · iexact H1
  isplitl [H2]; · iexact H2
  isplitl [H3]; · iexists _; iexact H3
  isplitl [S0]; · iexists s0; rw [owns_whole]; iexact S0
  isplitl [S1]; · iexists s1; rw [owns_whole]; iexact S1
  isplitl [S2]; · iexists s2; rw [owns_whole]; iexact S2
  isplitl [S3]; · iexists s3; rw [owns_whole]; iexact S3
  iintro ⟨H0, H1, H2, ⟨%Y3, H3⟩, ⟨%u0, S0⟩, ⟨%u1, S1⟩, ⟨%u2, S2⟩, ⟨%u3, S3⟩⟩
  isplitl [Hg S0 S1 S2 S3]
  · isplitl [S0 S1 S2 S3]
    isplitl [S0]
    · iexists u0; iapply (Entails.of_eq (owns_whole (c : Thread nD τ) cc0_scratch0 fullShare u0)) $$ S0
    isplitl [S1]
    · iexists u1; iapply (Entails.of_eq (owns_whole (c : Thread nD τ) cc0_scratch1 fullShare u1)) $$ S1
    isplitl [S2]
    · iexists u2; iapply (Entails.of_eq (owns_whole (c : Thread nD τ) cc0_scratch2 fullShare u2)) $$ S2
    · iexists u3; iapply (Entails.of_eq (owns_whole (c : Thread nD τ) cc0_scratch3 fullShare u3)) $$ S3
    · iexact Hg
  isplitl [Ho]; · iexact Ho
  isplitl [H0]; · iexact H0
  isplitl [H1]; · iexact H1
  isplitl [H2]; · iexact H2
  iexists _; iexact H3

set_option backward.isDefEq.respectTransparency.types false in
/-- Every run ends, with the argument arrays as they were and every semaphore back at zero. -/
theorem quiescent : θ_run defs (onTc (τ := τ) (main (F := F))) ⟨m, fun _ => 0, ρ⟩ (fun r => (∀ c : Dev nD,
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2)) ∧ r.2.sem = fun _ => 0) :=
  Pipeline.θ_run_frame_forget cfgs (dats m) 0 launch0 defs₀ Variants.none fgt m ρ main
    (hbody := body_obligation m)
    (hshare := fun c => (dats m 0 c).share_full fun _ => rfl) (howed := fun _ _ => rfl) (V := Gen.V m)
    (hmain := Gen.hmain m Variants.none) (hA := fun _ _ => rfl) (hΦ := fun _ _ => rfl) (Q' := _)
    (hQ' := fun r h => ⟨fun c => ⟨((h.1.arr_in c 0 rfl).trans (Gen.V_main_arg0 m c)), ((h.1.arr_in c 1 rfl).trans (Gen.V_main_arg1 m c)), ((h.1 c).2 main_arg2 (Pipeline.mem_restRefs_of main_arg2 (by decide) (by decide))).trans (Gen.V_main_arg2 m c)⟩, h.2⟩)

end Cert.Proof.Kernel2

end
-- ==== Proof.Mla.Trips.lean ====
module

public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import Idealize.ShloMosaic.Lib.Exec
public import Idealize.ShloMosaic.Lib.Tactic
public import Idealize.ShloMosaic.Lib.Pipeline.Kit

/-! What the counted loops of the latent attention kernel, over the reals, leave in the buffers they write: the scores' loop
the scores and the row maxima of each lane, the second pass the row sums of each lane and the weighted values. -/

@[expose] public section

set_option warn.classDefReducibility false
set_option maxRecDepth 8192
set_option maxHeartbeats 4000000

noncomputable section

namespace Cert.Proof.Kernel2Ideal

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- Where the loops load and store, in closed form. -/
theorem off1_eq : ∀ (i : grid0.Coords) (k : Fin (k0_t1_loop i).trips), k0_off1 i k = ![0, 512 * k.val, 0] := by decide +kernel
instance (i : grid0.Coords) (k : Fin (k0_t1_loop i).trips) : ClosedOff (k0_off1 i k) := ⟨_, off1_eq i k⟩
/-- Where the scores' loop stores a block of scores. -/
theorem off2_eq : ∀ (i : grid0.Coords) (k : Fin (k0_t1_loop i).trips), k0_off2 i k = ![0, 512 * k.val] := by decide +kernel
instance (i : grid0.Coords) (k : Fin (k0_t1_loop i).trips) : ClosedOff (k0_off2 i k) := ⟨_, off2_eq i k⟩
/-- Where the second pass loads a block of scores. -/
theorem off7_eq : ∀ (i : grid0.Coords) (k : Fin (k0_t3_loop i).trips), k0_off7 i k = ![0, 512 * k.val] := by decide +kernel
instance (i : grid0.Coords) (k : Fin (k0_t3_loop i).trips) : ClosedOff (k0_off7 i k) := ⟨_, off7_eq i k⟩
/-- Where the second pass loads a block of values. -/
theorem off8_eq : ∀ (i : grid0.Coords) (k : Fin (k0_t3_loop i).trips), k0_off8 i k = ![0, 512 * k.val, 0] := by decide +kernel
instance (i : grid0.Coords) (k : Fin (k0_t3_loop i).trips) : ClosedOff (k0_off8 i k) := ⟨_, off8_eq i k⟩
/-- Where the keys of the block on the diagonal lie. -/
theorem off5_eq : ∀ (i : grid0.Coords), k0_off5 i = ![0, 512 * ((i 1).val / 2), 0] := by decide +kernel
instance (i : grid0.Coords) : ClosedOff (k0_off5 i) := ⟨_, off5_eq i⟩
/-- Where the scores of the block on the diagonal lie. -/
theorem off6_eq : ∀ (i : grid0.Coords), k0_off6 i = ![0, 512 * ((i 1).val / 2)] := by decide +kernel
instance (i : grid0.Coords) : ClosedOff (k0_off6 i) := ⟨_, off6_eq i⟩
/-- The scores' loop runs over the blocks of keys before the diagonal's. -/
theorem trips1 : ∀ (i : grid0.Coords), (k0_t1_loop i).trips = (i 1).val / 2 := by decide +kernel
/-- Its remainder is empty. -/
theorem trips2 : ∀ (i : grid0.Coords), (k0_t2_loop i).trips = 0 := by decide +kernel
/-- The second pass runs over these blocks and the diagonal's. -/
theorem trips3 : ∀ (i : grid0.Coords), (k0_t3_loop i).trips = (i 1).val / 2 + 1 := by decide +kernel
/-- Its remainder is empty. -/
theorem trips4 : ∀ (i : grid0.Coords), (k0_t4_loop i).trips = 0 := by decide +kernel

/-- What one trip of the scores' loop leaves in the scores' buffer: the scores of a block of keys. -/
def put6 (i : grid0.Coords) (arg3 : Memref sig .tc .vmem S1x4096x384 .bf16) (arg6 : Memref sig .tc .vmem S2048x4096 .f32) (arg7 : Memref sig .tc .vmem S2048x128 .f32) (v0 : Vec F S1x8x256x384 .bf16) (X3 : arg3.view.ty.Contents (Elt F)) (k : Fin (k0_t1_loop i).trips) (f6 : arg6.view.ty.Contents (Elt F)) : arg6.view.ty.Contents (Elt F) :=
  arg6.view.writes (Elt F) f6 [⟨Rect.unit (s := S2048x4096) (k0_off2 i k) S2048x512.size (k0_off2_inb i k), k0_pay5 v0 (arg3.view.readAt (Elt F) (Rect.unit (s := S1x4096x384) (k0_off1 i k) S1x512x384.size (k0_off1_inb i k)).toLoadRect X3)⟩]

/-- What one trip of the scores' loop leaves in the buffer of row maxima, of each lane. -/
def put7 (i : grid0.Coords) (arg3 : Memref sig .tc .vmem S1x4096x384 .bf16) (arg6 : Memref sig .tc .vmem S2048x4096 .f32) (arg7 : Memref sig .tc .vmem S2048x128 .f32) (v0 : Vec F S1x8x256x384 .bf16) (X3 : arg3.view.ty.Contents (Elt F)) (k : Fin (k0_t1_loop i).trips) (f7 : arg7.view.ty.Contents (Elt F)) : arg7.view.ty.Contents (Elt F) :=
  arg7.view.writes (Elt F) f7 [⟨Rect.unit (s := S2048x128) ![0, 0] S2048x128.size inb_S2048x128_S2048x128_0_0, k0_pay6 v0 (arg3.view.readAt (Elt F) (Rect.unit (s := S1x4096x384) (k0_off1 i k) S1x512x384.size (k0_off1_inb i k)).toLoadRect X3) (arg7.view.readAt (Elt F) (Rect.unit (s := S2048x128) ![0, 0] S2048x128.size inb_S2048x128_S2048x128_0_0).toLoadRect f7)⟩]

/-- What the first `k` trips leave in the two buffers the loop writes, from what it finds there. -/
def st1 (i : grid0.Coords) (arg3 : Memref sig .tc .vmem S1x4096x384 .bf16) (arg6 : Memref sig .tc .vmem S2048x4096 .f32) (arg7 : Memref sig .tc .vmem S2048x128 .f32) (v0 : Vec F S1x8x256x384 .bf16) (X3 : arg3.view.ty.Contents (Elt F)) (G6 : arg6.view.ty.Contents (Elt F)) (G7 : arg7.view.ty.Contents (Elt F)) : ℕ → arg6.view.ty.Contents (Elt F) × arg7.view.ty.Contents (Elt F)
  | 0 => (G6, G7)
  | k + 1 => if h : k < (k0_t1_loop i).trips then
      (put6 i arg3 arg6 arg7 v0 X3 ⟨k, h⟩ (st1 i arg3 arg6 arg7 v0 X3 G6 G7 k).1, put7 i arg3 arg6 arg7 v0 X3 ⟨k, h⟩ (st1 i arg3 arg6 arg7 v0 X3 G6 G7 k).2)
    else st1 i arg3 arg6 arg7 v0 X3 G6 G7 k

theorem st1_succ (i : grid0.Coords) (arg3 : Memref sig .tc .vmem S1x4096x384 .bf16) (arg6 : Memref sig .tc .vmem S2048x4096 .f32) (arg7 : Memref sig .tc .vmem S2048x128 .f32) (v0 : Vec F S1x8x256x384 .bf16) (X3 : arg3.view.ty.Contents (Elt F)) (G6 : arg6.view.ty.Contents (Elt F)) (G7 : arg7.view.ty.Contents (Elt F)) (k : Fin (k0_t1_loop i).trips) :
    st1 i arg3 arg6 arg7 v0 X3 G6 G7 (k.val + 1)
      = (put6 i arg3 arg6 arg7 v0 X3 k (st1 i arg3 arg6 arg7 v0 X3 G6 G7 k.val).1, put7 i arg3 arg6 arg7 v0 X3 k (st1 i arg3 arg6 arg7 v0 X3 G6 G7 k.val).2) := by
  rw [st1]; exact dif_pos k.isLt

/-- One trip of the loop, on any contents. -/
theorem trip1 (c : Dev nD) (i : grid0.Coords) (arg2 : Memref sig .tc .vmem S1x8x256x384 .bf16) (harg2 : arg2.IsWhole) (arg3 : Memref sig .tc .vmem S1x4096x384 .bf16) (harg3 : arg3.IsWhole) (arg4 : Memref sig .tc .vmem S8x256x128 .bf16) (harg4 : arg4.IsWhole) (arg5 : Memref sig .tc .vmem S1x256x1024 .bf16) (harg5 : arg5.IsWhole) (arg6 : Memref sig .tc .vmem S2048x4096 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x256 .f32) (harg9 : arg9.IsWhole) (v0 : Vec F S1x8x256x384 .bf16) (X3 : arg3.view.ty.Contents (Elt F)) (f6 : arg6.view.ty.Contents (Elt F)) (f7 : arg7.view.ty.Contents (Elt F)) (k : Fin (k0_t1_loop i).trips) :
    iprop((arg3.view.loc (c : Thread nD τ) ↦[arg3.view.set]{fullShare} X3 : sProp (MT nD τ sig Unit (Elt F) ℕ (UR sig nD τ) ℕ)) ∗ (arg6.view.loc (c : Thread nD τ) ↦[arg6.view.set]{fullShare} f6 : sProp (MT nD τ sig Unit (Elt F) ℕ (UR sig nD τ) ℕ)) ∗ (arg7.view.loc (c : Thread nD τ) ↦[arg7.view.set]{fullShare} f7 : sProp (MT nD τ sig Unit (Elt F) ℕ (UR sig nD τ) ℕ)))
    ⊢ wp frame (wpE (defs₀ (F := F)) Variants.none (c : Thread nD τ) none) Set.univ (k0_t1_body (F := F) i arg2 harg2 arg3 harg3 arg4 harg4 arg5 harg5 arg6 harg6 arg7 harg7 arg8 harg8 arg9 harg9 v0 k PUnit.unit)
      (fun _ => iprop((arg3.view.loc (c : Thread nD τ) ↦[arg3.view.set]{fullShare} X3 : sProp (MT nD τ sig Unit (Elt F) ℕ (UR sig nD τ) ℕ)) ∗ (arg6.view.loc (c : Thread nD τ) ↦[arg6.view.set]{fullShare} (put6 i arg3 arg6 arg7 v0 X3 k f6) : sProp (MT nD τ sig Unit (Elt F) ℕ (UR sig nD τ) ℕ)) ∗ (arg7.view.loc (c : Thread nD τ) ↦[arg7.view.set]{fullShare} (put7 i arg3 arg6 arg7 v0 X3 k f7) : sProp (MT nD τ sig Unit (Elt F) ℕ (UR sig nD τ) ℕ)))) := by
  unfold k0_t1_body put6 put7
  iintro ⟨H3, H6, H7⟩
  sl_exec
  sl_step
  sl_close

/-- The loop's invariant: the buffers it reads as they were, the two it writes as the trips so far left them. -/
@[sl_loop] def loopInv1 (c : Dev nD) (i : grid0.Coords) (arg2 : Memref sig .tc .vmem S1x8x256x384 .bf16) (harg2 : arg2.IsWhole) (arg3 : Memref sig .tc .vmem S1x4096x384 .bf16) (harg3 : arg3.IsWhole) (arg4 : Memref sig .tc .vmem S8x256x128 .bf16) (harg4 : arg4.IsWhole) (arg5 : Memref sig .tc .vmem S1x256x1024 .bf16) (harg5 : arg5.IsWhole) (arg6 : Memref sig .tc .vmem S2048x4096 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x256 .f32) (harg9 : arg9.IsWhole) (v0 : Vec F S1x8x256x384 .bf16) (X3 : arg3.view.ty.Contents (Elt F)) (G6 : arg6.view.ty.Contents (Elt F)) (G7 : arg7.view.ty.Contents (Elt F)) :
    LoopInv (M := (MT nD τ sig Unit (Elt F) ℕ (UR sig nD τ) ℕ)) frame (wpE defs₀ Variants.none (c : Thread nD τ) none) Set.univ (k0_t1_loop i).lb (k0_t1_loop i).ub (k0_t1_loop i).st (k0_t1_ok i) () (k0_t1_body (F := F) i arg2 harg2 arg3 harg3 arg4 harg4 arg5 harg5 arg6 harg6 arg7 harg7 arg8 harg8 arg9 harg9 v0) where
  inv k _ := iprop((arg3.view.loc (c : Thread nD τ) ↦[arg3.view.set]{fullShare} X3 : sProp (MT nD τ sig Unit (Elt F) ℕ (UR sig nD τ) ℕ)) ∗ (∃ f, (arg6.view.loc (c : Thread nD τ) ↦[arg6.view.set]{fullShare} f : sProp (MT nD τ sig Unit (Elt F) ℕ (UR sig nD τ) ℕ)) ∗ ⌜f = (match k with | 0 => G6 | j + 1 => (st1 i arg3 arg6 arg7 v0 X3 G6 G7 (j + 1)).1)⌝) ∗ (∃ f, (arg7.view.loc (c : Thread nD τ) ↦[arg7.view.set]{fullShare} f : sProp (MT nD τ sig Unit (Elt F) ℕ (UR sig nD τ) ℕ)) ∗ ⌜f = (match k with | 0 => G7 | j + 1 => (st1 i arg3 arg6 arg7 v0 X3 G6 G7 (j + 1)).2)⌝))
  step k acc := by
    iintro ⟨H3, ⟨%f6, H6, %h6⟩, ⟨%f7, H7, %h7⟩⟩
    iapply (wp_wand_r Idealize.ShloMosaic.frame (wpE (defs₀ (F := F)) Variants.none (c : Thread nD τ) none) Set.univ)
    isplitl [H3 H6 H7]
    · iapply (trip1 (F := F) c i arg2 harg2 arg3 harg3 arg4 harg4 arg5 harg5 arg6 harg6 arg7 harg7 arg8 harg8 arg9 harg9 v0 X3 f6 f7 k)
      isplitl [H3]; · iexact H3
      isplitl [H6]; · iexact H6
      iexact H7
    · iintro %_ ⟨H3, H6, H7⟩
      isplitl [H3]; · iexact H3
      have e6 : f6 = (st1 i arg3 arg6 arg7 v0 X3 G6 G7 k.val).1 := h6.trans (by cases k.val <;> rfl)
      have e7 : f7 = (st1 i arg3 arg6 arg7 v0 X3 G6 G7 k.val).2 := h7.trans (by cases k.val <;> rfl)
      isplitl [H6]
      · iexists _; isplitl [H6]; · iexact H6
        ipureintro; show _ = (st1 i arg3 arg6 arg7 v0 X3 G6 G7 (k.val + 1)).1; rw [st1_succ, e6]
      iexists _; isplitl [H7]; · iexact H7
      ipureintro; show _ = (st1 i arg3 arg6 arg7 v0 X3 G6 G7 (k.val + 1)).2; rw [st1_succ, e7]

/-- The remainder's loop makes no trip: what it is entered with is what it leaves. -/
@[sl_loop] def loopInv2 (c : Dev nD) (i : grid0.Coords) (arg2 : Memref sig .tc .vmem S1x8x256x384 .bf16) (harg2 : arg2.IsWhole) (arg3 : Memref sig .tc .vmem S1x4096x384 .bf16) (harg3 : arg3.IsWhole) (arg4 : Memref sig .tc .vmem S8x256x128 .bf16) (harg4 : arg4.IsWhole) (arg5 : Memref sig .tc .vmem S1x256x1024 .bf16) (harg5 : arg5.IsWhole) (arg6 : Memref sig .tc .vmem S2048x4096 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x256 .f32) (harg9 : arg9.IsWhole) (v0 : Vec F S1x8x256x384 .bf16) (G6 : arg6.view.ty.Contents (Elt F)) (G7 : arg7.view.ty.Contents (Elt F)) :
    LoopInv (M := (MT nD τ sig Unit (Elt F) ℕ (UR sig nD τ) ℕ)) frame (wpE defs₀ Variants.none (c : Thread nD τ) none) Set.univ (k0_t2_loop i).lb (k0_t2_loop i).ub (k0_t2_loop i).st (k0_t2_ok i) () (k0_t2_body (F := F) i arg2 harg2 arg3 harg3 arg4 harg4 arg5 harg5 arg6 harg6 arg7 harg7 arg8 harg8 arg9 harg9 v0) where
  inv k _ := iprop((arg6.view.loc (c : Thread nD τ) ↦[arg6.view.set]{fullShare} G6 : sProp (MT nD τ sig Unit (Elt F) ℕ (UR sig nD τ) ℕ)) ∗ (arg7.view.loc (c : Thread nD τ) ↦[arg7.view.set]{fullShare} G7 : sProp (MT nD τ sig Unit (Elt F) ℕ (UR sig nD τ) ℕ)))
  step k acc := (k.cast (trips2 i)).elim0

/-- What one trip of the second pass leaves in the buffer of row sums, of each lane. -/
def put8 (i : grid0.Coords) (arg3 : Memref sig .tc .vmem S1x4096x384 .bf16) (arg6 : Memref sig .tc .vmem S2048x4096 .f32) (arg7 : Memref sig .tc .vmem S2048x128 .f32) (arg8 : Memref sig .tc .vmem S2048x128 .f32) (arg9 : Memref sig .tc .vmem S2048x256 .f32) (X3 : arg3.view.ty.Contents (Elt F)) (X6 : arg6.view.ty.Contents (Elt F)) (X7 : arg7.view.ty.Contents (Elt F)) (k : Fin (k0_t3_loop i).trips) (f8 : arg8.view.ty.Contents (Elt F)) : arg8.view.ty.Contents (Elt F) :=
  arg8.view.writes (Elt F) f8 [⟨Rect.unit (s := S2048x128) ![0, 0] S2048x128.size inb_S2048x128_S2048x128_0_0, k0_pay18 (arg6.view.readAt (Elt F) (Rect.unit (s := S2048x4096) (k0_off7 i k) S2048x512.size (k0_off7_inb i k)).toLoadRect X6) (arg7.view.readAt (Elt F) (Rect.unit (s := S2048x128) ![0, 0] S2048x128.size inb_S2048x128_S2048x128_0_0).toLoadRect X7) (arg8.view.readAt (Elt F) (Rect.unit (s := S2048x128) ![0, 0] S2048x128.size inb_S2048x128_S2048x128_0_0).toLoadRect f8)⟩]

/-- What one trip of the second pass leaves in the buffer of weighted values. -/
def put9 (i : grid0.Coords) (arg3 : Memref sig .tc .vmem S1x4096x384 .bf16) (arg6 : Memref sig .tc .vmem S2048x4096 .f32) (arg7 : Memref sig .tc .vmem S2048x128 .f32) (arg8 : Memref sig .tc .vmem S2048x128 .f32) (arg9 : Memref sig .tc .vmem S2048x256 .f32) (X3 : arg3.view.ty.Contents (Elt F)) (X6 : arg6.view.ty.Contents (Elt F)) (X7 : arg7.view.ty.Contents (Elt F)) (k : Fin (k0_t3_loop i).trips) (f9 : arg9.view.ty.Contents (Elt F)) : arg9.view.ty.Contents (Elt F) :=
  arg9.view.writes (Elt F) f9 [⟨Rect.unit (s := S2048x256) ![0, 0] S2048x256.size inb_S2048x256_S2048x256_0_0, k0_pay19 (arg6.view.readAt (Elt F) (Rect.unit (s := S2048x4096) (k0_off7 i k) S2048x512.size (k0_off7_inb i k)).toLoadRect X6) (arg7.view.readAt (Elt F) (Rect.unit (s := S2048x128) ![0, 0] S2048x128.size inb_S2048x128_S2048x128_0_0).toLoadRect X7) (arg3.view.readAt (Elt F) (Rect.unit (s := S1x4096x384) (k0_off8 i k) S1x512x256.size (k0_off8_inb i k)).toLoadRect X3) (arg9.view.readAt (Elt F) (Rect.unit (s := S2048x256) ![0, 0] S2048x256.size inb_S2048x256_S2048x256_0_0).toLoadRect f9)⟩]

/-- What the first `k` trips leave in the two buffers the loop writes, from what it finds there. -/
def st3 (i : grid0.Coords) (arg3 : Memref sig .tc .vmem S1x4096x384 .bf16) (arg6 : Memref sig .tc .vmem S2048x4096 .f32) (arg7 : Memref sig .tc .vmem S2048x128 .f32) (arg8 : Memref sig .tc .vmem S2048x128 .f32) (arg9 : Memref sig .tc .vmem S2048x256 .f32) (X3 : arg3.view.ty.Contents (Elt F)) (X6 : arg6.view.ty.Contents (Elt F)) (X7 : arg7.view.ty.Contents (Elt F)) (G8 : arg8.view.ty.Contents (Elt F)) (G9 : arg9.view.ty.Contents (Elt F)) : ℕ → arg8.view.ty.Contents (Elt F) × arg9.view.ty.Contents (Elt F)
  | 0 => (G8, G9)
  | k + 1 => if h : k < (k0_t3_loop i).trips then
      (put8 i arg3 arg6 arg7 arg8 arg9 X3 X6 X7 ⟨k, h⟩ (st3 i arg3 arg6 arg7 arg8 arg9 X3 X6 X7 G8 G9 k).1, put9 i arg3 arg6 arg7 arg8 arg9 X3 X6 X7 ⟨k, h⟩ (st3 i arg3 arg6 arg7 arg8 arg9 X3 X6 X7 G8 G9 k).2)
    else st3 i arg3 arg6 arg7 arg8 arg9 X3 X6 X7 G8 G9 k

theorem st3_succ (i : grid0.Coords) (arg3 : Memref sig .tc .vmem S1x4096x384 .bf16) (arg6 : Memref sig .tc .vmem S2048x4096 .f32) (arg7 : Memref sig .tc .vmem S2048x128 .f32) (arg8 : Memref sig .tc .vmem S2048x128 .f32) (arg9 : Memref sig .tc .vmem S2048x256 .f32) (X3 : arg3.view.ty.Contents (Elt F)) (X6 : arg6.view.ty.Contents (Elt F)) (X7 : arg7.view.ty.Contents (Elt F)) (G8 : arg8.view.ty.Contents (Elt F)) (G9 : arg9.view.ty.Contents (Elt F)) (k : Fin (k0_t3_loop i).trips) :
    st3 i arg3 arg6 arg7 arg8 arg9 X3 X6 X7 G8 G9 (k.val + 1)
      = (put8 i arg3 arg6 arg7 arg8 arg9 X3 X6 X7 k (st3 i arg3 arg6 arg7 arg8 arg9 X3 X6 X7 G8 G9 k.val).1, put9 i arg3 arg6 arg7 arg8 arg9 X3 X6 X7 k (st3 i arg3 arg6 arg7 arg8 arg9 X3 X6 X7 G8 G9 k.val).2) := by
  rw [st3]; exact dif_pos k.isLt

/-- One trip of the loop, on any contents. -/
theorem trip3 (c : Dev nD) (i : grid0.Coords) (arg2 : Memref sig .tc .vmem S1x8x256x384 .bf16) (harg2 : arg2.IsWhole) (arg3 : Memref sig .tc .vmem S1x4096x384 .bf16) (harg3 : arg3.IsWhole) (arg4 : Memref sig .tc .vmem S8x256x128 .bf16) (harg4 : arg4.IsWhole) (arg5 : Memref sig .tc .vmem S1x256x1024 .bf16) (harg5 : arg5.IsWhole) (arg6 : Memref sig .tc .vmem S2048x4096 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x256 .f32) (harg9 : arg9.IsWhole)  (X3 : arg3.view.ty.Contents (Elt F)) (X6 : arg6.view.ty.Contents (Elt F)) (X7 : arg7.view.ty.Contents (Elt F)) (f8 : arg8.view.ty.Contents (Elt F)) (f9 : arg9.view.ty.Contents (Elt F)) (k : Fin (k0_t3_loop i).trips) :
    iprop((arg3.view.loc (c : Thread nD τ) ↦[arg3.view.set]{fullShare} X3 : sProp (MT nD τ sig Unit (Elt F) ℕ (UR sig nD τ) ℕ)) ∗ (arg6.view.loc (c : Thread nD τ) ↦[arg6.view.set]{fullShare} X6 : sProp (MT nD τ sig Unit (Elt F) ℕ (UR sig nD τ) ℕ)) ∗ (arg7.view.loc (c : Thread nD τ) ↦[arg7.view.set]{fullShare} X7 : sProp (MT nD τ sig Unit (Elt F) ℕ (UR sig nD τ) ℕ)) ∗ (arg8.view.loc (c : Thread nD τ) ↦[arg8.view.set]{fullShare} f8 : sProp (MT nD τ sig Unit (Elt F) ℕ (UR sig nD τ) ℕ)) ∗ (arg9.view.loc (c : Thread nD τ) ↦[arg9.view.set]{fullShare} f9 : sProp (MT nD τ sig Unit (Elt F) ℕ (UR sig nD τ) ℕ)))
    ⊢ wp frame (wpE (defs₀ (F := F)) Variants.none (c : Thread nD τ) none) Set.univ (k0_t3_body (F := F) i arg2 harg2 arg3 harg3 arg4 harg4 arg5 harg5 arg6 harg6 arg7 harg7 arg8 harg8 arg9 harg9 (0#32) (k0_pay3 (F := F)) k PUnit.unit)
      (fun _ => iprop((arg3.view.loc (c : Thread nD τ) ↦[arg3.view.set]{fullShare} X3 : sProp (MT nD τ sig Unit (Elt F) ℕ (UR sig nD τ) ℕ)) ∗ (arg6.view.loc (c : Thread nD τ) ↦[arg6.view.set]{fullShare} X6 : sProp (MT nD τ sig Unit (Elt F) ℕ (UR sig nD τ) ℕ)) ∗ (arg7.view.loc (c : Thread nD τ) ↦[arg7.view.set]{fullShare} X7 : sProp (MT nD τ sig Unit (Elt F) ℕ (UR sig nD τ) ℕ)) ∗ (arg8.view.loc (c : Thread nD τ) ↦[arg8.view.set]{fullShare} (put8 i arg3 arg6 arg7 arg8 arg9 X3 X6 X7 k f8) : sProp (MT nD τ sig Unit (Elt F) ℕ (UR sig nD τ) ℕ)) ∗ (arg9.view.loc (c : Thread nD τ) ↦[arg9.view.set]{fullShare} (put9 i arg3 arg6 arg7 arg8 arg9 X3 X6 X7 k f9) : sProp (MT nD τ sig Unit (Elt F) ℕ (UR sig nD τ) ℕ)))) := by
  unfold k0_t3_body put8 put9
  iintro ⟨H3, H6, H7, H8, H9⟩
  sl_exec
  sl_step
  sl_close

/-- The loop's invariant: the buffers it reads as they were, the two it writes as the trips so far left them. -/
@[sl_loop] def loopInv3 (c : Dev nD) (i : grid0.Coords) (arg2 : Memref sig .tc .vmem S1x8x256x384 .bf16) (harg2 : arg2.IsWhole) (arg3 : Memref sig .tc .vmem S1x4096x384 .bf16) (harg3 : arg3.IsWhole) (arg4 : Memref sig .tc .vmem S8x256x128 .bf16) (harg4 : arg4.IsWhole) (arg5 : Memref sig .tc .vmem S1x256x1024 .bf16) (harg5 : arg5.IsWhole) (arg6 : Memref sig .tc .vmem S2048x4096 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x256 .f32) (harg9 : arg9.IsWhole)  (X3 : arg3.view.ty.Contents (Elt F)) (X6 : arg6.view.ty.Contents (Elt F)) (X7 : arg7.view.ty.Contents (Elt F)) (G8 : arg8.view.ty.Contents (Elt F)) (G9 : arg9.view.ty.Contents (Elt F)) :
    LoopInv (M := (MT nD τ sig Unit (Elt F) ℕ (UR sig nD τ) ℕ)) frame (wpE defs₀ Variants.none (c : Thread nD τ) none) Set.univ (k0_t3_loop i).lb (k0_t3_loop i).ub (k0_t3_loop i).st (k0_t3_ok i) () (k0_t3_body (F := F) i arg2 harg2 arg3 harg3 arg4 harg4 arg5 harg5 arg6 harg6 arg7 harg7 arg8 harg8 arg9 harg9 (0#32) (k0_pay3 (F := F))) where
  inv k _ := iprop((arg3.view.loc (c : Thread nD τ) ↦[arg3.view.set]{fullShare} X3 : sProp (MT nD τ sig Unit (Elt F) ℕ (UR sig nD τ) ℕ)) ∗ (arg6.view.loc (c : Thread nD τ) ↦[arg6.view.set]{fullShare} X6 : sProp (MT nD τ sig Unit (Elt F) ℕ (UR sig nD τ) ℕ)) ∗ (arg7.view.loc (c : Thread nD τ) ↦[arg7.view.set]{fullShare} X7 : sProp (MT nD τ sig Unit (Elt F) ℕ (UR sig nD τ) ℕ)) ∗ (∃ f, (arg8.view.loc (c : Thread nD τ) ↦[arg8.view.set]{fullShare} f : sProp (MT nD τ sig Unit (Elt F) ℕ (UR sig nD τ) ℕ)) ∗ ⌜f = (match k with | 0 => G8 | j + 1 => (st3 i arg3 arg6 arg7 arg8 arg9 X3 X6 X7 G8 G9 (j + 1)).1)⌝) ∗ (∃ f, (arg9.view.loc (c : Thread nD τ) ↦[arg9.view.set]{fullShare} f : sProp (MT nD τ sig Unit (Elt F) ℕ (UR sig nD τ) ℕ)) ∗ ⌜f = (match k with | 0 => G9 | j + 1 => (st3 i arg3 arg6 arg7 arg8 arg9 X3 X6 X7 G8 G9 (j + 1)).2)⌝))
  step k acc := by
    iintro ⟨H3, H6, H7, ⟨%f8, H8, %h8⟩, ⟨%f9, H9, %h9⟩⟩
    iapply (wp_wand_r Idealize.ShloMosaic.frame (wpE (defs₀ (F := F)) Variants.none (c : Thread nD τ) none) Set.univ)
    isplitl [H3 H6 H7 H8 H9]
    · iapply (trip3 (F := F) c i arg2 harg2 arg3 harg3 arg4 harg4 arg5 harg5 arg6 harg6 arg7 harg7 arg8 harg8 arg9 harg9  X3 X6 X7 f8 f9 k)
      isplitl [H3]; · iexact H3
      isplitl [H6]; · iexact H6
      isplitl [H7]; · iexact H7
      isplitl [H8]; · iexact H8
      iexact H9
    · iintro %_ ⟨H3, H6, H7, H8, H9⟩
      isplitl [H3]; · iexact H3
      isplitl [H6]; · iexact H6
      isplitl [H7]; · iexact H7
      have e8 : f8 = (st3 i arg3 arg6 arg7 arg8 arg9 X3 X6 X7 G8 G9 k.val).1 := h8.trans (by cases k.val <;> rfl)
      have e9 : f9 = (st3 i arg3 arg6 arg7 arg8 arg9 X3 X6 X7 G8 G9 k.val).2 := h9.trans (by cases k.val <;> rfl)
      isplitl [H8]
      · iexists _; isplitl [H8]; · iexact H8
        ipureintro; show _ = (st3 i arg3 arg6 arg7 arg8 arg9 X3 X6 X7 G8 G9 (k.val + 1)).1; rw [st3_succ, e8]
      iexists _; isplitl [H9]; · iexact H9
      ipureintro; show _ = (st3 i arg3 arg6 arg7 arg8 arg9 X3 X6 X7 G8 G9 (k.val + 1)).2; rw [st3_succ, e9]

/-- The remainder's loop makes no trip: what it is entered with is what it leaves. -/
@[sl_loop] def loopInv4 (c : Dev nD) (i : grid0.Coords) (arg2 : Memref sig .tc .vmem S1x8x256x384 .bf16) (harg2 : arg2.IsWhole) (arg3 : Memref sig .tc .vmem S1x4096x384 .bf16) (harg3 : arg3.IsWhole) (arg4 : Memref sig .tc .vmem S8x256x128 .bf16) (harg4 : arg4.IsWhole) (arg5 : Memref sig .tc .vmem S1x256x1024 .bf16) (harg5 : arg5.IsWhole) (arg6 : Memref sig .tc .vmem S2048x4096 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x256 .f32) (harg9 : arg9.IsWhole)  (G8 : arg8.view.ty.Contents (Elt F)) (G9 : arg9.view.ty.Contents (Elt F)) :
    LoopInv (M := (MT nD τ sig Unit (Elt F) ℕ (UR sig nD τ) ℕ)) frame (wpE defs₀ Variants.none (c : Thread nD τ) none) Set.univ (k0_t4_loop i).lb (k0_t4_loop i).ub (k0_t4_loop i).st (k0_t4_ok i) () (k0_t4_body (F := F) i arg2 harg2 arg3 harg3 arg4 harg4 arg5 harg5 arg6 harg6 arg7 harg7 arg8 harg8 arg9 harg9 (0#32) (k0_pay3 (F := F))) where
  inv k _ := iprop((arg8.view.loc (c : Thread nD τ) ↦[arg8.view.set]{fullShare} G8 : sProp (MT nD τ sig Unit (Elt F) ℕ (UR sig nD τ) ℕ)) ∗ (arg9.view.loc (c : Thread nD τ) ↦[arg9.view.set]{fullShare} G9 : sProp (MT nD τ sig Unit (Elt F) ℕ (UR sig nD τ) ℕ)))
  step k acc := (k.cast (trips4 i)).elim0

end Cert.Proof.Kernel2Ideal

end
-- ==== Proof.Mla.State.lean ====
module

public import proofs.«01_k».proof.Proof.Mla.Trips
public import Idealize.ShloMosaic.Lib.Pointwise
public import Idealize.ShloMosaic.Lib.Pipeline.ValueKit
public import Idealize.ShloMosaic.Lib.WritesUnit
public import Idealize.ShloMosaic.Lib.VecWindow

/-! The vectors the latent attention kernel computes at one grid point, over the reals, and that its two loops leave these
in their buffers. -/

@[expose] public section

set_option warn.classDefReducibility false
set_option maxRecDepth 8192
set_option maxHeartbeats 4000000

noncomputable section

namespace Cert.Proof.Kernel2Ideal

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The keys of block `k`, 512 rows. -/
def kvb (x3 : S1x4096x384.Idx → Elt F .bf16) (k : ℕ) : Vec F S1x512x384 .bf16 :=
  fun y => x3 (ix3 0 ⟨(512 * k + (y 1).val) % 4096, Nat.mod_lt _ (by norm_num)⟩ ⟨(y 2).val, (y 2).isLt⟩)
/-- The values of block `k`: the first 256 components of its keys. -/
def kvc (x3 : S1x4096x384.Idx → Elt F .bf16) (k : ℕ) : Vec F S1x512x256 .bf16 :=
  fun y => x3 (ix3 0 ⟨(512 * k + (y 1).val) % 4096, Nat.mod_lt _ (by norm_num)⟩ ⟨(y 2).val, lt_trans (y 2).isLt (by decide)⟩)
/-- The row maxima of each lane after `k` blocks of keys. -/
def mxs (v0 : Vec F S1x8x256x384 .bf16) (x3 : S1x4096x384.Idx → Elt F .bf16) : ℕ → Vec F S2048x128 .f32
  | 0 => k0_pay3
  | k + 1 => k0_pay6 v0 (kvb x3 k) (mxs v0 x3 k)
/-- The number of the key the diagonal's block starts at. -/
def w31 (i : grid0.Coords) : BitVec 32 := BitVec.ofNat 32 (512 * ((i 1).val / 2))
/-- The scores of block `k` of keys: as they are before the diagonal, masked on it. -/
def sbl (i : grid0.Coords) (v0 : Vec F S1x8x256x384 .bf16) (x3 : S1x4096x384.Idx → Elt F .bf16) (k : ℕ) : Vec F S2048x512 .f32 :=
  if k < (i 1).val / 2 then k0_pay5 v0 (kvb x3 k)
  else k0_pay11 (BitVec.ofNat 32 (i 1).val) (k0_pay2 v0) (w31 i) (kvb x3 ((i 1).val / 2))
/-- The row maxima, the same in each lane. -/
def mall (i : grid0.Coords) (v0 : Vec F S1x8x256x384 .bf16) (x3 : S1x4096x384.Idx → Elt F .bf16) : Vec F S2048x128 .f32 :=
  k0_pay14 (k0_pay13 (k0_pay12 (BitVec.ofNat 32 (i 1).val) (k0_pay2 v0) (w31 i) (kvb x3 ((i 1).val / 2)) (mxs v0 x3 ((i 1).val / 2))))
/-- The row sums of each lane after `k` blocks. -/
def lsum (sb : ℕ → Vec F S2048x512 .f32) (m : Vec F S2048x128 .f32) : ℕ → Vec F S2048x128 .f32
  | 0 => k0_pay15
  | k + 1 => k0_pay18 (sb k) m (lsum sb m k)
/-- The weighted values after `k` blocks. -/
def acc (sb : ℕ → Vec F S2048x512 .f32) (m : Vec F S2048x128 .f32) (x3 : S1x4096x384.Idx → Elt F .bf16) : ℕ → Vec F S2048x256 .f32
  | 0 => k0_pay16
  | k + 1 => k0_pay19 (sb k) m (kvc x3 k) (acc sb m x3 k)

/-- Equal coordinates, one by one. -/
theorem hi3 {s : Fin 3 → ℕ} {n : Fin 3 → ℕ} {m : Fin 3 → ℕ} (h0 : m 0 = s 0 + n 0) (h1 : m 1 = s 1 + n 1) (h2 : m 2 = s 2 + n 2) :
    ∀ a, m a = s a + n a := by
  intro a; fin_cases a <;> assumption
theorem hi2 {s : Fin 2 → ℕ} {n : Fin 2 → ℕ} {m : Fin 2 → ℕ} (h0 : m 0 = s 0 + n 0) (h1 : m 1 = s 1 + n 1) :
    ∀ a, m a = s a + n a := by
  intro a; fin_cases a <;> assumption

theorem ld_kvb (x3 : S1x4096x384.Idx → Elt F .bf16) {off : Fin 3 → ℕ} (inb : ∀ a, off a + S1x512x384.size a ≤ S1x4096x384.size a) (k : ℕ)
    (h : off = ![0, 512 * k, 0]) : (View.ld x3 (Rect.unit (s := S1x4096x384) off S1x512x384.size inb) : S1x512x384.Idx → Elt F .bf16) = kvb x3 k := by
  subst h
  funext y
  have hk := inb 1
  have h1 : (y 1).val < 512 := (y 1).isLt
  have h0 : (y 0).val < 1 := (y 0).isLt
  refine View.ld_unit_apply_of x3 _ _ inb y _ (hi3 ?_ ?_ ?_)
  · show (0 : ℕ) = 0 + (y 0).val; omega
  · show (512 * k + (y 1).val) % 4096 = 512 * k + (y 1).val
    change 512 * k + 512 ≤ 4096 at hk
    exact Nat.mod_eq_of_lt (by omega)
  · show (y 2).val = 0 + (y 2).val; omega

theorem ld_kvc (x3 : S1x4096x384.Idx → Elt F .bf16) {off : Fin 3 → ℕ} (inb : ∀ a, off a + S1x512x256.size a ≤ S1x4096x384.size a) (k : ℕ)
    (h : off = ![0, 512 * k, 0]) : (View.ld x3 (Rect.unit (s := S1x4096x384) off S1x512x256.size inb) : S1x512x256.Idx → Elt F .bf16) = kvc x3 k := by
  subst h
  funext y
  have hk := inb 1
  have h1 : (y 1).val < 512 := (y 1).isLt
  have h0 : (y 0).val < 1 := (y 0).isLt
  refine View.ld_unit_apply_of x3 _ _ inb y _ (hi3 ?_ ?_ ?_)
  · show (0 : ℕ) = 0 + (y 0).val; omega
  · show (512 * k + (y 1).val) % 4096 = 512 * k + (y 1).val
    change 512 * k + 512 ≤ 4096 at hk
    exact Nat.mod_eq_of_lt (by omega)
  · show (y 2).val = 0 + (y 2).val; omega

/-- A block of scores in the buffer of all scores. -/
def Holds (X : S2048x4096.Idx → Elt F .f32) (j : ℕ) (S : Vec F S2048x512 .f32) : Prop :=
  ∀ (r : Fin 2048) (q : Fin 512) (h : 512 * j + q.val < 4096), X (ix2 r ⟨512 * j + q.val, h⟩) = S (ix2 r q)

theorem Holds.of_eq {X : S2048x4096.Idx → Elt F .f32} {j : ℕ} {S S' : Vec F S2048x512 .f32} (h : Holds X j S) (e : S = S') : Holds X j S' := e ▸ h

theorem ld_holds {X : S2048x4096.Idx → Elt F .f32} {j : ℕ} {S : Vec F S2048x512 .f32} (h : Holds X j S) {off : Fin 2 → ℕ}
    (inb : ∀ a, off a + S2048x512.size a ≤ S2048x4096.size a) (e : off = ![0, 512 * j]) :
    (View.ld X (Rect.unit (s := S2048x4096) off S2048x512.size inb) : S2048x512.Idx → Elt F .f32) = S := by
  subst e
  funext y
  have hk := inb 1
  change 512 * j + 512 ≤ 4096 at hk
  have h1 : (y 1).val < 512 := (y 1).isLt
  refine (View.ld_unit_apply_of X _ _ inb y (ix2 ⟨(y 0).val, (y 0).isLt⟩ ⟨512 * j + (y 1).val, by omega⟩) (hi2 ?_ ?_)).trans ?_
  · show (y 0).val = 0 + (y 0).val; omega
  · rfl
  · refine (h ⟨(y 0).val, (y 0).isLt⟩ ⟨(y 1).val, (y 1).isLt⟩ _).trans (congrArg S ?_)
    exact (eq_ix2 y).symm

theorem holds_same (v : View sig .tc .vmem S2048x4096 .f32) (f : v.ty.Contents (Elt F)) {off : Fin 2 → ℕ}
    (inb : ∀ a, off a + S2048x512.size a ≤ S2048x4096.size a) (w : S2048x512.Idx → Elt F .f32) (j : ℕ) (e : off = ![0, 512 * j]) :
    Holds (v.read (Elt F) (v.writes (Elt F) f [⟨Rect.unit (s := S2048x4096) off S2048x512.size inb, w⟩])) j w := by
  intro r q h
  exact View.read_writes_cons_unit_of_mem v f inb w [] _ (ix2 r q) e (hi2 (by show r.val = 0 + r.val; omega) rfl)

theorem holds_other (v : View sig .tc .vmem S2048x4096 .f32) (f : v.ty.Contents (Elt F)) {off : Fin 2 → ℕ}
    (inb : ∀ a, off a + S2048x512.size a ≤ S2048x4096.size a) (w : S2048x512.Idx → Elt F .f32) (k : ℕ) (e : off = ![0, 512 * k]) (j : ℕ) (hj : j < k)
    {S : Vec F S2048x512 .f32} (hS : Holds (v.read (Elt F) f) j S) :
    Holds (v.read (Elt F) (v.writes (Elt F) f [⟨Rect.unit (s := S2048x4096) off S2048x512.size inb, w⟩])) j S := by
  intro r q h
  refine (View.read_writes_cons_unit_of_not_mem v f inb w [] _ e 1 (Or.inl ?_)).trans (hS r q h)
  show 512 * j + q.val < 512 * k
  have := q.isLt; omega

/-- The scores' loop, as vectors. -/
theorem st1_read (i : grid0.Coords) (arg3 : Memref sig .tc .vmem S1x4096x384 .bf16) (harg3 : arg3.IsWhole) (arg6 : Memref sig .tc .vmem S2048x4096 .f32)
    (arg7 : Memref sig .tc .vmem S2048x128 .f32) (v0 : Vec F S1x8x256x384 .bf16) (x3 : S1x4096x384.Idx → Elt F .bf16)
    (G6 : arg6.view.ty.Contents (Elt F)) (G7 : arg7.view.ty.Contents (Elt F)) (hG7 : arg7.view.read (Elt F) G7 = k0_pay3) :
    ∀ k, k ≤ (k0_t1_loop i).trips → arg7.view.read (Elt F) (st1 i arg3 arg6 arg7 v0 (harg3.unread x3) G6 G7 k).2 = mxs v0 x3 k
      ∧ ∀ j, j < k → Holds (arg6.view.read (Elt F) (st1 i arg3 arg6 arg7 v0 (harg3.unread x3) G6 G7 k).1) j (k0_pay5 v0 (kvb x3 j)) := by
  intro k
  induction k with
  | zero => intro _; exact ⟨hG7, fun j h => absurd h (Nat.not_lt_zero _)⟩
  | succ k ih =>
    intro hk
    obtain ⟨h7, h6⟩ := ih (by omega)
    have hs := st1_succ i arg3 arg6 arg7 v0 (harg3.unread x3) G6 G7 ⟨k, hk⟩
    simp only at hs
    have hl : (arg3.view.readAt (Elt F) (Rect.unit (s := S1x4096x384) (k0_off1 i ⟨k, hk⟩) S1x512x384.size (k0_off1_inb i ⟨k, hk⟩)).toLoadRect (harg3.unread x3))
        = kvb x3 k := by
      rw [View.readAt_eq_ld, harg3.read_unread]; exact ld_kvb x3 _ k (off1_eq i ⟨k, hk⟩)
    constructor
    · rw [hs]; unfold put7; dsimp only
      rw [View.read_writes_full, View.readAt_full, h7, hl, mxs]
    · intro j hj
      rw [hs]; unfold put6; dsimp only
      rw [hl]
      rcases Nat.lt_succ_iff_lt_or_eq.1 hj with hj | hj
      · exact holds_other _ _ _ _ k (off2_eq i ⟨k, hk⟩) j hj (h6 j hj)
      · subst hj; exact holds_same _ _ _ _ j (off2_eq i ⟨j, hk⟩)

/-- The second pass, as vectors. -/
theorem st3_read (i : grid0.Coords) (arg3 : Memref sig .tc .vmem S1x4096x384 .bf16) (harg3 : arg3.IsWhole) (arg6 : Memref sig .tc .vmem S2048x4096 .f32)
    (arg7 : Memref sig .tc .vmem S2048x128 .f32) (arg8 : Memref sig .tc .vmem S2048x128 .f32) (arg9 : Memref sig .tc .vmem S2048x256 .f32)
    (x3 : S1x4096x384.Idx → Elt F .bf16) (X6 : arg6.view.ty.Contents (Elt F)) (X7 : arg7.view.ty.Contents (Elt F))
    (G8 : arg8.view.ty.Contents (Elt F)) (G9 : arg9.view.ty.Contents (Elt F)) (sb : ℕ → Vec F S2048x512 .f32) (m : Vec F S2048x128 .f32)
    (hX6 : ∀ j, j < (k0_t3_loop i).trips → Holds (arg6.view.read (Elt F) X6) j (sb j)) (hX7 : arg7.view.read (Elt F) X7 = m)
    (hG8 : arg8.view.read (Elt F) G8 = k0_pay15) (hG9 : arg9.view.read (Elt F) G9 = k0_pay16) :
    ∀ k, k ≤ (k0_t3_loop i).trips → arg8.view.read (Elt F) (st3 i arg3 arg6 arg7 arg8 arg9 (harg3.unread x3) X6 X7 G8 G9 k).1 = lsum sb m k
      ∧ arg9.view.read (Elt F) (st3 i arg3 arg6 arg7 arg8 arg9 (harg3.unread x3) X6 X7 G8 G9 k).2 = acc sb m x3 k := by
  intro k
  induction k with
  | zero => intro _; exact ⟨hG8, hG9⟩
  | succ k ih =>
    intro hk
    obtain ⟨h8, h9⟩ := ih (by omega)
    have hs := st3_succ i arg3 arg6 arg7 arg8 arg9 (harg3.unread x3) X6 X7 G8 G9 ⟨k, hk⟩
    simp only at hs
    have hl : (arg6.view.readAt (Elt F) (Rect.unit (s := S2048x4096) (k0_off7 i ⟨k, hk⟩) S2048x512.size (k0_off7_inb i ⟨k, hk⟩)).toLoadRect X6) = sb k := by
      rw [View.readAt_eq_ld]; exact ld_holds (hX6 k hk) _ (off7_eq i ⟨k, hk⟩)
    have hv : (arg3.view.readAt (Elt F) (Rect.unit (s := S1x4096x384) (k0_off8 i ⟨k, hk⟩) S1x512x256.size (k0_off8_inb i ⟨k, hk⟩)).toLoadRect (harg3.unread x3))
        = kvc x3 k := by
      rw [View.readAt_eq_ld, harg3.read_unread]; exact ld_kvc x3 _ k (off8_eq i ⟨k, hk⟩)
    rw [hs]; unfold put8 put9; dsimp only
    constructor
    · rw [View.read_writes_full, View.readAt_full, View.readAt_full, hX7, h8, hl, lsum]
    · rw [View.read_writes_full, View.readAt_full, View.readAt_full, hX7, h9, hl, hv, acc]

/-- The output block: per head, the weighted values over the row sums through the head's columns of the value projection. -/
def OUT (i : grid0.Coords) (x2 : S1x8x256x384.Idx → Elt F .bf16) (x3 : S1x4096x384.Idx → Elt F .bf16) (x4 : S8x256x128.Idx → Elt F .bf16) :
    S1x256x1024.Idx → Elt F .bf16 :=
  let m := mall i x2 x3
  let A := acc (sbl i x2 x3) m x3 ((i 1).val / 2 + 1)
  let L := lsum (sbl i x2 x3) m ((i 1).val / 2 + 1)
  View.canon (Val := Elt F) (s := S1x256x1024) (e := .bf16) [
    ⟨Rect.unit (s := S1x256x1024) ![0, 0, 896] S1x256x128.size inb_S1x256x1024_S1x256x128_0_0_896, k0_pay1 (k0_pay32 (k0_pay23 A L) (View.ld x4 (Rect.unit (s := S8x256x128) ![7, 0, 0] S1x256x128.size inb_S8x256x128_S1x256x128_7_0_0)))⟩,
    ⟨Rect.unit (s := S1x256x1024) ![0, 0, 768] S1x256x128.size inb_S1x256x1024_S1x256x128_0_0_768, k0_pay31 (k0_pay23 A L) (View.ld x4 (Rect.unit (s := S8x256x128) ![6, 0, 0] S1x256x128.size inb_S8x256x128_S1x256x128_6_0_0))⟩,
    ⟨Rect.unit (s := S1x256x1024) ![0, 0, 640] S1x256x128.size inb_S1x256x1024_S1x256x128_0_0_640, k0_pay30 (k0_pay23 A L) (View.ld x4 (Rect.unit (s := S8x256x128) ![5, 0, 0] S1x256x128.size inb_S8x256x128_S1x256x128_5_0_0))⟩,
    ⟨Rect.unit (s := S1x256x1024) ![0, 0, 512] S1x256x128.size inb_S1x256x1024_S1x256x128_0_0_512, k0_pay29 (k0_pay28 (k0_pay23 A L) (View.ld x4 (Rect.unit (s := S8x256x128) ![4, 0, 0] S1x256x128.size inb_S8x256x128_S1x256x128_4_0_0)))⟩,
    ⟨Rect.unit (s := S1x256x1024) ![0, 0, 384] S1x256x128.size inb_S1x256x1024_S1x256x128_0_0_384, k0_pay27 (k0_pay23 A L) (View.ld x4 (Rect.unit (s := S8x256x128) ![3, 0, 0] S1x256x128.size inb_S8x256x128_S1x256x128_3_0_0))⟩,
    ⟨Rect.unit (s := S1x256x1024) ![0, 0, 256] S1x256x128.size inb_S1x256x1024_S1x256x128_0_0_256, k0_pay26 (k0_pay23 A L) (View.ld x4 (Rect.unit (s := S8x256x128) ![2, 0, 0] S1x256x128.size inb_S8x256x128_S1x256x128_2_0_0))⟩,
    ⟨Rect.unit (s := S1x256x1024) ![0, 0, 128] S1x256x128.size inb_S1x256x1024_S1x256x128_0_0_128, k0_pay25 (k0_pay23 A L) (View.ld x4 (Rect.unit (s := S8x256x128) ![1, 0, 0] S1x256x128.size inb_S8x256x128_S1x256x128_1_0_0))⟩,
    ⟨Rect.unit (s := S1x256x1024) ![0, 0, 0] S1x256x128.size inb_S1x256x1024_S1x256x128_0_0_0, k0_pay24 A L (View.ld x4 (Rect.unit (s := S8x256x128) ![0, 0, 0] S1x256x128.size inb_S8x256x128_S1x256x128_0_0_0))⟩]

end Cert.Proof.Kernel2Ideal

end
-- ==== Proof.Mla.Soft.lean ====
module

public import Idealize.ShloMosaic.Lib.Pointwise

/-! A causally masked softmax over the extended reals whose scores are real: the two ways to compute it, and sums over
the columns cut in blocks of 512 and lanes of 128. -/

@[expose] public section

noncomputable section

namespace Cert.Proof.Soft

open Idealize.ShloMosaic

/-- The score of column `j`, hidden beyond column `n`. -/
def msk (n : ℕ) (d : ℕ → ℝ) (j : ℕ) : EReal := if j ≤ n then ((d j : ℝ) : EReal) else ⊥

/-- The largest score of the columns up to `n`. -/
def top (n : ℕ) (d : ℕ → ℝ) : ℝ := (Finset.range (n + 1)).sup' ⟨0, by simp⟩ d

/-- The unnormalised weight of column `j`. -/
def pw (n : ℕ) (d : ℕ → ℝ) (j : ℕ) : ℝ := if j ≤ n then Real.exp (d j - top n d) else 0

theorem top_mem (n : ℕ) (d : ℕ → ℝ) : ∃ j, j ≤ n ∧ top n d = d j := by
  obtain ⟨j, hj, h⟩ := Finset.exists_mem_eq_sup' (s := Finset.range (n + 1)) ⟨0, by simp⟩ d
  exact ⟨j, Nat.lt_succ_iff.1 (Finset.mem_range.1 hj), h⟩

theorem le_top {n : ℕ} (d : ℕ → ℝ) {j : ℕ} (h : j ≤ n) : d j ≤ top n d :=
  Finset.le_sup' d (Finset.mem_range.2 (Nat.lt_succ_iff.2 h))

/-- A value that is below just what is above every score of some columns, the visible ones among these, is the largest. -/
theorem eq_top {n : ℕ} {d : ℕ → ℝ} {C : ℕ} (hn : n < C) {M : EReal} (h : ∀ a, M ≤ a ↔ ∀ j, j < C → msk n d j ≤ a) :
    M = ((top n d : ℝ) : EReal) := by
  apply le_antisymm
  · rw [h]
    intro j _
    unfold msk
    split
    · next hj => exact EReal.coe_le_coe_iff.2 (le_top d hj)
    · exact bot_le
  · obtain ⟨j, hj, e⟩ := top_mem n d
    rw [e]
    have := (h M).1 le_rfl j (by omega)
    simpa [msk, hj] using this

theorem top_mul (n : ℕ) (d : ℕ → ℝ) {L : ℝ} (hL : 0 ≤ L) : top n (fun j => d j * L) = top n d * L := by
  apply le_antisymm
  · obtain ⟨j, hj, e⟩ := top_mem n (fun j => d j * L)
    rw [e]; exact mul_le_mul_of_nonneg_right (le_top d hj) hL
  · obtain ⟨j, hj, e⟩ := top_mem n d
    rw [e]; exact le_top (fun j => d j * L) hj

/-- The weight by the natural exponential. -/
theorem exp_msk (n : ℕ) (d : ℕ → ℝ) (j : ℕ) :
    Ideal.exp (msk n d j - ((top n d : ℝ) : EReal)) = ((pw n d j : ℝ) : EReal) := by
  unfold msk pw
  split
  · rw [← EReal.coe_sub, Ideal.exp_coe]
  · rw [EReal.bot_sub, Ideal.exp_bot]; rfl

/-- The weight by the exponential to base two, of scores over the logarithm of two. -/
theorem exp2_msk (n : ℕ) (d : ℕ → ℝ) (j : ℕ) :
    Ideal.exp2 (msk n (fun j => d j * (Real.log 2)⁻¹) j - ((top n (fun j => d j * (Real.log 2)⁻¹) : ℝ) : EReal)) = ((pw n d j : ℝ) : EReal) := by
  have hl : 0 < Real.log 2 := Real.log_pos (by norm_num)
  rw [top_mul n d (inv_nonneg.2 hl.le)]
  unfold msk pw
  split
  · rw [← EReal.coe_sub, Ideal.exp2_coe]
    congr 1
    show (2 : ℝ) ^ (d j * (Real.log 2)⁻¹ - top n d * (Real.log 2)⁻¹) = _
    rw [Real.rpow_def_of_pos (by norm_num), ← sub_mul, mul_comm (Real.log 2), mul_assoc, inv_mul_cancel₀ hl.ne', mul_one]
  · rw [EReal.bot_sub, Ideal.exp2_bot]; rfl

theorem pw_of_lt {n : ℕ} (d : ℕ → ℝ) {j : ℕ} (h : n < j) : pw n d j = 0 := by
  unfold pw; rw [if_neg (by omega)]

theorem pw_nonneg (n : ℕ) (d : ℕ → ℝ) (j : ℕ) : 0 ≤ pw n d j := by
  unfold pw; split
  · exact (Real.exp_pos _).le
  · exact le_rfl

/-- The weights' sum is not zero. -/
theorem sum_pw_ne {n : ℕ} (d : ℕ → ℝ) {C : ℕ} (hn : n < C) : ∑ j ∈ Finset.range C, pw n d j ≠ 0 := by
  apply ne_of_gt
  apply Finset.sum_pos' (fun j _ => pw_nonneg n d j)
  refine ⟨0, Finset.mem_range.2 (by omega), ?_⟩
  unfold pw; rw [if_pos (Nat.zero_le _)]; exact Real.exp_pos _

/-- The columns beyond the visible ones add nothing. -/
theorem sum_pw_mul {n : ℕ} (d : ℕ → ℝ) {C D : ℕ} (hn : n < C) (hC : C ≤ D) (g : ℕ → ℝ) :
    ∑ j ∈ Finset.range C, pw n d j * g j = ∑ j ∈ Finset.range D, pw n d j * g j := by
  apply Finset.sum_subset (Finset.range_subset_range.2 hC)
  intro j _ hj
  rw [Finset.mem_range, not_lt] at hj
  rw [pw_of_lt d (by omega), zero_mul]

theorem sum_pw {n : ℕ} (d : ℕ → ℝ) {C D : ℕ} (hn : n < C) (hC : C ≤ D) :
    ∑ j ∈ Finset.range C, pw n d j = ∑ j ∈ Finset.range D, pw n d j := by
  simpa using sum_pw_mul d hn hC (fun _ => 1)

/-- A sum by blocks of 512 columns. -/
theorem sum_blocks (g : ℕ → ℝ) (n : ℕ) : ∑ k ∈ Finset.range n, ∑ q : Fin 512, g (512 * k + q.val) = ∑ j ∈ Finset.range (512 * n), g j := by
  induction n with
  | zero => simp
  | succ n ih =>
    rw [Finset.sum_range_succ, ih, show 512 * (n + 1) = 512 * n + 512 by ring, Finset.sum_range_add]
    congr 1

/-- A sum by lanes: four columns of each block of 512 to a lane. -/
theorem sum_lanes (g : ℕ → ℝ) (n : ℕ) :
    ∑ l : Fin 128, ∑ k ∈ Finset.range n, (g (512 * k + l.val) + g (512 * k + (128 + l.val)) + g (512 * k + (256 + l.val)) + g (512 * k + (384 + l.val)))
      = ∑ j ∈ Finset.range (512 * n), g j := by
  rw [Finset.sum_comm]
  induction n with
  | zero => simp
  | succ n ih =>
    rw [Finset.sum_range_succ, ih, show 512 * (n + 1) = 512 * n + 128 + 128 + 128 + 128 by ring]
    simp only [Finset.sum_range_add, Finset.sum_add_distrib]
    have e : ∀ f : ℕ → ℝ, ∑ l : Fin 128, f l.val = ∑ l ∈ Finset.range 128, f l := fun f => Fin.sum_univ_eq_sum_range f 128
    rw [e fun l => g (512 * n + l), e fun l => g (512 * n + (128 + l)), e fun l => g (512 * n + (256 + l)), e fun l => g (512 * n + (384 + l))]
    simp only [add_assoc]
    norm_num [← add_assoc]

/-- A sum of reals is the sum of extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s h ih => rw [Finset.sum_insert h, Finset.sum_insert h, EReal.coe_add, ih]

/-- A quotient of reals, the divisor not zero. -/
theorem div_real (x : ℝ) {y : ℝ} (h : y ≠ 0) : Ideal.div ((x : ℝ) : EReal) ((y : ℝ) : EReal) = ((x / y : ℝ) : EReal) := by
  rw [Ideal.div_coe h, ← EReal.coe_mul]; congr 1; ring

/-- What a maximum over a finite set is below. -/
theorem fold_max_le {ι : Type} (s : Finset ι) (f : ι → EReal) (a : EReal) : s.fold max ⊥ f ≤ a ↔ ∀ i ∈ s, f i ≤ a := by
  classical
  induction s using Finset.induction_on with
  | empty => simp
  | insert b s h ih => rw [Finset.fold_insert h, max_le_iff, ih]; simp

end Cert.Proof.Soft

end
-- ==== Proof.Mla.Spec.lean ====
module

public import proofs.«01_k».proof.Proof.Mla.State
public import proofs.«01_k».proof.Proof.Mla.Soft

/-! What the latent attention kernel's vectors hold at one grid point, of real queries and keys: the weights of a causally
masked softmax, their sum, and the weighted values. -/

@[expose] public section

set_option maxRecDepth 16384
set_option maxHeartbeats 1000000

noncomputable section

namespace Cert.Proof.Kernel2Ideal

open Cert.Kernel2Ideal Cert.Kernel2Ideal.Gen
open Idealize.ShloMosaic Idealize.ShloMosaic.TcCoe Idealize.ShloMosaic.Tactic
open Idealize.SL.Sem
open Cert.Proof.Soft

/-- A row's query: row `r` is query `r % 256` of head `r / 256`. -/
def qrow (q : S1x8x256x384.Idx → ℝ) (r : Fin 2048) (x : Fin 384) : ℝ :=
  q (ix4 0 ⟨r.val / 256, by have := r.isLt; omega⟩ ⟨r.val % 256, Nat.mod_lt _ (by norm_num)⟩ x)
/-- Key `j`. -/
def krow (kv : S1x4096x384.Idx → ℝ) (j : ℕ) (x : Fin 384) : ℝ := kv (ix3 0 ⟨j % 4096, Nat.mod_lt _ (by norm_num)⟩ x)
/-- The scaled score of row `r` and key `j`. -/
def dsc (q : S1x8x256x384.Idx → ℝ) (kv : S1x4096x384.Idx → ℝ) (r : Fin 2048) (j : ℕ) : ℝ :=
  (∑ x : Fin 384, qrow q r x * krow kv j x) * (Real.sqrt 192)⁻¹
/-- The last key row `r` of query block `i 1` sees. -/
def lastKey (i : grid0.Coords) (r : Fin 2048) : ℕ := 256 * (i 1).val + r.val % 256

/-- A real array as one of extended reals. -/
abbrev up {s : Shape} (f : s.Idx → ℝ) : s.Idx → EReal := fun y => ((f y : ℝ) : EReal)

theorem scale2_eq : (Named.named (F := Ideal) κ "scale2" (φ := .f32) 0x3DD53B95#32 : EReal) = (((Real.sqrt 192)⁻¹ * (Real.log 2)⁻¹ : ℝ) : EReal) := rfl
theorem mask_eq : (Named.named (F := Ideal) κ "mask" (φ := .f32) 0xF149F2CA#32 : EReal) = ⊥ := rfl

variable (i : grid0.Coords) (q : S1x8x256x384.Idx → ℝ) (kv : S1x4096x384.Idx → ℝ)

theorem i1_lt : (i 1).val < 16 := (i 1).isLt

/-- A block's score, unmasked. -/
theorem pay4_at (k : ℕ) (r : Fin 2048) (c : Fin 512) :
    k0_pay4 (F := Ideal) (up q) (kvb (F := Ideal) (up kv) k) (ix2 r c) = ((dsc q kv r (512 * k + c.val) * (Real.log 2)⁻¹ : ℝ) : EReal) := by
  have e : ((dsc q kv r (512 * k + c.val) * (Real.log 2)⁻¹ : ℝ) : EReal)
      = (∑ x : Fin 384, ((qrow q r x : ℝ) : EReal) * ((krow kv (512 * k + c.val) x : ℝ) : EReal)) * (((Real.sqrt 192)⁻¹ * (Real.log 2)⁻¹ : ℝ) : EReal) := by
    unfold dsc
    rw [mul_assoc, EReal.coe_mul, coe_sum]
    simp only [EReal.coe_mul]
  rw [e]
  pointwise [k0_pay4, k0_pay2]
  rfl

theorem pay5_at (k : ℕ) (r : Fin 2048) (c : Fin 512) :
    k0_pay5 (F := Ideal) (up q) (kvb (F := Ideal) (up kv) k) (ix2 r c) = ((dsc q kv r (512 * k + c.val) * (Real.log 2)⁻¹ : ℝ) : EReal) := by
  rw [← pay4_at]
  pointwise [k0_pay5]

/-- The diagonal's mask, in whole numbers. -/
theorem mask_word (a n b c : ℕ) (ha : a < 16) (hn : n ≤ a) (hb : b < 256) (hc : c < 512) :
    IntOp.cmpi .sle (IntOp.addi (BitVec.ofNat 32 (512 * n)) (BitVec.ofNat 32 c)) (IntOp.addi (Scalar.muli (BitVec.ofNat 32 a) 256#32) (BitVec.ofNat 32 b))
      = if 512 * n + c ≤ 256 * a + b then 1#1 else 0#1 := by
  have e1 : IntOp.addi (BitVec.ofNat 32 (512 * n)) (BitVec.ofNat 32 c) = BitVec.ofNat 32 (512 * n + c) := by
    rw [BitVec.ofNat_add]; rfl
  have e2 : IntOp.addi (Scalar.muli (BitVec.ofNat 32 a) 256#32) (BitVec.ofNat 32 b) = BitVec.ofNat 32 (256 * a + b) := by
    rw [BitVec.ofNat_add, mul_comm 256 a, BitVec.ofNat_mul]; rfl
  rw [e1, e2]
  split
  · next h => exact (WordCmp.cmpi_sle_ofNat_eq_one_iff (w := 32) (by norm_num; omega) (by norm_num; omega)).2 h
  · next h => exact (WordCmp.cmpi_sle_ofNat_eq_zero_iff (w := 32) (by norm_num; omega) (by norm_num; omega)).2 (by omega)

/-- The diagonal block's score. -/
theorem pay10_at (r : Fin 2048) (c : Fin 512) :
    k0_pay10 (F := Ideal) (BitVec.ofNat 32 (i 1).val) (k0_pay2 (F := Ideal) (up q)) (w31 i) (kvb (F := Ideal) (up kv) ((i 1).val / 2)) (ix2 r c)
      = msk (lastKey i r) (fun j => dsc q kv r j * (Real.log 2)⁻¹) (512 * ((i 1).val / 2) + c.val) := by
  rw [show msk (lastKey i r) (fun j => dsc q kv r j * (Real.log 2)⁻¹) (512 * ((i 1).val / 2) + c.val)
    = if 512 * ((i 1).val / 2) + c.val ≤ 256 * (i 1).val + r.val % 256 then k0_pay4 (F := Ideal) (up q) (kvb (F := Ideal) (up kv) ((i 1).val / 2)) (ix2 r c) else ⊥ from by
      rw [pay4_at]; rfl]
  pointwise [k0_pay10, k0_pay4, k0_pay2]
  rw [w31, mask_word _ _ _ _ (i1_lt i) (by omega) (Nat.mod_lt _ (by norm_num)) c.isLt]
  split
  · rfl
  · rfl

/-- The scores as kept: the masked ones. -/
theorem sbl_at (k : ℕ) (hk : k ≤ (i 1).val / 2) (r : Fin 2048) (c : Fin 512) :
    sbl (F := Ideal) i (up q) (up kv) k (ix2 r c) = msk (lastKey i r) (fun j => dsc q kv r j * (Real.log 2)⁻¹) (512 * k + c.val) := by
  unfold sbl
  split
  · next h =>
    rw [pay5_at]
    unfold msk lastKey
    rw [if_pos (by have := c.isLt; omega)]
  · next h =>
    obtain rfl : k = (i 1).val / 2 := by omega
    rw [← pay10_at]
    pointwise [k0_pay11]

theorem pay6_at (b : Vec Ideal S1x512x384 .bf16) (v0 : Vec Ideal S1x8x256x384 .bf16) (m : Vec Ideal S2048x128 .f32) (r : Fin 2048) (l : Fin 128) (a : EReal) :
    k0_pay6 v0 b m (ix2 r l) ≤ a ↔ m (ix2 r l) ≤ a ∧ ∀ j : Fin 4, k0_pay4 v0 b (ix2 r ⟨128 * j.val + l.val, by omega⟩) ≤ a := by
  have e : k0_pay6 v0 b m (ix2 r l) = max (m (ix2 r l)) (max (max (max (k0_pay4 v0 b (ix2 r ⟨128 * (0 : Fin 4).val + l.val, by omega⟩))
      (k0_pay4 v0 b (ix2 r ⟨128 * (1 : Fin 4).val + l.val, by omega⟩))) (k0_pay4 v0 b (ix2 r ⟨128 * (2 : Fin 4).val + l.val, by omega⟩)))
      (k0_pay4 v0 b (ix2 r ⟨128 * (3 : Fin 4).val + l.val, by omega⟩))) := by
    pointwise [k0_pay6]
  rw [e]
  simp only [max_le_iff]
  constructor
  · rintro ⟨h, ⟨⟨h0, h1⟩, h2⟩, h3⟩
    refine ⟨h, fun j => ?_⟩
    fin_cases j
    exacts [h0, h1, h2, h3]
  · rintro ⟨h, hj⟩
    exact ⟨h, ⟨⟨hj 0, hj 1⟩, hj 2⟩, hj 3⟩

theorem pay12_at (a1 w : BitVec 32) (b : Vec Ideal S1x512x384 .bf16) (v2 : FVec Ideal S2048x384 .bf16) (m : Vec Ideal S2048x128 .f32) (r : Fin 2048) (l : Fin 128) (a : EReal) :
    k0_pay12 a1 v2 w b m (ix2 r l) ≤ a ↔ m (ix2 r l) ≤ a ∧ ∀ j : Fin 4, k0_pay10 a1 v2 w b (ix2 r ⟨128 * j.val + l.val, by omega⟩) ≤ a := by
  have e : k0_pay12 a1 v2 w b m (ix2 r l) = max (m (ix2 r l)) (max (max (max (k0_pay10 a1 v2 w b (ix2 r ⟨128 * (0 : Fin 4).val + l.val, by omega⟩))
      (k0_pay10 a1 v2 w b (ix2 r ⟨128 * (1 : Fin 4).val + l.val, by omega⟩))) (k0_pay10 a1 v2 w b (ix2 r ⟨128 * (2 : Fin 4).val + l.val, by omega⟩)))
      (k0_pay10 a1 v2 w b (ix2 r ⟨128 * (3 : Fin 4).val + l.val, by omega⟩))) := by
    unfold k0_pay12
    generalize k0_pay10 a1 v2 w b = Z
    pointwise []
  rw [e]
  simp only [max_le_iff]
  constructor
  · rintro ⟨h, ⟨⟨h0, h1⟩, h2⟩, h3⟩
    refine ⟨h, fun j => ?_⟩
    fin_cases j
    exacts [h0, h1, h2, h3]
  · rintro ⟨h, hj⟩
    exact ⟨h, ⟨⟨hj 0, hj 1⟩, hj 2⟩, hj 3⟩

/-- What a lane's maximum over the first blocks is below. -/
theorem mxs_le (r : Fin 2048) (l : Fin 128) (a : EReal) (n : ℕ) :
    mxs (F := Ideal) (up q) (up kv) n (ix2 r l) ≤ a ↔ ∀ k, k < n → ∀ j : Fin 4, ((dsc q kv r (512 * k + (128 * j.val + l.val)) * (Real.log 2)⁻¹ : ℝ) : EReal) ≤ a := by
  induction n with
  | zero =>
    have e : mxs (F := Ideal) (up q) (up kv) 0 (ix2 r l) = (⊥ : EReal) := by
      rw [mxs]; pointwise [k0_pay3]; rfl
    rw [e]; simp
  | succ n ih =>
    rw [mxs, pay6_at, ih]
    simp only [pay4_at]
    constructor
    · rintro ⟨h, h'⟩ k hk j
      rcases Nat.lt_succ_iff_lt_or_eq.1 hk with hk | rfl
      · exact h k hk j
      · exact h' j
    · exact fun h => ⟨fun k hk => h k (by omega), h n (by omega)⟩

/-- What a row's maximum is below. -/
theorem mall_le (r : Fin 2048) (l : Fin 128) (a : EReal) :
    mall (F := Ideal) i (up q) (up kv) (ix2 r l) ≤ a ↔
      ∀ j, j < 512 * ((i 1).val / 2 + 1) → msk (lastKey i r) (fun j => dsc q kv r j * (Real.log 2)⁻¹) j ≤ a := by
  have e12 : ∀ l' : Fin 128, k0_pay12 (F := Ideal) (BitVec.ofNat 32 (i 1).val) (k0_pay2 (F := Ideal) (up q)) (w31 i) (kvb (F := Ideal) (up kv) ((i 1).val / 2))
      (mxs (F := Ideal) (up q) (up kv) ((i 1).val / 2)) (ix2 r l') ≤ a ↔ ∀ k, k < (i 1).val / 2 + 1 → ∀ j : Fin 4,
        msk (lastKey i r) (fun j => dsc q kv r j * (Real.log 2)⁻¹) (512 * k + (128 * j.val + l'.val)) ≤ a := by
    intro l'
    rw [pay12_at, mxs_le]
    simp only [pay10_at]
    have hm : ∀ k, k < (i 1).val / 2 → ∀ j : Fin 4, msk (lastKey i r) (fun j => dsc q kv r j * (Real.log 2)⁻¹) (512 * k + (128 * j.val + l'.val))
        = ((dsc q kv r (512 * k + (128 * j.val + l'.val)) * (Real.log 2)⁻¹ : ℝ) : EReal) := by
      intro k hk j
      unfold msk lastKey
      rw [if_pos (by have := l'.isLt; have := j.isLt; omega)]
    constructor
    · rintro ⟨h, h'⟩ k hk j
      rcases Nat.lt_succ_iff_lt_or_eq.1 hk with hk | rfl
      · rw [hm k hk j]; exact h k hk j
      · exact h' j
    · refine fun h => ⟨fun k hk j => ?_, fun j => h _ (by omega) j⟩
      rw [← hm k hk j]; exact h k (by omega) j
  have e : mall (F := Ideal) i (up q) (up kv) (ix2 r l) = Finset.univ.fold max ⊥ (fun x : Fin 128 =>
      k0_pay12 (F := Ideal) (BitVec.ofNat 32 (i 1).val) (k0_pay2 (F := Ideal) (up q)) (w31 i) (kvb (F := Ideal) (up kv) ((i 1).val / 2))
        (mxs (F := Ideal) (up q) (up kv) ((i 1).val / 2)) (ix2 r x)) := by
    rw [mall]
    generalize k0_pay12 (F := Ideal) (BitVec.ofNat 32 (i 1).val) (k0_pay2 (F := Ideal) (up q)) (w31 i) (kvb (F := Ideal) (up kv) ((i 1).val / 2))
        (mxs (F := Ideal) (up q) (up kv) ((i 1).val / 2)) = Z
    pointwise [k0_pay14, k0_pay13]
    rw [show Ideal.ofBits FTy.f32 4286578688#32 = ⊥ from by simp [Ideal.ofBits, Ideal.ieee]]
  rw [e, fold_max_le]
  simp only [e12, Finset.mem_univ, true_imp_iff]
  constructor
  · intro h j hj
    have h1 : j = 512 * (j / 512) + (128 * (j % 512 / 128) + j % 128) := by omega
    have := h ⟨j % 128, Nat.mod_lt _ (by norm_num)⟩ (j / 512) (by omega) ⟨j % 512 / 128, by omega⟩
    rw [h1]; exact this
  · intro h l' k hk j
    exact h _ (by have := l'.isLt; have := j.isLt; omega)

theorem lastKey_lt (r : Fin 2048) : lastKey i r < 512 * ((i 1).val / 2 + 1) := by
  unfold lastKey; have := Nat.mod_lt r.val (show 0 < 256 by norm_num); omega

/-- The row maximum, in every lane. -/
theorem mall_at (r : Fin 2048) (l : Fin 128) :
    mall (F := Ideal) i (up q) (up kv) (ix2 r l) = ((top (lastKey i r) (fun j => dsc q kv r j * (Real.log 2)⁻¹) : ℝ) : EReal) :=
  eq_top (lastKey_lt i r) (mall_le i q kv r l)

theorem pay17_at (s : Vec Ideal S2048x512 .f32) (m : Vec Ideal S2048x128 .f32) (r : Fin 2048) (c : Fin 512) (M : EReal) (hm : ∀ l : Fin 128, m (ix2 r l) = M) :
    k0_pay17 s m (ix2 r c) = Ideal.exp2 (s (ix2 r c) - M) := by
  pointwise [k0_pay17]
  simp only [hm]
  have hc := c.isLt
  have hx : ∀ (n : ℕ) (h : n < 512), n = c.val → FloatOps.exp2 (F := Ideal) (φ := .f32) (s (ix2 r ⟨n, h⟩) - M) = Ideal.exp2 (s (ix2 r c) - M) := by
    rintro n h rfl; rfl
  split_ifs
  all_goals first | rfl | exact absurd rfl ‹_› | exact hx _ _ (by omega)

/-- The weight of row `r` and key `j`. -/
abbrev wgt (r : Fin 2048) (j : ℕ) : ℝ := pw (lastKey i r) (dsc q kv r) j

theorem w_at (k : ℕ) (hk : k ≤ (i 1).val / 2) (r : Fin 2048) (c : Fin 512) :
    k0_pay17 (sbl (F := Ideal) i (up q) (up kv) k) (mall (F := Ideal) i (up q) (up kv)) (ix2 r c) = ((wgt i q kv r (512 * k + c.val) : ℝ) : EReal) := by
  rw [pay17_at _ _ r c _ (mall_at i q kv r), sbl_at i q kv k hk, exp2_msk]

/-- A lane's sum over the first blocks. -/
theorem lsum_at (r : Fin 2048) (l : Fin 128) (n : ℕ) (hn : n ≤ (i 1).val / 2 + 1) :
    lsum (sbl (F := Ideal) i (up q) (up kv)) (mall (F := Ideal) i (up q) (up kv)) n (ix2 r l)
      = ((∑ k ∈ Finset.range n, (wgt i q kv r (512 * k + l.val) + wgt i q kv r (512 * k + (128 + l.val)) + wgt i q kv r (512 * k + (256 + l.val)) + wgt i q kv r (512 * k + (384 + l.val))) : ℝ) : EReal) := by
  induction n with
  | zero =>
    rw [lsum]; pointwise [k0_pay15]; simp
  | succ n ih =>
    rw [lsum, Finset.sum_range_succ, EReal.coe_add, ← ih (by omega)]
    simp only [EReal.coe_add]
    have hw := w_at i q kv n (by omega) r
    have e0 := hw ⟨l.val, by omega⟩
    have e1 := hw ⟨128 + l.val, by omega⟩
    have e2 := hw ⟨256 + l.val, by omega⟩
    have e3 := hw ⟨384 + l.val, by omega⟩
    simp only at e0 e1 e2 e3
    rw [← e0, ← e1, ← e2, ← e3]
    generalize lsum (sbl (F := Ideal) i (up q) (up kv)) (mall (F := Ideal) i (up q) (up kv)) n = Z
    generalize sbl (F := Ideal) i (up q) (up kv) n = s
    generalize mall (F := Ideal) i (up q) (up kv) = m
    pointwise [k0_pay18]

/-- The weighted values over the first blocks. -/
theorem acc_at (r : Fin 2048) (c : Fin 256) (n : ℕ) (hn : n ≤ (i 1).val / 2 + 1) :
    acc (sbl (F := Ideal) i (up q) (up kv)) (mall (F := Ideal) i (up q) (up kv)) (up kv) n (ix2 r c)
      = ((∑ k ∈ Finset.range n, ∑ x : Fin 512, wgt i q kv r (512 * k + x.val) * krow kv (512 * k + x.val) ⟨c.val, by omega⟩ : ℝ) : EReal) := by
  induction n with
  | zero =>
    rw [acc]; pointwise [k0_pay16]; simp
  | succ n ih =>
    rw [acc, Finset.sum_range_succ, EReal.coe_add, ← ih (by omega), coe_sum]
    simp only [EReal.coe_mul, ← w_at i q kv n (by omega) r]
    generalize acc (sbl (F := Ideal) i (up q) (up kv)) (mall (F := Ideal) i (up q) (up kv)) (up kv) n = Z
    generalize sbl (F := Ideal) i (up q) (up kv) n = s
    generalize mall (F := Ideal) i (up q) (up kv) = m
    pointwise [k0_pay19]
    rfl

/-- The attention's value at row `r` and component `c`. -/
def olat (r : Fin 2048) (c : Fin 256) : ℝ :=
  (∑ j ∈ Finset.range 4096, wgt i q kv r j * krow kv j ⟨c.val, by omega⟩) / ∑ j ∈ Finset.range 4096, wgt i q kv r j

theorem pay23_at (r : Fin 2048) (c : Fin 256) :
    k0_pay23 (acc (sbl (F := Ideal) i (up q) (up kv)) (mall (F := Ideal) i (up q) (up kv)) (up kv) ((i 1).val / 2 + 1))
      (lsum (sbl (F := Ideal) i (up q) (up kv)) (mall (F := Ideal) i (up q) (up kv)) ((i 1).val / 2 + 1)) (ix2 r c) = ((olat i q kv r c : ℝ) : EReal) := by
  have hC : 512 * ((i 1).val / 2 + 1) ≤ 4096 := by have := i1_lt i; omega
  have hA := acc_at i q kv r c _ le_rfl
  rw [sum_blocks (fun j => wgt i q kv r j * krow kv j ⟨c.val, by omega⟩), sum_pw_mul (dsc q kv r) (lastKey_lt i r) hC] at hA
  have hL : ∑ x : Fin 128, lsum (sbl (F := Ideal) i (up q) (up kv)) (mall (F := Ideal) i (up q) (up kv)) ((i 1).val / 2 + 1) (ix2 r x)
      = ((∑ j ∈ Finset.range 4096, wgt i q kv r j : ℝ) : EReal) := by
    simp only [lsum_at i q kv r _ _ le_rfl]
    rw [← coe_sum, sum_lanes (wgt i q kv r), sum_pw (dsc q kv r) (lastKey_lt i r) hC]
  have hne : ∑ j ∈ Finset.range 4096, wgt i q kv r j ≠ 0 := sum_pw_ne _ (lt_of_lt_of_le (lastKey_lt i r) hC)
  unfold olat
  rw [← div_real _ hne, ← hA, ← hL]
  generalize acc (sbl (F := Ideal) i (up q) (up kv)) (mall (F := Ideal) i (up q) (up kv)) (up kv) ((i 1).val / 2 + 1) = A
  generalize lsum (sbl (F := Ideal) i (up q) (up kv)) (mall (F := Ideal) i (up q) (up kv)) ((i 1).val / 2 + 1) = L
  pointwise [k0_pay23]

end Cert.Proof.Kernel2Ideal

end
-- ==== Proof.Mla.Out.lean ====
module

public import proofs.«01_k».proof.Proof.Mla.Spec

/-! What the latent attention kernel leaves in the result's block at one grid point, of real queries and keys: every head's
attention output through the head's columns of the value projection. -/

@[expose] public section

set_option maxRecDepth 16384
set_option maxHeartbeats 1000000

noncomputable section

namespace Cert.Proof.Kernel2Ideal

open Cert.Kernel2Ideal Cert.Kernel2Ideal.Gen
open Idealize.ShloMosaic Idealize.ShloMosaic.TcCoe Idealize.ShloMosaic.Tactic
open Idealize.SL.Sem
open Cert.Proof.Soft

variable (A : S2048x256.Idx → EReal) (w : S1x256x128.Idx → EReal)

/-- Head `h`'s rows of the attention output through its projection columns. -/
def proj (A : S2048x256.Idx → EReal) (w : S1x256x128.Idx → EReal) (h : Fin 8) (r : Fin 256) (v : Fin 128) : EReal :=
  ∑ x : Fin 256, A (ix2 ⟨256 * h.val + r.val, by have := h.isLt; have := r.isLt; omega⟩ x) * w (ix3 0 x v)

theorem p24_at (X : Vec Ideal S2048x256 .f32) (L : Vec Ideal S2048x128 .f32) (r : Fin 256) (v : Fin 128) :
    k0_pay24 (F := Ideal) X L w (ix3 0 r v) = proj (k0_pay23 (F := Ideal) X L) w 0 r v := by
  unfold proj
  pointwise [k0_pay24, k0_pay23]
theorem p25_at (r : Fin 256) (v : Fin 128) : k0_pay25 (F := Ideal) A w (ix3 0 r v) = proj A w 1 r v := by
  unfold proj
  pointwise [k0_pay25]
theorem p26_at (r : Fin 256) (v : Fin 128) : k0_pay26 (F := Ideal) A w (ix3 0 r v) = proj A w 2 r v := by
  unfold proj
  pointwise [k0_pay26]
theorem p27_at (r : Fin 256) (v : Fin 128) : k0_pay27 (F := Ideal) A w (ix3 0 r v) = proj A w 3 r v := by
  unfold proj
  pointwise [k0_pay27]
theorem p28_at (r : Fin 256) (v : Fin 128) : k0_pay29 (F := Ideal) (k0_pay28 (F := Ideal) A w) (ix3 0 r v) = proj A w 4 r v := by
  unfold proj
  pointwise [k0_pay28, k0_pay29]
theorem p30_at (r : Fin 256) (v : Fin 128) : k0_pay30 (F := Ideal) A w (ix3 0 r v) = proj A w 5 r v := by
  unfold proj
  pointwise [k0_pay30]
theorem p31_at (r : Fin 256) (v : Fin 128) : k0_pay31 (F := Ideal) A w (ix3 0 r v) = proj A w 6 r v := by
  unfold proj
  pointwise [k0_pay31]
theorem p32_at (r : Fin 256) (v : Fin 128) : k0_pay1 (F := Ideal) (k0_pay32 (F := Ideal) A w) (ix3 0 r v) = proj A w 7 r v := by
  unfold proj
  pointwise [k0_pay1, k0_pay32]

variable (i : grid0.Coords) (q : S1x8x256x384.Idx → ℝ) (kv : S1x4096x384.Idx → ℝ)

/-- A projected entry is the sum of the attention output's real entries with the head's weights. -/
theorem proj_eq (w : S8x256x128.Idx → EReal) (h : Fin 8) (r : Fin 256) (v : Fin 128)
    (wh : S1x256x128.Idx → EReal) (hw : ∀ x : Fin 256, wh (ix3 0 x v) = w (ix3 h x v)) :
    proj (k0_pay23 (F := Ideal) (acc (sbl (F := Ideal) i (up q) (up kv)) (mall (F := Ideal) i (up q) (up kv)) (up kv) ((i 1).val / 2 + 1))
        (lsum (sbl (F := Ideal) i (up q) (up kv)) (mall (F := Ideal) i (up q) (up kv)) ((i 1).val / 2 + 1))) wh h r v
      = ∑ x : Fin 256, ((olat i q kv ⟨256 * h.val + r.val, by have := h.isLt; have := r.isLt; omega⟩ x : ℝ) : EReal) * w (ix3 h x v) := by
  unfold proj
  refine Finset.sum_congr rfl fun x _ => ?_
  rw [pay23_at, hw]

theorem eq_at {x : S1x256x128.Idx} {r : Fin 256} {v : Fin 128} (h0 : (x 0 : ℕ) < 1) (h1 : (x 1 : ℕ) = r.val) (h2 : (x 2 : ℕ) = v.val) :
    x = ix3 0 r v := by
  funext a
  fin_cases a
  exacts [Fin.ext (by show (x 0 : ℕ) = 0; omega), Fin.ext h1, Fin.ext h2]

theorem ldw (w : S8x256x128.Idx → EReal) (h : Fin 8) {off : Fin 3 → ℕ} (inb : ∀ a, off a + S1x256x128.size a ≤ S8x256x128.size a) (x : Fin 256) (v : Fin 128)
    (ho : off = ![h.val, 0, 0]) : View.ld (Val := Elt Ideal) (e' := .bf16) w (Rect.unit (s := S8x256x128) off S1x256x128.size inb) (ix3 0 x v) = w (ix3 h x v) := by
  subst ho
  show w _ = w _
  congr 1
  funext a
  fin_cases a
  exacts [Fin.ext (by show h.val + 1 * 0 = h.val; omega), Fin.ext (by show 0 + 1 * x.val = x.val; omega), Fin.ext (by show 0 + 1 * v.val = v.val; omega)]

/-- The result's block at row `y 1` and column `y 2 = 128 h + v`. -/
theorem OUT_at (w : S8x256x128.Idx → EReal) (y : S1x256x1024.Idx) (h : Fin 8) (r : Fin 256) (v : Fin 128)
    (hr : (y 1 : ℕ) = r.val) (hv : (y 2 : ℕ) = 128 * h.val + v.val) :
    OUT (F := Ideal) i (up q) (up kv) w y
      = ∑ x : Fin 256, ((olat i q kv ⟨256 * h.val + r.val, by have := h.isLt; have := r.isLt; omega⟩ x : ℝ) : EReal) * w (ix3 h x v) := by
  unfold OUT
  dsimp only
  have hlt := v.isLt
  have hh := h.isLt
  canon_tiles x g
  · obtain rfl : h = 7 := Fin.ext (show h.val = 7 by omega)
    obtain rfl : x = ix3 0 r v := eq_at (by omega) (by omega) (by have : ((7 : Fin 8) : ℕ) = 7 := rfl; omega)
    rw [p32_at]
    exact proj_eq i q kv w 7 r v _ fun x => ldw w 7 _ x v rfl
  · obtain rfl : h = 6 := Fin.ext (show h.val = 6 by omega)
    obtain rfl : x = ix3 0 r v := eq_at (by omega) (by omega) (by have : ((6 : Fin 8) : ℕ) = 6 := rfl; omega)
    rw [p31_at]
    exact proj_eq i q kv w 6 r v _ fun x => ldw w 6 _ x v rfl
  · obtain rfl : h = 5 := Fin.ext (show h.val = 5 by omega)
    obtain rfl : x = ix3 0 r v := eq_at (by omega) (by omega) (by have : ((5 : Fin 8) : ℕ) = 5 := rfl; omega)
    rw [p30_at]
    exact proj_eq i q kv w 5 r v _ fun x => ldw w 5 _ x v rfl
  · obtain rfl : h = 4 := Fin.ext (show h.val = 4 by omega)
    obtain rfl : x = ix3 0 r v := eq_at (by omega) (by omega) (by have : ((4 : Fin 8) : ℕ) = 4 := rfl; omega)
    rw [p28_at]
    exact proj_eq i q kv w 4 r v _ fun x => ldw w 4 _ x v rfl
  · obtain rfl : h = 3 := Fin.ext (show h.val = 3 by omega)
    obtain rfl : x = ix3 0 r v := eq_at (by omega) (by omega) (by have : ((3 : Fin 8) : ℕ) = 3 := rfl; omega)
    rw [p27_at]
    exact proj_eq i q kv w 3 r v _ fun x => ldw w 3 _ x v rfl
  · obtain rfl : h = 2 := Fin.ext (show h.val = 2 by omega)
    obtain rfl : x = ix3 0 r v := eq_at (by omega) (by omega) (by have : ((2 : Fin 8) : ℕ) = 2 := rfl; omega)
    rw [p26_at]
    exact proj_eq i q kv w 2 r v _ fun x => ldw w 2 _ x v rfl
  · obtain rfl : h = 1 := Fin.ext (show h.val = 1 by omega)
    obtain rfl : x = ix3 0 r v := eq_at (by omega) (by omega) (by have : ((1 : Fin 8) : ℕ) = 1 := rfl; omega)
    rw [p25_at]
    exact proj_eq i q kv w 1 r v _ fun x => ldw w 1 _ x v rfl
  · obtain rfl : h = 0 := Fin.ext (show h.val = 0 by omega)
    obtain rfl : x = ix3 0 r v := eq_at (by omega) (by omega) (by simp at hv; have : ((0 : Fin 8) : ℕ) = 0 := rfl; omega)
    rw [p24_at]
    exact proj_eq i q kv w 0 r v _ fun x => ldw w 0 _ x v rfl

end Cert.Proof.Kernel2Ideal

end
-- ==== Proof.Mla.ValueBody.lean ====
module

public import proofs.«01_k».proof.Proof.Mla.State

/-! The body of the latent attention kernel, over the reals, run on any whole buffers. -/

@[expose] public section

set_option warn.classDefReducibility false
set_option maxRecDepth 8192
set_option maxHeartbeats 600000

noncomputable section

namespace Cert.Proof.Kernel2Ideal

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The word the kernel computes for the number of the diagonal's first key. -/
def w30 (i : grid0.Coords) : BitVec 32 :=
  let v3 : BitVec 32 := Scalar.muli (BitVec.ofNat 32 (i 1).val) 256#32
  let v4 : BitVec 32 := Scalar.divsi v3 512#32
  let v9 : BitVec 32 := Scalar.subi (Scalar.extui (Scalar.cmpi .sgt v3 0#32)) (Scalar.extui (Scalar.cmpi .slt v3 0#32))
  let v14 : BitVec 32 := Scalar.subi (Scalar.extui (Scalar.cmpi .sgt 512#32 0#32)) (Scalar.extui (Scalar.cmpi .slt 512#32 0#32))
  let v18 : BitVec 1 := Scalar.andi (Scalar.cmpi .ne v9 v14) (Scalar.cmpi .ne (Scalar.remsi v3 512#32) 0#32)
  Scalar.muli (Scalar.select v18 (Scalar.subi v4 1#32) v4) 512#32
theorem w30_eq : ∀ i : grid0.Coords, w30 i = w31 i := by decide +kernel

/-- What the first pass leaves, as vectors. -/
theorem pass1 (i : grid0.Coords) (arg3 : Memref sig .tc .vmem S1x4096x384 .bf16) (harg3 : arg3.IsWhole) (arg6 : Memref sig .tc .vmem S2048x4096 .f32)
    (arg7 : Memref sig .tc .vmem S2048x128 .f32) (v0 : Vec F S1x8x256x384 .bf16) (x3 : S1x4096x384.Idx → Elt F .bf16)
    (G6 : arg6.view.ty.Contents (Elt F)) (G7 : arg7.view.ty.Contents (Elt F)) (hG7 : arg7.view.read (Elt F) G7 = k0_pay3) :
    arg7.view.read (Elt F) (match (k0_t1_loop i).trips with | 0 => G7 | j + 1 => (st1 i arg3 arg6 arg7 v0 (harg3.unread x3) G6 G7 (j + 1)).2) = mxs v0 x3 ((i 1).val / 2)
      ∧ ∀ j, j < (i 1).val / 2 → Holds (arg6.view.read (Elt F) (match (k0_t1_loop i).trips with | 0 => G6 | j + 1 => (st1 i arg3 arg6 arg7 v0 (harg3.unread x3) G6 G7 (j + 1)).1)) j (k0_pay5 v0 (kvb x3 j)) := by
  obtain ⟨h7, h6⟩ := st1_read i arg3 harg3 arg6 arg7 v0 x3 G6 G7 hG7 _ le_rfl
  have e7 : (match (k0_t1_loop i).trips with | 0 => G7 | j + 1 => (st1 i arg3 arg6 arg7 v0 (harg3.unread x3) G6 G7 (j + 1)).2) = (st1 i arg3 arg6 arg7 v0 (harg3.unread x3) G6 G7 (k0_t1_loop i).trips).2 := by cases (k0_t1_loop i).trips <;> rfl
  have e6 : (match (k0_t1_loop i).trips with | 0 => G6 | j + 1 => (st1 i arg3 arg6 arg7 v0 (harg3.unread x3) G6 G7 (j + 1)).1) = (st1 i arg3 arg6 arg7 v0 (harg3.unread x3) G6 G7 (k0_t1_loop i).trips).1 := by cases (k0_t1_loop i).trips <;> rfl
  rw [e6, e7, ← trips1 i]
  exact ⟨h7, h6⟩

/-- What the second pass leaves, as vectors. -/
theorem pass3 (i : grid0.Coords) (arg3 : Memref sig .tc .vmem S1x4096x384 .bf16) (harg3 : arg3.IsWhole) (arg6 : Memref sig .tc .vmem S2048x4096 .f32)
    (arg7 : Memref sig .tc .vmem S2048x128 .f32) (arg8 : Memref sig .tc .vmem S2048x128 .f32) (arg9 : Memref sig .tc .vmem S2048x256 .f32)
    (x3 : S1x4096x384.Idx → Elt F .bf16) (X6 : arg6.view.ty.Contents (Elt F)) (X7 : arg7.view.ty.Contents (Elt F))
    (G8 : arg8.view.ty.Contents (Elt F)) (G9 : arg9.view.ty.Contents (Elt F)) (sb : ℕ → Vec F S2048x512 .f32) (m : Vec F S2048x128 .f32)
    (hX6 : ∀ j, j < (i 1).val / 2 + 1 → Holds (arg6.view.read (Elt F) X6) j (sb j)) (hX7 : arg7.view.read (Elt F) X7 = m)
    (hG8 : arg8.view.read (Elt F) G8 = k0_pay15) (hG9 : arg9.view.read (Elt F) G9 = k0_pay16) :
    arg8.view.read (Elt F) (match (k0_t3_loop i).trips with | 0 => G8 | j + 1 => (st3 i arg3 arg6 arg7 arg8 arg9 (harg3.unread x3) X6 X7 G8 G9 (j + 1)).1) = lsum sb m ((i 1).val / 2 + 1)
      ∧ arg9.view.read (Elt F) (match (k0_t3_loop i).trips with | 0 => G9 | j + 1 => (st3 i arg3 arg6 arg7 arg8 arg9 (harg3.unread x3) X6 X7 G8 G9 (j + 1)).2) = acc sb m x3 ((i 1).val / 2 + 1) := by
  rw [← trips3 i] at hX6 ⊢
  have h := st3_read i arg3 harg3 arg6 arg7 arg8 arg9 x3 X6 X7 G8 G9 sb m hX6 hX7 hG8 hG9 _ le_rfl
  have e8 : (match (k0_t3_loop i).trips with | 0 => G8 | j + 1 => (st3 i arg3 arg6 arg7 arg8 arg9 (harg3.unread x3) X6 X7 G8 G9 (j + 1)).1) = (st3 i arg3 arg6 arg7 arg8 arg9 (harg3.unread x3) X6 X7 G8 G9 (k0_t3_loop i).trips).1 := by cases (k0_t3_loop i).trips <;> rfl
  have e9 : (match (k0_t3_loop i).trips with | 0 => G9 | j + 1 => (st3 i arg3 arg6 arg7 arg8 arg9 (harg3.unread x3) X6 X7 G8 G9 (j + 1)).2) = (st3 i arg3 arg6 arg7 arg8 arg9 (harg3.unread x3) X6 X7 G8 G9 (k0_t3_loop i).trips).2 := by cases (k0_t3_loop i).trips <;> rfl
  rw [e8, e9]
  exact h

/-- A buffer held at some contents is held at something that its view reads. -/
theorem holds_some {s : Shape} {e : EltTy} (c : Dev nD) (m : Memref sig .tc .vmem s e) (f : m.view.ty.Contents (Elt F)) :
    (m.view.loc (c : Thread nD τ) ↦[m.view.set]{fullShare} f : sProp (MT nD τ sig Unit (Elt F) ℕ (UR sig nD τ) ℕ))
    ⊢ iprop(∃ d, ∃ f, ⌜m.view.read (Elt F) f = d⌝ ∗ (m.view.loc (c : Thread nD τ) ↦[m.view.set]{fullShare} f)) := by
  iintro H
  iexists m.view.read (Elt F) f
  iexists f
  isplitr
  · ipureintro; rfl
  · iexact H

/-- The kernel's body, on any whole buffers: run on its three inputs, its result block and its four scratch buffers, it
ends with the inputs as it found them, the result block at `OUT` of them and the others held at something. -/
theorem body_runs (c : Dev nD) (i : grid0.Coords) (arg2 : Memref sig .tc .vmem S1x8x256x384 .bf16) (harg2 : arg2.IsWhole) (arg3 : Memref sig .tc .vmem S1x4096x384 .bf16) (harg3 : arg3.IsWhole) (arg4 : Memref sig .tc .vmem S8x256x128 .bf16) (harg4 : arg4.IsWhole) (arg5 : Memref sig .tc .vmem S1x256x1024 .bf16) (harg5 : arg5.IsWhole) (arg6 : Memref sig .tc .vmem S2048x4096 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x256 .f32) (harg9 : arg9.IsWhole)
    (x2 : S1x8x256x384.Idx → Elt F .bf16) (x3 : S1x4096x384.Idx → Elt F .bf16) (x4 : S8x256x128.Idx → Elt F .bf16) (K : PUnit → sProp (MT nD τ sig Unit (Elt F) ℕ (UR sig nD τ) ℕ)) :
    iprop(owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
      ∗ ((owns (c : Thread nD τ) arg2 fullShare x2 ∗ owns (c : Thread nD τ) arg3 fullShare x3 ∗ owns (c : Thread nD τ) arg4 fullShare x4 ∗ owns (c : Thread nD τ) arg5 fullShare (OUT i x2 x3 x4) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
    ⊢ wp frame (wpE (defs₀ (F := F)) Variants.none (c : Thread nD τ) none) Set.univ (cc0_mla_attn (F := F) i arg2 harg2 arg3 harg3 arg4 harg4 arg5 harg5 arg6 harg6 arg7 harg7 arg8 harg8 arg9 harg9) K := by
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  obtain rfl := harg2.eq_unread hf2
  obtain rfl := harg3.eq_unread hf3
  obtain rfl := harg4.eq_unread hf4
  sl_unfold [cc0_mla_attn]
  sl_exec_parts!
  sl_step
  iapply Hk
  have e0 : arg2.view.readAt (Elt F) (Rect.unit (s := S1x8x256x384) ![0, 0, 0, 0] S1x8x256x384.size inb_S1x8x256x384_S1x8x256x384_0_0_0_0).toLoadRect (harg2.unread x2) = x2 := by
    rw [View.readAt_full, harg2.read_unread]
  have e33 : arg3.view.readAt (Elt F) (Rect.unit (s := S1x4096x384) (k0_off5 i) S1x512x384.size (k0_off5_inb i)).toLoadRect (harg3.unread x3) = kvb x3 ((i 1).val / 2) := by
    rw [View.readAt_eq_ld, harg3.read_unread]; exact ld_kvb x3 _ _ (off5_eq i)
  have e30 : body_runs.sl.v30 i = w31 i := (show body_runs.sl.v30 i = w30 i from rfl).trans (w30_eq i)
  have er : body_runs.sl.r c arg2 harg2 x2 = k0_pay2 x2 :=
    (show body_runs.sl.r c arg2 harg2 x2 = k0_pay2 (arg2.view.readAt (Elt F) (Rect.unit (s := S1x8x256x384) ![0, 0, 0, 0] S1x8x256x384.size inb_S1x8x256x384_S1x8x256x384_0_0_0_0).toLoadRect (harg2.unread x2)) from rfl).trans (congrArg k0_pay2 e0)
  have hG7 : arg7.view.read (Elt F) (arg7.view.writes (Elt F) arg7.view.junk body_runs.sl.H7_1) = k0_pay3 := by
    unfold body_runs.sl.H7_1; rw [View.read_writes_full]
  have P1 := pass1 i arg3 harg3 arg6 arg7 (arg2.view.readAt (Elt F) (Rect.unit (s := S1x8x256x384) ![0, 0, 0, 0] S1x8x256x384.size inb_S1x8x256x384_S1x8x256x384_0_0_0_0).toLoadRect (harg2.unread x2)) x3 f6 _ hG7
  have e57 : body_runs.sl.v57 c i arg2 harg2 arg3 harg3 arg6 arg7 x2 x3 f6 = mxs x2 x3 ((i 1).val / 2) :=
    (View.readAt_full _ _ _).trans (P1.1.trans (congrArg (fun v => mxs v x3 ((i 1).val / 2)) e0))
  have K6 : ∀ j, j < (i 1).val / 2 + 1 → Holds (arg6.view.read (Elt F) (arg6.view.writes (Elt F)
      (match (k0_t1_loop i).trips with | 0 => f6 | j + 1 => (st1 i arg3 arg6 arg7 (arg2.view.readAt (Elt F) (Rect.unit (s := S1x8x256x384) ![0, 0, 0, 0] S1x8x256x384.size inb_S1x8x256x384_S1x8x256x384_0_0_0_0).toLoadRect (harg2.unread x2)) (harg3.unread x3) f6
        (arg7.view.writes (Elt F) arg7.view.junk body_runs.sl.H7_1) (j + 1)).1) (body_runs.sl.H6_1 c i arg2 harg2 arg3 harg3 x2 x3))) j (sbl i x2 x3 j) := by
    intro j hj
    unfold body_runs.sl.H6_1
    rcases Nat.lt_succ_iff_lt_or_eq.1 hj with hj | hj
    · refine holds_other _ _ _ _ _ (off6_eq i) j hj ?_
      rw [sbl, if_pos hj]
      exact (P1.2 j hj).of_eq (congrArg (fun v => k0_pay5 v (kvb x3 j)) e0)
    · subst hj
      rw [sbl, if_neg (lt_irrefl _)]
      exact (holds_same _ _ _ _ _ (off6_eq i)).of_eq (by rw [er, e30, e33])
  have e69 : body_runs.sl.v69 c i arg2 harg2 arg3 harg3 arg6 arg7 x2 x3 f6 = k0_pay12 (BitVec.ofNat 32 (i 1).val) (k0_pay2 x2) (w31 i) (kvb x3 ((i 1).val / 2)) (mxs x2 x3 ((i 1).val / 2)) := by
    unfold body_runs.sl.v69 body_runs.sl.H7_1_1
    rw [View.readCov_full, er, e30, e33, e57]
  have e7 : arg7.view.read (Elt F) (arg7.view.writes (Elt F) arg7.view.junk (body_runs.sl.H7_2 c i arg2 harg2 arg3 harg3 arg6 arg7 x2 x3 f6)) = mall i x2 x3 := by
    unfold body_runs.sl.H7_2
    rw [View.read_writes_full]
    exact (show body_runs.sl.v76 c i arg2 harg2 arg3 harg3 arg6 arg7 x2 x3 f6 = k0_pay14 (k0_pay13 (body_runs.sl.v69 c i arg2 harg2 arg3 harg3 arg6 arg7 x2 x3 f6)) from rfl).trans (congrArg (fun v => k0_pay14 (k0_pay13 v)) e69)
  have hG8 : arg8.view.read (Elt F) (arg8.view.writes (Elt F) arg8.view.junk body_runs.sl.H8_1) = k0_pay15 := by
    unfold body_runs.sl.H8_1; rw [View.read_writes_full]; rfl
  have hG9 : arg9.view.read (Elt F) (arg9.view.writes (Elt F) arg9.view.junk body_runs.sl.H9_1) = k0_pay16 := by
    unfold body_runs.sl.H9_1; rw [View.read_writes_full]; rfl
  have P3 := pass3 i arg3 harg3 arg6 arg7 arg8 arg9 x3 _ _ _ _ (sbl i x2 x3) (mall i x2 x3) K6 e7 hG8 hG9
  have e92 : body_runs.sl.v92 c i arg2 harg2 arg3 harg3 arg6 arg7 arg8 arg9 x2 x3 f6 = lsum (sbl i x2 x3) (mall i x2 x3) ((i 1).val / 2 + 1) := (View.readAt_full _ _ _).trans P3.1
  have e91 : body_runs.sl.v91 c i arg2 harg2 arg3 harg3 arg6 arg7 arg8 arg9 x2 x3 f6 = acc (sbl i x2 x3) (mall i x2 x3) x3 ((i 1).val / 2 + 1) := (View.readAt_full _ _ _).trans P3.2
  have e5 : arg5.view.read (Elt F) (arg5.view.writes (Elt F) arg5.view.junk (body_runs.sl.H5_8 c i arg2 harg2 arg3 harg3 arg4 harg4 arg6 arg7 arg8 arg9 x2 x3 x4 f6)) = OUT i x2 x3 x4 := by
    rw [show body_runs.sl.H5_8 c i arg2 harg2 arg3 harg3 arg4 harg4 arg6 arg7 arg8 arg9 x2 x3 x4 f6 = [
    ⟨Rect.unit (s := S1x256x1024) ![0, 0, 896] S1x256x128.size inb_S1x256x1024_S1x256x128_0_0_896, k0_pay1 (k0_pay32 (k0_pay23 (body_runs.sl.v91 c i arg2 harg2 arg3 harg3 arg6 arg7 arg8 arg9 x2 x3 f6) (body_runs.sl.v92 c i arg2 harg2 arg3 harg3 arg6 arg7 arg8 arg9 x2 x3 f6)) (arg4.view.readAt (Elt F) (Rect.unit (s := S8x256x128) ![7, 0, 0] S1x256x128.size inb_S8x256x128_S1x256x128_7_0_0).toLoadRect (harg4.unread x4)))⟩,
    ⟨Rect.unit (s := S1x256x1024) ![0, 0, 768] S1x256x128.size inb_S1x256x1024_S1x256x128_0_0_768, k0_pay31 (k0_pay23 (body_runs.sl.v91 c i arg2 harg2 arg3 harg3 arg6 arg7 arg8 arg9 x2 x3 f6) (body_runs.sl.v92 c i arg2 harg2 arg3 harg3 arg6 arg7 arg8 arg9 x2 x3 f6)) (arg4.view.readAt (Elt F) (Rect.unit (s := S8x256x128) ![6, 0, 0] S1x256x128.size inb_S8x256x128_S1x256x128_6_0_0).toLoadRect (harg4.unread x4))⟩,
    ⟨Rect.unit (s := S1x256x1024) ![0, 0, 640] S1x256x128.size inb_S1x256x1024_S1x256x128_0_0_640, k0_pay30 (k0_pay23 (body_runs.sl.v91 c i arg2 harg2 arg3 harg3 arg6 arg7 arg8 arg9 x2 x3 f6) (body_runs.sl.v92 c i arg2 harg2 arg3 harg3 arg6 arg7 arg8 arg9 x2 x3 f6)) (arg4.view.readAt (Elt F) (Rect.unit (s := S8x256x128) ![5, 0, 0] S1x256x128.size inb_S8x256x128_S1x256x128_5_0_0).toLoadRect (harg4.unread x4))⟩,
    ⟨Rect.unit (s := S1x256x1024) ![0, 0, 512] S1x256x128.size inb_S1x256x1024_S1x256x128_0_0_512, k0_pay29 (k0_pay28 (k0_pay23 (body_runs.sl.v91 c i arg2 harg2 arg3 harg3 arg6 arg7 arg8 arg9 x2 x3 f6) (body_runs.sl.v92 c i arg2 harg2 arg3 harg3 arg6 arg7 arg8 arg9 x2 x3 f6)) (arg4.view.readAt (Elt F) (Rect.unit (s := S8x256x128) ![4, 0, 0] S1x256x128.size inb_S8x256x128_S1x256x128_4_0_0).toLoadRect (harg4.unread x4)))⟩,
    ⟨Rect.unit (s := S1x256x1024) ![0, 0, 384] S1x256x128.size inb_S1x256x1024_S1x256x128_0_0_384, k0_pay27 (k0_pay23 (body_runs.sl.v91 c i arg2 harg2 arg3 harg3 arg6 arg7 arg8 arg9 x2 x3 f6) (body_runs.sl.v92 c i arg2 harg2 arg3 harg3 arg6 arg7 arg8 arg9 x2 x3 f6)) (arg4.view.readAt (Elt F) (Rect.unit (s := S8x256x128) ![3, 0, 0] S1x256x128.size inb_S8x256x128_S1x256x128_3_0_0).toLoadRect (harg4.unread x4))⟩,
    ⟨Rect.unit (s := S1x256x1024) ![0, 0, 256] S1x256x128.size inb_S1x256x1024_S1x256x128_0_0_256, k0_pay26 (k0_pay23 (body_runs.sl.v91 c i arg2 harg2 arg3 harg3 arg6 arg7 arg8 arg9 x2 x3 f6) (body_runs.sl.v92 c i arg2 harg2 arg3 harg3 arg6 arg7 arg8 arg9 x2 x3 f6)) (arg4.view.readAt (Elt F) (Rect.unit (s := S8x256x128) ![2, 0, 0] S1x256x128.size inb_S8x256x128_S1x256x128_2_0_0).toLoadRect (harg4.unread x4))⟩,
    ⟨Rect.unit (s := S1x256x1024) ![0, 0, 128] S1x256x128.size inb_S1x256x1024_S1x256x128_0_0_128, k0_pay25 (k0_pay23 (body_runs.sl.v91 c i arg2 harg2 arg3 harg3 arg6 arg7 arg8 arg9 x2 x3 f6) (body_runs.sl.v92 c i arg2 harg2 arg3 harg3 arg6 arg7 arg8 arg9 x2 x3 f6)) (arg4.view.readAt (Elt F) (Rect.unit (s := S8x256x128) ![1, 0, 0] S1x256x128.size inb_S8x256x128_S1x256x128_1_0_0).toLoadRect (harg4.unread x4))⟩,
    ⟨Rect.unit (s := S1x256x1024) ![0, 0, 0] S1x256x128.size inb_S1x256x1024_S1x256x128_0_0_0, k0_pay24 (body_runs.sl.v91 c i arg2 harg2 arg3 harg3 arg6 arg7 arg8 arg9 x2 x3 f6) (body_runs.sl.v92 c i arg2 harg2 arg3 harg3 arg6 arg7 arg8 arg9 x2 x3 f6) (arg4.view.readAt (Elt F) (Rect.unit (s := S8x256x128) ![0, 0, 0] S1x256x128.size inb_S8x256x128_S1x256x128_0_0_0).toLoadRect (harg4.unread x4))⟩] from rfl]
    rw [View.read_writes_junk_eq_canon, e91, e92]
    simp only [View.readAt_eq_ld, harg4.read_unread]
    rfl
  isplitl [H2]
  · iexists _; isplitr
    · ipureintro; exact harg2.read_unread _
    · iexact H2
  isplitl [H3]
  · iexists _; isplitr
    · ipureintro; exact harg3.read_unread _
    · iexact H3
  isplitl [H4]
  · iexists _; isplitr
    · ipureintro; exact harg4.read_unread _
    · iexact H4
  isplitl [H5]
  · iexists _; isplitr
    · ipureintro; exact e5
    · iexact H5
  isplitl [H6]
  · iapply (holds_some (F := F) c arg6 _) $$ H6
  isplitl [H7]
  · iapply (holds_some (F := F) c arg7 _) $$ H7
  isplitl [H8]
  · iapply (holds_some (F := F) c arg8 _) $$ H8
  · iapply (holds_some (F := F) c arg9 _) $$ H9

end Cert.Proof.Kernel2Ideal

end
-- ==== Proof.Mla.ValueRun.lean ====
module

public import proofs.«01_k».proof.Proof.Mla.ValueBody

/-! The launch of the latent attention over the reals: at every grid point the body leaves the result's block at `OUT` of
its three input blocks. -/

@[expose] public section

set_option warn.classDefReducibility false
set_option maxRecDepth 16384
set_option maxHeartbeats 4000000

noncomputable section

namespace Cert.Proof.Kernel2Ideal

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat Cfg Window BodyObligation BodyObligationLoose cellOf)

variable {F : FTy → Type} [FloatOps F] [Named F]

variable (m : (ℓ : Loc nD τ sig) → Buf (Elt F) ℓ) (ρ : Dev nD → PrngReg)

/-- What the run is described by: every window's array at what the region finds in it, every input's staging buffer at its
block, the result's at `OUT` of these. -/
def dats (_ : Fin 1) (c : Dev nD) : Dat τ (Elt F) Unit ℕ (UR sig nD τ) ℕ cfg0 c where
  A w := Gen.V m c (Pipeline.arrRef spec0 w)
  after w t := match w with
    | 0 => Gen.iblk m c 0 t
    | 1 => Gen.iblk m c 1 t
    | 2 => Gen.iblk m c 2 t
    | 3 => OUT (F := F) (grid0.coords t) (Gen.iblk m c 0 t) (Gen.iblk m c 1 t) (Gen.iblk m c 2 t)
  Φ _ := Pipeline.ΦA spec0 c
  q _ := fullShare
  owed _ := 0

theorem after0_3 (c : Dev nD) (t : Fin cfg0.N) :
    (dats m 0 c).after 3 t = OUT (F := F) (grid0.coords t) (Gen.iblk m c 0 t) (Gen.iblk m c 1 t) (Gen.iblk m c 2 t) := by dsimp only [dats]
theorem before0_0 (c : Dev nD) (t : Fin cfg0.N) (d) : (dats m 0 c).before 0 t d = Gen.iblk m c 0 t :=
  Gen.before0_0_of m (dats m 0 c) rfl (fun _ => rfl) t d
theorem before0_1 (c : Dev nD) (t : Fin cfg0.N) (d) : (dats m 0 c).before 1 t d = Gen.iblk m c 1 t :=
  Gen.before0_1_of m (dats m 0 c) rfl (fun _ => rfl) t d
theorem before0_2 (c : Dev nD) (t : Fin cfg0.N) (d) : (dats m 0 c).before 2 t d = Gen.iblk m c 2 t :=
  Gen.before0_2_of m (dats m 0 c) rfl (fun _ => rfl) t d

/-- At every grid point the body leaves every input's staging buffer at its block and the result's at `OUT` of these. -/
theorem body_obligation (c : Dev nD) : BodyObligation (dats (F := F) m 0 c) (defs₀ (F := F)) Variants.none () Set.univ := fun t => by
  rw [bigSep_W0, bigSep_W0]
  sl_whnfR [defs₀, Defs.onTc]
  simp only [before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_3]
  unfold Pipeline.ΦA
  rw [scopedRest0_eq c]
  iintro ⟨⟨⟨⟨%s0, S0⟩, ⟨%s1, S1⟩, ⟨%s2, S2⟩, ⟨%s3, S3⟩⟩, Hg⟩, Ho, ⟨%d0, H0⟩, ⟨%d1, H1⟩, ⟨%d2, H2⟩, ⟨%d3, H3⟩⟩
  iapply (body_runs (F := F) c (grid0.coords t) _ (Gen.hstage0_0 ((cfg0.slots t 0).cast nbuf0_0)) _ (Gen.hstage0_1 ((cfg0.slots t 1).cast nbuf0_1)) _ (Gen.hstage0_2 ((cfg0.slots t 2).cast nbuf0_2)) _ (Gen.hstage0_3 ((cfg0.slots t 3).cast nbuf0_3)) _ (Memref.isWhole_whole _) _ (Memref.isWhole_whole _) _ (Memref.isWhole_whole _) _ (Memref.isWhole_whole _) (Gen.iblk m c 0 t) (Gen.iblk m c 1 t) (Gen.iblk m c 2 t) _)
  isplitl [H0]; · iexact H0
  isplitl [H1]; · iexact H1
  isplitl [H2]; · iexact H2
  isplitl [H3]; · iexists _; iexact H3
  isplitl [S0]; · iexists s0; rw [owns_whole]; iexact S0
  isplitl [S1]; · iexists s1; rw [owns_whole]; iexact S1
  isplitl [S2]; · iexists s2; rw [owns_whole]; iexact S2
  isplitl [S3]; · iexists s3; rw [owns_whole]; iexact S3
  iintro ⟨H0, H1, H2, H3, ⟨%u0, S0⟩, ⟨%u1, S1⟩, ⟨%u2, S2⟩, ⟨%u3, S3⟩⟩
  isplitl [Hg S0 S1 S2 S3]
  · isplitl [S0 S1 S2 S3]
    isplitl [S0]
    · iexists u0; iapply (Entails.of_eq (owns_whole (c : Thread nD τ) cc0_scratch0 fullShare u0)) $$ S0
    isplitl [S1]
    · iexists u1; iapply (Entails.of_eq (owns_whole (c : Thread nD τ) cc0_scratch1 fullShare u1)) $$ S1
    isplitl [S2]
    · iexists u2; iapply (Entails.of_eq (owns_whole (c : Thread nD τ) cc0_scratch2 fullShare u2)) $$ S2
    · iexists u3; iapply (Entails.of_eq (owns_whole (c : Thread nD τ) cc0_scratch3 fullShare u3)) $$ S3
    · iexact Hg
  isplitl [Ho]; · iexact Ho
  isplitl [H0]; · iexact H0
  isplitl [H1]; · iexact H1
  isplitl [H2]; · iexact H2
  iexact H3

set_option backward.isDefEq.respectTransparency.types false in
/-- Every run ends, with the arrays at what the description computes and every semaphore back at zero. -/
theorem run_main : θ_run defs (onTc (τ := τ) (main (F := F))) (s₀ m ρ)
    (fun r => Pipeline.FramePost cfgs (dats m) 0 (Gen.V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := Gen.V m) (hmain := Gen.hmain m Variants.none) (hA := fun _ _ => rfl) (hΦ := fun _ _ => rfl)

/-- Every run ends, with the argument arrays as they were and every semaphore back at zero. -/
theorem quiescent : θ_run defs (onTc (τ := τ) (main (F := F))) ⟨m, fun _ => 0, ρ⟩ (fun r => (∀ c : Dev nD,
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2)) ∧ r.2.sem = fun _ => 0) :=
  θ_run_with_sems (frame_of m ρ (dats m) fun _ _ => rfl) (run_main m ρ)

end Cert.Proof.Kernel2Ideal

end
-- ==== Proof.Mla.Ref.lean ====
module

public import proofs.«01_k».proof.Proof.Gen.Reference2Ideal.Run
public import proofs.«01_k».proof.Proof.Mla.Soft
public import Idealize.ShloMosaic.Lib.Pointwise
public import Idealize.ShloMosaic.Lib.WordCmp

/-! What the reference of the latent attention computes, of real queries and keys, index by index. -/

@[expose] public section

set_option maxRecDepth 16384
set_option maxHeartbeats 1000000

noncomputable section

namespace Cert.Proof.Reference2Ideal

open Cert.Reference2Ideal Cert.Reference2Ideal.Gen Cert.Reference2Ideal.Value
open Idealize.ShloMosaic Idealize.ShloMosaic.TcCoe Idealize.ShloMosaic.Tactic Idealize.ShloMosaic.StableHlo
open Idealize.SL.Sem
open Cert.Proof.Soft

variable (a0 : S16x8x4096x384.Idx → EReal) (a1 : S16x4096x384.Idx → EReal) (a2 : S256x8x128.Idx → EReal)

/-- The masked scores. -/
def SC : FVec Ideal S16x8x4096x4096 .f32 :=
  select (broadcastInDim S16x8x4096x4096 ![0, 1, 2, 3] bcast_S1x1x4096x4096_S16x8x4096x4096_0_1_2_3 (broadcastInDim S1x1x4096x4096 ![2, 3] bcast_S4096x4096_S1x1x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))) (mulf (addf (Host.dotGeneral dot_S16x8x4096x256_S16x4096x256_S16x8x4096x4096_3_2_12_1_0_0 none (extractStridedSlice S16x8x4096x256 ![0, 0, 0, 0] (extf .f32 a0 bitsLt_bf16_f32) slices_S16x8x4096x384_S16x8x4096x256_0_0_0_0) (extractStridedSlice S16x4096x256 ![0, 0, 0] (extf .f32 a1 bitsLt_bf16_f32) slices_S16x4096x384_S16x4096x256_0_0_0)) (Host.dotGeneral dot_S16x8x4096x128_S16x4096x128_S16x8x4096x4096_3_2_12_1_0_0 none (extractStridedSlice S16x8x4096x128 ![0, 0, 0, 256] (extf .f32 a0 bitsLt_bf16_f32) slices_S16x8x4096x384_S16x8x4096x128_0_0_0_256) (extractStridedSlice S16x4096x128 ![0, 0, 256] (extf .f32 a1 bitsLt_bf16_f32) slices_S16x4096x384_S16x4096x128_0_0_256))) (broadcastInDim S16x8x4096x4096 ![] bcast_S_S16x8x4096x4096 (Host.rsqrt (constant S_ .f32 0x43400000#32)))) (broadcastInDim S16x8x4096x4096 ![] bcast_S_S16x8x4096x4096 (id (constant S_ .f32 0xFF800000#32)))
/-- Every query's greatest score. -/
def MX : FVec Ideal S16x8x4096 .f32 :=
  maximumf (broadcastInDim S16x8x4096 ![] bcast_S_S16x8x4096 (constant S_ .f32 0xFF800000#32)) (Host.reduce FloatOps.maximumf (SC a0 a1) (constant S_ .f32 0xFF800000#32) reducesTo_S16x8x4096x4096_S16x8x4096_d3 h_S_)
/-- The exponentials. -/
def EX : FVec Ideal S16x8x4096x4096 .f32 :=
  Host.exp (subf (SC a0 a1) (broadcastInDim S16x8x4096x4096 ![0, 1, 2, 3] bcast_S16x8x4096x1_S16x8x4096x4096_0_1_2_3 (broadcastInDim S16x8x4096x1 ![0, 1, 2] bcast_S16x8x4096_S16x8x4096x1_0_1_2 (MX a0 a1))))
/-- Every query's sum of exponentials. -/
def SM : FVec Ideal S16x8x4096 .f32 :=
  Host.reduceAdd (EX a0 a1) (constant S_ .f32 0x00000000#32) reducesTo_S16x8x4096x4096_S16x8x4096_d3 h_S_
/-- The weights. -/
def PR : FVec Ideal S16x8x4096x4096 .f32 :=
  Host.divf (EX a0 a1) (broadcastInDim S16x8x4096x4096 ![0, 1, 2, 3] bcast_S16x8x4096x1_S16x8x4096x4096_0_1_2_3 (broadcastInDim S16x8x4096x1 ![0, 1, 2] bcast_S16x8x4096_S16x8x4096x1_0_1_2 (SM a0 a1)))
/-- The weighted values. -/
def OL : FVec Ideal S16x4096x8x256 .f32 :=
  transpose S16x4096x8x256 [0, 3, 2, 1] (Host.dotGeneral dot_S16x4096x256_S16x8x4096x4096_S16x256x8x4096_1_3_2_12_0_0 none (extractStridedSlice S16x4096x256 ![0, 0, 0] (extf .f32 a1 bitsLt_bf16_f32) slices_S16x4096x384_S16x4096x256_0_0_0) (PR a0 a1)) transposes_S16x256x8x4096_S16x4096x8x256_0_3_2_1
/-- The result. -/
def FIN : FVec Ideal S16x4096x1024 .bf16 :=
  truncf .bf16 (shapeCast _ (transpose S16x4096x8x128 [2, 3, 0, 1] (Host.dotGeneral dot_S256x8x128_S16x4096x8x256_S8x128x16x4096_0_3_2_01_1_2 none (φ₁ := .f32) a2 (OL a0 a1)) transposes_S8x128x16x4096_S16x4096x8x128_2_3_0_1) shapeCasts_S16x4096x8x128_S16x4096x1024) bitsLt_bf16_f32

theorem res_eq (m : (ℓ : Loc nD τ sig) → Buf (Elt Ideal) ℓ) (c : Dev nD) :
    res_main_v36 m c = FIN (m ((c.tc : Thread nD τ).loc main_arg0)) (m ((c.tc : Thread nD τ).loc main_arg1)) (m ((c.tc : Thread nD τ).loc main_arg2)) := rfl

/-- A real array as one of extended reals. -/
abbrev up {s : Shape} (f : s.Idx → ℝ) : s.Idx → EReal := fun y => ((f y : ℝ) : EReal)

theorem ninf : Ideal.ofBits FTy.f32 4286578688#32 = ⊥ := by simp [Ideal.ofBits, Ideal.ieee]

theorem scale_eq : Ideal.rsqrt (Ideal.ofBits FTy.f32 1128267776#32) = (((Real.sqrt 192)⁻¹ : ℝ) : EReal) := by
  have e : Ideal.ofBits FTy.f32 1128267776#32 = ((192 : ℝ) : EReal) := by
    simp [Ideal.ofBits, Ideal.ieee]
    rw [← EReal.coe_mul]
    norm_num
  rw [e, Ideal.rsqrt_coe, if_neg (by norm_num), if_neg (by norm_num)]

/-- The two products' sums are one sum over the whole row. -/
theorem lanes (f g : Fin 384 → ℝ) (t : ℝ) :
    ((∑ x : Fin 256, ((f ⟨x.val, by have := x.isLt; omega⟩ : ℝ) : EReal) * ((g ⟨x.val, by have := x.isLt; omega⟩ : ℝ) : EReal))
      + ∑ x : Fin 128, ((f ⟨256 + x.val, by have := x.isLt; omega⟩ : ℝ) : EReal) * ((g ⟨256 + x.val, by have := x.isLt; omega⟩ : ℝ) : EReal)) * ((t : ℝ) : EReal)
      = (((∑ x : Fin 384, f x * g x) * t : ℝ) : EReal) := by
  have e : ∑ x : Fin 384, f x * g x = (∑ x : Fin 256, f (Fin.castAdd 128 x) * g (Fin.castAdd 128 x)) + ∑ x : Fin 128, f (Fin.natAdd 256 x) * g (Fin.natAdd 256 x) :=
    Fin.sum_univ_add (a := 256) (b := 128) fun x : Fin (256 + 128) => f x * g x
  rw [e, EReal.coe_mul, EReal.coe_add, coe_sum, coe_sum]
  simp only [EReal.coe_mul]
  rfl

variable (Q : S16x8x4096x384.Idx → ℝ) (K : S16x4096x384.Idx → ℝ)

/-- The scaled score of query `p` of head `h` and key `j`. -/
def dsc (b : Fin 16) (h : Fin 8) (p : Fin 4096) (j : ℕ) : ℝ :=
  (∑ x : Fin 384, Q (ix4 b h p x) * K (ix3 b ⟨j % 4096, Nat.mod_lt _ (by norm_num)⟩ x)) * (Real.sqrt 192)⁻¹

/-- The attention's output of query `p` of head `h` at latent column `x`. -/
def olat (b : Fin 16) (h : Fin 8) (p : Fin 4096) (x : Fin 256) : ℝ :=
  (∑ j ∈ Finset.range 4096, pw p.val (dsc Q K b h p) j * K (ix3 b ⟨j % 4096, Nat.mod_lt _ (by norm_num)⟩ ⟨x.val, by have := x.isLt; omega⟩))
    / ∑ j ∈ Finset.range 4096, pw p.val (dsc Q K b h p) j

theorem le_word (j p : ℕ) (hj : j < 4096) (hp : p < 4096) :
    IntOp.cmpi .sle (BitVec.ofNat 32 j) (BitVec.ofNat 32 p) = if j ≤ p then 1#1 else 0#1 := by
  split
  · next h => exact (WordCmp.cmpi_sle_ofNat_eq_one_iff (w := 32) (by norm_num; omega) (by norm_num; omega)).2 h
  · next h => exact (WordCmp.cmpi_sle_ofNat_eq_zero_iff (w := 32) (by norm_num; omega) (by norm_num; omega)).2 (by omega)

theorem mod_eq (j : Fin 4096) : (⟨j.val % 4096, Nat.mod_lt _ (by norm_num)⟩ : Fin 4096) = j := Fin.ext (Nat.mod_eq_of_lt j.isLt)

theorem SC_at (b : Fin 16) (h : Fin 8) (p j : Fin 4096) : SC (up Q) (up K) (ix4 b h p j) = msk p.val (dsc Q K b h p) j.val := by
  pointwise [SC]
  rw [scale_eq, lanes (fun x => Q (ix4 b h p x)) (fun x => K (ix3 b j x)), le_word _ _ j.isLt p.isLt]
  unfold msk dsc
  rw [mod_eq]
  split
  · rfl
  · exact ninf

theorem lift_at (h : S16x8x4096x4096.Reduces [3] S16x8x4096) (b : Fin 16) (g : Fin 8) (p j : Fin 4096) : h.lift (ix3 b g p) j = ix4 b g p j := by
  funext a
  fin_cases a <;> rfl

theorem max_at {s : Shape} (A B : FVec Ideal s .f32) (j : s.Idx) : maximumf A B j = max (A j : EReal) (B j) := rfl

/-- A maximum along one axis, from −∞, is bounded as its entries are. -/
theorem red_le_of {s t u : Shape} {x : Fin s.rank} (X : FVec Ideal s .f32) (init : FVec Ideal u .f32) (h' : s.ReducesTo [x] t) (h : s.Reduces [x] t) (hu : 0 < u.numel)
    (j : t.Idx) (hi : init (Shape.Idx.first hu) = (⊥ : EReal)) (a : EReal) :
    Host.reduce (FloatOps.maximumf (F := Ideal) (φ := .f32)) X init h' hu j ≤ (a : EReal) ↔ ∀ k : Fin (s.size x), X (h.lift j k) ≤ a := by
  rw [Host.reduce_eq_fold_single _ _ _ h' h, hi]
  refine (fold_max_le Finset.univ _ a).trans ?_
  simp only [Finset.mem_univ, true_imp_iff, Function.comp]

theorem red_le (X : FVec Ideal S16x8x4096x4096 .f32) (b : Fin 16) (h : Fin 8) (p : Fin 4096) (a : EReal) :
    maximumf (broadcastInDim S16x8x4096 ![] bcast_S_S16x8x4096 (constant (F := Ideal) S_ .f32 0xFF800000#32)) (Host.reduce FloatOps.maximumf X (constant S_ .f32 0xFF800000#32) reducesTo_S16x8x4096x4096_S16x8x4096_d3 h_S_) (ix3 b h p) ≤ a
      ↔ ∀ j : Fin 4096, X (ix4 b h p j) ≤ a := by
  have hr : S16x8x4096x4096.Reduces [3] S16x8x4096 := by decide
  rw [max_at, show broadcastInDim S16x8x4096 ![] bcast_S_S16x8x4096 (constant (F := Ideal) S_ .f32 0xFF800000#32) (ix3 b h p) = (⊥ : EReal) from ninf, bot_sup_eq,
    red_le_of X _ _ hr h_S_ (ix3 b h p) ninf a]
  exact forall_congr' fun j => by rw [show hr.lift (ix3 b h p) j = ix4 b h p j from lift_at hr b h p j]; exact Iff.rfl

theorem MX_at (b : Fin 16) (h : Fin 8) (p : Fin 4096) : MX (up Q) (up K) (ix3 b h p) = ((top p.val (dsc Q K b h p) : ℝ) : EReal) := by
  refine eq_top p.isLt fun a => ?_
  unfold MX
  rw [red_le]
  simp only [SC_at]
  exact ⟨fun H j hj => H ⟨j, hj⟩, fun H j => H j.val j.isLt⟩

theorem EX_at (b : Fin 16) (h : Fin 8) (p j : Fin 4096) : EX (up Q) (up K) (ix4 b h p j) = ((pw p.val (dsc Q K b h p) j.val : ℝ) : EReal) := by
  have e : EX (up Q) (up K) (ix4 b h p j) = Ideal.exp (SC (up Q) (up K) (ix4 b h p j) - MX (up Q) (up K) (ix3 b h p)) := by pointwise [EX]
  rw [e, SC_at, MX_at, exp_msk]

theorem SM_at (b : Fin 16) (h : Fin 8) (p : Fin 4096) :
    SM (up Q) (up K) (ix3 b h p) = ((∑ j ∈ Finset.range 4096, pw p.val (dsc Q K b h p) j : ℝ) : EReal) := by
  have e : SM (up Q) (up K) (ix3 b h p) = ∑ j : Fin 4096, EX (up Q) (up K) (ix4 b h p j) := by pointwise [SM]
  rw [e, ← Fin.sum_univ_eq_sum_range (fun j => pw p.val (dsc Q K b h p) j), coe_sum]
  exact Finset.sum_congr rfl fun j _ => EX_at Q K b h p j

theorem PR_at (b : Fin 16) (h : Fin 8) (p j : Fin 4096) :
    PR (up Q) (up K) (ix4 b h p j) = ((pw p.val (dsc Q K b h p) j.val / ∑ j ∈ Finset.range 4096, pw p.val (dsc Q K b h p) j : ℝ) : EReal) := by
  have e : PR (up Q) (up K) (ix4 b h p j) = Ideal.div (EX (up Q) (up K) (ix4 b h p j)) (SM (up Q) (up K) (ix3 b h p)) := by pointwise [PR]
  rw [e, EX_at, SM_at, div_real _ (sum_pw_ne _ p.isLt)]

theorem OL_at (b : Fin 16) (h : Fin 8) (p : Fin 4096) (x : Fin 256) : OL (up Q) (up K) (ix4 b p h x) = ((olat Q K b h p x : ℝ) : EReal) := by
  have e : OL (up Q) (up K) (ix4 b p h x)
      = ∑ j : Fin 4096, ((K (ix3 b j ⟨x.val, by have := x.isLt; omega⟩) : ℝ) : EReal) * PR (up Q) (up K) (ix4 b h p j) := by pointwise [OL]
  rw [e]
  simp only [PR_at]
  unfold olat
  rw [← Fin.sum_univ_eq_sum_range (fun j => pw p.val (dsc Q K b h p) j * K (ix3 b ⟨j % 4096, Nat.mod_lt _ (by norm_num)⟩ ⟨x.val, by have := x.isLt; omega⟩)), Finset.sum_div, coe_sum]
  refine Finset.sum_congr rfl fun j _ => ?_
  rw [← EReal.coe_mul, mod_eq]
  congr 1
  ring

theorem FIN_at (b : Fin 16) (h : Fin 8) (p : Fin 4096) (v : Fin 128) (j : Fin 1024) (hj : j.val = 128 * h.val + v.val) :
    FIN (up Q) (up K) a2 (ix3 b p j) = ∑ x : Fin 256, a2 (ix3 x h v) * ((olat Q K b h p x : ℝ) : EReal) := by
  have e : FIN (up Q) (up K) a2 (ix3 b p j) = ∑ x : Fin 256, a2 (ix3 x h v) * OL (up Q) (up K) (ix4 b p h x) := by
    have hh : (⟨j.val / 128, by have := j.isLt; omega⟩ : Fin 8) = h := Fin.ext (by show j.val / 128 = h.val; have := v.isLt; omega)
    have hv : (⟨j.val % 128, Nat.mod_lt _ (by norm_num)⟩ : Fin 128) = v := Fin.ext (by show j.val % 128 = v.val; have := v.isLt; omega)
    pointwise [FIN]
    simp only [hh, hv]
  rw [e]
  simp only [OL_at]

end Cert.Proof.Reference2Ideal

end
-- ==== Proof.Mla.Final.lean ====
module

public import proofs.«01_k».proof.Proof.Mla.Out
public import proofs.«01_k».proof.Proof.Mla.ValueRun
public import proofs.«01_k».proof.Proof.Mla.Ref
public import Idealize.ShloMosaic.Lib.Claim

/-! The array the latent attention kernel leaves, of finite queries and keys: the reference's result. -/

@[expose] public section

set_option maxRecDepth 16384
set_option maxHeartbeats 1000000

noncomputable section

namespace Cert.Proof.Kernel2Ideal

open Cert.Kernel2Ideal Cert.Kernel2Ideal.Gen
open Idealize.ShloMosaic Idealize.ShloMosaic.TcCoe Idealize.ShloMosaic.Tactic
open Idealize.SL.Sem
open Cert.Proof.Soft

variable (Q : Cert.Reference2Ideal.S16x8x4096x384.Idx → ℝ) (K : Cert.Reference2Ideal.S16x4096x384.Idx → ℝ)

/-- The queries' block: sequence `a`'s `n`th 256 queries of every head. -/
def qb (a n : Fin 16) : S1x8x256x384.Idx → ℝ := fun x =>
  Q (ix4 a (x 1 : Fin 8) ⟨256 * n.val + (x 2 : ℕ), by have := n.isLt; have : (x 2 : ℕ) < 256 := (x 2).isLt; omega⟩ (x 3 : Fin 384))
/-- The keys' block: sequence `a`'s keys. -/
def kb (a : Fin 16) : S1x4096x384.Idx → ℝ := fun x => K (ix3 a (x 1 : Fin 4096) (x 2 : Fin 384))

/-- The attention's output at one grid point is the reference's at the block's place. -/
theorem olat_eq (i : grid0.Coords) (a n : Fin 16) (hn : (i 1).val = n.val) (h : Fin 8) (r : Fin 256) (x : Fin 256) :
    olat i (qb Q a n) (kb K a) ⟨256 * h.val + r.val, by have := h.isLt; have := r.isLt; omega⟩ x
      = Cert.Proof.Reference2Ideal.olat Q K a h ⟨256 * n.val + r.val, by have := n.isLt; have := r.isLt; omega⟩ x := by
  have hr := r.isLt
  have e1 : lastKey i ⟨256 * h.val + r.val, by have := h.isLt; have := r.isLt; omega⟩ = 256 * n.val + r.val := by
    unfold lastKey
    show 256 * (i 1).val + (256 * h.val + r.val) % 256 = _
    omega
  have e2 : dsc (qb Q a n) (kb K a) ⟨256 * h.val + r.val, by have := h.isLt; have := r.isLt; omega⟩
      = Cert.Proof.Reference2Ideal.dsc Q K a h ⟨256 * n.val + r.val, by have := n.isLt; have := r.isLt; omega⟩ := by
    funext j
    unfold dsc Cert.Proof.Reference2Ideal.dsc
    congr 1
    refine Finset.sum_congr rfl fun y _ => ?_
    congr 1
    unfold qrow qb
    congr 1
    funext b
    fin_cases b
    exacts [rfl, Fin.ext (by show (256 * h.val + r.val) / 256 = h.val; omega),
      Fin.ext (by show 256 * n.val + (256 * h.val + r.val) % 256 = 256 * n.val + r.val; omega), rfl]
  unfold olat Cert.Proof.Reference2Ideal.olat wgt
  rw [e1, e2]
  rfl

variable (m : (ℓ : Loc nD τ sig) → Buf (Elt Ideal) ℓ)

theorem idx : ∀ t : Fin cfg0.N, win0_0.index t = ![(grid0.coords t 0).val, 0, (grid0.coords t 1).val, 0]
    ∧ win0_1.index t = ![(grid0.coords t 0).val, 0, 0] ∧ win0_2.index t = ![0, 0, 0]
    ∧ win0_3.index t = ![(grid0.coords t 0).val, (grid0.coords t 1).val, 0] := (by decide +kernel : ∀ t : Fin grid0.N, _)

theorem blk0 (c : Dev nD) (t : Fin cfg0.N) (x : S1x8x256x384.Idx) :
    iblk m c 0 t x = m ((c : Thread nD τ).loc main_arg0) (ix4 (⟨(grid0.coords t 0).val, (grid0.coords t 0).isLt⟩ : Fin 16) (x 1 : Fin 8)
      (⟨256 * (grid0.coords t 1).val + (x 2 : ℕ), by have : (grid0.coords t 1).val < 16 := (grid0.coords t 1).isLt; have : (x 2 : ℕ) < 256 := (x 2).isLt; omega⟩ : Fin 4096) (x 3 : Fin 384)) := by
  blk_ext [iblk, V, idx t]

theorem blk1 (c : Dev nD) (t : Fin cfg0.N) (x : S1x4096x384.Idx) :
    iblk m c 1 t x = m ((c : Thread nD τ).loc main_arg1) (ix3 (⟨(grid0.coords t 0).val, (grid0.coords t 0).isLt⟩ : Fin 16) (x 1 : Fin 4096) (x 2 : Fin 384)) := by
  blk_ext [iblk, V, idx t]

theorem blk2 (c : Dev nD) (t : Fin cfg0.N) (h : Fin 8) (x : Fin 256) (v : Fin 128) :
    iblk m c 2 t (ix3 h x v) = m ((c : Thread nD τ).loc main_arg2) (ix3 x h v) := by
  have e : iblk m c 2 t (ix3 h x v) = V m c main_v1 (ix3 h x v) := by blk_ext [iblk, idx t]
  rw [e]
  entry_read
  pointwise

theorem final (c : Dev nD) (hQ : m ((c : Thread nD τ).loc main_arg0) = up Q) (hK : m ((c : Thread nD τ).loc main_arg1) = up K) :
    (dats m 0 c).arrAt 3 (cfgs 0).N
      = Cert.Proof.Reference2Ideal.FIN (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  have h1 : (y 1 : ℕ) < 256 := (y 1).isLt
  have h2 : (y 2 : ℕ) < 1024 := (y 2).isLt
  have hn : (grid0.coords t 1).val < 16 := (grid0.coords t 1).isLt
  obtain ⟨a, ha⟩ : ∃ a : Fin 16, a.val = (grid0.coords t 0).val := ⟨⟨(grid0.coords t 0).val, (grid0.coords t 0).isLt⟩, rfl⟩
  obtain ⟨n, hn'⟩ : ∃ n : Fin 16, n.val = (grid0.coords t 1).val := ⟨⟨(grid0.coords t 1).val, (grid0.coords t 1).isLt⟩, rfl⟩
  obtain ⟨r, hr⟩ : ∃ r : Fin 256, r.val = (y 1 : ℕ) := ⟨⟨_, h1⟩, rfl⟩
  obtain ⟨g, hg⟩ : ∃ g : Fin 8, g.val = (y 2 : ℕ) / 128 := ⟨⟨(y 2 : ℕ) / 128, by omega⟩, rfl⟩
  obtain ⟨v, hv⟩ : ∃ v : Fin 128, v.val = (y 2 : ℕ) % 128 := ⟨⟨(y 2 : ℕ) % 128, by omega⟩, rfl⟩
  obtain ⟨j, hj⟩ : ∃ j : Fin 1024, j.val = (y 2 : ℕ) := ⟨⟨_, h2⟩, rfl⟩
  have e0 : iblk m c 0 t = up (qb Q a n) := by
    funext x
    refine (blk0 m c t x).trans ?_
    rw [hQ, show (⟨(grid0.coords t 0).val, (grid0.coords t 0).isLt⟩ : Fin 16) = a from Fin.ext ha.symm]
    unfold qb
    simp only [hn']
  have e1 : iblk m c 1 t = up (kb K a) := by
    funext x
    refine (blk1 m c t x).trans ?_
    rw [hK, show (⟨(grid0.coords t 0).val, (grid0.coords t 0).isLt⟩ : Fin 16) = a from Fin.ext ha.symm]
    rfl
  have ey : (win0_3.blk t).view.emb y = ix3 a ⟨256 * n.val + r.val, by omega⟩ j := by
    blk_ext [idx t]
  rw [ey, e0, e1, hQ, hK]
  refine (OUT_at (grid0.coords t) (qb Q a n) (kb K a) (iblk m c 2 t) y g r v hr.symm (by omega)).trans ?_
  refine Eq.trans ?_ (Cert.Proof.Reference2Ideal.FIN_at (m ((c : Thread nD τ).loc main_arg2)) Q K a g ⟨256 * n.val + r.val, by omega⟩ v j (by omega)).symm
  refine Finset.sum_congr rfl fun x _ => ?_
  rw [olat_eq Q K (grid0.coords t) a n hn'.symm, blk2, mul_comm]

end Cert.Proof.Kernel2Ideal

end
-- ==== Proof.Post.Row.lean ====
module

public import Idealize.ShloMosaic.PureOps.Ideal
public import Idealize.ShloMosaic.Lib.Pointwise

/-! One token's way through the layer's last step: gate and output projection, per-layer embedding with its gate, norm. -/

@[expose] public section

noncomputable section

namespace Cert.Proof.Post

open Idealize.ShloMosaic

/-- One over one plus the exponential of the negative. -/
def logi (x : EReal) : EReal := Ideal.div 1 (1 + Ideal.exp (-x))

/-- The token's stream after the mixer: `x` plus the gated mixer output through the output projection. -/
def mixed (o z x : Fin 1024 → EReal) (wo : Fin 1024 → Fin 1024 → EReal) (c : Fin 1024) : EReal :=
  x c + ∑ k : Fin 1024, (o k * (z k * logi (z k))) * wo k c

/-- The root mean square norm with gain `g`. -/
def rms (v g : Fin 1024 → EReal) (c : Fin 1024) : EReal :=
  v c * Ideal.rsqrt (Ideal.div (∑ k : Fin 1024, v k * v k) (Ideal.ofBits .f32 0x44800000#32) + Ideal.ofBits .f32 0x358637BD#32) * g c

/-- The stream `v` plus the gated per-layer embedding. -/
def embedded (v g : Fin 1024 → EReal) (wg : Fin 1024 → Fin 1024 → EReal) (p : Fin 256 → EReal) (wp : Fin 256 → Fin 1024 → EReal) (c : Fin 1024) : EReal :=
  v c + (∑ k : Fin 256, p k * wp k c) * logi (∑ k : Fin 1024, rms v g k * wg k c)

/-- The exponential is nowhere negative. -/
theorem exp_nonneg (x : EReal) : 0 ≤ Ideal.exp x := by
  induction x with
  | bot => simp
  | top => simp
  | coe x => rw [Ideal.exp_coe]; exact_mod_cast (Real.exp_pos x).le

/-- A quotient by one plus an exponential is the product with its inverse. -/
theorem div_logi (z : EReal) : Ideal.div z (1 + Ideal.exp (-z)) = z * logi z := by
  have h : (1 : EReal) + Ideal.exp (-z) ≠ 0 := by
    have h1 : (1 : EReal) ≤ 1 + Ideal.exp (-z) := le_add_of_nonneg_right (exp_nonneg _)
    exact (lt_of_lt_of_le (by norm_num) h1).ne'
  unfold logi Ideal.div
  rw [if_neg h, if_neg h, one_mul]

end Cert.Proof.Post

end
-- ==== Proof.Post.Block.lean ====
module

public import proofs.«01_k».proof.Proof.Gen.Kernel3Ideal.Value
public import proofs.«01_k».proof.Proof.Post.Row

/-! What the last step's kernel computes of one block of 512 tokens, token by token. -/

@[expose] public section

set_option maxRecDepth 16384
set_option maxHeartbeats 1000000

noncomputable section

namespace Cert.Proof.Kernel3Ideal

open Cert.Kernel3Ideal Cert.Kernel3Ideal.Gen
open Idealize.ShloMosaic Idealize.ShloMosaic.TcCoe Idealize.ShloMosaic.Tactic
open Idealize.SL.Sem
open Cert.Proof.Post

variable (z o : S1x512x1024.Idx → EReal) (x : S1x512x1024.Idx → EReal) (wo : S1024x1024.Idx → EReal)

theorem pay2_at (r : Fin 512) (c : Fin 1024) :
    k0_pay2 (F := Ideal) z o x wo (ix2 r c)
      = mixed (fun k => o (ix3 0 r k)) (fun k => z (ix3 0 r k)) (fun k => x (ix3 0 r k)) (fun k c => wo (ix2 k c)) c := by
  unfold mixed
  simp only [← div_logi]
  pointwise [k0_pay2]
  simp only [zero_sub]

theorem pay3_at (g : S1x1024.Idx → EReal) (r : Fin 512) (c : Fin 1024) :
    k0_pay3 (F := Ideal) z o x wo g (ix2 r c)
      = rms (fun k => k0_pay2 (F := Ideal) z o x wo (ix2 r k)) (fun k => g (ix2 0 k)) c := by
  unfold rms
  pointwise [k0_pay3]

theorem pay1_at (v : S512x1024.Idx → EReal) (n : S512x1024.Idx → EReal) (wg : S1024x1024.Idx → EReal) (p : S1x1x512x256.Idx → EReal)
    (wp : S256x1024.Idx → EReal) (g : S1x1024.Idx → EReal) (r : Fin 512) (c : Fin 1024) :
    k0_pay1 (F := Ideal) v n wg p wp g (ix3 0 r c)
      = rms (fun c => v (ix2 r c) + (∑ k : Fin 256, p (ix4 0 0 r k) * wp (ix2 k c)) * logi (∑ k : Fin 1024, n (ix2 r k) * wg (ix2 k c)))
          (fun k => g (ix2 0 k)) c := by
  unfold rms logi
  pointwise [k0_pay1]
  simp only [zero_sub]

end Cert.Proof.Kernel3Ideal

end
-- ==== Proof.Post.Ref.lean ====
module

public import proofs.«01_k».proof.Proof.Gen.Reference3Ideal.Run
public import proofs.«01_k».proof.Proof.Post.Row

/-! What the reference of the layer's last step computes, token by token. -/

@[expose] public section

set_option maxRecDepth 16384
set_option maxHeartbeats 1000000

noncomputable section

namespace Cert.Proof.Reference3Ideal

open Cert.Reference3Ideal Cert.Reference3Ideal.Gen Cert.Reference3Ideal.Value
open Idealize.ShloMosaic Idealize.ShloMosaic.TcCoe Idealize.ShloMosaic.Tactic Idealize.ShloMosaic.StableHlo
open Idealize.SL.Sem
open Cert.Proof.Post

variable (o z x : S16x4096x1024.Idx → EReal) (p : S4x16x4096x256.Idx → EReal) (wo wg : S1024x1024.Idx → EReal) (g : S1024.Idx → EReal)
  (wp : S256x1024.Idx → EReal) (f : S1024.Idx → EReal)

/-- The logistic function of every entry. -/
def SG (x : FVec Ideal S16x4096x1024 .f32) : FVec Ideal S16x4096x1024 .f32 :=
  Host.divf (broadcastInDim S16x4096x1024 ![] bcast_S_S16x4096x1024 (constant S_ .f32 0x3F800000#32)) (addf (broadcastInDim S16x4096x1024 ![] bcast_S_S16x4096x1024 (constant S_ .f32 0x3F800000#32)) (Host.exp (Host.negf x)))
/-- The stream after the mixer. -/
def X1 : FVec Ideal S16x4096x1024 .f32 :=
  addf (φ := .f32) x (Host.dotGeneral (φ₂ := .f32) dot_S16x4096x1024_S1024x1024_S16x4096x1024_2_0_01_1_n_n none (mulf (extf (φ := .bf16) .f32 o bitsLt_bf16_f32) (mulf (extf (φ := .bf16) .f32 z bitsLt_bf16_f32) (SG (extf (φ := .bf16) .f32 z bitsLt_bf16_f32)))) wo)
/-- The norm of every token. -/
def NM (v : FVec Ideal S16x4096x1024 .f32) (g : FVec Ideal S1024 .f32) : FVec Ideal S16x4096x1024 .f32 :=
  mulf (mulf v (broadcastInDim S16x4096x1024 ![0, 1, 2] bcast_S16x4096x1_S16x4096x1024_0_1_2 (Host.rsqrt (addf (Host.divf (broadcastInDim S16x4096x1 ![0, 1] bcast_S16x4096_S16x4096x1_0_1 (Host.reduceAdd (mulf v v) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32)))))) (broadcastInDim S16x4096x1024 ![0, 1, 2] bcast_S1x1x1024_S16x4096x1024_0_1_2 (broadcastInDim S1x1x1024 ![2] bcast_S1024_S1x1x1024_2 g))
/-- The stream `v` with the gated per-layer embedding. -/
def X2 (v : FVec Ideal S16x4096x1024 .f32) : FVec Ideal S16x4096x1024 .f32 :=
  addf v (mulf (Host.dotGeneral (φ₁ := .f32) (φ₂ := .f32) dot_S16x4096x256_S256x1024_S16x4096x1024_2_0_01_1_n_n none (shapeCast _ (extractStridedSlice S1x16x4096x256 ![3, 0, 0, 0] p slices_S4x16x4096x256_S1x16x4096x256_3_0_0_0) shapeCasts_S1x16x4096x256_S16x4096x256) wp) (SG (Host.dotGeneral (φ₂ := .f32) dot_S16x4096x1024_S1024x1024_S16x4096x1024_2_0_01_1_n_n none (NM v g) wg)))
/-- The result. -/
def FIN : FVec Ideal S16x4096x1024 .f32 := NM (X2 p wg g wp (X1 o z x wo)) f

theorem res_eq (m : (ℓ : Loc nD τ sig) → Buf (Elt Ideal) ℓ) (c : Dev nD) :
    res_out0 m c = FIN (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg6)) (m ((c.tc : Thread nD τ).loc main_arg5))
      (m ((c.tc : Thread nD τ).loc main_arg7)) (m ((c.tc : Thread nD τ).loc main_arg8)) := rfl

theorem SG_at (x : FVec Ideal S16x4096x1024 .f32) (b : Fin 16) (s : Fin 4096) (c : Fin 1024) : SG x (ix3 b s c) = logi (x (ix3 b s c)) := by
  unfold logi
  pointwise [SG]

theorem X1_at (b : Fin 16) (s : Fin 4096) (c : Fin 1024) :
    X1 o z x wo (ix3 b s c) = mixed (fun k => o (ix3 b s k)) (fun k => z (ix3 b s k)) (fun k => x (ix3 b s k)) (fun k c => wo (ix2 k c)) c := by
  unfold mixed logi
  pointwise [X1, SG]

theorem NM_at (v : FVec Ideal S16x4096x1024 .f32) (g : FVec Ideal S1024 .f32) (b : Fin 16) (s : Fin 4096) (c : Fin 1024) :
    NM v g (ix3 b s c) = rms (fun k => v (ix3 b s k)) (fun k => g (ix1 k)) c := by
  unfold rms
  pointwise [NM]

theorem X2_at (v : FVec Ideal S16x4096x1024 .f32) (b : Fin 16) (s : Fin 4096) (c : Fin 1024) :
    X2 p wg g wp v (ix3 b s c) = embedded (fun k => v (ix3 b s k)) (fun k => g (ix1 k)) (fun k c => wg (ix2 k c)) (fun k => p (ix4 3 b s k)) (fun k c => wp (ix2 k c)) c := by
  unfold embedded
  simp only [← NM_at]
  generalize hN : NM v g = N
  unfold logi X2
  rw [hN]
  pointwise [SG]

theorem FIN_at (b : Fin 16) (s : Fin 4096) (c : Fin 1024) :
    FIN o z x p wo wg g wp f (ix3 b s c)
      = rms (embedded (mixed (fun k => o (ix3 b s k)) (fun k => z (ix3 b s k)) (fun k => x (ix3 b s k)) (fun k c => wo (ix2 k c)))
          (fun k => g (ix1 k)) (fun k c => wg (ix2 k c)) (fun k => p (ix4 3 b s k)) (fun k c => wp (ix2 k c))) (fun k => f (ix1 k)) c := by
  unfold FIN
  rw [NM_at]
  simp only [X2_at, X1_at]

end Cert.Proof.Reference3Ideal

end
-- ==== Proof.Post.Final.lean ====
module

public import proofs.«01_k».proof.Proof.Post.Block
public import proofs.«01_k».proof.Proof.Post.Ref
public import Idealize.ShloMosaic.Lib.Claim
public import Idealize.ShloMosaic.Lib.Pipeline.ValueKit

/-! The array that the last step's kernel leaves: its reference's result. -/

@[expose] public section

set_option maxRecDepth 16384
set_option maxHeartbeats 1000000

noncomputable section

namespace Cert.Proof.Kernel3Ideal

open Cert.Kernel3Ideal Cert.Kernel3Ideal.Gen
open Idealize.ShloMosaic Idealize.ShloMosaic.TcCoe Idealize.ShloMosaic.Tactic
open Idealize.SL.Sem
open Cert.Proof.Post

/-- The block that a grid point writes, token by token. -/
theorem out_at (o z : S1x512x1024.Idx → EReal) (x : S1x512x1024.Idx → EReal) (p : S1x1x512x256.Idx → EReal) (wo : S1024x1024.Idx → EReal) (g : S1x1024.Idx → EReal)
    (wg : S1024x1024.Idx → EReal) (wp : S256x1024.Idx → EReal) (f : S1x1024.Idx → EReal) (r : Fin 512) (c : Fin 1024) :
    out0_9 (F := Ideal) o z x p wo g wg wp f (ix3 0 r c)
      = rms (embedded (mixed (fun k => o (ix3 0 r k)) (fun k => z (ix3 0 r k)) (fun k => x (ix3 0 r k)) (fun k c => wo (ix2 k c)))
          (fun k => g (ix2 0 k)) (fun k c => wg (ix2 k c)) (fun k => p (ix4 0 0 r k)) (fun k c => wp (ix2 k c))) (fun k => f (ix2 0 k)) c := by
  have e4 : k0_pay4 (F := Ideal) wg = wg := by
    funext y
    obtain ⟨a, b, rfl⟩ : ∃ a b : Fin 1024, y = ix2 a b := ⟨y 0, y 1, by funext d; fin_cases d <;> rfl⟩
    pointwise [k0_pay4]
  unfold out0_9
  have z2 : (![0, 0] : Fin 2 → ℕ) = fun _ => 0 := by decide
  have z3 : (![0, 0, 0] : Fin 3 → ℕ) = fun _ => 0 := by decide
  have z4 : (![0, 0, 0, 0] : Fin 4 → ℕ) = fun _ => 0 := by decide
  rw [View.canon_unit_zero z3, View.ld_unit_zero z3, View.ld_unit_zero z3, View.ld_unit_zero z3, View.ld_unit_zero z2, View.ld_unit_zero z2, View.ld_unit_zero z2,
    View.ld_unit_zero z4, View.ld_unit_zero z2, View.ld_unit_zero z2]
  rw [pay1_at, e4]
  simp only [pay3_at, pay2_at]
  rfl

variable (m : (ℓ : Loc nD τ sig) → Buf (Elt Ideal) ℓ)

theorem idx : ∀ t : Fin cfg0.N, win0_0.index t = ![(grid0.coords t 0).val, (grid0.coords t 1).val, 0]
    ∧ win0_1.index t = ![(grid0.coords t 0).val, (grid0.coords t 1).val, 0] ∧ win0_2.index t = ![(grid0.coords t 0).val, (grid0.coords t 1).val, 0]
    ∧ win0_3.index t = ![3, (grid0.coords t 0).val, (grid0.coords t 1).val, 0]
    ∧ win0_4.index t = ![0, 0] ∧ win0_5.index t = ![0, 0] ∧ win0_6.index t = ![0, 0] ∧ win0_7.index t = ![0, 0] ∧ win0_8.index t = ![0, 0]
    ∧ win0_9.index t = ![(grid0.coords t 0).val, (grid0.coords t 1).val, 0] := (by decide +kernel : ∀ t : Fin grid0.N, _)

section
variable (c : Dev nD) (t : Fin cfg0.N) (a : Fin 16) (ha : a.val = (grid0.coords t 0).val) (s : Fin 4096) (r : Fin 512)
  (hs : s.val = 512 * (grid0.coords t 1).val + r.val)
include ha hs

theorem blk0 (k : Fin 1024) : iblk m c 0 t (ix3 0 r k) = m ((c : Thread nD τ).loc main_arg0) (ix3 a s k) := by
  obtain rfl : a = ⟨_, (grid0.coords t 0).isLt⟩ := Fin.ext ha
  blk_ext [iblk, V, idx t]
theorem blk1 (k : Fin 1024) : iblk m c 1 t (ix3 0 r k) = m ((c : Thread nD τ).loc main_arg1) (ix3 a s k) := by
  blk_ext [iblk, V, idx t]
theorem blk2 (k : Fin 1024) : iblk m c 2 t (ix3 0 r k) = m ((c : Thread nD τ).loc main_arg2) (ix3 a s k) := by
  blk_ext [iblk, V, idx t]
theorem blk3 (k : Fin 256) : iblk m c 3 t (ix4 0 0 r k) = m ((c : Thread nD τ).loc main_arg3) (ix4 3 a s k) := by
  blk_ext [iblk, V, idx t]
end

section
variable (c : Dev nD) (t : Fin cfg0.N)

theorem blk4 (k j : Fin 1024) : iblk m c 4 t (ix2 k j) = m ((c : Thread nD τ).loc main_arg4) (ix2 k j) := by
  have e : iblk m c 4 t (ix2 k j) = V m c main_v0 (ix2 k j) := by blk_ext [iblk, idx t]
  rw [e]
  entry_read
  pointwise
theorem blk5 (k : Fin 1024) : iblk m c 5 t (ix2 0 k) = m ((c : Thread nD τ).loc main_arg5) (ix1 k) := by
  have e : iblk m c 5 t (ix2 0 k) = V m c main_v1 (ix2 0 k) := by blk_ext [iblk, idx t]
  rw [e]
  entry_read
  pointwise
theorem blk6 (k j : Fin 1024) : iblk m c 6 t (ix2 k j) = m ((c : Thread nD τ).loc main_arg6) (ix2 k j) := by
  have e : iblk m c 6 t (ix2 k j) = V m c main_v2 (ix2 k j) := by blk_ext [iblk, idx t]
  rw [e]
  entry_read
  pointwise
theorem blk7 (k : Fin 256) (j : Fin 1024) : iblk m c 7 t (ix2 k j) = m ((c : Thread nD τ).loc main_arg7) (ix2 k j) := by
  have e : iblk m c 7 t (ix2 k j) = V m c main_v3 (ix2 k j) := by blk_ext [iblk, idx t]
  rw [e]
  entry_read
  pointwise
theorem blk8 (k : Fin 1024) : iblk m c 8 t (ix2 0 k) = m ((c : Thread nD τ).loc main_arg8) (ix1 k) := by
  have e : iblk m c 8 t (ix2 0 k) = V m c main_v4 (ix2 0 k) := by blk_ext [iblk, idx t]
  rw [e]
  entry_read
  pointwise
end

theorem final (c : Dev nD) :
    (dats m 0 c).arrAt 9 cfg0.N
      = Cert.Proof.Reference3Ideal.FIN (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg6)) (m ((c : Thread nD τ).loc main_arg5))
        (m ((c : Thread nD τ).loc main_arg7)) (m ((c : Thread nD τ).loc main_arg8)) := by
  refine (dats m 0 c).arrAt_eq_of_covers 9 _ (by decide +kernel) fun t _ y => ?_
  blk_simp
  rw [after0_9]
  have hn : (grid0.coords t 1).val < 8 := (grid0.coords t 1).isLt
  obtain ⟨r, k, rfl⟩ : ∃ (r : Fin 512) (k : Fin 1024), y = ix3 0 r k := ⟨y 1, y 2, by funext d; fin_cases d; exacts [Fin.ext (by have := (y 0).isLt; show (y 0 : ℕ) = 0; change (y 0 : ℕ) < 1 at this; omega), rfl, rfl]⟩
  have hr := r.isLt
  obtain ⟨a, ha⟩ : ∃ a : Fin 16, a.val = (grid0.coords t 0).val := ⟨⟨(grid0.coords t 0).val, (grid0.coords t 0).isLt⟩, rfl⟩
  obtain ⟨s, hs⟩ : ∃ s : Fin 4096, s.val = 512 * (grid0.coords t 1).val + r.val := ⟨⟨512 * (grid0.coords t 1).val + r.val, by omega⟩, rfl⟩
  have ey : (win0_9.blk t).view.emb (ix3 0 r k) = ix3 a s k := by
    blk_ext [idx t]
  rw [ey, Cert.Proof.Reference3Ideal.FIN_at, out_at]
  simp only [blk0 m c t a ha s r hs, blk1 m c t a ha s r hs, blk2 m c t a ha s r hs, blk3 m c t a ha s r hs, blk4, blk5, blk6, blk7, blk8]

end Cert.Proof.Kernel3Ideal

end
-- ==== Proof.Mid.Block.lean ====
module

public import proofs.«01_k».proof.Proof.Gen.Kernel5Ideal.Value
public import proofs.«01_k».proof.Proof.Post.Row

/-! What the kernel of an earlier layer's end computes of one block of 512 tokens, token by token. -/

@[expose] public section

set_option maxRecDepth 16384
set_option maxHeartbeats 1000000

noncomputable section

namespace Cert.Proof.Kernel5Ideal

open Cert.Kernel5Ideal Cert.Kernel5Ideal.Gen
open Idealize.ShloMosaic Idealize.ShloMosaic.TcCoe Idealize.ShloMosaic.Tactic
open Idealize.SL.Sem
open Cert.Proof.Post

variable (z o : S1x512x1024.Idx → EReal) (x : S1x512x1024.Idx → EReal) (wo : S1024x1024.Idx → EReal)

theorem pay2_at (r : Fin 512) (c : Fin 1024) :
    k0_pay2 (F := Ideal) z o x wo (ix2 r c)
      = mixed (fun k => o (ix3 0 r k)) (fun k => z (ix3 0 r k)) (fun k => x (ix3 0 r k)) (fun k c => wo (ix2 k c)) c := by
  unfold mixed
  simp only [← div_logi]
  pointwise [k0_pay2]
  simp only [zero_sub]

theorem pay3_at (g : S1x1024.Idx → EReal) (r : Fin 512) (c : Fin 1024) :
    k0_pay3 (F := Ideal) z o x wo g (ix2 r c)
      = rms (fun k => k0_pay2 (F := Ideal) z o x wo (ix2 r k)) (fun k => g (ix2 0 k)) c := by
  unfold rms
  pointwise [k0_pay3]

theorem pay1_at (v : S512x1024.Idx → EReal) (n : S512x1024.Idx → EReal) (wg : S1024x1024.Idx → EReal) (p : S1x1x512x256.Idx → EReal)
    (wp : S256x1024.Idx → EReal) (r : Fin 512) (c : Fin 1024) :
    k0_pay1 (F := Ideal) v n wg p wp (ix3 0 r c)
      = v (ix2 r c) + (∑ k : Fin 256, p (ix4 0 0 r k) * wp (ix2 k c)) * logi (∑ k : Fin 1024, n (ix2 r k) * wg (ix2 k c)) := by
  unfold logi
  pointwise [k0_pay1]
  simp only [zero_sub]

end Cert.Proof.Kernel5Ideal

end
-- ==== Proof.Mid.Ref.lean ====
module

public import proofs.«01_k».proof.Proof.Gen.Reference5Ideal.Run
public import proofs.«01_k».proof.Proof.Post.Row

/-! What the reference of an earlier layer's end computes, token by token. -/

@[expose] public section

set_option maxRecDepth 16384
set_option maxHeartbeats 1000000

noncomputable section

namespace Cert.Proof.Reference5Ideal

open Cert.Reference5Ideal Cert.Reference5Ideal.Gen Cert.Reference5Ideal.Value
open Idealize.ShloMosaic Idealize.ShloMosaic.TcCoe Idealize.ShloMosaic.Tactic Idealize.ShloMosaic.StableHlo
open Idealize.SL.Sem
open Cert.Proof.Post

variable (o z x : S16x4096x1024.Idx → EReal) (p : S4x16x4096x256.Idx → EReal) (wo wg : S1024x1024.Idx → EReal) (g : S1024.Idx → EReal)
  (wp : S256x1024.Idx → EReal)

/-- The logistic function of every entry. -/
def SG (x : FVec Ideal S16x4096x1024 .f32) : FVec Ideal S16x4096x1024 .f32 :=
  Host.divf (broadcastInDim S16x4096x1024 ![] bcast_S_S16x4096x1024 (constant S_ .f32 0x3F800000#32)) (addf (broadcastInDim S16x4096x1024 ![] bcast_S_S16x4096x1024 (constant S_ .f32 0x3F800000#32)) (Host.exp (Host.negf x)))
/-- The stream after the mixer. -/
def X1 : FVec Ideal S16x4096x1024 .f32 :=
  addf (φ := .f32) x (Host.dotGeneral (φ₂ := .f32) dot_S16x4096x1024_S1024x1024_S16x4096x1024_2_0_01_1_n_n none (mulf (extf (φ := .bf16) .f32 o bitsLt_bf16_f32) (mulf (extf (φ := .bf16) .f32 z bitsLt_bf16_f32) (SG (extf (φ := .bf16) .f32 z bitsLt_bf16_f32)))) wo)
/-- The norm of every token. -/
def NM (v : FVec Ideal S16x4096x1024 .f32) (g : FVec Ideal S1024 .f32) : FVec Ideal S16x4096x1024 .f32 :=
  mulf (mulf v (broadcastInDim S16x4096x1024 ![0, 1, 2] bcast_S16x4096x1_S16x4096x1024_0_1_2 (Host.rsqrt (addf (Host.divf (broadcastInDim S16x4096x1 ![0, 1] bcast_S16x4096_S16x4096x1_0_1 (Host.reduceAdd (mulf v v) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32)))))) (broadcastInDim S16x4096x1024 ![0, 1, 2] bcast_S1x1x1024_S16x4096x1024_0_1_2 (broadcastInDim S1x1x1024 ![2] bcast_S1024_S1x1x1024_2 g))
/-- The stream `v` with the gated per-layer embedding. -/
def X2 (v : FVec Ideal S16x4096x1024 .f32) : FVec Ideal S16x4096x1024 .f32 :=
  addf v (mulf (Host.dotGeneral (φ₁ := .f32) (φ₂ := .f32) dot_S16x4096x256_S256x1024_S16x4096x1024_2_0_01_1_n_n none (shapeCast _ (extractStridedSlice S1x16x4096x256 ![0, 0, 0, 0] p slices_S4x16x4096x256_S1x16x4096x256_0_0_0_0) shapeCasts_S1x16x4096x256_S16x4096x256) wp) (SG (Host.dotGeneral (φ₂ := .f32) dot_S16x4096x1024_S1024x1024_S16x4096x1024_2_0_01_1_n_n none (NM v g) wg)))
/-- The result. -/
def FIN : FVec Ideal S16x4096x1024 .f32 := X2 p wg g wp (X1 o z x wo)

/-- The reference's run, its result so named. -/
theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v30)
        = FIN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg5)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h c).1.trans rfl, (h c).2⟩) (run m ρ)

theorem SG_at (x : FVec Ideal S16x4096x1024 .f32) (b : Fin 16) (s : Fin 4096) (c : Fin 1024) : SG x (ix3 b s c) = logi (x (ix3 b s c)) := by
  unfold logi
  pointwise [SG]

theorem X1_at (b : Fin 16) (s : Fin 4096) (c : Fin 1024) :
    X1 o z x wo (ix3 b s c) = mixed (fun k => o (ix3 b s k)) (fun k => z (ix3 b s k)) (fun k => x (ix3 b s k)) (fun k c => wo (ix2 k c)) c := by
  unfold mixed logi
  pointwise [X1, SG]

theorem NM_at (v : FVec Ideal S16x4096x1024 .f32) (g : FVec Ideal S1024 .f32) (b : Fin 16) (s : Fin 4096) (c : Fin 1024) :
    NM v g (ix3 b s c) = rms (fun k => v (ix3 b s k)) (fun k => g (ix1 k)) c := by
  unfold rms
  pointwise [NM]

theorem X2_at (v : FVec Ideal S16x4096x1024 .f32) (b : Fin 16) (s : Fin 4096) (c : Fin 1024) :
    X2 p wg g wp v (ix3 b s c) = embedded (fun k => v (ix3 b s k)) (fun k => g (ix1 k)) (fun k c => wg (ix2 k c)) (fun k => p (ix4 0 b s k)) (fun k c => wp (ix2 k c)) c := by
  unfold embedded
  simp only [← NM_at]
  generalize hN : NM v g = N
  unfold logi X2
  rw [hN]
  pointwise [SG]

theorem FIN_at (b : Fin 16) (s : Fin 4096) (c : Fin 1024) :
    FIN o z x p wo wg g wp (ix3 b s c)
      = embedded (mixed (fun k => o (ix3 b s k)) (fun k => z (ix3 b s k)) (fun k => x (ix3 b s k)) (fun k c => wo (ix2 k c)))
          (fun k => g (ix1 k)) (fun k c => wg (ix2 k c)) (fun k => p (ix4 0 b s k)) (fun k c => wp (ix2 k c)) c := by
  unfold FIN
  rw [X2_at]
  simp only [X1_at]

end Cert.Proof.Reference5Ideal

end
-- ==== Proof.Mid.Final.lean ====
module

public import proofs.«01_k».proof.Proof.Mid.Block
public import proofs.«01_k».proof.Proof.Mid.Ref
public import Idealize.ShloMosaic.Lib.Claim
public import Idealize.ShloMosaic.Lib.Pipeline.ValueKit

/-! The array that the kernel of an earlier layer's end leaves: its reference's result. -/

@[expose] public section

set_option maxRecDepth 16384
set_option maxHeartbeats 1000000

noncomputable section

namespace Cert.Proof.Kernel5Ideal

open Cert.Kernel5Ideal Cert.Kernel5Ideal.Gen
open Idealize.ShloMosaic Idealize.ShloMosaic.TcCoe Idealize.ShloMosaic.Tactic
open Idealize.SL.Sem
open Cert.Proof.Post

/-- The block that a grid point writes, token by token. -/
theorem out_at (o z : S1x512x1024.Idx → EReal) (x : S1x512x1024.Idx → EReal) (p : S1x1x512x256.Idx → EReal) (wo : S1024x1024.Idx → EReal) (g : S1x1024.Idx → EReal)
    (wg : S1024x1024.Idx → EReal) (wp : S256x1024.Idx → EReal) (f : S1x1024.Idx → EReal) (r : Fin 512) (c : Fin 1024) :
    out0_9 (F := Ideal) o z x p wo g wg wp f (ix3 0 r c)
      = embedded (mixed (fun k => o (ix3 0 r k)) (fun k => z (ix3 0 r k)) (fun k => x (ix3 0 r k)) (fun k c => wo (ix2 k c)))
          (fun k => g (ix2 0 k)) (fun k c => wg (ix2 k c)) (fun k => p (ix4 0 0 r k)) (fun k c => wp (ix2 k c)) c := by
  have e4 : k0_pay4 (F := Ideal) wg = wg := by
    funext y
    obtain ⟨a, b, rfl⟩ : ∃ a b : Fin 1024, y = ix2 a b := ⟨y 0, y 1, by funext d; fin_cases d <;> rfl⟩
    pointwise [k0_pay4]
  unfold out0_9
  have z2 : (![0, 0] : Fin 2 → ℕ) = fun _ => 0 := by decide
  have z3 : (![0, 0, 0] : Fin 3 → ℕ) = fun _ => 0 := by decide
  have z4 : (![0, 0, 0, 0] : Fin 4 → ℕ) = fun _ => 0 := by decide
  rw [View.canon_unit_zero z3, View.ld_unit_zero z3, View.ld_unit_zero z3, View.ld_unit_zero z3, View.ld_unit_zero z2, View.ld_unit_zero z2, View.ld_unit_zero z2,
    View.ld_unit_zero z4, View.ld_unit_zero z2]
  rw [pay1_at, e4]
  simp only [pay3_at, pay2_at]
  rfl

variable (m : (ℓ : Loc nD τ sig) → Buf (Elt Ideal) ℓ)

theorem idx : ∀ t : Fin cfg0.N, win0_0.index t = ![(grid0.coords t 0).val, (grid0.coords t 1).val, 0]
    ∧ win0_1.index t = ![(grid0.coords t 0).val, (grid0.coords t 1).val, 0] ∧ win0_2.index t = ![(grid0.coords t 0).val, (grid0.coords t 1).val, 0]
    ∧ win0_3.index t = ![0, (grid0.coords t 0).val, (grid0.coords t 1).val, 0]
    ∧ win0_4.index t = ![0, 0] ∧ win0_5.index t = ![0, 0] ∧ win0_6.index t = ![0, 0] ∧ win0_7.index t = ![0, 0] ∧ win0_8.index t = ![0, 0]
    ∧ win0_9.index t = ![(grid0.coords t 0).val, (grid0.coords t 1).val, 0] := (by decide +kernel : ∀ t : Fin grid0.N, _)

section
variable (c : Dev nD) (t : Fin cfg0.N) (a : Fin 16) (ha : a.val = (grid0.coords t 0).val) (s : Fin 4096) (r : Fin 512)
  (hs : s.val = 512 * (grid0.coords t 1).val + r.val)
include ha hs

theorem blk0 (k : Fin 1024) : iblk m c 0 t (ix3 0 r k) = m ((c : Thread nD τ).loc main_arg0) (ix3 a s k) := by
  obtain rfl : a = ⟨_, (grid0.coords t 0).isLt⟩ := Fin.ext ha
  blk_ext [iblk, V, idx t]
theorem blk1 (k : Fin 1024) : iblk m c 1 t (ix3 0 r k) = m ((c : Thread nD τ).loc main_arg1) (ix3 a s k) := by
  blk_ext [iblk, V, idx t]
theorem blk2 (k : Fin 1024) : iblk m c 2 t (ix3 0 r k) = m ((c : Thread nD τ).loc main_arg2) (ix3 a s k) := by
  blk_ext [iblk, V, idx t]
theorem blk3 (k : Fin 256) : iblk m c 3 t (ix4 0 0 r k) = m ((c : Thread nD τ).loc main_arg3) (ix4 0 a s k) := by
  blk_ext [iblk, V, idx t]
end

section
variable (c : Dev nD) (t : Fin cfg0.N)

theorem blk4 (k j : Fin 1024) : iblk m c 4 t (ix2 k j) = m ((c : Thread nD τ).loc main_arg4) (ix2 k j) := by
  have e : iblk m c 4 t (ix2 k j) = V m c main_v0 (ix2 k j) := by blk_ext [iblk, idx t]
  rw [e]
  entry_read
  pointwise
theorem blk5 (k : Fin 1024) : iblk m c 5 t (ix2 0 k) = m ((c : Thread nD τ).loc main_arg5) (ix1 k) := by
  have e : iblk m c 5 t (ix2 0 k) = V m c main_v1 (ix2 0 k) := by blk_ext [iblk, idx t]
  rw [e]
  entry_read
  pointwise
theorem blk6 (k j : Fin 1024) : iblk m c 6 t (ix2 k j) = m ((c : Thread nD τ).loc main_arg6) (ix2 k j) := by
  have e : iblk m c 6 t (ix2 k j) = V m c main_v2 (ix2 k j) := by blk_ext [iblk, idx t]
  rw [e]
  entry_read
  pointwise
theorem blk7 (k : Fin 256) (j : Fin 1024) : iblk m c 7 t (ix2 k j) = m ((c : Thread nD τ).loc main_arg7) (ix2 k j) := by
  have e : iblk m c 7 t (ix2 k j) = V m c main_v3 (ix2 k j) := by blk_ext [iblk, idx t]
  rw [e]
  entry_read
  pointwise
end

theorem final (c : Dev nD) :
    (dats m 0 c).arrAt 9 cfg0.N
      = Cert.Proof.Reference5Ideal.FIN (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg6)) (m ((c : Thread nD τ).loc main_arg5))
        (m ((c : Thread nD τ).loc main_arg7)) := by
  refine (dats m 0 c).arrAt_eq_of_covers 9 _ (by decide +kernel) fun t _ y => ?_
  blk_simp
  rw [after0_9]
  have hn : (grid0.coords t 1).val < 8 := (grid0.coords t 1).isLt
  obtain ⟨r, k, rfl⟩ : ∃ (r : Fin 512) (k : Fin 1024), y = ix3 0 r k := ⟨y 1, y 2, by funext d; fin_cases d; exacts [Fin.ext (by have := (y 0).isLt; show (y 0 : ℕ) = 0; change (y 0 : ℕ) < 1 at this; omega), rfl, rfl]⟩
  have hr := r.isLt
  obtain ⟨a, ha⟩ : ∃ a : Fin 16, a.val = (grid0.coords t 0).val := ⟨⟨(grid0.coords t 0).val, (grid0.coords t 0).isLt⟩, rfl⟩
  obtain ⟨s, hs⟩ : ∃ s : Fin 4096, s.val = 512 * (grid0.coords t 1).val + r.val := ⟨⟨512 * (grid0.coords t 1).val + r.val, by omega⟩, rfl⟩
  have ey : (win0_9.blk t).view.emb (ix3 0 r k) = ix3 a s k := by
    blk_ext [idx t]
  rw [ey, Cert.Proof.Reference5Ideal.FIN_at, out_at]
  simp only [blk0 m c t a ha s r hs, blk1 m c t a ha s r hs, blk2 m c t a ha s r hs, blk3 m c t a ha s r hs, blk4, blk5, blk6, blk7]

end Cert.Proof.Kernel5Ideal

end
-- ==== Proof.Dsp.All.lean ====
module

public import proofs.«01_k».proof.Proof.Gen.Kernel4Ideal.Value
public import proofs.«01_k».proof.Proof.Gen.Kernel4.Frame
public import proofs.«01_k».proof.Proof.Gen.Reference4Ideal.Run
public import proofs.«01_k».proof.Proof.Gen.Reference4.Run

/-! The generated parts that the proofs of the sparse layer's projection rest on. -/
-- ==== Proof.Dsp.W.lean ====
module

public import proofs.«01_k».proof.Proof.Gen.Kernel4Ideal.Value
public import Idealize.ShloMosaic.Lib.Claim
public import Idealize.ShloMosaic.Lib.Pipeline.ValueKit

/-! The blocks that the sparse layer's projection reads, as entries of its arguments. -/

@[expose] public section

set_option maxRecDepth 16384
set_option maxHeartbeats 1000000

noncomputable section

namespace Cert.Proof.Kernel4Ideal

open Cert.Kernel4Ideal Cert.Kernel4Ideal.Gen
open Idealize.ShloMosaic Idealize.ShloMosaic.TcCoe Idealize.ShloMosaic.Tactic
open Idealize.SL.Sem

/-- The columns of the input projection in the order queries, index queries, keys, index keys, a gap, values, index weights, a gap. -/
def WC (A : FVec Ideal S1024x3144 .f32) : FVec Ideal S1024x2192 .f32 :=
  concatenate S1024x2192 1 [⟨S1024x1024, extractStridedSlice S1024x1024 ![0, 0] A slices_S1024x3144_S1024x1024_0_0⟩, ⟨S1024x512, extractStridedSlice S1024x512 ![0, 1536] A slices_S1024x3144_S1024x512_0_1536⟩, ⟨S1024x256, extractStridedSlice S1024x256 ![0, 1024] A slices_S1024x3144_S1024x256_0_1024⟩, ⟨S1024x64, extractStridedSlice S1024x64 ![0, 2048] A slices_S1024x3144_S1024x64_0_2048⟩, ⟨S1024x64, broadcastInDim S1024x64 ![] bcast_S_S1024x64 (constant S_ .f32 0x00000000#32)⟩, ⟨S1024x256, extractStridedSlice S1024x256 ![0, 1280] A slices_S1024x3144_S1024x256_0_1280⟩, ⟨S1024x8, extractStridedSlice S1024x8 ![0, 2112] A slices_S1024x3144_S1024x8_0_2112⟩, ⟨S1024x8, broadcastInDim S1024x8 ![] bcast_S_S1024x8 (constant S_ .f32 0x00000000#32)⟩] concatenates_S1024x1024_S1024x512_S1024x256_S1024x64_S1024x64_S1024x256_S1024x8_S1024x8_S1024x2192_d1

/-- The stacked weights that the call prepares before its grid starts: those columns, transposed. -/
def WF (A : FVec Ideal S1024x3144 .f32) : FVec Ideal S2192x1024 .bf16 :=
  truncf .bf16 (transpose S2192x1024 [1, 0] (WC A) transposes_S1024x2192_S2192x1024_1_0) bitsLt_bf16_f32

theorem stacked_at (B : FVec Ideal S1024x2192 .f32) (j : Fin 2192) (k : Fin 1024) :
    (truncf .bf16 (transpose S2192x1024 [1, 0] B transposes_S1024x2192_S2192x1024_1_0) bitsLt_bf16_f32 : FVec Ideal S2192x1024 .bf16) (ix2 j k) = B (ix2 k j) := by
  pointwise

theorem WF_q (A : FVec Ideal S1024x3144 .f32) (j : Fin 1024) (k : Fin 1024) : WF A (ix2 ⟨j.val, by omega⟩ k) = A (ix2 k ⟨j.val, by omega⟩) := by
  refine (stacked_at (WC A) _ _).trans ?_
  unfold WC
  refine (concatenate_apply_piece 1 _ _ (ix2 k (⟨j.val, by omega⟩ : Fin 2192)) 0 (by show 0 < 8; omega) S1024x1024 (extractStridedSlice S1024x1024 ![0, 0] A slices_S1024x3144_S1024x1024_0_0) rfl rfl 0 (by rfl) (ix2 k j) (fun b hb => ?_) ?_).trans ?_
  · match b with
    | ⟨0, _⟩ => rfl
    | ⟨1, _⟩ => exact absurd rfl hb
  · show 0 + j.val = j.val; omega
  · pointwise

theorem WF_i (A : FVec Ideal S1024x3144 .f32) (j : Fin 512) (k : Fin 1024) : WF A (ix2 ⟨1024 + j.val, by omega⟩ k) = A (ix2 k ⟨1536 + j.val, by omega⟩) := by
  refine (stacked_at (WC A) _ _).trans ?_
  unfold WC
  refine (concatenate_apply_piece 1 _ _ (ix2 k (⟨1024 + j.val, by omega⟩ : Fin 2192)) 1 (by show 1 < 8; omega) S1024x512 (extractStridedSlice S1024x512 ![0, 1536] A slices_S1024x3144_S1024x512_0_1536) rfl rfl 1024 (by rfl) (ix2 k j) (fun b hb => ?_) ?_).trans ?_
  · match b with
    | ⟨0, _⟩ => rfl
    | ⟨1, _⟩ => exact absurd rfl hb
  · show 1024 + j.val = 1024 + j.val; omega
  · pointwise

theorem WF_k (A : FVec Ideal S1024x3144 .f32) (j : Fin 256) (k : Fin 1024) : WF A (ix2 ⟨1536 + j.val, by omega⟩ k) = A (ix2 k ⟨1024 + j.val, by omega⟩) := by
  refine (stacked_at (WC A) _ _).trans ?_
  unfold WC
  refine (concatenate_apply_piece 1 _ _ (ix2 k (⟨1536 + j.val, by omega⟩ : Fin 2192)) 2 (by show 2 < 8; omega) S1024x256 (extractStridedSlice S1024x256 ![0, 1024] A slices_S1024x3144_S1024x256_0_1024) rfl rfl 1536 (by rfl) (ix2 k j) (fun b hb => ?_) ?_).trans ?_
  · match b with
    | ⟨0, _⟩ => rfl
    | ⟨1, _⟩ => exact absurd rfl hb
  · show 1536 + j.val = 1536 + j.val; omega
  · pointwise

theorem WF_m (A : FVec Ideal S1024x3144 .f32) (j : Fin 64) (k : Fin 1024) : WF A (ix2 ⟨1792 + j.val, by omega⟩ k) = A (ix2 k ⟨2048 + j.val, by omega⟩) := by
  refine (stacked_at (WC A) _ _).trans ?_
  unfold WC
  refine (concatenate_apply_piece 1 _ _ (ix2 k (⟨1792 + j.val, by omega⟩ : Fin 2192)) 3 (by show 3 < 8; omega) S1024x64 (extractStridedSlice S1024x64 ![0, 2048] A slices_S1024x3144_S1024x64_0_2048) rfl rfl 1792 (by rfl) (ix2 k j) (fun b hb => ?_) ?_).trans ?_
  · match b with
    | ⟨0, _⟩ => rfl
    | ⟨1, _⟩ => exact absurd rfl hb
  · show 1792 + j.val = 1792 + j.val; omega
  · pointwise

theorem WF_v (A : FVec Ideal S1024x3144 .f32) (j : Fin 256) (k : Fin 1024) : WF A (ix2 ⟨1920 + j.val, by omega⟩ k) = A (ix2 k ⟨1280 + j.val, by omega⟩) := by
  refine (stacked_at (WC A) _ _).trans ?_
  unfold WC
  refine (concatenate_apply_piece 1 _ _ (ix2 k (⟨1920 + j.val, by omega⟩ : Fin 2192)) 5 (by show 5 < 8; omega) S1024x256 (extractStridedSlice S1024x256 ![0, 1280] A slices_S1024x3144_S1024x256_0_1280) rfl rfl 1920 (by rfl) (ix2 k j) (fun b hb => ?_) ?_).trans ?_
  · match b with
    | ⟨0, _⟩ => rfl
    | ⟨1, _⟩ => exact absurd rfl hb
  · show 1920 + j.val = 1920 + j.val; omega
  · pointwise

theorem WF_w (A : FVec Ideal S1024x3144 .f32) (j : Fin 8) (k : Fin 1024) : WF A (ix2 ⟨2176 + j.val, by omega⟩ k) = A (ix2 k ⟨2112 + j.val, by omega⟩) := by
  refine (stacked_at (WC A) _ _).trans ?_
  unfold WC
  refine (concatenate_apply_piece 1 _ _ (ix2 k (⟨2176 + j.val, by omega⟩ : Fin 2192)) 6 (by show 6 < 8; omega) S1024x8 (extractStridedSlice S1024x8 ![0, 2112] A slices_S1024x3144_S1024x8_0_2112) rfl rfl 2176 (by rfl) (ix2 k j) (fun b hb => ?_) ?_).trans ?_
  · match b with
    | ⟨0, _⟩ => rfl
    | ⟨1, _⟩ => exact absurd rfl hb
  · show 2176 + j.val = 2176 + j.val; omega
  · pointwise

variable (m : (ℓ : Loc nD τ sig) → Buf (Elt Ideal) ℓ)

theorem V11 (c : Dev nD) : V m c main_v11 = WF (m ((c : Thread nD τ).loc main_arg4)) := by
  show StableHlo.after hostOps0 _ _ = _
  rfl

theorem idx : ∀ t : Fin cfg0.N, win0_0.index t = ![(grid0.coords t 0).val, (grid0.coords t 1).val, 0]
    ∧ win0_1.index t = ![(grid0.coords t 0).val, 0, (grid0.coords t 1).val] ∧ win0_2.index t = ![(grid0.coords t 0).val, 0, (grid0.coords t 1).val]
    ∧ win0_3.index t = ![0, 0] ∧ win0_4.index t = ![0, 0] ∧ win0_5.index t = ![0, 0]
    ∧ win0_6.index t = ![(grid0.coords t 0).val, 0, (grid0.coords t 1).val] ∧ win0_7.index t = ![(grid0.coords t 0).val, 0, (grid0.coords t 1).val]
    ∧ win0_8.index t = ![(grid0.coords t 0).val, 0, (grid0.coords t 1).val, 0] ∧ win0_9.index t = ![(grid0.coords t 0).val, (grid0.coords t 1).val, 0]
    ∧ win0_10.index t = ![(grid0.coords t 0).val, 0, (grid0.coords t 1).val] ∧ win0_11.index t = ![(grid0.coords t 0).val, 0, (grid0.coords t 1).val]
    ∧ win0_12.index t = ![(grid0.coords t 0).val, (grid0.coords t 1).val, 0] := (by decide +kernel : ∀ t : Fin grid0.N, _)

section
variable (c : Dev nD) (t : Fin cfg0.N) (a : Fin 16) (ha : a.val = (grid0.coords t 0).val) (s : Fin 4096) (r : Fin 512)
  (hs : s.val = 512 * (grid0.coords t 1).val + r.val)
include ha hs

theorem blk0 (k : Fin 1024) : iblk m c 0 t (ix3 0 r k) = m ((c : Thread nD τ).loc main_arg0) (ix3 a s k) := by
  blk_ext [iblk, V, idx t]
theorem blk1 (k : Fin 96) : iblk m c 1 t (ix3 0 k r) = m ((c : Thread nD τ).loc main_arg1) (ix3 a k s) := by
  blk_ext [iblk, V, idx t]
theorem blk2 (k : Fin 96) : iblk m c 2 t (ix3 0 k r) = m ((c : Thread nD τ).loc main_arg2) (ix3 a k s) := by
  blk_ext [iblk, V, idx t]
end

section
variable (c : Dev nD) (t : Fin cfg0.N)

theorem blk3 (k : Fin 1024) : iblk m c 3 t (ix2 0 k) = m ((c : Thread nD τ).loc main_arg3) (ix1 k) := by
  have e : iblk m c 3 t (ix2 0 k) = V m c main_v12 (ix2 0 k) := by blk_ext [iblk, idx t]
  rw [e]
  entry_read
  pointwise
theorem blk5 (k j : Fin 1024) : iblk m c 5 t (ix2 k j) = m ((c : Thread nD τ).loc main_arg4) (ix2 k ⟨2120 + j.val, by omega⟩) := by
  have e : iblk m c 5 t (ix2 k j) = V m c main_v13 (ix2 k j) := by blk_ext [iblk, idx t]
  rw [e]
  entry_read
  pointwise
theorem row (j : Fin 2192) (k : Fin 1024) : iblk m c 4 t (ix2 j k) = V m c main_v11 (ix2 j k) := by blk_ext [iblk, idx t]

theorem blk4q (j : Fin 1024) (k : Fin 1024) : iblk m c 4 t (ix2 ⟨j.val, by omega⟩ k) = m ((c : Thread nD τ).loc main_arg4) (ix2 k ⟨j.val, by omega⟩) := by
  rw [row, V11]
  exact WF_q _ j k
theorem blk4i (j : Fin 512) (k : Fin 1024) : iblk m c 4 t (ix2 ⟨1024 + j.val, by omega⟩ k) = m ((c : Thread nD τ).loc main_arg4) (ix2 k ⟨1536 + j.val, by omega⟩) := by
  rw [row, V11]
  exact WF_i _ j k
theorem blk4k (j : Fin 256) (k : Fin 1024) : iblk m c 4 t (ix2 ⟨1536 + j.val, by omega⟩ k) = m ((c : Thread nD τ).loc main_arg4) (ix2 k ⟨1024 + j.val, by omega⟩) := by
  rw [row, V11]
  exact WF_k _ j k
theorem blk4m (j : Fin 64) (k : Fin 1024) : iblk m c 4 t (ix2 ⟨1792 + j.val, by omega⟩ k) = m ((c : Thread nD τ).loc main_arg4) (ix2 k ⟨2048 + j.val, by omega⟩) := by
  rw [row, V11]
  exact WF_m _ j k
theorem blk4v (j : Fin 256) (k : Fin 1024) : iblk m c 4 t (ix2 ⟨1920 + j.val, by omega⟩ k) = m ((c : Thread nD τ).loc main_arg4) (ix2 k ⟨1280 + j.val, by omega⟩) := by
  rw [row, V11]
  exact WF_v _ j k
theorem blk4w (j : Fin 8) (k : Fin 1024) : iblk m c 4 t (ix2 ⟨2176 + j.val, by omega⟩ k) = m ((c : Thread nD τ).loc main_arg4) (ix2 k ⟨2112 + j.val, by omega⟩) := by
  rw [row, V11]
  exact WF_w _ j k
end

end Cert.Proof.Kernel4Ideal

end
-- ==== Proof.Dsp.Row.lean ====
module

public import proofs.«01_k».proof.Proof.Post.Row

/-! One token's projections: the rotary turn of a head's row. -/

@[expose] public section

noncomputable section

namespace Cert.Proof.Dsp

open Idealize.ShloMosaic

/-- `f` at a number, zero past the end. -/
def lift {n : ℕ} (f : Fin n → EReal) (j : ℕ) : EReal := if h : j < n then f ⟨j, h⟩ else 0

theorem lift_eq {n : ℕ} (f : Fin n → EReal) (j : ℕ) (h : j < n) : lift f j = f ⟨j, h⟩ := dif_pos h

/-- The rotary turn of rows of `2 n` numbers each, one after the other: the first half of a row with the negative of the second. -/
def rot (n : ℕ) (p co si : ℕ → EReal) (c : ℕ) : EReal :=
  if c % (2 * n) < n then p c * co (c % n) - p (c + n) * si (c % n) else p c * co (c % n) + p (c - n) * si (c % n)

/-- The turn reads only the rows below `N`. -/
theorem rot_congr (n N : ℕ) (hN : 2 * n ∣ N) (p q co si : ℕ → EReal) (h : ∀ j < N, p j = q j) (c : ℕ) (hc : c < N) : rot n p co si c = rot n q co si c := by
  unfold rot
  obtain ⟨k, rfl⟩ := hN
  split
  · rename_i h1
    rw [h c hc, h (c + n) (by
      have h2 := Nat.div_add_mod c (2 * n)
      have h3 : c / (2 * n) < k := Nat.div_lt_of_lt_mul hc
      have h4 : 2 * n * (c / (2 * n) + 1) ≤ 2 * n * k := Nat.mul_le_mul_left _ h3
      rw [Nat.mul_add] at h4
      omega)]
  · rw [h c hc, h (c - n) (by omega)]

theorem rot_lo (n : ℕ) (p co si : ℕ → EReal) (c : ℕ) (h : c % (2 * n) < n) : rot n p co si c = p c * co (c % n) - p (c + n) * si (c % n) := if_pos h

theorem rot_hi (n : ℕ) (p co si : ℕ → EReal) (c : ℕ) (h : ¬c % (2 * n) < n) : rot n p co si c = p c * co (c % n) + p (c - n) * si (c % n) := if_neg h

/-- A choice by halves is the turn. -/
theorem rot_of (n c : ℕ) (p co si : ℕ → EReal) (P : Prop) [Decidable P] (hP : P ↔ c % (2 * n) < n) (A : P → EReal) (B : ¬P → EReal)
    (hA : ∀ h, A h = p c * co (c % n) - p (c + n) * si (c % n)) (hB : ∀ h, B h = p c * co (c % n) + p (c - n) * si (c % n)) :
    (if h : P then A h else B h) = rot n p co si c := by
  unfold rot
  by_cases h : P
  · rw [dif_pos h, if_pos (hP.mp h), hA]
  · rw [dif_neg h, if_neg (fun e => h (hP.mpr e)), hB]

end Cert.Proof.Dsp

end
-- ==== Proof.Dsp.Block.lean ====
module

public import proofs.«01_k».proof.Proof.Gen.Kernel4Ideal.Value
public import proofs.«01_k».proof.Proof.Dsp.Row
public import Idealize.ShloMosaic.Lib.Pipeline.ValueKit

/-! What the sparse layer's projection writes of one block of 512 tokens, apart from the two kinds of queries. -/

@[expose] public section

set_option maxRecDepth 16384
set_option maxHeartbeats 1000000

noncomputable section

namespace Cert.Proof.Kernel4Ideal

open Cert.Kernel4Ideal Cert.Kernel4Ideal.Gen
open Idealize.ShloMosaic Idealize.ShloMosaic.TcCoe Idealize.ShloMosaic.Tactic
open Idealize.SL.Sem
open Cert.Proof.Post Cert.Proof.Dsp

section
variable (x0 : Vec Ideal S1x512x1024 .f32) (x1 x2 : Vec Ideal S1x96x512 .f32) (x3 : Vec Ideal S1x1024 .f32) (x4 : Vec Ideal S2192x1024 .bf16) (x5 : Vec Ideal S1024x1024 .bf16)

theorem pt_at (j : Fin 2192) (r : Fin 512) :
    k0_pay104 (F := Ideal) x0 x1 x2 x3 x4 x5 (ix2 j r) = ∑ k : Fin 1024, rms (fun k => x0 (ix3 0 r k)) (fun k => x3 (ix2 0 k)) k * x4 (ix2 j k) := by
  have z2 : (![0, 0] : Fin 2 → ℕ) = fun _ => 0 := by decide
  have z3 : (![0, 0, 0] : Fin 3 → ℕ) = fun _ => 0 := by decide
  unfold k0_pay104
  rw [View.ld_unit_zero z3, View.ld_unit_zero z2, View.ld_unit_zero z2]
  unfold rms
  pointwise [k0_pay4, k0_pay2]
  exact Finset.sum_congr rfl fun k _ => mul_comm _ _

theorem co_at (j : Fin 64) (r : Fin 512) : k0_pay105 (F := Ideal) x0 x1 x2 x3 x4 x5 (ix2 j r) = x1 (ix3 0 ⟨j.val, by omega⟩ r) := by
  have e : r0_4.idx (ix3 (0 : Fin 1) j r) = ix3 (0 : Fin 1) (⟨j.val, by omega⟩ : Fin 96) r := by
    funext d
    refine Fin.ext ?_
    match d with
    | ⟨0, _⟩ => rfl
    | ⟨1, _⟩ => show 0 + 1 * j.val = j.val; omega
    | ⟨2, _⟩ => show 0 + 1 * r.val = r.val; omega
  rw [← e]
  unfold k0_pay105
  pointwise [k0_pay5]

theorem si_at (j : Fin 64) (r : Fin 512) : k0_pay106 (F := Ideal) x0 x1 x2 x3 x4 x5 (ix2 j r) = x2 (ix3 0 ⟨j.val, by omega⟩ r) := co_at x0 x2 x1 x3 x4 x5 j r

theorem co32_at (j : Fin 32) (r : Fin 512) : k0_pay107 (F := Ideal) x0 x1 x2 x3 x4 x5 (ix2 j r) = x1 (ix3 0 ⟨64 + j.val, by omega⟩ r) := by
  have e : r0_5.idx (ix3 (0 : Fin 1) j r) = ix3 (0 : Fin 1) (⟨64 + j.val, by omega⟩ : Fin 96) r := by
    funext d
    refine Fin.ext ?_
    match d with
    | ⟨0, _⟩ => rfl
    | ⟨1, _⟩ => show 64 + 1 * j.val = 64 + j.val; omega
    | ⟨2, _⟩ => show 0 + 1 * r.val = r.val; omega
  rw [← e]
  unfold k0_pay107
  pointwise [k0_pay7]

theorem si32_at (j : Fin 32) (r : Fin 512) : k0_pay108 (F := Ideal) x0 x1 x2 x3 x4 x5 (ix2 j r) = x2 (ix3 0 ⟨64 + j.val, by omega⟩ r) := co32_at x0 x2 x1 x3 x4 x5 j r

theorem out12_at (r : Fin 512) (c : Fin 1024) :
    out0_12 (F := Ideal) x0 x1 x2 x3 x4 x5 (ix3 0 r c) = ∑ k : Fin 1024, rms (fun k => x0 (ix3 0 r k)) (fun k => x3 (ix2 0 k)) k * x5 (ix2 k c) := by
  have z2 : (![0, 0] : Fin 2 → ℕ) = fun _ => 0 := by decide
  have z3 : (![0, 0, 0] : Fin 3 → ℕ) = fun _ => 0 := by decide
  unfold out0_12
  rw [View.canon_unit_zero z3, View.ld_unit_zero z3, View.ld_unit_zero z2, View.ld_unit_zero z2]
  unfold rms
  pointwise [k0_pay3, k0_pay2]
end

section
variable (P : FVec Ideal S2192x512 .f32) (p : Fin 512 → ℕ → EReal) (hp : ∀ (j : Fin 2192) (r : Fin 512), P (ix2 j r) = p r j.val)
include hp

theorem pay102_at (c : Fin 256) (r : Fin 512) : k0_pay102 (F := Ideal) P (ix3 0 c r) = p r (1920 + c.val) := by
  pointwise [k0_pay102]
  rw [hp]

theorem pay1_at (c : Fin 8) (r : Fin 512) : k0_pay1 (F := Ideal) (k0_pay103 (F := Ideal) P) (ix3 0 c r) = p r (2176 + c.val) * Ideal.ofBits .f32 0x3EB504F3#32 := by
  pointwise [k0_pay1, k0_pay103]
  rw [hp]
end

section
variable (P : FVec Ideal S2192x512 .f32) (C S : FVec Ideal S32x512 .f32) (p q t : Fin 512 → ℕ → EReal)
  (hp : ∀ (j : Fin 2192) (r : Fin 512), P (ix2 j r) = p r j.val) (hq : ∀ (j : Fin 32) (r : Fin 512), C (ix2 j r) = q r j.val) (hr : ∀ (j : Fin 32) (r : Fin 512), S (ix2 j r) = t r j.val)
include hp hq hr

theorem pay101_at (r : Fin 512) (c : Fin 64) : k0_pay101 (F := Ideal) P C S (ix3 0 r c) = rot 32 (fun j => p r (1792 + j)) (q r) (t r) c.val := by
  rcases lt_or_ge c.val 32 with h | h
  · rw [rot_lo _ _ _ _ _ (by omega)]
    pointwise [k0_pay101]
    simp only [hp, hq, hr, h, dif_pos]
    congr 3 <;> omega
  · rw [rot_hi _ _ _ _ _ (by omega)]
    pointwise [k0_pay101]
    simp only [hp, hq, hr, not_lt.mpr h, dif_neg, not_false_eq_true, show c.val - 32 < 32 by omega, show c.val < 64 by omega, dif_pos]
    congr 3 <;> omega
end

section
variable (P : FVec Ideal S2192x512 .f32) (C S : FVec Ideal S64x512 .f32) (p q t : Fin 512 → ℕ → EReal)
  (hp : ∀ (j : Fin 2192) (r : Fin 512), P (ix2 j r) = p r j.val) (hq : ∀ (j : Fin 64) (r : Fin 512), C (ix2 j r) = q r j.val) (hr : ∀ (j : Fin 64) (r : Fin 512), S (ix2 j r) = t r j.val)
include hp hq hr

theorem piece8_0 (x : S1x1x512x128.Idx) : (k0_pay100 C S (k0_pay96 P) (k0_pay97 P) (k0_pay98 P C) (k0_pay99 P S)) x = (fun y : S1x2x512x128.Idx => (fun (h : Fin 2) (r : Fin 512) (c : Fin 128) => rot 64 (fun j => p r (1536 + j)) (q r) (t r) (128 * h.val + c.val)) (y 1) (y 2) (y 3)) (r0_39.idx x) := by
  obtain ⟨r, c, rfl⟩ : ∃ (r : Fin 512) (c : Fin 128), x = ix4 0 0 r c := ⟨x 2, x 3, by funext d; fin_cases d; exacts [Fin.ext (by have := (x 0).isLt; show (x 0 : ℕ) = 0; change (x 0 : ℕ) < 1 at this; omega), Fin.ext (by have := (x 1).isLt; show (x 1 : ℕ) = 0; change (x 1 : ℕ) < 1 at this; omega), rfl, rfl]⟩
  have e : r0_39.idx (ix4 (0 : Fin 1) (0 : Fin 1) r c) = ix4 (0 : Fin 1) (1 : Fin 2) r c := by
    funext d
    refine Fin.ext ?_
    match d with
    | ⟨0, _⟩ => rfl
    | ⟨1, _⟩ => rfl
    | ⟨2, _⟩ => show 0 + 1 * r.val = r.val; omega
    | ⟨3, _⟩ => show 0 + 1 * c.val = c.val; omega
  rw [e]
  show _ = rot 64 (fun j => p r (1536 + j)) (q r) (t r) (128 * 1 + c.val)
  rcases lt_or_ge c.val 64 with h | h
  · rw [rot_lo _ _ _ _ _ (by omega)]
    pointwise [k0_pay99, k0_pay97, k0_pay95, k0_pay98, k0_pay96, k0_pay100]
    simp only [hp, hq, hr, h, dif_pos]
    congr 3 <;> omega
  · rw [rot_hi _ _ _ _ _ (by omega)]
    pointwise [k0_pay99, k0_pay97, k0_pay95, k0_pay98, k0_pay96, k0_pay100]
    simp only [hp, hq, hr, not_lt.mpr h, dif_neg, not_false_eq_true]
    congr 3 <;> omega

theorem piece8_1 (x : S1x1x512x128.Idx) : (k0_pay94 P C S) x = (fun y : S1x2x512x128.Idx => (fun (h : Fin 2) (r : Fin 512) (c : Fin 128) => rot 64 (fun j => p r (1536 + j)) (q r) (t r) (128 * h.val + c.val)) (y 1) (y 2) (y 3)) (r0_38.idx x) := by
  obtain ⟨r, c, rfl⟩ : ∃ (r : Fin 512) (c : Fin 128), x = ix4 0 0 r c := ⟨x 2, x 3, by funext d; fin_cases d; exacts [Fin.ext (by have := (x 0).isLt; show (x 0 : ℕ) = 0; change (x 0 : ℕ) < 1 at this; omega), Fin.ext (by have := (x 1).isLt; show (x 1 : ℕ) = 0; change (x 1 : ℕ) < 1 at this; omega), rfl, rfl]⟩
  have e : r0_38.idx (ix4 (0 : Fin 1) (0 : Fin 1) r c) = ix4 (0 : Fin 1) (0 : Fin 2) r c := by
    funext d
    refine Fin.ext ?_
    match d with
    | ⟨0, _⟩ => rfl
    | ⟨1, _⟩ => rfl
    | ⟨2, _⟩ => show 0 + 1 * r.val = r.val; omega
    | ⟨3, _⟩ => show 0 + 1 * c.val = c.val; omega
  rw [e]
  show _ = rot 64 (fun j => p r (1536 + j)) (q r) (t r) (128 * 0 + c.val)
  rcases lt_or_ge c.val 64 with h | h
  · rw [rot_lo _ _ _ _ _ (by omega)]
    pointwise [k0_pay94]
    simp only [hp, hq, hr, h, dif_pos]
    congr 3 <;> omega
  · rw [rot_hi _ _ _ _ _ (by omega)]
    pointwise [k0_pay94]
    simp only [hp, hq, hr, not_lt.mpr h, dif_neg, not_false_eq_true]
    congr 3 <;> omega

theorem canon8 (h : Fin 2) (r : Fin 512) (c : Fin 128) : (View.canon (Val := Elt Ideal) [⟨r0_39, k0_pay100 C S (k0_pay96 P) (k0_pay97 P) (k0_pay98 P C) (k0_pay99 P S)⟩, ⟨r0_38, k0_pay94 P C S⟩] : Vec Ideal S1x2x512x128 .bf16) (ix4 0 h r c) = rot 64 (fun j => p r (1536 + j)) (q r) (t r) (128 * h.val + c.val) := by
  refine View.canon_apply_of_pieces (Val := Elt Ideal) (fun y : S1x2x512x128.Idx => (fun (h : Fin 2) (r : Fin 512) (c : Fin 128) => rot 64 (fun j => p r (1536 + j)) (q r) (t r) (128 * h.val + c.val)) (y 1) (y 2) (y 3)) _ ?_ (ix4 0 h r c) (cover0_8 _ _ (ix4 0 h r c))
  intro pc hpc
  rcases List.mem_cons.mp hpc with rfl | hpc
  · exact fun x => piece8_0 P C S p q t hp hq hr x
  rcases List.mem_cons.mp hpc with rfl | hpc
  · exact fun x => piece8_1 P C S p q t hp hq hr x
  nomatch hpc
end

section
variable (x0 : Vec Ideal S1x512x1024 .f32) (x1 x2 : Vec Ideal S1x96x512 .f32) (x3 : Vec Ideal S1x1024 .f32) (x4 : Vec Ideal S2192x1024 .bf16) (x5 : Vec Ideal S1024x1024 .bf16)
  (p : Fin 512 → ℕ → EReal) (hp : ∀ (j : Fin 2192) (r : Fin 512), k0_pay104 (F := Ideal) x0 x1 x2 x3 x4 x5 (ix2 j r) = p r j.val)
include hp

theorem out10_at (c : Fin 256) (r : Fin 512) : out0_10 (F := Ideal) x0 x1 x2 x3 x4 x5 (ix3 0 c r) = p r (1920 + c.val) := by
  have z3 : (![0, 0, 0] : Fin 3 → ℕ) = fun _ => 0 := by decide
  unfold out0_10
  rw [View.canon_unit_zero z3]
  exact pay102_at _ p hp c r

theorem out11_at (c : Fin 8) (r : Fin 512) : out0_11 (F := Ideal) x0 x1 x2 x3 x4 x5 (ix3 0 c r) = p r (2176 + c.val) * Ideal.ofBits .f32 0x3EB504F3#32 := by
  have z3 : (![0, 0, 0] : Fin 3 → ℕ) = fun _ => 0 := by decide
  unfold out0_11
  rw [View.canon_unit_zero z3]
  exact pay1_at _ p hp c r

theorem out9_at (q t : Fin 512 → ℕ → EReal)
    (hq : ∀ (j : Fin 32) (r : Fin 512), k0_pay107 (F := Ideal) x0 x1 x2 x3 x4 x5 (ix2 j r) = q r j.val) (hr : ∀ (j : Fin 32) (r : Fin 512), k0_pay108 (F := Ideal) x0 x1 x2 x3 x4 x5 (ix2 j r) = t r j.val)
    (r : Fin 512) (c : Fin 64) : out0_9 (F := Ideal) x0 x1 x2 x3 x4 x5 (ix3 0 r c) = rot 32 (fun j => p r (1792 + j)) (q r) (t r) c.val := by
  have z3 : (![0, 0, 0] : Fin 3 → ℕ) = fun _ => 0 := by decide
  unfold out0_9
  rw [View.canon_unit_zero z3]
  exact pay101_at _ _ _ p q t hp hq hr r c

theorem out8_at (q t : Fin 512 → ℕ → EReal)
    (hq : ∀ (j : Fin 64) (r : Fin 512), k0_pay105 (F := Ideal) x0 x1 x2 x3 x4 x5 (ix2 j r) = q r j.val) (hr : ∀ (j : Fin 64) (r : Fin 512), k0_pay106 (F := Ideal) x0 x1 x2 x3 x4 x5 (ix2 j r) = t r j.val)
    (h : Fin 2) (r : Fin 512) (c : Fin 128) : out0_8 (F := Ideal) x0 x1 x2 x3 x4 x5 (ix4 0 h r c) = rot 64 (fun j => p r (1536 + j)) (q r) (t r) (128 * h.val + c.val) :=
  canon8 _ _ _ p q t hp hq hr h r c
end

end Cert.Proof.Kernel4Ideal

end
-- ==== Proof.Dsp.Queries.lean ====
module

public import proofs.«01_k».proof.Proof.Gen.Kernel4Ideal.Value
public import proofs.«01_k».proof.Proof.Dsp.Row
public import Idealize.ShloMosaic.Lib.Pipeline.ValueKit

/-! The block of turned queries that the sparse layer's projection writes. -/

@[expose] public section

set_option maxRecDepth 16384
set_option maxHeartbeats 1000000

noncomputable section

namespace Cert.Proof.Kernel4Ideal

open Cert.Kernel4Ideal Cert.Kernel4Ideal.Gen
open Idealize.ShloMosaic Idealize.ShloMosaic.TcCoe Idealize.ShloMosaic.Tactic
open Idealize.SL.Sem
open Cert.Proof.Post Cert.Proof.Dsp

section
variable (P : FVec Ideal S2192x512 .f32) (C S : FVec Ideal S64x512 .f32) (p q t : Fin 512 → ℕ → EReal)
  (hp : ∀ (j : Fin 2192) (r : Fin 512), P (ix2 j r) = p r j.val) (hq : ∀ (j : Fin 64) (r : Fin 512), C (ix2 j r) = q r j.val) (hr : ∀ (j : Fin 64) (r : Fin 512), S (ix2 j r) = t r j.val)
include hp hq hr

theorem piece6_0 (x : S1x64x512.Idx) : (k0_pay51 P C S) x = (fun y : S1x1024x512.Idx => (fun (r : Fin 512) (c : ℕ) => rot 64 (p r) (q r) (t r) c) (y 2) (y 1).val) (r0_21.idx x) := by
  obtain ⟨i, r, rfl⟩ : ∃ (i : Fin 64) (r : Fin 512), x = ix3 0 i r := ⟨x 1, x 2, by funext d; fin_cases d; exacts [Fin.ext (by have := (x 0).isLt; show (x 0 : ℕ) = 0; change (x 0 : ℕ) < 1 at this; omega), rfl, rfl]⟩
  have e : r0_21.idx (ix3 0 i r) = ix3 (0 : Fin 1) (⟨960 + i.val, by omega⟩ : Fin 1024) r := by
    funext d
    refine Fin.ext ?_
    match d with
    | ⟨0, _⟩ => rfl
    | ⟨1, _⟩ => show 960 + 1 * i.val = 960 + i.val; omega
    | ⟨2, _⟩ => show 0 + 1 * r.val = r.val; omega
  rw [e]
  show _ = rot 64 (p r) (q r) (t r) (960 + i.val)
  rw [rot_hi _ _ _ _ _ (by omega)]
  pointwise [k0_pay51, k0_pay49, k0_pay47, k0_pay48]
  simp only [hp, hq, hr]
  congr 3 <;> omega

theorem piece6_1 (x : S1x64x512.Idx) : (k0_pay50 P C S) x = (fun y : S1x1024x512.Idx => (fun (r : Fin 512) (c : ℕ) => rot 64 (p r) (q r) (t r) c) (y 2) (y 1).val) (r0_20.idx x) := by
  obtain ⟨i, r, rfl⟩ : ∃ (i : Fin 64) (r : Fin 512), x = ix3 0 i r := ⟨x 1, x 2, by funext d; fin_cases d; exacts [Fin.ext (by have := (x 0).isLt; show (x 0 : ℕ) = 0; change (x 0 : ℕ) < 1 at this; omega), rfl, rfl]⟩
  have e : r0_20.idx (ix3 0 i r) = ix3 (0 : Fin 1) (⟨896 + i.val, by omega⟩ : Fin 1024) r := by
    funext d
    refine Fin.ext ?_
    match d with
    | ⟨0, _⟩ => rfl
    | ⟨1, _⟩ => show 896 + 1 * i.val = 896 + i.val; omega
    | ⟨2, _⟩ => show 0 + 1 * r.val = r.val; omega
  rw [e]
  show _ = rot 64 (p r) (q r) (t r) (896 + i.val)
  rw [rot_lo _ _ _ _ _ (by omega)]
  pointwise [k0_pay50, k0_pay49, k0_pay47, k0_pay48]
  simp only [hp, hq, hr]
  congr 3 <;> omega

theorem piece6_2 (x : S1x64x512.Idx) : (k0_pay46 (k0_pay45 P C S)) x = (fun y : S1x1024x512.Idx => (fun (r : Fin 512) (c : ℕ) => rot 64 (p r) (q r) (t r) c) (y 2) (y 1).val) (r0_19.idx x) := by
  obtain ⟨i, r, rfl⟩ : ∃ (i : Fin 64) (r : Fin 512), x = ix3 0 i r := ⟨x 1, x 2, by funext d; fin_cases d; exacts [Fin.ext (by have := (x 0).isLt; show (x 0 : ℕ) = 0; change (x 0 : ℕ) < 1 at this; omega), rfl, rfl]⟩
  have e : r0_19.idx (ix3 0 i r) = ix3 (0 : Fin 1) (⟨832 + i.val, by omega⟩ : Fin 1024) r := by
    funext d
    refine Fin.ext ?_
    match d with
    | ⟨0, _⟩ => rfl
    | ⟨1, _⟩ => show 832 + 1 * i.val = 832 + i.val; omega
    | ⟨2, _⟩ => show 0 + 1 * r.val = r.val; omega
  rw [e]
  show _ = rot 64 (p r) (q r) (t r) (832 + i.val)
  rw [rot_hi _ _ _ _ _ (by omega)]
  pointwise [k0_pay45, k0_pay42, k0_pay41, k0_pay43, k0_pay46]
  simp only [hp, hq, hr]
  congr 3 <;> omega

theorem piece6_3 (x : S1x64x512.Idx) : (k0_pay44 P C S) x = (fun y : S1x1024x512.Idx => (fun (r : Fin 512) (c : ℕ) => rot 64 (p r) (q r) (t r) c) (y 2) (y 1).val) (r0_18.idx x) := by
  obtain ⟨i, r, rfl⟩ : ∃ (i : Fin 64) (r : Fin 512), x = ix3 0 i r := ⟨x 1, x 2, by funext d; fin_cases d; exacts [Fin.ext (by have := (x 0).isLt; show (x 0 : ℕ) = 0; change (x 0 : ℕ) < 1 at this; omega), rfl, rfl]⟩
  have e : r0_18.idx (ix3 0 i r) = ix3 (0 : Fin 1) (⟨768 + i.val, by omega⟩ : Fin 1024) r := by
    funext d
    refine Fin.ext ?_
    match d with
    | ⟨0, _⟩ => rfl
    | ⟨1, _⟩ => show 768 + 1 * i.val = 768 + i.val; omega
    | ⟨2, _⟩ => show 0 + 1 * r.val = r.val; omega
  rw [e]
  show _ = rot 64 (p r) (q r) (t r) (768 + i.val)
  rw [rot_lo _ _ _ _ _ (by omega)]
  pointwise [k0_pay44, k0_pay42, k0_pay41, k0_pay43]
  simp only [hp, hq, hr]
  congr 3 <;> omega

theorem piece6_4 (x : S1x64x512.Idx) : (k0_pay40 P C S) x = (fun y : S1x1024x512.Idx => (fun (r : Fin 512) (c : ℕ) => rot 64 (p r) (q r) (t r) c) (y 2) (y 1).val) (r0_17.idx x) := by
  obtain ⟨i, r, rfl⟩ : ∃ (i : Fin 64) (r : Fin 512), x = ix3 0 i r := ⟨x 1, x 2, by funext d; fin_cases d; exacts [Fin.ext (by have := (x 0).isLt; show (x 0 : ℕ) = 0; change (x 0 : ℕ) < 1 at this; omega), rfl, rfl]⟩
  have e : r0_17.idx (ix3 0 i r) = ix3 (0 : Fin 1) (⟨704 + i.val, by omega⟩ : Fin 1024) r := by
    funext d
    refine Fin.ext ?_
    match d with
    | ⟨0, _⟩ => rfl
    | ⟨1, _⟩ => show 704 + 1 * i.val = 704 + i.val; omega
    | ⟨2, _⟩ => show 0 + 1 * r.val = r.val; omega
  rw [e]
  show _ = rot 64 (p r) (q r) (t r) (704 + i.val)
  rw [rot_hi _ _ _ _ _ (by omega)]
  pointwise [k0_pay40, k0_pay37, k0_pay36, k0_pay38]
  simp only [hp, hq, hr]
  congr 3 <;> omega

theorem piece6_5 (x : S1x64x512.Idx) : (k0_pay39 P C S) x = (fun y : S1x1024x512.Idx => (fun (r : Fin 512) (c : ℕ) => rot 64 (p r) (q r) (t r) c) (y 2) (y 1).val) (r0_16.idx x) := by
  obtain ⟨i, r, rfl⟩ : ∃ (i : Fin 64) (r : Fin 512), x = ix3 0 i r := ⟨x 1, x 2, by funext d; fin_cases d; exacts [Fin.ext (by have := (x 0).isLt; show (x 0 : ℕ) = 0; change (x 0 : ℕ) < 1 at this; omega), rfl, rfl]⟩
  have e : r0_16.idx (ix3 0 i r) = ix3 (0 : Fin 1) (⟨640 + i.val, by omega⟩ : Fin 1024) r := by
    funext d
    refine Fin.ext ?_
    match d with
    | ⟨0, _⟩ => rfl
    | ⟨1, _⟩ => show 640 + 1 * i.val = 640 + i.val; omega
    | ⟨2, _⟩ => show 0 + 1 * r.val = r.val; omega
  rw [e]
  show _ = rot 64 (p r) (q r) (t r) (640 + i.val)
  rw [rot_lo _ _ _ _ _ (by omega)]
  pointwise [k0_pay39, k0_pay37, k0_pay36, k0_pay38]
  simp only [hp, hq, hr]
  congr 3 <;> omega

theorem piece6_6 (x : S1x64x512.Idx) : (k0_pay35 (k0_pay32 P C S)) x = (fun y : S1x1024x512.Idx => (fun (r : Fin 512) (c : ℕ) => rot 64 (p r) (q r) (t r) c) (y 2) (y 1).val) (r0_15.idx x) := by
  obtain ⟨i, r, rfl⟩ : ∃ (i : Fin 64) (r : Fin 512), x = ix3 0 i r := ⟨x 1, x 2, by funext d; fin_cases d; exacts [Fin.ext (by have := (x 0).isLt; show (x 0 : ℕ) = 0; change (x 0 : ℕ) < 1 at this; omega), rfl, rfl]⟩
  have e : r0_15.idx (ix3 0 i r) = ix3 (0 : Fin 1) (⟨576 + i.val, by omega⟩ : Fin 1024) r := by
    funext d
    refine Fin.ext ?_
    match d with
    | ⟨0, _⟩ => rfl
    | ⟨1, _⟩ => show 576 + 1 * i.val = 576 + i.val; omega
    | ⟨2, _⟩ => show 0 + 1 * r.val = r.val; omega
  rw [e]
  show _ = rot 64 (p r) (q r) (t r) (576 + i.val)
  rw [rot_hi _ _ _ _ _ (by omega)]
  pointwise [k0_pay32, k0_pay31, k0_pay29, k0_pay30, k0_pay35]
  simp only [hp, hq, hr]
  congr 3 <;> omega

theorem piece6_7 (x : S1x64x512.Idx) : (k0_pay34 (k0_pay33 P C S)) x = (fun y : S1x1024x512.Idx => (fun (r : Fin 512) (c : ℕ) => rot 64 (p r) (q r) (t r) c) (y 2) (y 1).val) (r0_14.idx x) := by
  obtain ⟨i, r, rfl⟩ : ∃ (i : Fin 64) (r : Fin 512), x = ix3 0 i r := ⟨x 1, x 2, by funext d; fin_cases d; exacts [Fin.ext (by have := (x 0).isLt; show (x 0 : ℕ) = 0; change (x 0 : ℕ) < 1 at this; omega), rfl, rfl]⟩
  have e : r0_14.idx (ix3 0 i r) = ix3 (0 : Fin 1) (⟨512 + i.val, by omega⟩ : Fin 1024) r := by
    funext d
    refine Fin.ext ?_
    match d with
    | ⟨0, _⟩ => rfl
    | ⟨1, _⟩ => show 512 + 1 * i.val = 512 + i.val; omega
    | ⟨2, _⟩ => show 0 + 1 * r.val = r.val; omega
  rw [e]
  show _ = rot 64 (p r) (q r) (t r) (512 + i.val)
  rw [rot_lo _ _ _ _ _ (by omega)]
  pointwise [k0_pay33, k0_pay31, k0_pay29, k0_pay30, k0_pay34]
  simp only [hp, hq, hr]
  congr 3 <;> omega

theorem piece6_8 (x : S1x64x512.Idx) : (k0_pay28 P C S) x = (fun y : S1x1024x512.Idx => (fun (r : Fin 512) (c : ℕ) => rot 64 (p r) (q r) (t r) c) (y 2) (y 1).val) (r0_13.idx x) := by
  obtain ⟨i, r, rfl⟩ : ∃ (i : Fin 64) (r : Fin 512), x = ix3 0 i r := ⟨x 1, x 2, by funext d; fin_cases d; exacts [Fin.ext (by have := (x 0).isLt; show (x 0 : ℕ) = 0; change (x 0 : ℕ) < 1 at this; omega), rfl, rfl]⟩
  have e : r0_13.idx (ix3 0 i r) = ix3 (0 : Fin 1) (⟨448 + i.val, by omega⟩ : Fin 1024) r := by
    funext d
    refine Fin.ext ?_
    match d with
    | ⟨0, _⟩ => rfl
    | ⟨1, _⟩ => show 448 + 1 * i.val = 448 + i.val; omega
    | ⟨2, _⟩ => show 0 + 1 * r.val = r.val; omega
  rw [e]
  show _ = rot 64 (p r) (q r) (t r) (448 + i.val)
  rw [rot_hi _ _ _ _ _ (by omega)]
  pointwise [k0_pay28, k0_pay25, k0_pay24, k0_pay26]
  simp only [hp, hq, hr]
  congr 3 <;> omega

theorem piece6_9 (x : S1x64x512.Idx) : (k0_pay27 P C S) x = (fun y : S1x1024x512.Idx => (fun (r : Fin 512) (c : ℕ) => rot 64 (p r) (q r) (t r) c) (y 2) (y 1).val) (r0_12.idx x) := by
  obtain ⟨i, r, rfl⟩ : ∃ (i : Fin 64) (r : Fin 512), x = ix3 0 i r := ⟨x 1, x 2, by funext d; fin_cases d; exacts [Fin.ext (by have := (x 0).isLt; show (x 0 : ℕ) = 0; change (x 0 : ℕ) < 1 at this; omega), rfl, rfl]⟩
  have e : r0_12.idx (ix3 0 i r) = ix3 (0 : Fin 1) (⟨384 + i.val, by omega⟩ : Fin 1024) r := by
    funext d
    refine Fin.ext ?_
    match d with
    | ⟨0, _⟩ => rfl
    | ⟨1, _⟩ => show 384 + 1 * i.val = 384 + i.val; omega
    | ⟨2, _⟩ => show 0 + 1 * r.val = r.val; omega
  rw [e]
  show _ = rot 64 (p r) (q r) (t r) (384 + i.val)
  rw [rot_lo _ _ _ _ _ (by omega)]
  pointwise [k0_pay27, k0_pay25, k0_pay24, k0_pay26]
  simp only [hp, hq, hr]
  congr 3 <;> omega

theorem piece6_10 (x : S1x64x512.Idx) : (k0_pay23 C S (k0_pay20 P) (k0_pay21 P)) x = (fun y : S1x1024x512.Idx => (fun (r : Fin 512) (c : ℕ) => rot 64 (p r) (q r) (t r) c) (y 2) (y 1).val) (r0_11.idx x) := by
  obtain ⟨i, r, rfl⟩ : ∃ (i : Fin 64) (r : Fin 512), x = ix3 0 i r := ⟨x 1, x 2, by funext d; fin_cases d; exacts [Fin.ext (by have := (x 0).isLt; show (x 0 : ℕ) = 0; change (x 0 : ℕ) < 1 at this; omega), rfl, rfl]⟩
  have e : r0_11.idx (ix3 0 i r) = ix3 (0 : Fin 1) (⟨320 + i.val, by omega⟩ : Fin 1024) r := by
    funext d
    refine Fin.ext ?_
    match d with
    | ⟨0, _⟩ => rfl
    | ⟨1, _⟩ => show 320 + 1 * i.val = 320 + i.val; omega
    | ⟨2, _⟩ => show 0 + 1 * r.val = r.val; omega
  rw [e]
  show _ = rot 64 (p r) (q r) (t r) (320 + i.val)
  rw [rot_hi _ _ _ _ _ (by omega)]
  pointwise [k0_pay21, k0_pay19, k0_pay20, k0_pay23]
  simp only [hp, hq, hr]
  congr 3 <;> omega

theorem piece6_11 (x : S1x64x512.Idx) : (k0_pay22 C S (k0_pay20 P) (k0_pay21 P)) x = (fun y : S1x1024x512.Idx => (fun (r : Fin 512) (c : ℕ) => rot 64 (p r) (q r) (t r) c) (y 2) (y 1).val) (r0_10.idx x) := by
  obtain ⟨i, r, rfl⟩ : ∃ (i : Fin 64) (r : Fin 512), x = ix3 0 i r := ⟨x 1, x 2, by funext d; fin_cases d; exacts [Fin.ext (by have := (x 0).isLt; show (x 0 : ℕ) = 0; change (x 0 : ℕ) < 1 at this; omega), rfl, rfl]⟩
  have e : r0_10.idx (ix3 0 i r) = ix3 (0 : Fin 1) (⟨256 + i.val, by omega⟩ : Fin 1024) r := by
    funext d
    refine Fin.ext ?_
    match d with
    | ⟨0, _⟩ => rfl
    | ⟨1, _⟩ => show 256 + 1 * i.val = 256 + i.val; omega
    | ⟨2, _⟩ => show 0 + 1 * r.val = r.val; omega
  rw [e]
  show _ = rot 64 (p r) (q r) (t r) (256 + i.val)
  rw [rot_lo _ _ _ _ _ (by omega)]
  pointwise [k0_pay21, k0_pay19, k0_pay20, k0_pay22]
  simp only [hp, hq, hr]
  congr 3 <;> omega

theorem piece6_12 (x : S1x64x512.Idx) : (k0_pay18 P C S) x = (fun y : S1x1024x512.Idx => (fun (r : Fin 512) (c : ℕ) => rot 64 (p r) (q r) (t r) c) (y 2) (y 1).val) (r0_9.idx x) := by
  obtain ⟨i, r, rfl⟩ : ∃ (i : Fin 64) (r : Fin 512), x = ix3 0 i r := ⟨x 1, x 2, by funext d; fin_cases d; exacts [Fin.ext (by have := (x 0).isLt; show (x 0 : ℕ) = 0; change (x 0 : ℕ) < 1 at this; omega), rfl, rfl]⟩
  have e : r0_9.idx (ix3 0 i r) = ix3 (0 : Fin 1) (⟨192 + i.val, by omega⟩ : Fin 1024) r := by
    funext d
    refine Fin.ext ?_
    match d with
    | ⟨0, _⟩ => rfl
    | ⟨1, _⟩ => show 192 + 1 * i.val = 192 + i.val; omega
    | ⟨2, _⟩ => show 0 + 1 * r.val = r.val; omega
  rw [e]
  show _ = rot 64 (p r) (q r) (t r) (192 + i.val)
  rw [rot_hi _ _ _ _ _ (by omega)]
  pointwise [k0_pay18, k0_pay16, k0_pay14, k0_pay15]
  simp only [hp, hq, hr]
  congr 3 <;> omega

theorem piece6_13 (x : S1x64x512.Idx) : (k0_pay17 P C S) x = (fun y : S1x1024x512.Idx => (fun (r : Fin 512) (c : ℕ) => rot 64 (p r) (q r) (t r) c) (y 2) (y 1).val) (r0_8.idx x) := by
  obtain ⟨i, r, rfl⟩ : ∃ (i : Fin 64) (r : Fin 512), x = ix3 0 i r := ⟨x 1, x 2, by funext d; fin_cases d; exacts [Fin.ext (by have := (x 0).isLt; show (x 0 : ℕ) = 0; change (x 0 : ℕ) < 1 at this; omega), rfl, rfl]⟩
  have e : r0_8.idx (ix3 0 i r) = ix3 (0 : Fin 1) (⟨128 + i.val, by omega⟩ : Fin 1024) r := by
    funext d
    refine Fin.ext ?_
    match d with
    | ⟨0, _⟩ => rfl
    | ⟨1, _⟩ => show 128 + 1 * i.val = 128 + i.val; omega
    | ⟨2, _⟩ => show 0 + 1 * r.val = r.val; omega
  rw [e]
  show _ = rot 64 (p r) (q r) (t r) (128 + i.val)
  rw [rot_lo _ _ _ _ _ (by omega)]
  pointwise [k0_pay17, k0_pay16, k0_pay14, k0_pay15]
  simp only [hp, hq, hr]
  congr 3 <;> omega

theorem piece6_14 (x : S1x64x512.Idx) : (k0_pay13 P C S) x = (fun y : S1x1024x512.Idx => (fun (r : Fin 512) (c : ℕ) => rot 64 (p r) (q r) (t r) c) (y 2) (y 1).val) (r0_7.idx x) := by
  obtain ⟨i, r, rfl⟩ : ∃ (i : Fin 64) (r : Fin 512), x = ix3 0 i r := ⟨x 1, x 2, by funext d; fin_cases d; exacts [Fin.ext (by have := (x 0).isLt; show (x 0 : ℕ) = 0; change (x 0 : ℕ) < 1 at this; omega), rfl, rfl]⟩
  have e : r0_7.idx (ix3 0 i r) = ix3 (0 : Fin 1) (⟨64 + i.val, by omega⟩ : Fin 1024) r := by
    funext d
    refine Fin.ext ?_
    match d with
    | ⟨0, _⟩ => rfl
    | ⟨1, _⟩ => show 64 + 1 * i.val = 64 + i.val; omega
    | ⟨2, _⟩ => show 0 + 1 * r.val = r.val; omega
  rw [e]
  show _ = rot 64 (p r) (q r) (t r) (64 + i.val)
  rw [rot_hi _ _ _ _ _ (by omega)]
  pointwise [k0_pay13, k0_pay10, k0_pay9, k0_pay11]
  simp only [hp, hq, hr]
  congr 3 <;> omega

theorem piece6_15 (x : S1x64x512.Idx) : (k0_pay12 P C S) x = (fun y : S1x1024x512.Idx => (fun (r : Fin 512) (c : ℕ) => rot 64 (p r) (q r) (t r) c) (y 2) (y 1).val) (r0_6.idx x) := by
  obtain ⟨i, r, rfl⟩ : ∃ (i : Fin 64) (r : Fin 512), x = ix3 0 i r := ⟨x 1, x 2, by funext d; fin_cases d; exacts [Fin.ext (by have := (x 0).isLt; show (x 0 : ℕ) = 0; change (x 0 : ℕ) < 1 at this; omega), rfl, rfl]⟩
  have e : r0_6.idx (ix3 0 i r) = ix3 (0 : Fin 1) (⟨0 + i.val, by omega⟩ : Fin 1024) r := by
    funext d
    refine Fin.ext ?_
    match d with
    | ⟨0, _⟩ => rfl
    | ⟨1, _⟩ => show 0 + 1 * i.val = 0 + i.val; omega
    | ⟨2, _⟩ => show 0 + 1 * r.val = r.val; omega
  rw [e]
  show _ = rot 64 (p r) (q r) (t r) (0 + i.val)
  rw [rot_lo _ _ _ _ _ (by omega)]
  pointwise [k0_pay12, k0_pay10, k0_pay9, k0_pay11]
  simp only [hp, hq, hr]
  congr 3 <;> omega

theorem canon6 (c : Fin 1024) (r : Fin 512) : (View.canon (Val := Elt Ideal) [⟨r0_21, k0_pay51 P C S⟩, ⟨r0_20, k0_pay50 P C S⟩, ⟨r0_19, k0_pay46 (k0_pay45 P C S)⟩, ⟨r0_18, k0_pay44 P C S⟩, ⟨r0_17, k0_pay40 P C S⟩, ⟨r0_16, k0_pay39 P C S⟩, ⟨r0_15, k0_pay35 (k0_pay32 P C S)⟩, ⟨r0_14, k0_pay34 (k0_pay33 P C S)⟩, ⟨r0_13, k0_pay28 P C S⟩, ⟨r0_12, k0_pay27 P C S⟩, ⟨r0_11, k0_pay23 C S (k0_pay20 P) (k0_pay21 P)⟩, ⟨r0_10, k0_pay22 C S (k0_pay20 P) (k0_pay21 P)⟩, ⟨r0_9, k0_pay18 P C S⟩, ⟨r0_8, k0_pay17 P C S⟩, ⟨r0_7, k0_pay13 P C S⟩, ⟨r0_6, k0_pay12 P C S⟩] : Vec Ideal S1x1024x512 .bf16) (ix3 0 c r) = rot 64 (p r) (q r) (t r) c.val := by
  refine View.canon_apply_of_pieces (Val := Elt Ideal) (fun y : S1x1024x512.Idx => (fun (r : Fin 512) (c : ℕ) => rot 64 (p r) (q r) (t r) c) (y 2) (y 1).val) _ ?_ (ix3 0 c r) (cover0_6 _ _ _ _ _ _ _ _ _ _ _ _ _ _ _ _ (ix3 0 c r))
  intro pc hpc
  rcases List.mem_cons.mp hpc with rfl | hpc
  · exact fun x => piece6_0 P C S p q t hp hq hr x
  rcases List.mem_cons.mp hpc with rfl | hpc
  · exact fun x => piece6_1 P C S p q t hp hq hr x
  rcases List.mem_cons.mp hpc with rfl | hpc
  · exact fun x => piece6_2 P C S p q t hp hq hr x
  rcases List.mem_cons.mp hpc with rfl | hpc
  · exact fun x => piece6_3 P C S p q t hp hq hr x
  rcases List.mem_cons.mp hpc with rfl | hpc
  · exact fun x => piece6_4 P C S p q t hp hq hr x
  rcases List.mem_cons.mp hpc with rfl | hpc
  · exact fun x => piece6_5 P C S p q t hp hq hr x
  rcases List.mem_cons.mp hpc with rfl | hpc
  · exact fun x => piece6_6 P C S p q t hp hq hr x
  rcases List.mem_cons.mp hpc with rfl | hpc
  · exact fun x => piece6_7 P C S p q t hp hq hr x
  rcases List.mem_cons.mp hpc with rfl | hpc
  · exact fun x => piece6_8 P C S p q t hp hq hr x
  rcases List.mem_cons.mp hpc with rfl | hpc
  · exact fun x => piece6_9 P C S p q t hp hq hr x
  rcases List.mem_cons.mp hpc with rfl | hpc
  · exact fun x => piece6_10 P C S p q t hp hq hr x
  rcases List.mem_cons.mp hpc with rfl | hpc
  · exact fun x => piece6_11 P C S p q t hp hq hr x
  rcases List.mem_cons.mp hpc with rfl | hpc
  · exact fun x => piece6_12 P C S p q t hp hq hr x
  rcases List.mem_cons.mp hpc with rfl | hpc
  · exact fun x => piece6_13 P C S p q t hp hq hr x
  rcases List.mem_cons.mp hpc with rfl | hpc
  · exact fun x => piece6_14 P C S p q t hp hq hr x
  rcases List.mem_cons.mp hpc with rfl | hpc
  · exact fun x => piece6_15 P C S p q t hp hq hr x
  nomatch hpc

end

variable (x0 : Vec Ideal S1x512x1024 .f32) (x1 x2 : Vec Ideal S1x96x512 .f32) (x3 : Vec Ideal S1x1024 .f32) (x4 : Vec Ideal S2192x1024 .bf16) (x5 : Vec Ideal S1024x1024 .bf16)

theorem out6_at (p q t : Fin 512 → ℕ → EReal) (hp : ∀ (j : Fin 2192) (r : Fin 512), k0_pay104 (F := Ideal) x0 x1 x2 x3 x4 x5 (ix2 j r) = p r j.val)
    (hq : ∀ (j : Fin 64) (r : Fin 512), k0_pay105 (F := Ideal) x0 x1 x2 x3 x4 x5 (ix2 j r) = q r j.val) (hr : ∀ (j : Fin 64) (r : Fin 512), k0_pay106 (F := Ideal) x0 x1 x2 x3 x4 x5 (ix2 j r) = t r j.val)
    (c : Fin 1024) (r : Fin 512) : out0_6 (F := Ideal) x0 x1 x2 x3 x4 x5 (ix3 0 c r) = rot 64 (p r) (q r) (t r) c.val :=
  canon6 _ _ _ p q t hp hq hr c r

end Cert.Proof.Kernel4Ideal

end
-- ==== Proof.Dsp.Index.lean ====
module

public import proofs.«01_k».proof.Proof.Gen.Kernel4Ideal.Value
public import proofs.«01_k».proof.Proof.Dsp.Row
public import Idealize.ShloMosaic.Lib.Pipeline.ValueKit

/-! The block of turned and scaled index queries that the sparse layer's projection writes. -/

@[expose] public section

set_option maxRecDepth 16384
set_option maxHeartbeats 1000000

noncomputable section

namespace Cert.Proof.Kernel4Ideal

open Cert.Kernel4Ideal Cert.Kernel4Ideal.Gen
open Idealize.ShloMosaic Idealize.ShloMosaic.TcCoe Idealize.ShloMosaic.Tactic
open Idealize.SL.Sem
open Cert.Proof.Post Cert.Proof.Dsp

section
variable (P : FVec Ideal S2192x512 .f32) (C S : FVec Ideal S32x512 .f32) (p q t : Fin 512 → ℕ → EReal)
  (hp : ∀ (j : Fin 2192) (r : Fin 512), P (ix2 j r) = p r j.val) (hq : ∀ (j : Fin 32) (r : Fin 512), C (ix2 j r) = q r j.val) (hr : ∀ (j : Fin 32) (r : Fin 512), S (ix2 j r) = t r j.val)
include hp hq hr

theorem piece7_0 (x : S1x32x512.Idx) : (k0_pay93 P C S) x = (fun y : S1x512x512.Idx => (fun (r : Fin 512) (c : ℕ) => rot 32 (fun j => p r (1024 + j)) (q r) (t r) c * Ideal.ofBits .f32 0x3E000000#32) (y 2) (y 1).val) (r0_37.idx x) := by
  obtain ⟨i, r, rfl⟩ : ∃ (i : Fin 32) (r : Fin 512), x = ix3 0 i r := ⟨x 1, x 2, by funext d; fin_cases d; exacts [Fin.ext (by have := (x 0).isLt; show (x 0 : ℕ) = 0; change (x 0 : ℕ) < 1 at this; omega), rfl, rfl]⟩
  have e : r0_37.idx (ix3 0 i r) = ix3 (0 : Fin 1) (⟨480 + i.val, by omega⟩ : Fin 512) r := by
    funext d
    refine Fin.ext ?_
    match d with
    | ⟨0, _⟩ => rfl
    | ⟨1, _⟩ => show 480 + 1 * i.val = 480 + i.val; omega
    | ⟨2, _⟩ => show 0 + 1 * r.val = r.val; omega
  rw [e]
  show _ = rot 32 (fun j => p r (1024 + j)) (q r) (t r) (480 + i.val) * Ideal.ofBits .f32 0x3E000000#32
  rw [rot_hi _ _ _ _ _ (by omega)]
  pointwise [k0_pay93, k0_pay91, k0_pay89, k0_pay90]
  simp only [hp, hq, hr]
  congr 4 <;> omega

theorem piece7_1 (x : S1x32x512.Idx) : (k0_pay92 P C S) x = (fun y : S1x512x512.Idx => (fun (r : Fin 512) (c : ℕ) => rot 32 (fun j => p r (1024 + j)) (q r) (t r) c * Ideal.ofBits .f32 0x3E000000#32) (y 2) (y 1).val) (r0_36.idx x) := by
  obtain ⟨i, r, rfl⟩ : ∃ (i : Fin 32) (r : Fin 512), x = ix3 0 i r := ⟨x 1, x 2, by funext d; fin_cases d; exacts [Fin.ext (by have := (x 0).isLt; show (x 0 : ℕ) = 0; change (x 0 : ℕ) < 1 at this; omega), rfl, rfl]⟩
  have e : r0_36.idx (ix3 0 i r) = ix3 (0 : Fin 1) (⟨448 + i.val, by omega⟩ : Fin 512) r := by
    funext d
    refine Fin.ext ?_
    match d with
    | ⟨0, _⟩ => rfl
    | ⟨1, _⟩ => show 448 + 1 * i.val = 448 + i.val; omega
    | ⟨2, _⟩ => show 0 + 1 * r.val = r.val; omega
  rw [e]
  show _ = rot 32 (fun j => p r (1024 + j)) (q r) (t r) (448 + i.val) * Ideal.ofBits .f32 0x3E000000#32
  rw [rot_lo _ _ _ _ _ (by omega)]
  pointwise [k0_pay92, k0_pay91, k0_pay89, k0_pay90]
  simp only [hp, hq, hr]
  congr 4 <;> omega

theorem piece7_2 (x : S1x32x512.Idx) : (k0_pay88 (k0_pay87 P C S)) x = (fun y : S1x512x512.Idx => (fun (r : Fin 512) (c : ℕ) => rot 32 (fun j => p r (1024 + j)) (q r) (t r) c * Ideal.ofBits .f32 0x3E000000#32) (y 2) (y 1).val) (r0_35.idx x) := by
  obtain ⟨i, r, rfl⟩ : ∃ (i : Fin 32) (r : Fin 512), x = ix3 0 i r := ⟨x 1, x 2, by funext d; fin_cases d; exacts [Fin.ext (by have := (x 0).isLt; show (x 0 : ℕ) = 0; change (x 0 : ℕ) < 1 at this; omega), rfl, rfl]⟩
  have e : r0_35.idx (ix3 0 i r) = ix3 (0 : Fin 1) (⟨416 + i.val, by omega⟩ : Fin 512) r := by
    funext d
    refine Fin.ext ?_
    match d with
    | ⟨0, _⟩ => rfl
    | ⟨1, _⟩ => show 416 + 1 * i.val = 416 + i.val; omega
    | ⟨2, _⟩ => show 0 + 1 * r.val = r.val; omega
  rw [e]
  show _ = rot 32 (fun j => p r (1024 + j)) (q r) (t r) (416 + i.val) * Ideal.ofBits .f32 0x3E000000#32
  rw [rot_hi _ _ _ _ _ (by omega)]
  pointwise [k0_pay87, k0_pay84, k0_pay83, k0_pay85, k0_pay88]
  simp only [hp, hq, hr]
  congr 4 <;> omega

theorem piece7_3 (x : S1x32x512.Idx) : (k0_pay86 P C S) x = (fun y : S1x512x512.Idx => (fun (r : Fin 512) (c : ℕ) => rot 32 (fun j => p r (1024 + j)) (q r) (t r) c * Ideal.ofBits .f32 0x3E000000#32) (y 2) (y 1).val) (r0_34.idx x) := by
  obtain ⟨i, r, rfl⟩ : ∃ (i : Fin 32) (r : Fin 512), x = ix3 0 i r := ⟨x 1, x 2, by funext d; fin_cases d; exacts [Fin.ext (by have := (x 0).isLt; show (x 0 : ℕ) = 0; change (x 0 : ℕ) < 1 at this; omega), rfl, rfl]⟩
  have e : r0_34.idx (ix3 0 i r) = ix3 (0 : Fin 1) (⟨384 + i.val, by omega⟩ : Fin 512) r := by
    funext d
    refine Fin.ext ?_
    match d with
    | ⟨0, _⟩ => rfl
    | ⟨1, _⟩ => show 384 + 1 * i.val = 384 + i.val; omega
    | ⟨2, _⟩ => show 0 + 1 * r.val = r.val; omega
  rw [e]
  show _ = rot 32 (fun j => p r (1024 + j)) (q r) (t r) (384 + i.val) * Ideal.ofBits .f32 0x3E000000#32
  rw [rot_lo _ _ _ _ _ (by omega)]
  pointwise [k0_pay86, k0_pay84, k0_pay83, k0_pay85]
  simp only [hp, hq, hr]
  congr 4 <;> omega

theorem piece7_4 (x : S1x32x512.Idx) : (k0_pay82 P C S) x = (fun y : S1x512x512.Idx => (fun (r : Fin 512) (c : ℕ) => rot 32 (fun j => p r (1024 + j)) (q r) (t r) c * Ideal.ofBits .f32 0x3E000000#32) (y 2) (y 1).val) (r0_33.idx x) := by
  obtain ⟨i, r, rfl⟩ : ∃ (i : Fin 32) (r : Fin 512), x = ix3 0 i r := ⟨x 1, x 2, by funext d; fin_cases d; exacts [Fin.ext (by have := (x 0).isLt; show (x 0 : ℕ) = 0; change (x 0 : ℕ) < 1 at this; omega), rfl, rfl]⟩
  have e : r0_33.idx (ix3 0 i r) = ix3 (0 : Fin 1) (⟨352 + i.val, by omega⟩ : Fin 512) r := by
    funext d
    refine Fin.ext ?_
    match d with
    | ⟨0, _⟩ => rfl
    | ⟨1, _⟩ => show 352 + 1 * i.val = 352 + i.val; omega
    | ⟨2, _⟩ => show 0 + 1 * r.val = r.val; omega
  rw [e]
  show _ = rot 32 (fun j => p r (1024 + j)) (q r) (t r) (352 + i.val) * Ideal.ofBits .f32 0x3E000000#32
  rw [rot_hi _ _ _ _ _ (by omega)]
  pointwise [k0_pay82, k0_pay80, k0_pay78, k0_pay79]
  simp only [hp, hq, hr]
  congr 4 <;> omega

theorem piece7_5 (x : S1x32x512.Idx) : (k0_pay81 P C S) x = (fun y : S1x512x512.Idx => (fun (r : Fin 512) (c : ℕ) => rot 32 (fun j => p r (1024 + j)) (q r) (t r) c * Ideal.ofBits .f32 0x3E000000#32) (y 2) (y 1).val) (r0_32.idx x) := by
  obtain ⟨i, r, rfl⟩ : ∃ (i : Fin 32) (r : Fin 512), x = ix3 0 i r := ⟨x 1, x 2, by funext d; fin_cases d; exacts [Fin.ext (by have := (x 0).isLt; show (x 0 : ℕ) = 0; change (x 0 : ℕ) < 1 at this; omega), rfl, rfl]⟩
  have e : r0_32.idx (ix3 0 i r) = ix3 (0 : Fin 1) (⟨320 + i.val, by omega⟩ : Fin 512) r := by
    funext d
    refine Fin.ext ?_
    match d with
    | ⟨0, _⟩ => rfl
    | ⟨1, _⟩ => show 320 + 1 * i.val = 320 + i.val; omega
    | ⟨2, _⟩ => show 0 + 1 * r.val = r.val; omega
  rw [e]
  show _ = rot 32 (fun j => p r (1024 + j)) (q r) (t r) (320 + i.val) * Ideal.ofBits .f32 0x3E000000#32
  rw [rot_lo _ _ _ _ _ (by omega)]
  pointwise [k0_pay81, k0_pay80, k0_pay78, k0_pay79]
  simp only [hp, hq, hr]
  congr 4 <;> omega

theorem piece7_6 (x : S1x32x512.Idx) : (k0_pay77 (k0_pay76 P C S)) x = (fun y : S1x512x512.Idx => (fun (r : Fin 512) (c : ℕ) => rot 32 (fun j => p r (1024 + j)) (q r) (t r) c * Ideal.ofBits .f32 0x3E000000#32) (y 2) (y 1).val) (r0_31.idx x) := by
  obtain ⟨i, r, rfl⟩ : ∃ (i : Fin 32) (r : Fin 512), x = ix3 0 i r := ⟨x 1, x 2, by funext d; fin_cases d; exacts [Fin.ext (by have := (x 0).isLt; show (x 0 : ℕ) = 0; change (x 0 : ℕ) < 1 at this; omega), rfl, rfl]⟩
  have e : r0_31.idx (ix3 0 i r) = ix3 (0 : Fin 1) (⟨288 + i.val, by omega⟩ : Fin 512) r := by
    funext d
    refine Fin.ext ?_
    match d with
    | ⟨0, _⟩ => rfl
    | ⟨1, _⟩ => show 288 + 1 * i.val = 288 + i.val; omega
    | ⟨2, _⟩ => show 0 + 1 * r.val = r.val; omega
  rw [e]
  show _ = rot 32 (fun j => p r (1024 + j)) (q r) (t r) (288 + i.val) * Ideal.ofBits .f32 0x3E000000#32
  rw [rot_hi _ _ _ _ _ (by omega)]
  pointwise [k0_pay76, k0_pay74, k0_pay72, k0_pay73, k0_pay77]
  simp only [hp, hq, hr]
  congr 4 <;> omega

theorem piece7_7 (x : S1x32x512.Idx) : (k0_pay75 P C S) x = (fun y : S1x512x512.Idx => (fun (r : Fin 512) (c : ℕ) => rot 32 (fun j => p r (1024 + j)) (q r) (t r) c * Ideal.ofBits .f32 0x3E000000#32) (y 2) (y 1).val) (r0_30.idx x) := by
  obtain ⟨i, r, rfl⟩ : ∃ (i : Fin 32) (r : Fin 512), x = ix3 0 i r := ⟨x 1, x 2, by funext d; fin_cases d; exacts [Fin.ext (by have := (x 0).isLt; show (x 0 : ℕ) = 0; change (x 0 : ℕ) < 1 at this; omega), rfl, rfl]⟩
  have e : r0_30.idx (ix3 0 i r) = ix3 (0 : Fin 1) (⟨256 + i.val, by omega⟩ : Fin 512) r := by
    funext d
    refine Fin.ext ?_
    match d with
    | ⟨0, _⟩ => rfl
    | ⟨1, _⟩ => show 256 + 1 * i.val = 256 + i.val; omega
    | ⟨2, _⟩ => show 0 + 1 * r.val = r.val; omega
  rw [e]
  show _ = rot 32 (fun j => p r (1024 + j)) (q r) (t r) (256 + i.val) * Ideal.ofBits .f32 0x3E000000#32
  rw [rot_lo _ _ _ _ _ (by omega)]
  pointwise [k0_pay75, k0_pay74, k0_pay72, k0_pay73]
  simp only [hp, hq, hr]
  congr 4 <;> omega

theorem piece7_8 (x : S1x32x512.Idx) : (k0_pay71 P C S) x = (fun y : S1x512x512.Idx => (fun (r : Fin 512) (c : ℕ) => rot 32 (fun j => p r (1024 + j)) (q r) (t r) c * Ideal.ofBits .f32 0x3E000000#32) (y 2) (y 1).val) (r0_29.idx x) := by
  obtain ⟨i, r, rfl⟩ : ∃ (i : Fin 32) (r : Fin 512), x = ix3 0 i r := ⟨x 1, x 2, by funext d; fin_cases d; exacts [Fin.ext (by have := (x 0).isLt; show (x 0 : ℕ) = 0; change (x 0 : ℕ) < 1 at this; omega), rfl, rfl]⟩
  have e : r0_29.idx (ix3 0 i r) = ix3 (0 : Fin 1) (⟨224 + i.val, by omega⟩ : Fin 512) r := by
    funext d
    refine Fin.ext ?_
    match d with
    | ⟨0, _⟩ => rfl
    | ⟨1, _⟩ => show 224 + 1 * i.val = 224 + i.val; omega
    | ⟨2, _⟩ => show 0 + 1 * r.val = r.val; omega
  rw [e]
  show _ = rot 32 (fun j => p r (1024 + j)) (q r) (t r) (224 + i.val) * Ideal.ofBits .f32 0x3E000000#32
  rw [rot_hi _ _ _ _ _ (by omega)]
  pointwise [k0_pay71, k0_pay68, k0_pay67, k0_pay69]
  simp only [hp, hq, hr]
  congr 4 <;> omega

theorem piece7_9 (x : S1x32x512.Idx) : (k0_pay70 P C S) x = (fun y : S1x512x512.Idx => (fun (r : Fin 512) (c : ℕ) => rot 32 (fun j => p r (1024 + j)) (q r) (t r) c * Ideal.ofBits .f32 0x3E000000#32) (y 2) (y 1).val) (r0_28.idx x) := by
  obtain ⟨i, r, rfl⟩ : ∃ (i : Fin 32) (r : Fin 512), x = ix3 0 i r := ⟨x 1, x 2, by funext d; fin_cases d; exacts [Fin.ext (by have := (x 0).isLt; show (x 0 : ℕ) = 0; change (x 0 : ℕ) < 1 at this; omega), rfl, rfl]⟩
  have e : r0_28.idx (ix3 0 i r) = ix3 (0 : Fin 1) (⟨192 + i.val, by omega⟩ : Fin 512) r := by
    funext d
    refine Fin.ext ?_
    match d with
    | ⟨0, _⟩ => rfl
    | ⟨1, _⟩ => show 192 + 1 * i.val = 192 + i.val; omega
    | ⟨2, _⟩ => show 0 + 1 * r.val = r.val; omega
  rw [e]
  show _ = rot 32 (fun j => p r (1024 + j)) (q r) (t r) (192 + i.val) * Ideal.ofBits .f32 0x3E000000#32
  rw [rot_lo _ _ _ _ _ (by omega)]
  pointwise [k0_pay70, k0_pay68, k0_pay67, k0_pay69]
  simp only [hp, hq, hr]
  congr 4 <;> omega

theorem piece7_10 (x : S1x32x512.Idx) : (k0_pay66 P C S) x = (fun y : S1x512x512.Idx => (fun (r : Fin 512) (c : ℕ) => rot 32 (fun j => p r (1024 + j)) (q r) (t r) c * Ideal.ofBits .f32 0x3E000000#32) (y 2) (y 1).val) (r0_27.idx x) := by
  obtain ⟨i, r, rfl⟩ : ∃ (i : Fin 32) (r : Fin 512), x = ix3 0 i r := ⟨x 1, x 2, by funext d; fin_cases d; exacts [Fin.ext (by have := (x 0).isLt; show (x 0 : ℕ) = 0; change (x 0 : ℕ) < 1 at this; omega), rfl, rfl]⟩
  have e : r0_27.idx (ix3 0 i r) = ix3 (0 : Fin 1) (⟨160 + i.val, by omega⟩ : Fin 512) r := by
    funext d
    refine Fin.ext ?_
    match d with
    | ⟨0, _⟩ => rfl
    | ⟨1, _⟩ => show 160 + 1 * i.val = 160 + i.val; omega
    | ⟨2, _⟩ => show 0 + 1 * r.val = r.val; omega
  rw [e]
  show _ = rot 32 (fun j => p r (1024 + j)) (q r) (t r) (160 + i.val) * Ideal.ofBits .f32 0x3E000000#32
  rw [rot_hi _ _ _ _ _ (by omega)]
  pointwise [k0_pay66, k0_pay63, k0_pay62, k0_pay64]
  simp only [hp, hq, hr]
  congr 4 <;> omega

theorem piece7_11 (x : S1x32x512.Idx) : (k0_pay65 P C S) x = (fun y : S1x512x512.Idx => (fun (r : Fin 512) (c : ℕ) => rot 32 (fun j => p r (1024 + j)) (q r) (t r) c * Ideal.ofBits .f32 0x3E000000#32) (y 2) (y 1).val) (r0_26.idx x) := by
  obtain ⟨i, r, rfl⟩ : ∃ (i : Fin 32) (r : Fin 512), x = ix3 0 i r := ⟨x 1, x 2, by funext d; fin_cases d; exacts [Fin.ext (by have := (x 0).isLt; show (x 0 : ℕ) = 0; change (x 0 : ℕ) < 1 at this; omega), rfl, rfl]⟩
  have e : r0_26.idx (ix3 0 i r) = ix3 (0 : Fin 1) (⟨128 + i.val, by omega⟩ : Fin 512) r := by
    funext d
    refine Fin.ext ?_
    match d with
    | ⟨0, _⟩ => rfl
    | ⟨1, _⟩ => show 128 + 1 * i.val = 128 + i.val; omega
    | ⟨2, _⟩ => show 0 + 1 * r.val = r.val; omega
  rw [e]
  show _ = rot 32 (fun j => p r (1024 + j)) (q r) (t r) (128 + i.val) * Ideal.ofBits .f32 0x3E000000#32
  rw [rot_lo _ _ _ _ _ (by omega)]
  pointwise [k0_pay65, k0_pay63, k0_pay62, k0_pay64]
  simp only [hp, hq, hr]
  congr 4 <;> omega

theorem piece7_12 (x : S1x32x512.Idx) : (k0_pay61 C S (k0_pay57 P) (k0_pay58 P)) x = (fun y : S1x512x512.Idx => (fun (r : Fin 512) (c : ℕ) => rot 32 (fun j => p r (1024 + j)) (q r) (t r) c * Ideal.ofBits .f32 0x3E000000#32) (y 2) (y 1).val) (r0_25.idx x) := by
  obtain ⟨i, r, rfl⟩ : ∃ (i : Fin 32) (r : Fin 512), x = ix3 0 i r := ⟨x 1, x 2, by funext d; fin_cases d; exacts [Fin.ext (by have := (x 0).isLt; show (x 0 : ℕ) = 0; change (x 0 : ℕ) < 1 at this; omega), rfl, rfl]⟩
  have e : r0_25.idx (ix3 0 i r) = ix3 (0 : Fin 1) (⟨96 + i.val, by omega⟩ : Fin 512) r := by
    funext d
    refine Fin.ext ?_
    match d with
    | ⟨0, _⟩ => rfl
    | ⟨1, _⟩ => show 96 + 1 * i.val = 96 + i.val; omega
    | ⟨2, _⟩ => show 0 + 1 * r.val = r.val; omega
  rw [e]
  show _ = rot 32 (fun j => p r (1024 + j)) (q r) (t r) (96 + i.val) * Ideal.ofBits .f32 0x3E000000#32
  rw [rot_hi _ _ _ _ _ (by omega)]
  pointwise [k0_pay58, k0_pay57, k0_pay61, k0_pay59]
  simp only [hp, hq, hr]
  congr 4 <;> omega

theorem piece7_13 (x : S1x32x512.Idx) : (k0_pay60 C S (k0_pay57 P) (k0_pay58 P)) x = (fun y : S1x512x512.Idx => (fun (r : Fin 512) (c : ℕ) => rot 32 (fun j => p r (1024 + j)) (q r) (t r) c * Ideal.ofBits .f32 0x3E000000#32) (y 2) (y 1).val) (r0_24.idx x) := by
  obtain ⟨i, r, rfl⟩ : ∃ (i : Fin 32) (r : Fin 512), x = ix3 0 i r := ⟨x 1, x 2, by funext d; fin_cases d; exacts [Fin.ext (by have := (x 0).isLt; show (x 0 : ℕ) = 0; change (x 0 : ℕ) < 1 at this; omega), rfl, rfl]⟩
  have e : r0_24.idx (ix3 0 i r) = ix3 (0 : Fin 1) (⟨64 + i.val, by omega⟩ : Fin 512) r := by
    funext d
    refine Fin.ext ?_
    match d with
    | ⟨0, _⟩ => rfl
    | ⟨1, _⟩ => show 64 + 1 * i.val = 64 + i.val; omega
    | ⟨2, _⟩ => show 0 + 1 * r.val = r.val; omega
  rw [e]
  show _ = rot 32 (fun j => p r (1024 + j)) (q r) (t r) (64 + i.val) * Ideal.ofBits .f32 0x3E000000#32
  rw [rot_lo _ _ _ _ _ (by omega)]
  pointwise [k0_pay58, k0_pay57, k0_pay60, k0_pay59]
  simp only [hp, hq, hr]
  congr 4 <;> omega

theorem piece7_14 (x : S1x32x512.Idx) : (k0_pay56 P C S) x = (fun y : S1x512x512.Idx => (fun (r : Fin 512) (c : ℕ) => rot 32 (fun j => p r (1024 + j)) (q r) (t r) c * Ideal.ofBits .f32 0x3E000000#32) (y 2) (y 1).val) (r0_23.idx x) := by
  obtain ⟨i, r, rfl⟩ : ∃ (i : Fin 32) (r : Fin 512), x = ix3 0 i r := ⟨x 1, x 2, by funext d; fin_cases d; exacts [Fin.ext (by have := (x 0).isLt; show (x 0 : ℕ) = 0; change (x 0 : ℕ) < 1 at this; omega), rfl, rfl]⟩
  have e : r0_23.idx (ix3 0 i r) = ix3 (0 : Fin 1) (⟨32 + i.val, by omega⟩ : Fin 512) r := by
    funext d
    refine Fin.ext ?_
    match d with
    | ⟨0, _⟩ => rfl
    | ⟨1, _⟩ => show 32 + 1 * i.val = 32 + i.val; omega
    | ⟨2, _⟩ => show 0 + 1 * r.val = r.val; omega
  rw [e]
  show _ = rot 32 (fun j => p r (1024 + j)) (q r) (t r) (32 + i.val) * Ideal.ofBits .f32 0x3E000000#32
  rw [rot_hi _ _ _ _ _ (by omega)]
  pointwise [k0_pay56, k0_pay54, k0_pay52, k0_pay53]
  simp only [hp, hq, hr]
  congr 4 <;> omega

theorem piece7_15 (x : S1x32x512.Idx) : (k0_pay55 P C S) x = (fun y : S1x512x512.Idx => (fun (r : Fin 512) (c : ℕ) => rot 32 (fun j => p r (1024 + j)) (q r) (t r) c * Ideal.ofBits .f32 0x3E000000#32) (y 2) (y 1).val) (r0_22.idx x) := by
  obtain ⟨i, r, rfl⟩ : ∃ (i : Fin 32) (r : Fin 512), x = ix3 0 i r := ⟨x 1, x 2, by funext d; fin_cases d; exacts [Fin.ext (by have := (x 0).isLt; show (x 0 : ℕ) = 0; change (x 0 : ℕ) < 1 at this; omega), rfl, rfl]⟩
  have e : r0_22.idx (ix3 0 i r) = ix3 (0 : Fin 1) (⟨0 + i.val, by omega⟩ : Fin 512) r := by
    funext d
    refine Fin.ext ?_
    match d with
    | ⟨0, _⟩ => rfl
    | ⟨1, _⟩ => show 0 + 1 * i.val = 0 + i.val; omega
    | ⟨2, _⟩ => show 0 + 1 * r.val = r.val; omega
  rw [e]
  show _ = rot 32 (fun j => p r (1024 + j)) (q r) (t r) (0 + i.val) * Ideal.ofBits .f32 0x3E000000#32
  rw [rot_lo _ _ _ _ _ (by omega)]
  pointwise [k0_pay55, k0_pay54, k0_pay52, k0_pay53]
  simp only [hp, hq, hr]
  congr 4 <;> omega

theorem canon7 (c : Fin 512) (r : Fin 512) : (View.canon (Val := Elt Ideal) [⟨r0_37, k0_pay93 P C S⟩, ⟨r0_36, k0_pay92 P C S⟩, ⟨r0_35, k0_pay88 (k0_pay87 P C S)⟩, ⟨r0_34, k0_pay86 P C S⟩, ⟨r0_33, k0_pay82 P C S⟩, ⟨r0_32, k0_pay81 P C S⟩, ⟨r0_31, k0_pay77 (k0_pay76 P C S)⟩, ⟨r0_30, k0_pay75 P C S⟩, ⟨r0_29, k0_pay71 P C S⟩, ⟨r0_28, k0_pay70 P C S⟩, ⟨r0_27, k0_pay66 P C S⟩, ⟨r0_26, k0_pay65 P C S⟩, ⟨r0_25, k0_pay61 C S (k0_pay57 P) (k0_pay58 P)⟩, ⟨r0_24, k0_pay60 C S (k0_pay57 P) (k0_pay58 P)⟩, ⟨r0_23, k0_pay56 P C S⟩, ⟨r0_22, k0_pay55 P C S⟩] : Vec Ideal S1x512x512 .bf16) (ix3 0 c r) = rot 32 (fun j => p r (1024 + j)) (q r) (t r) c.val * Ideal.ofBits .f32 0x3E000000#32 := by
  refine View.canon_apply_of_pieces (Val := Elt Ideal) (fun y : S1x512x512.Idx => (fun (r : Fin 512) (c : ℕ) => rot 32 (fun j => p r (1024 + j)) (q r) (t r) c * Ideal.ofBits .f32 0x3E000000#32) (y 2) (y 1).val) _ ?_ (ix3 0 c r) (cover0_7 _ _ _ _ _ _ _ _ _ _ _ _ _ _ _ _ (ix3 0 c r))
  intro pc hpc
  rcases List.mem_cons.mp hpc with rfl | hpc
  · exact fun x => piece7_0 P C S p q t hp hq hr x
  rcases List.mem_cons.mp hpc with rfl | hpc
  · exact fun x => piece7_1 P C S p q t hp hq hr x
  rcases List.mem_cons.mp hpc with rfl | hpc
  · exact fun x => piece7_2 P C S p q t hp hq hr x
  rcases List.mem_cons.mp hpc with rfl | hpc
  · exact fun x => piece7_3 P C S p q t hp hq hr x
  rcases List.mem_cons.mp hpc with rfl | hpc
  · exact fun x => piece7_4 P C S p q t hp hq hr x
  rcases List.mem_cons.mp hpc with rfl | hpc
  · exact fun x => piece7_5 P C S p q t hp hq hr x
  rcases List.mem_cons.mp hpc with rfl | hpc
  · exact fun x => piece7_6 P C S p q t hp hq hr x
  rcases List.mem_cons.mp hpc with rfl | hpc
  · exact fun x => piece7_7 P C S p q t hp hq hr x
  rcases List.mem_cons.mp hpc with rfl | hpc
  · exact fun x => piece7_8 P C S p q t hp hq hr x
  rcases List.mem_cons.mp hpc with rfl | hpc
  · exact fun x => piece7_9 P C S p q t hp hq hr x
  rcases List.mem_cons.mp hpc with rfl | hpc
  · exact fun x => piece7_10 P C S p q t hp hq hr x
  rcases List.mem_cons.mp hpc with rfl | hpc
  · exact fun x => piece7_11 P C S p q t hp hq hr x
  rcases List.mem_cons.mp hpc with rfl | hpc
  · exact fun x => piece7_12 P C S p q t hp hq hr x
  rcases List.mem_cons.mp hpc with rfl | hpc
  · exact fun x => piece7_13 P C S p q t hp hq hr x
  rcases List.mem_cons.mp hpc with rfl | hpc
  · exact fun x => piece7_14 P C S p q t hp hq hr x
  rcases List.mem_cons.mp hpc with rfl | hpc
  · exact fun x => piece7_15 P C S p q t hp hq hr x
  nomatch hpc

end

variable (x0 : Vec Ideal S1x512x1024 .f32) (x1 x2 : Vec Ideal S1x96x512 .f32) (x3 : Vec Ideal S1x1024 .f32) (x4 : Vec Ideal S2192x1024 .bf16) (x5 : Vec Ideal S1024x1024 .bf16)

theorem out7_at (p q t : Fin 512 → ℕ → EReal) (hp : ∀ (j : Fin 2192) (r : Fin 512), k0_pay104 (F := Ideal) x0 x1 x2 x3 x4 x5 (ix2 j r) = p r j.val)
    (hq : ∀ (j : Fin 32) (r : Fin 512), k0_pay107 (F := Ideal) x0 x1 x2 x3 x4 x5 (ix2 j r) = q r j.val) (hr : ∀ (j : Fin 32) (r : Fin 512), k0_pay108 (F := Ideal) x0 x1 x2 x3 x4 x5 (ix2 j r) = t r j.val)
    (c : Fin 512) (r : Fin 512) : out0_7 (F := Ideal) x0 x1 x2 x3 x4 x5 (ix3 0 c r) = rot 32 (fun j => p r (1024 + j)) (q r) (t r) c.val * Ideal.ofBits .f32 0x3E000000#32 :=
  canon7 _ _ _ p q t hp hq hr c r

end Cert.Proof.Kernel4Ideal

end
-- ==== Proof.Dsp.Ref.lean ====
module

public import proofs.«01_k».proof.Proof.Gen.Reference4Ideal.Run
public import proofs.«01_k».proof.Proof.Dsp.Row
public import Idealize.ShloMosaic.Lib.Pipeline.ValueKit

/-! What the reference of the sparse layer's projections computes, token by token. -/

@[expose] public section

set_option maxRecDepth 16384
set_option maxHeartbeats 2000000

noncomputable section

namespace Cert.Proof.Reference4Ideal

open Cert.Reference4Ideal Cert.Reference4Ideal.Gen Cert.Reference4Ideal.Value
open Idealize.ShloMosaic Idealize.ShloMosaic.TcCoe Idealize.ShloMosaic.Tactic Idealize.ShloMosaic.StableHlo
open Idealize.SL.Sem
open Cert.Proof.Post Cert.Proof.Dsp

/-- The normed stream times the input projection. -/
def D (a0 : FVec Ideal S16x4096x1024 .f32) (a3 : FVec Ideal S1024 .f32) (a4 : FVec Ideal S1024x3144 .f32) : FVec Ideal S16x4096x3144 .f32 :=
  Host.dotGeneral dot_S16x4096x1024_S1024x3144_S16x4096x3144_2_0_01_1_n_n none (mulf (mulf a0 (broadcastInDim S16x4096x1024 ![0, 1, 2] bcast_S16x4096x1_S16x4096x1024_0_1_2 (Host.rsqrt (addf (Host.divf (broadcastInDim S16x4096x1 ![0, 1] bcast_S16x4096_S16x4096x1_0_1 (Host.reduceAdd (mulf a0 a0) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32)))))) (broadcastInDim S16x4096x1024 ![0, 1, 2] bcast_S1x1x1024_S16x4096x1024_0_1_2 (broadcastInDim S1x1x1024 ![2] bcast_S1024_S1x1x1024_2 a3))) a4
/-- The queries, turned, head by head. -/
def T0 (d : FVec Ideal S16x4096x3144 .f32) (a1 a2 : FVec Ideal S16x96x4096 .f32) : FVec Ideal S16x4096x8x128 .f32 :=
  concatenate S16x4096x8x128 3 [⟨S16x4096x8x64, (subf (mulf (extractStridedSlice S16x4096x8x64 ![0, 0, 0, 0] (shapeCast _ (extractStridedSlice S16x4096x1024 ![0, 0, 0] d slices_S16x4096x3144_S16x4096x1024_0_0_0) shapeCasts_S16x4096x1024_S16x4096x8x128) slices_S16x4096x8x128_S16x4096x8x64_0_0_0_0) (broadcastInDim S16x4096x8x64 ![0, 1, 2, 3] bcast_S16x4096x1x64_S16x4096x8x64_0_1_2_3 (broadcastInDim S16x4096x1x64 ![0, 1, 3] bcast_S16x4096x64_S16x4096x1x64_0_1_3 (extractStridedSlice S16x4096x64 ![0, 0, 0] (transpose S16x4096x96 [0, 2, 1] a1 transposes_S16x96x4096_S16x4096x96_0_2_1) slices_S16x4096x96_S16x4096x64_0_0_0)))) (mulf (extractStridedSlice S16x4096x8x64 ![0, 0, 0, 64] (shapeCast _ (extractStridedSlice S16x4096x1024 ![0, 0, 0] d slices_S16x4096x3144_S16x4096x1024_0_0_0) shapeCasts_S16x4096x1024_S16x4096x8x128) slices_S16x4096x8x128_S16x4096x8x64_0_0_0_64) (broadcastInDim S16x4096x8x64 ![0, 1, 2, 3] bcast_S16x4096x1x64_S16x4096x8x64_0_1_2_3 (broadcastInDim S16x4096x1x64 ![0, 1, 3] bcast_S16x4096x64_S16x4096x1x64_0_1_3 (extractStridedSlice S16x4096x64 ![0, 0, 0] (transpose S16x4096x96 [0, 2, 1] a2 transposes_S16x96x4096_S16x4096x96_0_2_1) slices_S16x4096x96_S16x4096x64_0_0_0)))))⟩, ⟨S16x4096x8x64, (addf (mulf (extractStridedSlice S16x4096x8x64 ![0, 0, 0, 64] (shapeCast _ (extractStridedSlice S16x4096x1024 ![0, 0, 0] d slices_S16x4096x3144_S16x4096x1024_0_0_0) shapeCasts_S16x4096x1024_S16x4096x8x128) slices_S16x4096x8x128_S16x4096x8x64_0_0_0_64) (broadcastInDim S16x4096x8x64 ![0, 1, 2, 3] bcast_S16x4096x1x64_S16x4096x8x64_0_1_2_3 (broadcastInDim S16x4096x1x64 ![0, 1, 3] bcast_S16x4096x64_S16x4096x1x64_0_1_3 (extractStridedSlice S16x4096x64 ![0, 0, 0] (transpose S16x4096x96 [0, 2, 1] a1 transposes_S16x96x4096_S16x4096x96_0_2_1) slices_S16x4096x96_S16x4096x64_0_0_0)))) (mulf (extractStridedSlice S16x4096x8x64 ![0, 0, 0, 0] (shapeCast _ (extractStridedSlice S16x4096x1024 ![0, 0, 0] d slices_S16x4096x3144_S16x4096x1024_0_0_0) shapeCasts_S16x4096x1024_S16x4096x8x128) slices_S16x4096x8x128_S16x4096x8x64_0_0_0_0) (broadcastInDim S16x4096x8x64 ![0, 1, 2, 3] bcast_S16x4096x1x64_S16x4096x8x64_0_1_2_3 (broadcastInDim S16x4096x1x64 ![0, 1, 3] bcast_S16x4096x64_S16x4096x1x64_0_1_3 (extractStridedSlice S16x4096x64 ![0, 0, 0] (transpose S16x4096x96 [0, 2, 1] a2 transposes_S16x96x4096_S16x4096x96_0_2_1) slices_S16x4096x96_S16x4096x64_0_0_0)))))⟩] concatenates_S16x4096x8x64_S16x4096x8x64_S16x4096x8x128_d3
/-- The queries, turned. -/
def O0 (d : FVec Ideal S16x4096x3144 .f32) (a1 a2 : FVec Ideal S16x96x4096 .f32) : FVec Ideal S16x1024x4096 .bf16 :=
  truncf .bf16 (shapeCast _ (transpose S16x8x128x4096 [0, 2, 3, 1] (T0 d a1 a2) transposes_S16x4096x8x128_S16x8x128x4096_0_2_3_1) shapeCasts_S16x8x128x4096_S16x1024x4096) bitsLt_bf16_f32
/-- The index queries, turned and scaled. -/
def O1 (d : FVec Ideal S16x4096x3144 .f32) (a1 a2 : FVec Ideal S16x96x4096 .f32) : FVec Ideal S16x512x4096 .bf16 :=
  truncf .bf16 (shapeCast _ (transpose S16x8x64x4096 [0, 2, 3, 1] (mulf (concatenate S16x4096x8x64 3 [⟨S16x4096x8x32, (subf (mulf (extractStridedSlice S16x4096x8x32 ![0, 0, 0, 0] (shapeCast _ (extractStridedSlice S16x4096x512 ![0, 0, 1536] d slices_S16x4096x3144_S16x4096x512_0_0_1536) shapeCasts_S16x4096x512_S16x4096x8x64) slices_S16x4096x8x64_S16x4096x8x32_0_0_0_0) (broadcastInDim S16x4096x8x32 ![0, 1, 2, 3] bcast_S16x4096x1x32_S16x4096x8x32_0_1_2_3 (broadcastInDim S16x4096x1x32 ![0, 1, 3] bcast_S16x4096x32_S16x4096x1x32_0_1_3 (extractStridedSlice S16x4096x32 ![0, 0, 64] (transpose S16x4096x96 [0, 2, 1] a1 transposes_S16x96x4096_S16x4096x96_0_2_1) slices_S16x4096x96_S16x4096x32_0_0_64)))) (mulf (extractStridedSlice S16x4096x8x32 ![0, 0, 0, 32] (shapeCast _ (extractStridedSlice S16x4096x512 ![0, 0, 1536] d slices_S16x4096x3144_S16x4096x512_0_0_1536) shapeCasts_S16x4096x512_S16x4096x8x64) slices_S16x4096x8x64_S16x4096x8x32_0_0_0_32) (broadcastInDim S16x4096x8x32 ![0, 1, 2, 3] bcast_S16x4096x1x32_S16x4096x8x32_0_1_2_3 (broadcastInDim S16x4096x1x32 ![0, 1, 3] bcast_S16x4096x32_S16x4096x1x32_0_1_3 (extractStridedSlice S16x4096x32 ![0, 0, 64] (transpose S16x4096x96 [0, 2, 1] a2 transposes_S16x96x4096_S16x4096x96_0_2_1) slices_S16x4096x96_S16x4096x32_0_0_64)))))⟩, ⟨S16x4096x8x32, (addf (mulf (extractStridedSlice S16x4096x8x32 ![0, 0, 0, 32] (shapeCast _ (extractStridedSlice S16x4096x512 ![0, 0, 1536] d slices_S16x4096x3144_S16x4096x512_0_0_1536) shapeCasts_S16x4096x512_S16x4096x8x64) slices_S16x4096x8x64_S16x4096x8x32_0_0_0_32) (broadcastInDim S16x4096x8x32 ![0, 1, 2, 3] bcast_S16x4096x1x32_S16x4096x8x32_0_1_2_3 (broadcastInDim S16x4096x1x32 ![0, 1, 3] bcast_S16x4096x32_S16x4096x1x32_0_1_3 (extractStridedSlice S16x4096x32 ![0, 0, 64] (transpose S16x4096x96 [0, 2, 1] a1 transposes_S16x96x4096_S16x4096x96_0_2_1) slices_S16x4096x96_S16x4096x32_0_0_64)))) (mulf (extractStridedSlice S16x4096x8x32 ![0, 0, 0, 0] (shapeCast _ (extractStridedSlice S16x4096x512 ![0, 0, 1536] d slices_S16x4096x3144_S16x4096x512_0_0_1536) shapeCasts_S16x4096x512_S16x4096x8x64) slices_S16x4096x8x64_S16x4096x8x32_0_0_0_0) (broadcastInDim S16x4096x8x32 ![0, 1, 2, 3] bcast_S16x4096x1x32_S16x4096x8x32_0_1_2_3 (broadcastInDim S16x4096x1x32 ![0, 1, 3] bcast_S16x4096x32_S16x4096x1x32_0_1_3 (extractStridedSlice S16x4096x32 ![0, 0, 64] (transpose S16x4096x96 [0, 2, 1] a2 transposes_S16x96x4096_S16x4096x96_0_2_1) slices_S16x4096x96_S16x4096x32_0_0_64)))))⟩] concatenates_S16x4096x8x32_S16x4096x8x32_S16x4096x8x64_d3) (broadcastInDim S16x4096x8x64 ![] bcast_S_S16x4096x8x64 (constant S_ .f32 0x3E000000#32))) transposes_S16x4096x8x64_S16x8x64x4096_0_2_3_1) shapeCasts_S16x8x64x4096_S16x512x4096) bitsLt_bf16_f32
/-- The keys, turned. -/
def O2 (d : FVec Ideal S16x4096x3144 .f32) (a1 a2 : FVec Ideal S16x96x4096 .f32) : FVec Ideal S16x2x4096x128 .bf16 :=
  truncf .bf16 (transpose S16x2x4096x128 [0, 2, 1, 3] (concatenate S16x4096x2x128 3 [⟨S16x4096x2x64, (subf (mulf (extractStridedSlice S16x4096x2x64 ![0, 0, 0, 0] (shapeCast _ (extractStridedSlice S16x4096x256 ![0, 0, 1024] d slices_S16x4096x3144_S16x4096x256_0_0_1024) shapeCasts_S16x4096x256_S16x4096x2x128) slices_S16x4096x2x128_S16x4096x2x64_0_0_0_0) (broadcastInDim S16x4096x2x64 ![0, 1, 2, 3] bcast_S16x4096x1x64_S16x4096x2x64_0_1_2_3 (broadcastInDim S16x4096x1x64 ![0, 1, 3] bcast_S16x4096x64_S16x4096x1x64_0_1_3 (extractStridedSlice S16x4096x64 ![0, 0, 0] (transpose S16x4096x96 [0, 2, 1] a1 transposes_S16x96x4096_S16x4096x96_0_2_1) slices_S16x4096x96_S16x4096x64_0_0_0)))) (mulf (extractStridedSlice S16x4096x2x64 ![0, 0, 0, 64] (shapeCast _ (extractStridedSlice S16x4096x256 ![0, 0, 1024] d slices_S16x4096x3144_S16x4096x256_0_0_1024) shapeCasts_S16x4096x256_S16x4096x2x128) slices_S16x4096x2x128_S16x4096x2x64_0_0_0_64) (broadcastInDim S16x4096x2x64 ![0, 1, 2, 3] bcast_S16x4096x1x64_S16x4096x2x64_0_1_2_3 (broadcastInDim S16x4096x1x64 ![0, 1, 3] bcast_S16x4096x64_S16x4096x1x64_0_1_3 (extractStridedSlice S16x4096x64 ![0, 0, 0] (transpose S16x4096x96 [0, 2, 1] a2 transposes_S16x96x4096_S16x4096x96_0_2_1) slices_S16x4096x96_S16x4096x64_0_0_0)))))⟩, ⟨S16x4096x2x64, (addf (mulf (extractStridedSlice S16x4096x2x64 ![0, 0, 0, 64] (shapeCast _ (extractStridedSlice S16x4096x256 ![0, 0, 1024] d slices_S16x4096x3144_S16x4096x256_0_0_1024) shapeCasts_S16x4096x256_S16x4096x2x128) slices_S16x4096x2x128_S16x4096x2x64_0_0_0_64) (broadcastInDim S16x4096x2x64 ![0, 1, 2, 3] bcast_S16x4096x1x64_S16x4096x2x64_0_1_2_3 (broadcastInDim S16x4096x1x64 ![0, 1, 3] bcast_S16x4096x64_S16x4096x1x64_0_1_3 (extractStridedSlice S16x4096x64 ![0, 0, 0] (transpose S16x4096x96 [0, 2, 1] a1 transposes_S16x96x4096_S16x4096x96_0_2_1) slices_S16x4096x96_S16x4096x64_0_0_0)))) (mulf (extractStridedSlice S16x4096x2x64 ![0, 0, 0, 0] (shapeCast _ (extractStridedSlice S16x4096x256 ![0, 0, 1024] d slices_S16x4096x3144_S16x4096x256_0_0_1024) shapeCasts_S16x4096x256_S16x4096x2x128) slices_S16x4096x2x128_S16x4096x2x64_0_0_0_0) (broadcastInDim S16x4096x2x64 ![0, 1, 2, 3] bcast_S16x4096x1x64_S16x4096x2x64_0_1_2_3 (broadcastInDim S16x4096x1x64 ![0, 1, 3] bcast_S16x4096x64_S16x4096x1x64_0_1_3 (extractStridedSlice S16x4096x64 ![0, 0, 0] (transpose S16x4096x96 [0, 2, 1] a2 transposes_S16x96x4096_S16x4096x96_0_2_1) slices_S16x4096x96_S16x4096x64_0_0_0)))))⟩] concatenates_S16x4096x2x64_S16x4096x2x64_S16x4096x2x128_d3) transposes_S16x4096x2x128_S16x2x4096x128_0_2_1_3) bitsLt_bf16_f32
/-- The index keys, turned. -/
def O3 (d : FVec Ideal S16x4096x3144 .f32) (a1 a2 : FVec Ideal S16x96x4096 .f32) : FVec Ideal S16x4096x64 .bf16 :=
  truncf .bf16 (concatenate S16x4096x64 2 [⟨S16x4096x32, (subf (mulf (extractStridedSlice S16x4096x32 ![0, 0, 0] (extractStridedSlice S16x4096x64 ![0, 0, 2048] d slices_S16x4096x3144_S16x4096x64_0_0_2048) slices_S16x4096x64_S16x4096x32_0_0_0) (extractStridedSlice S16x4096x32 ![0, 0, 64] (transpose S16x4096x96 [0, 2, 1] a1 transposes_S16x96x4096_S16x4096x96_0_2_1) slices_S16x4096x96_S16x4096x32_0_0_64)) (mulf (extractStridedSlice S16x4096x32 ![0, 0, 32] (extractStridedSlice S16x4096x64 ![0, 0, 2048] d slices_S16x4096x3144_S16x4096x64_0_0_2048) slices_S16x4096x64_S16x4096x32_0_0_32) (extractStridedSlice S16x4096x32 ![0, 0, 64] (transpose S16x4096x96 [0, 2, 1] a2 transposes_S16x96x4096_S16x4096x96_0_2_1) slices_S16x4096x96_S16x4096x32_0_0_64)))⟩, ⟨S16x4096x32, (addf (mulf (extractStridedSlice S16x4096x32 ![0, 0, 32] (extractStridedSlice S16x4096x64 ![0, 0, 2048] d slices_S16x4096x3144_S16x4096x64_0_0_2048) slices_S16x4096x64_S16x4096x32_0_0_32) (extractStridedSlice S16x4096x32 ![0, 0, 64] (transpose S16x4096x96 [0, 2, 1] a1 transposes_S16x96x4096_S16x4096x96_0_2_1) slices_S16x4096x96_S16x4096x32_0_0_64)) (mulf (extractStridedSlice S16x4096x32 ![0, 0, 0] (extractStridedSlice S16x4096x64 ![0, 0, 2048] d slices_S16x4096x3144_S16x4096x64_0_0_2048) slices_S16x4096x64_S16x4096x32_0_0_0) (extractStridedSlice S16x4096x32 ![0, 0, 64] (transpose S16x4096x96 [0, 2, 1] a2 transposes_S16x96x4096_S16x4096x96_0_2_1) slices_S16x4096x96_S16x4096x32_0_0_64)))⟩] concatenates_S16x4096x32_S16x4096x32_S16x4096x64_d2) bitsLt_bf16_f32
/-- The values. -/
def O4 (d : FVec Ideal S16x4096x3144 .f32) : FVec Ideal S16x256x4096 .bf16 :=
  truncf .bf16 (transpose S16x256x4096 [0, 2, 1] (extractStridedSlice S16x4096x256 ![0, 0, 1280] d slices_S16x4096x3144_S16x4096x256_0_0_1280) transposes_S16x4096x256_S16x256x4096_0_2_1) bitsLt_bf16_f32
/-- The index weights, scaled. -/
def O5 (d : FVec Ideal S16x4096x3144 .f32) : FVec Ideal S16x8x4096 .f32 :=
  transpose S16x8x4096 [0, 2, 1] (mulf (extractStridedSlice S16x4096x8 ![0, 0, 2112] d slices_S16x4096x3144_S16x4096x8_0_0_2112) (broadcastInDim S16x4096x8 ![] bcast_S_S16x4096x8 (constant S_ .f32 0x3EB504F3#32))) transposes_S16x4096x8_S16x8x4096_0_2_1
/-- The gate. -/
def O6 (d : FVec Ideal S16x4096x3144 .f32) : FVec Ideal S16x4096x1024 .bf16 :=
  truncf .bf16 (extractStridedSlice S16x4096x1024 ![0, 0, 2120] d slices_S16x4096x3144_S16x4096x1024_0_0_2120) bitsLt_bf16_f32

theorem turn0 (T : FVec Ideal S16x4096x8x128 .f32) (b : Fin 16) (c : Fin 1024) (s : Fin 4096) :
    shapeCast S16x1024x4096 (transpose S16x8x128x4096 [0, 2, 3, 1] T transposes_S16x4096x8x128_S16x8x128x4096_0_2_3_1) shapeCasts_S16x8x128x4096_S16x1024x4096 (ix3 b c s)
      = T (ix4 b s ⟨c.val / 128, by omega⟩ ⟨c.val % 128, by omega⟩) := by
  refine (shapeCast_apply _ _ (ix3 b c s) (ix4 b (⟨c.val / 128, by omega⟩ : Fin 8) (⟨c.val % 128, by omega⟩ : Fin 128) s) ?_).trans ?_
  · rw [Shape.rowMajor_val_four, Shape.rowMajor_val_three]
    show ((b.val * 8 + c.val / 128) * 128 + c.val % 128) * 4096 + s.val = (b.val * 1024 + c.val) * 4096 + s.val
    omega
  · pointwise

theorem O0_turn (d : FVec Ideal S16x4096x3144 .f32) (co si : FVec Ideal S16x96x4096 .f32) (b : Fin 16) (s : Fin 4096) (c : Fin 1024) : O0 d co si (ix3 b c s) = T0 d co si (ix4 b s ⟨c.val / 128, by omega⟩ ⟨c.val % 128, by omega⟩) := by
  unfold O0
  generalize T0 d co si = T
  exact Eq.trans (b := (shapeCast S16x1024x4096 (transpose S16x8x128x4096 [0, 2, 3, 1] T transposes_S16x4096x8x128_S16x8x128x4096_0_2_3_1) shapeCasts_S16x8x128x4096_S16x1024x4096) (ix3 b c s)) (truncf_apply _ _ _ _) (turn0 T b c s)

theorem D_at (x : FVec Ideal S16x4096x1024 .f32) (g : FVec Ideal S1024 .f32) (w : FVec Ideal S1024x3144 .f32) (b : Fin 16) (s : Fin 4096) (j : Fin 3144) :
    D x g w (ix3 b s j) = ∑ k : Fin 1024, rms (fun k => x (ix3 b s k)) (fun k => g (ix1 k)) k * w (ix2 k j) := by
  unfold rms
  pointwise [D]

section
variable (d : FVec Ideal S16x4096x3144 .f32) (co si : FVec Ideal S16x96x4096 .f32) (b : Fin 16) (s : Fin 4096)
  (p q r : ℕ → EReal) (hp : ∀ j : Fin 3144, d (ix3 b s j) = p j.val)

include hp

theorem O4_at (c : Fin 256) : O4 d (ix3 b c s) = p (1280 + c.val) := by
  pointwise [O4]
  rw [hp]

theorem O5_at (c : Fin 8) : O5 d (ix3 b c s) = p (2112 + c.val) * Ideal.ofBits .f32 0x3EB504F3#32 := by
  pointwise [O5]
  rw [hp]

theorem O6_at (c : Fin 1024) : O6 d (ix3 b s c) = p (2120 + c.val) := by
  pointwise [O6]
  rw [hp]

variable (hq : ∀ j : Fin 96, co (ix3 b j s) = q j.val) (hr : ∀ j : Fin 96, si (ix3 b j s) = r j.val)
include hq hr

theorem O3_at (c : Fin 64) : O3 d co si (ix3 b s c) = rot 32 (fun j => p (2048 + j)) (fun j => q (64 + j)) (fun j => r (64 + j)) c.val := by
  have hc := c.isLt
  pointwise [O3]
  refine rot_of 32 c.val _ _ _ _ (by omega) _ _ (fun h => ?_) (fun h => ?_) <;> simp only [hp, hq, hr] <;> congr 3 <;> omega

theorem T0_at (h : Fin 8) (c : Fin 128) : T0 d co si (ix4 b s h c) = rot 64 p q r (128 * h.val + c.val) := by
  have hc := c.isLt
  have hh := h.isLt
  pointwise [T0]
  refine rot_of 64 (128 * h.val + c.val) _ _ _ _ (by omega) _ _ (fun h => ?_) (fun h => ?_) <;> simp only [hp, hq, hr] <;> congr 3 <;> omega

theorem O0_at (c : Fin 1024) : O0 d co si (ix3 b c s) = rot 64 p q r c.val := by
  rw [O0_turn, T0_at d co si b s p q r hp hq hr]
  exact congrArg (rot 64 p q r) (Nat.div_add_mod c.val 128)

theorem O1_at (c : Fin 512) : O1 d co si (ix3 b c s) = rot 32 (fun j => p (1536 + j)) (fun j => q (64 + j)) (fun j => r (64 + j)) c.val * Ideal.ofBits .f32 0x3E000000#32 := by
  have hc := c.isLt
  pointwise [O1]
  congr 1
  refine rot_of 32 c.val _ _ _ _ (by omega) _ _ (fun h => ?_) (fun h => ?_) <;> simp only [hp, hq, hr] <;> congr 3 <;> omega

theorem O2_at (h : Fin 2) (c : Fin 128) : O2 d co si (ix4 b h s c) = rot 64 (fun j => p (1024 + j)) q r (128 * h.val + c.val) := by
  have hc := c.isLt
  have hh := h.isLt
  pointwise [O2]
  refine rot_of 64 (128 * h.val + c.val) _ _ _ _ (by omega) _ _ (fun h => ?_) (fun h => ?_) <;> simp only [hp, hq, hr] <;> congr 3 <;> omega

end

end Cert.Proof.Reference4Ideal

end
-- ==== Proof.Dsp.Final.lean ====
module

public import proofs.«01_k».proof.Proof.Dsp.W
public import proofs.«01_k».proof.Proof.Dsp.Block
public import proofs.«01_k».proof.Proof.Dsp.Queries
public import proofs.«01_k».proof.Proof.Dsp.Index
public import proofs.«01_k».proof.Proof.Dsp.Ref
public import Idealize.ShloMosaic.Lib.Claim
public import Idealize.ShloMosaic.Lib.Pipeline.ValueKit

/-! The seven arrays that the sparse layer's projection leaves: its reference's results. -/

@[expose] public section

set_option maxRecDepth 16384
set_option maxHeartbeats 1000000

noncomputable section

namespace Cert.Proof.Kernel4Ideal

open Cert.Kernel4Ideal Cert.Kernel4Ideal.Gen
open Idealize.ShloMosaic Idealize.ShloMosaic.TcCoe Idealize.ShloMosaic.Tactic
open Idealize.SL.Sem
open Cert.Proof.Post Cert.Proof.Dsp Cert.Proof.Reference4Ideal

theorem rot_ext (n N : ℕ) (hn : 0 < n) (hN : 2 * n ∣ N) (p p' co co' si si' : ℕ → EReal) (hp : ∀ j < N, p j = p' j) (hc : ∀ j < n, co j = co' j) (hs : ∀ j < n, si j = si' j)
    (c : ℕ) (h : c < N) : rot n p co si c = rot n p' co' si' c := by
  rw [rot_congr n N hN p p' co si hp c h]
  have hm := Nat.mod_lt c hn
  unfold rot
  rw [hc _ hm, hs _ hm]

variable (m : (ℓ : Loc nD τ sig) → Buf (Elt Ideal) ℓ)

/-- The reference's normed stream times the input projection, of the kernel's arguments. -/
abbrev DD (c : Dev nD) : FVec Ideal Cert.Reference4Ideal.S16x4096x3144 .f32 :=
  D (m ((c : Thread nD τ).loc main_arg0)) (m ((c : Thread nD τ).loc main_arg3)) (m ((c : Thread nD τ).loc main_arg4))

/-- Its row of one token. -/
def pr (c : Dev nD) (a : Fin 16) (s : Fin 4096) : ℕ → EReal := lift fun j : Fin 3144 => DD m c (ix3 a s j)
/-- One token's column of the table of cosines. -/
def qr (c : Dev nD) (a : Fin 16) (s : Fin 4096) : ℕ → EReal := lift fun j : Fin 96 => m ((c : Thread nD τ).loc main_arg1) (ix3 a j s)
/-- One token's column of the table of sines. -/
def sr (c : Dev nD) (a : Fin 16) (s : Fin 4096) : ℕ → EReal := lift fun j : Fin 96 => m ((c : Thread nD τ).loc main_arg2) (ix3 a j s)

theorem hpr (c : Dev nD) (a : Fin 16) (s : Fin 4096) (j : Fin 3144) : DD m c (ix3 a s j) = pr m c a s j.val := (lift_eq (fun j : Fin 3144 => DD m c (ix3 a s j)) j.val j.isLt).symm
theorem hqr (c : Dev nD) (a : Fin 16) (s : Fin 4096) (j : Fin 96) : m ((c : Thread nD τ).loc main_arg1) (ix3 a j s) = qr m c a s j.val := (lift_eq (fun j : Fin 96 => m ((c : Thread nD τ).loc main_arg1) (ix3 a j s)) j.val j.isLt).symm
theorem hsr (c : Dev nD) (a : Fin 16) (s : Fin 4096) (j : Fin 96) : m ((c : Thread nD τ).loc main_arg2) (ix3 a j s) = sr m c a s j.val := (lift_eq (fun j : Fin 96 => m ((c : Thread nD τ).loc main_arg2) (ix3 a j s)) j.val j.isLt).symm

section
variable (c : Dev nD) (t : Fin cfg0.N)

/-- The kernel's projected block, one token's column. -/
def pk (r : Fin 512) : ℕ → EReal := lift fun j : Fin 2192 => k0_pay104 (F := Ideal) (iblk m c 0 t) (iblk m c 1 t) (iblk m c 2 t) (iblk m c 3 t) (iblk m c 4 t) (iblk m c 5 t) (ix2 j r)
def qk (r : Fin 512) : ℕ → EReal := lift fun j : Fin 64 => k0_pay105 (F := Ideal) (iblk m c 0 t) (iblk m c 1 t) (iblk m c 2 t) (iblk m c 3 t) (iblk m c 4 t) (iblk m c 5 t) (ix2 j r)
def sk (r : Fin 512) : ℕ → EReal := lift fun j : Fin 64 => k0_pay106 (F := Ideal) (iblk m c 0 t) (iblk m c 1 t) (iblk m c 2 t) (iblk m c 3 t) (iblk m c 4 t) (iblk m c 5 t) (ix2 j r)
def qk32 (r : Fin 512) : ℕ → EReal := lift fun j : Fin 32 => k0_pay107 (F := Ideal) (iblk m c 0 t) (iblk m c 1 t) (iblk m c 2 t) (iblk m c 3 t) (iblk m c 4 t) (iblk m c 5 t) (ix2 j r)
def sk32 (r : Fin 512) : ℕ → EReal := lift fun j : Fin 32 => k0_pay108 (F := Ideal) (iblk m c 0 t) (iblk m c 1 t) (iblk m c 2 t) (iblk m c 3 t) (iblk m c 4 t) (iblk m c 5 t) (ix2 j r)
theorem hpk (j : Fin 2192) (r : Fin 512) : k0_pay104 (F := Ideal) (iblk m c 0 t) (iblk m c 1 t) (iblk m c 2 t) (iblk m c 3 t) (iblk m c 4 t) (iblk m c 5 t) (ix2 j r) = pk m c t r j.val := (lift_eq (fun j : Fin 2192 => k0_pay104 (F := Ideal) (iblk m c 0 t) (iblk m c 1 t) (iblk m c 2 t) (iblk m c 3 t) (iblk m c 4 t) (iblk m c 5 t) (ix2 j r)) j.val j.isLt).symm
theorem hqk (j : Fin 64) (r : Fin 512) : k0_pay105 (F := Ideal) (iblk m c 0 t) (iblk m c 1 t) (iblk m c 2 t) (iblk m c 3 t) (iblk m c 4 t) (iblk m c 5 t) (ix2 j r) = qk m c t r j.val := (lift_eq (fun j : Fin 64 => k0_pay105 (F := Ideal) (iblk m c 0 t) (iblk m c 1 t) (iblk m c 2 t) (iblk m c 3 t) (iblk m c 4 t) (iblk m c 5 t) (ix2 j r)) j.val j.isLt).symm
theorem hsk (j : Fin 64) (r : Fin 512) : k0_pay106 (F := Ideal) (iblk m c 0 t) (iblk m c 1 t) (iblk m c 2 t) (iblk m c 3 t) (iblk m c 4 t) (iblk m c 5 t) (ix2 j r) = sk m c t r j.val := (lift_eq (fun j : Fin 64 => k0_pay106 (F := Ideal) (iblk m c 0 t) (iblk m c 1 t) (iblk m c 2 t) (iblk m c 3 t) (iblk m c 4 t) (iblk m c 5 t) (ix2 j r)) j.val j.isLt).symm
theorem hqk32 (j : Fin 32) (r : Fin 512) : k0_pay107 (F := Ideal) (iblk m c 0 t) (iblk m c 1 t) (iblk m c 2 t) (iblk m c 3 t) (iblk m c 4 t) (iblk m c 5 t) (ix2 j r) = qk32 m c t r j.val := (lift_eq (fun j : Fin 32 => k0_pay107 (F := Ideal) (iblk m c 0 t) (iblk m c 1 t) (iblk m c 2 t) (iblk m c 3 t) (iblk m c 4 t) (iblk m c 5 t) (ix2 j r)) j.val j.isLt).symm
theorem hsk32 (j : Fin 32) (r : Fin 512) : k0_pay108 (F := Ideal) (iblk m c 0 t) (iblk m c 1 t) (iblk m c 2 t) (iblk m c 3 t) (iblk m c 4 t) (iblk m c 5 t) (ix2 j r) = sk32 m c t r j.val := (lift_eq (fun j : Fin 32 => k0_pay108 (F := Ideal) (iblk m c 0 t) (iblk m c 1 t) (iblk m c 2 t) (iblk m c 3 t) (iblk m c 4 t) (iblk m c 5 t) (ix2 j r)) j.val j.isLt).symm

variable (a : Fin 16) (ha : a.val = (grid0.coords t 0).val) (s : Fin 4096) (r : Fin 512) (hs : s.val = 512 * (grid0.coords t 1).val + r.val)
include ha hs

theorem key (j : Fin 2192) (i : Fin 3144) (hw : ∀ k : Fin 1024, iblk m c 4 t (ix2 j k) = m ((c : Thread nD τ).loc main_arg4) (ix2 k i)) :
    k0_pay104 (F := Ideal) (iblk m c 0 t) (iblk m c 1 t) (iblk m c 2 t) (iblk m c 3 t) (iblk m c 4 t) (iblk m c 5 t) (ix2 j r) = DD m c (ix3 a s i) := by
  show _ = D _ _ _ (ix3 a s i)
  rw [pt_at, D_at]
  simp only [blk0 m c t a ha s r hs, blk3, hw]

theorem pk_q (j : ℕ) (h : j < 1024) : pk m c t r (j) = pr m c a s (j) := by
  unfold pk pr
  rw [lift_eq _ _ (by omega), lift_eq _ _ (by omega)]
  exact key m c t a ha s r hs _ _ fun k => blk4q m c t ⟨j, h⟩ k
theorem pk_i (j : ℕ) (h : j < 512) : pk m c t r (1024 + j) = pr m c a s (1536 + j) := by
  unfold pk pr
  rw [lift_eq _ _ (by omega), lift_eq _ _ (by omega)]
  exact key m c t a ha s r hs _ _ fun k => blk4i m c t ⟨j, h⟩ k
theorem pk_k (j : ℕ) (h : j < 256) : pk m c t r (1536 + j) = pr m c a s (1024 + j) := by
  unfold pk pr
  rw [lift_eq _ _ (by omega), lift_eq _ _ (by omega)]
  exact key m c t a ha s r hs _ _ fun k => blk4k m c t ⟨j, h⟩ k
theorem pk_m (j : ℕ) (h : j < 64) : pk m c t r (1792 + j) = pr m c a s (2048 + j) := by
  unfold pk pr
  rw [lift_eq _ _ (by omega), lift_eq _ _ (by omega)]
  exact key m c t a ha s r hs _ _ fun k => blk4m m c t ⟨j, h⟩ k
theorem pk_v (j : ℕ) (h : j < 256) : pk m c t r (1920 + j) = pr m c a s (1280 + j) := by
  unfold pk pr
  rw [lift_eq _ _ (by omega), lift_eq _ _ (by omega)]
  exact key m c t a ha s r hs _ _ fun k => blk4v m c t ⟨j, h⟩ k
theorem pk_w (j : ℕ) (h : j < 8) : pk m c t r (2176 + j) = pr m c a s (2112 + j) := by
  unfold pk pr
  rw [lift_eq _ _ (by omega), lift_eq _ _ (by omega)]
  exact key m c t a ha s r hs _ _ fun k => blk4w m c t ⟨j, h⟩ k
theorem qk_eq (j : ℕ) (h : j < 64) : qk m c t r j = qr m c a s (j) := by
  unfold qk qr
  rw [lift_eq _ _ h, lift_eq _ _ (by omega), co_at]
  exact blk1 m c t a ha s r hs _
theorem sk_eq (j : ℕ) (h : j < 64) : sk m c t r j = sr m c a s (j) := by
  unfold sk sr
  rw [lift_eq _ _ h, lift_eq _ _ (by omega), si_at]
  exact blk2 m c t a ha s r hs _
theorem qk32_eq (j : ℕ) (h : j < 32) : qk32 m c t r j = qr m c a s (64 + j) := by
  unfold qk32 qr
  rw [lift_eq _ _ h, lift_eq _ _ (by omega), co32_at]
  exact blk1 m c t a ha s r hs _
theorem sk32_eq (j : ℕ) (h : j < 32) : sk32 m c t r j = sr m c a s (64 + j) := by
  unfold sk32 sr
  rw [lift_eq _ _ h, lift_eq _ _ (by omega), si32_at]
  exact blk2 m c t a ha s r hs _
end

theorem final6 (c : Dev nD) : (dats m 0 c).arrAt 6 cfg0.N = O0 (DD m c) (m ((c : Thread nD τ).loc main_arg1)) (m ((c : Thread nD τ).loc main_arg2)) := by
  refine (dats m 0 c).arrAt_eq_of_covers 6 _ (by decide +kernel) fun t _ y => ?_
  blk_simp
  rw [after0_6]
  have hn : (grid0.coords t 1).val < 8 := (grid0.coords t 1).isLt
  obtain ⟨k, r, rfl⟩ : ∃ (k : Fin 1024) (r : Fin 512), y = ix3 0 k r := ⟨y 1, y 2, by funext d; fin_cases d; exacts [Fin.ext (by have := (y 0).isLt; show (y 0 : ℕ) = 0; change (y 0 : ℕ) < 1 at this; omega), rfl, rfl]⟩
  have hr := r.isLt
  have hk := k.isLt
  obtain ⟨a, ha⟩ : ∃ a : Fin 16, a.val = (grid0.coords t 0).val := ⟨⟨(grid0.coords t 0).val, (grid0.coords t 0).isLt⟩, rfl⟩
  obtain ⟨s, hs⟩ : ∃ s : Fin 4096, s.val = 512 * (grid0.coords t 1).val + r.val := ⟨⟨512 * (grid0.coords t 1).val + r.val, by omega⟩, rfl⟩
  have ey : (win0_6.blk t).view.emb (ix3 0 k r) = ix3 a k s := by
    blk_ext [idx t]
  rw [ey]
  refine Eq.trans ?_ (O0_at (DD m c) _ _ a s (pr m c a s) (qr m c a s) (sr m c a s) (hpr m c a s) (hqr m c a s) (hsr m c a s) k).symm
  refine (out6_at (iblk m c 0 t) (iblk m c 1 t) (iblk m c 2 t) (iblk m c 3 t) (iblk m c 4 t) (iblk m c 5 t) (pk m c t) (qk m c t) (sk m c t) (hpk m c t) (hqk m c t) (hsk m c t) k r).trans ?_
  exact rot_ext 64 1024 (by omega) (by decide) _ _ _ _ _ _ (fun j h => pk_q m c t a ha s r hs j h) (fun j h => qk_eq m c t a ha s r hs j h) (fun j h => sk_eq m c t a ha s r hs j h) _ (by omega)

theorem final7 (c : Dev nD) : (dats m 0 c).arrAt 7 cfg0.N = O1 (DD m c) (m ((c : Thread nD τ).loc main_arg1)) (m ((c : Thread nD τ).loc main_arg2)) := by
  refine (dats m 0 c).arrAt_eq_of_covers 7 _ (by decide +kernel) fun t _ y => ?_
  blk_simp
  rw [after0_7]
  have hn : (grid0.coords t 1).val < 8 := (grid0.coords t 1).isLt
  obtain ⟨k, r, rfl⟩ : ∃ (k : Fin 512) (r : Fin 512), y = ix3 0 k r := ⟨y 1, y 2, by funext d; fin_cases d; exacts [Fin.ext (by have := (y 0).isLt; show (y 0 : ℕ) = 0; change (y 0 : ℕ) < 1 at this; omega), rfl, rfl]⟩
  have hr := r.isLt
  have hk := k.isLt
  obtain ⟨a, ha⟩ : ∃ a : Fin 16, a.val = (grid0.coords t 0).val := ⟨⟨(grid0.coords t 0).val, (grid0.coords t 0).isLt⟩, rfl⟩
  obtain ⟨s, hs⟩ : ∃ s : Fin 4096, s.val = 512 * (grid0.coords t 1).val + r.val := ⟨⟨512 * (grid0.coords t 1).val + r.val, by omega⟩, rfl⟩
  have ey : (win0_7.blk t).view.emb (ix3 0 k r) = ix3 a k s := by
    blk_ext [idx t]
  rw [ey]
  refine Eq.trans ?_ (O1_at (DD m c) _ _ a s (pr m c a s) (qr m c a s) (sr m c a s) (hpr m c a s) (hqr m c a s) (hsr m c a s) k).symm
  refine (out7_at (iblk m c 0 t) (iblk m c 1 t) (iblk m c 2 t) (iblk m c 3 t) (iblk m c 4 t) (iblk m c 5 t) (pk m c t) (qk32 m c t) (sk32 m c t) (hpk m c t) (hqk32 m c t) (hsk32 m c t) k r).trans ?_
  congr 1
  exact rot_ext 32 512 (by omega) (by decide) _ _ _ _ _ _ (fun j h => pk_i m c t a ha s r hs j h) (fun j h => qk32_eq m c t a ha s r hs j h) (fun j h => sk32_eq m c t a ha s r hs j h) _ (by omega)

theorem final8 (c : Dev nD) : (dats m 0 c).arrAt 8 cfg0.N = O2 (DD m c) (m ((c : Thread nD τ).loc main_arg1)) (m ((c : Thread nD τ).loc main_arg2)) := by
  refine (dats m 0 c).arrAt_eq_of_covers 8 _ (by decide +kernel) fun t _ y => ?_
  blk_simp
  rw [after0_8]
  have hn : (grid0.coords t 1).val < 8 := (grid0.coords t 1).isLt
  obtain ⟨h, r, k, rfl⟩ : ∃ (h : Fin 2) (r : Fin 512) (k : Fin 128), y = ix4 0 h r k := ⟨y 1, y 2, y 3, by funext d; fin_cases d; exacts [Fin.ext (by have := (y 0).isLt; show (y 0 : ℕ) = 0; change (y 0 : ℕ) < 1 at this; omega), rfl, rfl, rfl]⟩
  have hr := r.isLt
  have hk := k.isLt
  obtain ⟨a, ha⟩ : ∃ a : Fin 16, a.val = (grid0.coords t 0).val := ⟨⟨(grid0.coords t 0).val, (grid0.coords t 0).isLt⟩, rfl⟩
  obtain ⟨s, hs⟩ : ∃ s : Fin 4096, s.val = 512 * (grid0.coords t 1).val + r.val := ⟨⟨512 * (grid0.coords t 1).val + r.val, by omega⟩, rfl⟩
  have ey : (win0_8.blk t).view.emb (ix4 0 h r k) = ix4 a h s k := by
    blk_ext [idx t]
  rw [ey]
  have hh := h.isLt
  refine Eq.trans ?_ (O2_at (DD m c) _ _ a s (pr m c a s) (qr m c a s) (sr m c a s) (hpr m c a s) (hqr m c a s) (hsr m c a s) h k).symm
  refine (out8_at (iblk m c 0 t) (iblk m c 1 t) (iblk m c 2 t) (iblk m c 3 t) (iblk m c 4 t) (iblk m c 5 t) (pk m c t) (hpk m c t) (qk m c t) (sk m c t) (hqk m c t) (hsk m c t) h r k).trans ?_
  exact rot_ext 64 256 (by omega) (by decide) _ _ _ _ _ _ (fun j h => pk_k m c t a ha s r hs j h) (fun j h => qk_eq m c t a ha s r hs j h) (fun j h => sk_eq m c t a ha s r hs j h) _ (by omega)

theorem final9 (c : Dev nD) : (dats m 0 c).arrAt 9 cfg0.N = O3 (DD m c) (m ((c : Thread nD τ).loc main_arg1)) (m ((c : Thread nD τ).loc main_arg2)) := by
  refine (dats m 0 c).arrAt_eq_of_covers 9 _ (by decide +kernel) fun t _ y => ?_
  blk_simp
  rw [after0_9]
  have hn : (grid0.coords t 1).val < 8 := (grid0.coords t 1).isLt
  obtain ⟨r, k, rfl⟩ : ∃ (r : Fin 512) (k : Fin 64), y = ix3 0 r k := ⟨y 1, y 2, by funext d; fin_cases d; exacts [Fin.ext (by have := (y 0).isLt; show (y 0 : ℕ) = 0; change (y 0 : ℕ) < 1 at this; omega), rfl, rfl]⟩
  have hr := r.isLt
  have hk := k.isLt
  obtain ⟨a, ha⟩ : ∃ a : Fin 16, a.val = (grid0.coords t 0).val := ⟨⟨(grid0.coords t 0).val, (grid0.coords t 0).isLt⟩, rfl⟩
  obtain ⟨s, hs⟩ : ∃ s : Fin 4096, s.val = 512 * (grid0.coords t 1).val + r.val := ⟨⟨512 * (grid0.coords t 1).val + r.val, by omega⟩, rfl⟩
  have ey : (win0_9.blk t).view.emb (ix3 0 r k) = ix3 a s k := by
    blk_ext [idx t]
  rw [ey]
  refine Eq.trans ?_ (O3_at (DD m c) _ _ a s (pr m c a s) (qr m c a s) (sr m c a s) (hpr m c a s) (hqr m c a s) (hsr m c a s) k).symm
  refine (out9_at (iblk m c 0 t) (iblk m c 1 t) (iblk m c 2 t) (iblk m c 3 t) (iblk m c 4 t) (iblk m c 5 t) (pk m c t) (hpk m c t) (qk32 m c t) (sk32 m c t) (hqk32 m c t) (hsk32 m c t) r k).trans ?_
  exact rot_ext 32 64 (by omega) (by decide) _ _ _ _ _ _ (fun j h => pk_m m c t a ha s r hs j h) (fun j h => qk32_eq m c t a ha s r hs j h) (fun j h => sk32_eq m c t a ha s r hs j h) _ (by omega)

theorem final10 (c : Dev nD) : (dats m 0 c).arrAt 10 cfg0.N = O4 (DD m c) := by
  refine (dats m 0 c).arrAt_eq_of_covers 10 _ (by decide +kernel) fun t _ y => ?_
  blk_simp
  rw [after0_10]
  have hn : (grid0.coords t 1).val < 8 := (grid0.coords t 1).isLt
  obtain ⟨k, r, rfl⟩ : ∃ (k : Fin 256) (r : Fin 512), y = ix3 0 k r := ⟨y 1, y 2, by funext d; fin_cases d; exacts [Fin.ext (by have := (y 0).isLt; show (y 0 : ℕ) = 0; change (y 0 : ℕ) < 1 at this; omega), rfl, rfl]⟩
  have hr := r.isLt
  have hk := k.isLt
  obtain ⟨a, ha⟩ : ∃ a : Fin 16, a.val = (grid0.coords t 0).val := ⟨⟨(grid0.coords t 0).val, (grid0.coords t 0).isLt⟩, rfl⟩
  obtain ⟨s, hs⟩ : ∃ s : Fin 4096, s.val = 512 * (grid0.coords t 1).val + r.val := ⟨⟨512 * (grid0.coords t 1).val + r.val, by omega⟩, rfl⟩
  have ey : (win0_10.blk t).view.emb (ix3 0 k r) = ix3 a k s := by
    blk_ext [idx t]
  rw [ey]
  refine Eq.trans ?_ (O4_at (DD m c) a s (pr m c a s) (hpr m c a s) k).symm
  refine (out10_at (iblk m c 0 t) (iblk m c 1 t) (iblk m c 2 t) (iblk m c 3 t) (iblk m c 4 t) (iblk m c 5 t) (pk m c t) (hpk m c t) k r).trans ?_
  exact pk_v m c t a ha s r hs k.val hk

theorem final11 (c : Dev nD) : (dats m 0 c).arrAt 11 cfg0.N = O5 (DD m c) := by
  refine (dats m 0 c).arrAt_eq_of_covers 11 _ (by decide +kernel) fun t _ y => ?_
  blk_simp
  rw [after0_11]
  have hn : (grid0.coords t 1).val < 8 := (grid0.coords t 1).isLt
  obtain ⟨k, r, rfl⟩ : ∃ (k : Fin 8) (r : Fin 512), y = ix3 0 k r := ⟨y 1, y 2, by funext d; fin_cases d; exacts [Fin.ext (by have := (y 0).isLt; show (y 0 : ℕ) = 0; change (y 0 : ℕ) < 1 at this; omega), rfl, rfl]⟩
  have hr := r.isLt
  have hk := k.isLt
  obtain ⟨a, ha⟩ : ∃ a : Fin 16, a.val = (grid0.coords t 0).val := ⟨⟨(grid0.coords t 0).val, (grid0.coords t 0).isLt⟩, rfl⟩
  obtain ⟨s, hs⟩ : ∃ s : Fin 4096, s.val = 512 * (grid0.coords t 1).val + r.val := ⟨⟨512 * (grid0.coords t 1).val + r.val, by omega⟩, rfl⟩
  have ey : (win0_11.blk t).view.emb (ix3 0 k r) = ix3 a k s := by
    blk_ext [idx t]
  rw [ey]
  refine Eq.trans ?_ (O5_at (DD m c) a s (pr m c a s) (hpr m c a s) k).symm
  refine (out11_at (iblk m c 0 t) (iblk m c 1 t) (iblk m c 2 t) (iblk m c 3 t) (iblk m c 4 t) (iblk m c 5 t) (pk m c t) (hpk m c t) k r).trans ?_
  rw [pk_w m c t a ha s r hs k.val hk]

theorem final12 (c : Dev nD) : (dats m 0 c).arrAt 12 cfg0.N = O6 (DD m c) := by
  refine (dats m 0 c).arrAt_eq_of_covers 12 _ (by decide +kernel) fun t _ y => ?_
  blk_simp
  rw [after0_12]
  have hn : (grid0.coords t 1).val < 8 := (grid0.coords t 1).isLt
  obtain ⟨r, k, rfl⟩ : ∃ (r : Fin 512) (k : Fin 1024), y = ix3 0 r k := ⟨y 1, y 2, by funext d; fin_cases d; exacts [Fin.ext (by have := (y 0).isLt; show (y 0 : ℕ) = 0; change (y 0 : ℕ) < 1 at this; omega), rfl, rfl]⟩
  have hr := r.isLt
  have hk := k.isLt
  obtain ⟨a, ha⟩ : ∃ a : Fin 16, a.val = (grid0.coords t 0).val := ⟨⟨(grid0.coords t 0).val, (grid0.coords t 0).isLt⟩, rfl⟩
  obtain ⟨s, hs⟩ : ∃ s : Fin 4096, s.val = 512 * (grid0.coords t 1).val + r.val := ⟨⟨512 * (grid0.coords t 1).val + r.val, by omega⟩, rfl⟩
  have ey : (win0_12.blk t).view.emb (ix3 0 r k) = ix3 a s k := by
    blk_ext [idx t]
  rw [ey]
  refine Eq.trans ?_ (O6_at (DD m c) a s (pr m c a s) (hpr m c a s) k).symm
  refine Eq.trans ?_ (hpr m c a s ⟨2120 + k.val, by omega⟩)
  show _ = D _ _ _ _
  rw [out12_at, D_at]
  simp only [blk0 m c t a ha s r hs, blk3, blk5]

end Cert.Proof.Kernel4Ideal

end
-- ==== Proof.Dsp.Res.lean ====
module

public import proofs.«01_k».proof.Proof.Dsp.Ref

/-! The results of the reference of the sparse layer's projections, in the names of `Dsp/Ref.lean`. -/

@[expose] public section

set_option maxRecDepth 16384
set_option maxHeartbeats 2000000

noncomputable section

namespace Cert.Proof.Reference4Ideal

open Cert.Reference4Ideal Cert.Reference4Ideal.Gen Cert.Reference4Ideal.Value
open Idealize.ShloMosaic Idealize.ShloMosaic.TcCoe
open Idealize.SL.Sem

variable (m : (ℓ : Loc nD τ sig) → Buf (Elt Ideal) ℓ) (c : Dev nD)

/-- The normed stream times the input projection, of the reference's arguments. -/
abbrev DR : FVec Ideal S16x4096x3144 .f32 :=
  D (m ((c.tc : Thread nD τ).loc main_arg0)) (m ((c.tc : Thread nD τ).loc main_arg3)) (m ((c.tc : Thread nD τ).loc main_arg4))

theorem res0 : res_main_v94 m c = O0 (DR m c) (m ((c.tc : Thread nD τ).loc main_arg1)) (m ((c.tc : Thread nD τ).loc main_arg2)) := by
  unfold res_main_v94 O0 T0 DR D
  rfl
theorem res1 : res_main_v95 m c = O1 (DR m c) (m ((c.tc : Thread nD τ).loc main_arg1)) (m ((c.tc : Thread nD τ).loc main_arg2)) := by
  unfold res_main_v95 O1 DR D
  rfl
theorem res2 : res_main_v97 m c = O2 (DR m c) (m ((c.tc : Thread nD τ).loc main_arg1)) (m ((c.tc : Thread nD τ).loc main_arg2)) := by
  unfold res_main_v97 O2 DR D
  rfl
theorem res3 : res_main_v98 m c = O3 (DR m c) (m ((c.tc : Thread nD τ).loc main_arg1)) (m ((c.tc : Thread nD τ).loc main_arg2)) := by
  unfold res_main_v98 O3 DR D
  rfl

/-- The reference's run, its results so named. -/
theorem run' (ρ : Dev nD → PrngReg) :
    θ_run defs (onTc (τ := τ) (main (F := Ideal))) ⟨m, fun _ => 0, ρ⟩ fun r => ∀ c : Dev nD,
      r.2.mem ((c.tc : Thread nD τ).loc main_v94) = O0 (DR m c) (m ((c.tc : Thread nD τ).loc main_arg1)) (m ((c.tc : Thread nD τ).loc main_arg2))
      ∧ r.2.mem ((c.tc : Thread nD τ).loc main_v95) = O1 (DR m c) (m ((c.tc : Thread nD τ).loc main_arg1)) (m ((c.tc : Thread nD τ).loc main_arg2))
      ∧ r.2.mem ((c.tc : Thread nD τ).loc main_v97) = O2 (DR m c) (m ((c.tc : Thread nD τ).loc main_arg1)) (m ((c.tc : Thread nD τ).loc main_arg2))
      ∧ r.2.mem ((c.tc : Thread nD τ).loc main_v98) = O3 (DR m c) (m ((c.tc : Thread nD τ).loc main_arg1)) (m ((c.tc : Thread nD τ).loc main_arg2))
      ∧ r.2.mem ((c.tc : Thread nD τ).loc main_v100) = O4 (DR m c)
      ∧ r.2.mem ((c.tc : Thread nD τ).loc main_v103) = O5 (DR m c)
      ∧ r.2.mem ((c.tc : Thread nD τ).loc main_v104) = O6 (DR m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (res0 m c), (h c).2.1.trans (res1 m c), (h c).2.2.1.trans (res2 m c), (h c).2.2.2.1.trans (res3 m c),
    (h c).2.2.2.2.1.trans (by unfold O4 DR D; rfl), (h c).2.2.2.2.2.1.trans (by unfold O5 DR D; rfl), (h c).2.2.2.2.2.2.1.trans (by unfold O6 DR D; rfl), (h c).2.2.2.2.2.2.2⟩) (run m ρ)

end Cert.Proof.Reference4Ideal

end
-- ==== Proof.lean ====
module

public import proofs.«01_k».proof.Defs
public import proofs.«01_k».proof.Proof.Gen.Kernel
public import proofs.«01_k».proof.Proof.Gen.Kernel2
public import proofs.«01_k».proof.Proof.Gen.Kernel2Ideal
public import proofs.«01_k».proof.Proof.Gen.Reference2Ideal
public import proofs.«01_k».proof.Proof.Gen.Reference2
public import proofs.«01_k».proof.Proof.Gen.Reference2.Run
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3
public import proofs.«01_k».proof.Proof.Gen.Reference3.Run
public import proofs.«01_k».proof.Proof.Gen.Reference3Ideal.Run
public import proofs.«01_k».proof.Proof.Dsa.Run
public import proofs.«01_k».proof.Proof.Mla.Run
public import proofs.«01_k».proof.Proof.Mla.Final
public import proofs.«01_k».proof.Proof.Post.Final
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5
public import proofs.«01_k».proof.Proof.Gen.Reference5.Run
public import proofs.«01_k».proof.Proof.Gen.Reference5Ideal.Run
public import proofs.«01_k».proof.Proof.Mid.Final
public import proofs.«01_k».proof.Proof.Dsp.All
public import proofs.«01_k».proof.Proof.Dsp.Final
public import proofs.«01_k».proof.Proof.Dsp.Res
public import Idealize.ShloMosaic.Lib.Quiescent

/-! The claims: the sparse attention's frame, and the frames and values of the latent attention, of the end of a layer and of the sparse
layer's projections, which are their references'. -/

@[expose] public section

set_option maxRecDepth 16384

noncomputable section

namespace Cert.Proof

open Idealize.ShloMosaic Idealize.ShloMosaic.TcCoe Idealize.SL.Sem

instance factsPre : Cert.Pre_finite_inputs.Facts := ⟨by decide, by decide⟩

/-- An array that is above −∞ and below ∞ everywhere is one of reals. -/
theorem real_of {s : Shape} (x : FVec Ideal s .bf16) (lo hi : FVec Ideal s .bf16) (hl : ∀ y, lo y = (⊥ : EReal)) (hh : ∀ y, hi y = (⊤ : EReal))
    (h1 : cmpf .ogt x lo = fun _ => 1#1) (h2 : cmpf .olt x hi = fun _ => 1#1) :
    x = fun y => (((x y : EReal).toReal : ℝ) : EReal) := by
  funext y
  have e1 : Ideal.cmp .ogt (x y) (lo y) = 1#1 := congrFun h1 y
  have e2 : Ideal.cmp .olt (x y) (hi y) = 1#1 := congrFun h2 y
  have ofB : ∀ b : Bool, BitVec.ofBool b = 1#1 → b = true := by decide
  have f1 := ofB _ e1
  have f2 := ofB _ e2
  simp only [decide_eq_true_eq] at f1 f2
  rw [hl] at f1
  rw [hh] at f2
  exact (EReal.coe_toReal (ne_of_lt f2) (ne_of_gt f1)).symm

theorem word_bot : Ideal.ofBits FTy.bf16 0xFF80#16 = ⊥ := by simp [Ideal.ofBits, Ideal.ieee]
theorem word_top : Ideal.ofBits FTy.bf16 0x7F80#16 = ⊤ := by simp [Ideal.ofBits, Ideal.ieee]

/-- The precondition says that the queries are reals. -/
theorem real_q {m} (h : Cert.Pre_Kernel2Ideal_finite_inputs m) (c : Dev Cert.Kernel2Ideal.nD) :
    m ((c : Thread Cert.Kernel2Ideal.nD Cert.Kernel2Ideal.τ).loc Cert.Kernel2Ideal.main_arg0)
      = fun y => (((m ((c : Thread Cert.Kernel2Ideal.nD Cert.Kernel2Ideal.τ).loc Cert.Kernel2Ideal.main_arg0) y : EReal).toReal : ℝ) : EReal) :=
  real_of _ _ _ (fun _ => word_bot) (fun _ => word_top) (h c).1 (h c).2.1

/-- The precondition says that the keys are reals. -/
theorem real_k {m} (h : Cert.Pre_Kernel2Ideal_finite_inputs m) (c : Dev Cert.Kernel2Ideal.nD) :
    m ((c : Thread Cert.Kernel2Ideal.nD Cert.Kernel2Ideal.τ).loc Cert.Kernel2Ideal.main_arg1)
      = fun y => (((m ((c : Thread Cert.Kernel2Ideal.nD Cert.Kernel2Ideal.τ).loc Cert.Kernel2Ideal.main_arg1) y : EReal).toReal : ℝ) : EReal) :=
  real_of _ _ _ (fun _ => word_bot) (fun _ => word_top) (h c).2.2.1 (h c).2.2.2

/-- The idealized reference runs, leaves its arguments as they were and has no semaphores. -/
theorem frame_ri : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The same, of finite queries and keys. -/
theorem frame_ri_pre : Cert.quiescent_Reference2Ideal_pre_finite_inputs := fun m ρ _ =>
  (θ_run Cert.Reference2Ideal.defs _ _).mono (fun r h => ⟨fun c => (h c).2, sem_eq_zero_of_no_sems (by decide) r.2⟩)
    (Cert.Reference2Ideal.Value.run (F := Ideal) m ρ)

/-- The reference runs, leaves its arguments as they were and has no semaphores. -/
theorem frame_r : Cert.quiescent_Reference2 := fun m ρ _ =>
  (θ_run Cert.Reference2.defs _ _).mono (fun r h => ⟨fun c => (h c).2, sem_eq_zero_of_no_sems (by decide) r.2⟩)
    (Cert.Reference2.Value.run m ρ)

/-- The two named constants stand for the words printed in the kernel. -/
theorem preserves : Cert.preserves_Kernel2_Kernel2Ideal :=
  ⟨IdealRules.named_const.statement Cert.Kernel2Ideal.κ "mask" .f32 _ _ rfl, IdealRules.named_const.statement Cert.Kernel2Ideal.κ "scale2" .f32 _ _ rfl⟩

/-- Every run of the idealized latent attention ends with the result's array at what its blocks make up and the arguments as
they were. -/
theorem run_pi (m : (ℓ : Loc Cert.Kernel2Ideal.nD Cert.Kernel2Ideal.τ Cert.Kernel2Ideal.sig) → Buf (Elt Ideal) ℓ) (g : Dev Cert.Kernel2Ideal.nD → PrngReg) :
    θ_run Cert.Kernel2Ideal.defs (onTc (τ := Cert.Kernel2Ideal.τ) (Cert.Kernel2Ideal.main (F := Ideal))) ⟨m, fun _ => 0, g⟩ (fun r =>
      (Pipeline.FramePost Cert.Kernel2Ideal.cfgs (Cert.Proof.Kernel2Ideal.dats m) 0 (Cert.Kernel2Ideal.Gen.V m) r ∧ r.2.sem = fun _ => 0)
      ∧ (∀ c : Dev Cert.Kernel2Ideal.nD,
        r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
        ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
        ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0) :=
  θ_run_and (Cert.Proof.Kernel2Ideal.run_main (F := Ideal) m g) (Cert.Proof.Kernel2Ideal.quiescent (F := Ideal) m g)

/-- Of finite queries and keys the latent attention kernel's result is the reference's. -/
theorem algebraic : Cert.algebraic_Kernel2Ideal_Reference2Ideal_pre_finite_inputs := fun m g m' g' hpre hag =>
  ⟨fun c => Cert.Proof.Reference2Ideal.FIN (m ((c : Thread Cert.Kernel2Ideal.nD Cert.Kernel2Ideal.τ).loc Cert.Kernel2Ideal.main_arg0))
      (m ((c : Thread Cert.Kernel2Ideal.nD Cert.Kernel2Ideal.τ).loc Cert.Kernel2Ideal.main_arg1))
      (m ((c : Thread Cert.Kernel2Ideal.nD Cert.Kernel2Ideal.τ).loc Cert.Kernel2Ideal.main_arg2)),
    (θ_run Cert.Kernel2Ideal.defs _ _).mono (fun r h c =>
        ⟨(h.1.1.out_eq c 3).trans (Cert.Proof.Kernel2Ideal.final _ _ m c (real_q hpre c) (real_k hpre c)), h.2.1 c⟩)
      (run_pi m g),
    (θ_run Cert.Reference2Ideal.defs _ _).mono (fun r h c =>
        ⟨(h c).1.trans ((Cert.Proof.Reference2Ideal.res_eq m' c).trans (by rw [(hag c).1, (hag c).2.1, (hag c).2.2])), (h c).2⟩)
      (Cert.Reference2Ideal.Value.run (F := Ideal) m' g')⟩

/-- The last step's kernel terminates, leaves its arguments as they were and every semaphore at zero. -/
theorem frame3 : Cert.quiescent_Kernel3 := fun m ρ _ => Cert.Kernel3.Gen.frame m ρ

/-- So does the idealized one. -/
theorem frame3i : Cert.quiescent_Kernel3Ideal := fun m ρ _ => Cert.Kernel3Ideal.Gen.frame (F := Ideal) m ρ

/-- So does the idealized reference of the last step. -/
theorem frame3ri : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- So does the reference of the last step. -/
theorem frame3r : Cert.quiescent_Reference3 := fun m ρ _ =>
  (θ_run Cert.Reference3.defs _ _).mono (fun r h => ⟨fun c => (h c).2, sem_eq_zero_of_no_sems (by decide) r.2⟩)
    (Cert.Reference3.Value.run m ρ)

/-- The last step's kernel computes what its reference does. -/
theorem algebraic3 : Cert.algebraic_Kernel3Ideal_Reference3Ideal := fun m g m' g' _ hag =>
  ⟨fun c => Cert.Reference3Ideal.Value.res_out0 m' c,
    (θ_run Cert.Kernel3Ideal.defs _ _).mono (fun r h c =>
        ⟨(h c).1.trans ((Cert.Proof.Kernel3Ideal.final m c).trans (by
          obtain ⟨h0, h1, h2, h3, h4, h5, h6, h7, h8⟩ := hag c
          show _ = Cert.Reference3Ideal.Value.res_out0 m' c
          rw [Cert.Proof.Reference3Ideal.res_eq, h0, h1, h2, h3, h4, h5, h6, h7, h8])), (h c).2⟩)
      (Cert.Kernel3Ideal.Value.run_blocks (F := Ideal) m g),
    Cert.Reference3Ideal.Value.run (F := Ideal) m' g'⟩

/-- The sparse layer's projection terminates, leaves its arguments as they were and every semaphore at zero. -/
theorem frame4 : Cert.quiescent_Kernel4 := fun m ρ _ => Cert.Kernel4.Gen.frame m ρ

/-- So does the idealized one. -/
theorem frame4i : Cert.quiescent_Kernel4Ideal := fun m ρ _ => Cert.Kernel4Ideal.Gen.frame (F := Ideal) m ρ

/-- So does the idealized reference of the projection. -/
theorem frame4ri : Cert.quiescent_Reference4Ideal := fun m ρ _ =>
  (θ_run Cert.Reference4Ideal.defs _ _).mono (fun r h => ⟨fun c => (h c).2.2.2.2.2.2.2, sem_eq_zero_of_no_sems (by decide) r.2⟩)
    (Cert.Reference4Ideal.Value.run (F := Ideal) m ρ)

/-- So does the reference of the projection. -/
theorem frame4r : Cert.quiescent_Reference4 := fun m ρ _ =>
  (θ_run Cert.Reference4.defs _ _).mono (fun r h => ⟨fun c => (h c).2.2.2.2.2.2.2, sem_eq_zero_of_no_sems (by decide) r.2⟩)
    (Cert.Reference4.Value.run m ρ)

/-- The sparse layer's projection computes what its reference does: all seven arrays. -/
theorem algebraic4 : Cert.algebraic_Kernel4Ideal_Reference4Ideal := by
  intro m g m' g' _ hag
  have eD : ∀ c : Dev Cert.Kernel4Ideal.nD, Cert.Proof.Reference4Ideal.DR m' c = Cert.Proof.Kernel4Ideal.DD m c := fun c => by
    obtain ⟨h0, h1, h2, h3, h4⟩ := hag c
    show Cert.Proof.Reference4Ideal.D _ _ _ = Cert.Proof.Reference4Ideal.D _ _ _
    rw [h0, h3, h4]
  exact ⟨fun c => Cert.Proof.Reference4Ideal.O0 (Cert.Proof.Kernel4Ideal.DD m c) (m ((c : Thread Cert.Kernel4Ideal.nD Cert.Kernel4Ideal.τ).loc Cert.Kernel4Ideal.main_arg1)) (m ((c : Thread Cert.Kernel4Ideal.nD Cert.Kernel4Ideal.τ).loc Cert.Kernel4Ideal.main_arg2)), fun c => Cert.Proof.Reference4Ideal.O1 (Cert.Proof.Kernel4Ideal.DD m c) (m ((c : Thread Cert.Kernel4Ideal.nD Cert.Kernel4Ideal.τ).loc Cert.Kernel4Ideal.main_arg1)) (m ((c : Thread Cert.Kernel4Ideal.nD Cert.Kernel4Ideal.τ).loc Cert.Kernel4Ideal.main_arg2)), fun c => Cert.Proof.Reference4Ideal.O2 (Cert.Proof.Kernel4Ideal.DD m c) (m ((c : Thread Cert.Kernel4Ideal.nD Cert.Kernel4Ideal.τ).loc Cert.Kernel4Ideal.main_arg1)) (m ((c : Thread Cert.Kernel4Ideal.nD Cert.Kernel4Ideal.τ).loc Cert.Kernel4Ideal.main_arg2)), fun c => Cert.Proof.Reference4Ideal.O3 (Cert.Proof.Kernel4Ideal.DD m c) (m ((c : Thread Cert.Kernel4Ideal.nD Cert.Kernel4Ideal.τ).loc Cert.Kernel4Ideal.main_arg1)) (m ((c : Thread Cert.Kernel4Ideal.nD Cert.Kernel4Ideal.τ).loc Cert.Kernel4Ideal.main_arg2)), fun c => Cert.Proof.Reference4Ideal.O4 (Cert.Proof.Kernel4Ideal.DD m c), fun c => Cert.Proof.Reference4Ideal.O5 (Cert.Proof.Kernel4Ideal.DD m c), fun c => Cert.Proof.Reference4Ideal.O6 (Cert.Proof.Kernel4Ideal.DD m c),
    (θ_run Cert.Kernel4Ideal.defs _ _).mono (fun r h c => ⟨(h c).1.trans (Cert.Proof.Kernel4Ideal.final6 m c), (h c).2.1.trans (Cert.Proof.Kernel4Ideal.final7 m c), (h c).2.2.1.trans (Cert.Proof.Kernel4Ideal.final8 m c), (h c).2.2.2.1.trans (Cert.Proof.Kernel4Ideal.final9 m c), (h c).2.2.2.2.1.trans (Cert.Proof.Kernel4Ideal.final10 m c), (h c).2.2.2.2.2.1.trans (Cert.Proof.Kernel4Ideal.final11 m c), (h c).2.2.2.2.2.2.1.trans (Cert.Proof.Kernel4Ideal.final12 m c), (h c).2.2.2.2.2.2.2⟩)
      (Cert.Kernel4Ideal.Value.run_blocks (F := Ideal) m g),
    (θ_run Cert.Reference4Ideal.defs _ _).mono (fun r h c => ⟨(h c).1.trans (by rw [eD c, (hag c).2.1, (hag c).2.2.1]), (h c).2.1.trans (by rw [eD c, (hag c).2.1, (hag c).2.2.1]), (h c).2.2.1.trans (by rw [eD c, (hag c).2.1, (hag c).2.2.1]), (h c).2.2.2.1.trans (by rw [eD c, (hag c).2.1, (hag c).2.2.1]), (h c).2.2.2.2.1.trans (by rw [eD c]), (h c).2.2.2.2.2.1.trans (by rw [eD c]), (h c).2.2.2.2.2.2.1.trans (by rw [eD c]), (h c).2.2.2.2.2.2.2⟩)
      (Cert.Proof.Reference4Ideal.run' m' g')⟩

/-- The end of an earlier layer terminates, leaves its arguments as they were and every semaphore at zero. -/
theorem frame5 : Cert.quiescent_Kernel5 := fun m ρ _ => Cert.Kernel5.Gen.frame m ρ

/-- So does the idealized one. -/
theorem frame5i : Cert.quiescent_Kernel5Ideal := fun m ρ _ => Cert.Kernel5Ideal.Gen.frame (F := Ideal) m ρ

/-- So does the idealized reference of an earlier layer's end. -/
theorem frame5ri : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- So does the reference of an earlier layer's end. -/
theorem frame5r : Cert.quiescent_Reference5 := fun m ρ _ =>
  (θ_run Cert.Reference5.defs _ _).mono (fun r h => ⟨fun c => (h c).2, sem_eq_zero_of_no_sems (by decide) r.2⟩)
    (Cert.Reference5.Value.run m ρ)

/-- The end of an earlier layer computes what its reference does. -/
theorem algebraic5 : Cert.algebraic_Kernel5Ideal_Reference5Ideal := fun m g m' g' _ hag =>
  ⟨fun c => Cert.Proof.Reference5Ideal.FIN (m ((c : Thread Cert.Kernel5Ideal.nD Cert.Kernel5Ideal.τ).loc Cert.Kernel5Ideal.main_arg0))
      (m ((c : Thread Cert.Kernel5Ideal.nD Cert.Kernel5Ideal.τ).loc Cert.Kernel5Ideal.main_arg1))
      (m ((c : Thread Cert.Kernel5Ideal.nD Cert.Kernel5Ideal.τ).loc Cert.Kernel5Ideal.main_arg2))
      (m ((c : Thread Cert.Kernel5Ideal.nD Cert.Kernel5Ideal.τ).loc Cert.Kernel5Ideal.main_arg3))
      (m ((c : Thread Cert.Kernel5Ideal.nD Cert.Kernel5Ideal.τ).loc Cert.Kernel5Ideal.main_arg4))
      (m ((c : Thread Cert.Kernel5Ideal.nD Cert.Kernel5Ideal.τ).loc Cert.Kernel5Ideal.main_arg6))
      (m ((c : Thread Cert.Kernel5Ideal.nD Cert.Kernel5Ideal.τ).loc Cert.Kernel5Ideal.main_arg5))
      (m ((c : Thread Cert.Kernel5Ideal.nD Cert.Kernel5Ideal.τ).loc Cert.Kernel5Ideal.main_arg7)),
    (θ_run Cert.Kernel5Ideal.defs _ _).mono (fun r h c => ⟨(h c).1.trans (Cert.Proof.Kernel5Ideal.final m c), (h c).2⟩)
      (Cert.Kernel5Ideal.Value.run_blocks (F := Ideal) m g),
    (θ_run Cert.Reference5Ideal.defs _ _).mono (fun r h c =>
        ⟨(h c).1.trans (by
          obtain ⟨h0, h1, h2, h3, h4, h5, h6, h7, h8⟩ := hag c
          rw [h0, h1, h2, h3, h4, h5, h6, h7]), (h c).2⟩)
      (Cert.Proof.Reference5Ideal.run' m' g')⟩

theorem claim : Cert.Claim := ⟨Cert.Kernel.Gen.facts, Cert.Kernel2.Gen.facts, Cert.Kernel2Ideal.Gen.facts, Cert.Reference2Ideal.Gen.facts,
  Cert.Reference2.Gen.facts, Cert.Kernel3.Gen.facts, Cert.Kernel3Ideal.Gen.facts, Cert.Reference3Ideal.Gen.facts, Cert.Reference3.Gen.facts,
  Cert.Kernel4.Gen.facts, Cert.Kernel4Ideal.Gen.facts, Cert.Reference4Ideal.Gen.facts, Cert.Reference4.Gen.facts,
  Cert.Kernel5.Gen.facts, Cert.Kernel5Ideal.Gen.facts, Cert.Reference5Ideal.Gen.facts, Cert.Reference5.Gen.facts, factsPre,
  fun m ρ _ => Cert.Proof.Kernel.quiescent m ρ, fun m ρ _ => Cert.Proof.Kernel2.quiescent m ρ,
  fun m ρ _ => Cert.Proof.Kernel2Ideal.quiescent m ρ, fun m ρ _ => Cert.Proof.Kernel2Ideal.quiescent m ρ,
  frame_ri, frame_ri_pre, frame_r, frame3, frame3i, frame3ri, frame3r, frame4, frame4i, frame4ri, frame4r,
  frame5, frame5i, frame5ri, frame5r, preserves, trivial, algebraic, trivial, trivial, algebraic3, trivial, trivial, algebraic4, trivial, trivial, algebraic5⟩

end Cert.Proof

end
